-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojRef (m : (ℓ : Loc Cert.InprojRef.nD Cert.InprojRef.τ Cert.InprojRef.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjRef (m : (ℓ : Loc Cert.ProjRef.nD Cert.ProjRef.τ Cert.ProjRef.sig) → Buf (Elt Bits) ℓ) : Prop :=
  True

def Pre_Outb (m : (ℓ : Loc Cert.Outb.nD Cert.Outb.τ Cert.Outb.sig) → Buf (Elt Bits) ℓ) : Prop :=
  True

def Pre_OutbIdeal (m : (ℓ : Loc Cert.OutbIdeal.nD Cert.OutbIdeal.τ Cert.OutbIdeal.sig) → Buf (Elt Ideal) ℓ) : Prop :=
  True

def Pre_OutbIdeal_finite_out [hPre_finite_out : Cert.Pre_finite_out.Facts] (m : (ℓ : Loc Cert.OutbIdeal.nD Cert.OutbIdeal.τ Cert.OutbIdeal.sig) → Buf (Elt Ideal) ℓ) : Prop :=
  ∀ c : Dev Cert.OutbIdeal.nD,
    (Cert.Pre_finite_out.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3)) (m ((c.tc : Thread Cert.OutbIdeal.nD Cert.OutbIdeal.τ).loc Cert.OutbIdeal.main_arg4)) (m ((c.tc : Thread Cert.OutbIdeal.nD Cert.OutbIdeal.τ).loc Cert.OutbIdeal.main_arg5)) (m ((c.tc : Thread Cert.OutbIdeal.nD Cert.OutbIdeal.τ).loc Cert.OutbIdeal.main_arg6))) = (fun _ => 1#1)

def Pre_OutbRefIdeal (m : (ℓ : Loc Cert.OutbRefIdeal.nD Cert.OutbRefIdeal.τ Cert.OutbRefIdeal.sig) → Buf (Elt Ideal) ℓ) : Prop :=
  True

def Pre_OutbRefIdeal_finite_out [hPre_finite_out : Cert.Pre_finite_out.Facts] (m : (ℓ : Loc Cert.OutbRefIdeal.nD Cert.OutbRefIdeal.τ Cert.OutbRefIdeal.sig) → Buf (Elt Ideal) ℓ) : Prop :=
  ∀ c : Dev Cert.OutbRefIdeal.nD,
    (Cert.Pre_finite_out.fn (F := Ideal) (m ((c.tc : Thread Cert.OutbRefIdeal.nD Cert.OutbRefIdeal.τ).loc Cert.OutbRefIdeal.main_arg0)) (m ((c.tc : Thread Cert.OutbRefIdeal.nD Cert.OutbRefIdeal.τ).loc Cert.OutbRefIdeal.main_arg1)) (m ((c.tc : Thread Cert.OutbRefIdeal.nD Cert.OutbRefIdeal.τ).loc Cert.OutbRefIdeal.main_arg2)) (m ((c.tc : Thread Cert.OutbRefIdeal.nD Cert.OutbRefIdeal.τ).loc Cert.OutbRefIdeal.main_arg3)) (m ((c.tc : Thread Cert.OutbRefIdeal.nD Cert.OutbRefIdeal.τ).loc Cert.OutbRefIdeal.main_arg4)) (m ((c.tc : Thread Cert.OutbRefIdeal.nD Cert.OutbRefIdeal.τ).loc Cert.OutbRefIdeal.main_arg5)) (m ((c.tc : Thread Cert.OutbRefIdeal.nD Cert.OutbRefIdeal.τ).loc Cert.OutbRefIdeal.main_arg6))) = (fun _ => 1#1)

def Pre_OutbRef (m : (ℓ : Loc Cert.OutbRef.nD Cert.OutbRef.τ Cert.OutbRef.sig) → Buf (Elt Bits) ℓ) : Prop :=
  True

def Pre_Outf (m : (ℓ : Loc Cert.Outf.nD Cert.Outf.τ Cert.Outf.sig) → Buf (Elt Bits) ℓ) : Prop :=
  True

def Pre_OutfIdeal (m : (ℓ : Loc Cert.OutfIdeal.nD Cert.OutfIdeal.τ Cert.OutfIdeal.sig) → Buf (Elt Ideal) ℓ) : Prop :=
  True

def Pre_OutfRefIdeal (m : (ℓ : Loc Cert.OutfRefIdeal.nD Cert.OutfRefIdeal.τ Cert.OutfRefIdeal.sig) → Buf (Elt Ideal) ℓ) : Prop :=
  True

def Pre_OutfRef (m : (ℓ : Loc Cert.OutfRef.nD Cert.OutfRef.τ Cert.OutfRef.sig) → Buf (Elt Bits) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_AttnRef (m : (ℓ : Loc Cert.AttnRef.nD Cert.AttnRef.τ Cert.AttnRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11))
      ∧ r.2.sem = fun _ => 0)

def quiescent_InprojRef [hInprojRef : Cert.InprojRef.Facts] : Prop :=
  ∀ (m : (ℓ : Loc Cert.InprojRef.nD Cert.InprojRef.τ Cert.InprojRef.sig) → Buf (Elt Bits) ℓ) (g : Dev Cert.InprojRef.nD → PrngReg), Pre_InprojRef m →
    θ_run (Cert.InprojRef.defs (F := Bits)) (onTc (τ := Cert.InprojRef.τ) (Cert.InprojRef.main (F := Bits))) ⟨m, fun _ => 0, g⟩ (fun r => (∀ c : Dev Cert.InprojRef.nD,
      r.2.mem ((c.tc : Thread Cert.InprojRef.nD Cert.InprojRef.τ).loc Cert.InprojRef.main_arg0) = m ((c.tc : Thread Cert.InprojRef.nD Cert.InprojRef.τ).loc Cert.InprojRef.main_arg0)
      ∧ r.2.mem ((c.tc : Thread Cert.InprojRef.nD Cert.InprojRef.τ).loc Cert.InprojRef.main_arg1) = m ((c.tc : Thread Cert.InprojRef.nD Cert.InprojRef.τ).loc Cert.InprojRef.main_arg1)
      ∧ r.2.mem ((c.tc : Thread Cert.InprojRef.nD Cert.InprojRef.τ).loc Cert.InprojRef.main_arg2) = m ((c.tc : Thread Cert.InprojRef.nD Cert.InprojRef.τ).loc Cert.InprojRef.main_arg2)
      ∧ r.2.mem ((c.tc : Thread Cert.InprojRef.nD Cert.InprojRef.τ).loc Cert.InprojRef.main_arg3) = m ((c.tc : Thread Cert.InprojRef.nD Cert.InprojRef.τ).loc Cert.InprojRef.main_arg3)
      ∧ r.2.mem ((c.tc : Thread Cert.InprojRef.nD Cert.InprojRef.τ).loc Cert.InprojRef.main_arg4) = m ((c.tc : Thread Cert.InprojRef.nD Cert.InprojRef.τ).loc Cert.InprojRef.main_arg4)
      ∧ r.2.mem ((c.tc : Thread Cert.InprojRef.nD Cert.InprojRef.τ).loc Cert.InprojRef.main_arg5) = m ((c.tc : Thread Cert.InprojRef.nD Cert.InprojRef.τ).loc Cert.InprojRef.main_arg5)
      ∧ r.2.mem ((c.tc : Thread Cert.InprojRef.nD Cert.InprojRef.τ).loc Cert.InprojRef.main_arg6) = m ((c.tc : Thread Cert.InprojRef.nD Cert.InprojRef.τ).loc Cert.InprojRef.main_arg6)
      ∧ r.2.mem ((c.tc : Thread Cert.InprojRef.nD Cert.InprojRef.τ).loc Cert.InprojRef.main_arg7) = m ((c.tc : Thread Cert.InprojRef.nD Cert.InprojRef.τ).loc Cert.InprojRef.main_arg7)
      ∧ r.2.mem ((c.tc : Thread Cert.InprojRef.nD Cert.InprojRef.τ).loc Cert.InprojRef.main_arg8) = m ((c.tc : Thread Cert.InprojRef.nD Cert.InprojRef.τ).loc Cert.InprojRef.main_arg8)
      ∧ r.2.mem ((c.tc : Thread Cert.InprojRef.nD Cert.InprojRef.τ).loc Cert.InprojRef.main_arg9) = m ((c.tc : Thread Cert.InprojRef.nD Cert.InprojRef.τ).loc Cert.InprojRef.main_arg9)
      ∧ r.2.mem ((c.tc : Thread Cert.InprojRef.nD Cert.InprojRef.τ).loc Cert.InprojRef.main_arg10) = m ((c.tc : Thread Cert.InprojRef.nD Cert.InprojRef.τ).loc Cert.InprojRef.main_arg10)
      ∧ r.2.mem ((c.tc : Thread Cert.InprojRef.nD Cert.InprojRef.τ).loc Cert.InprojRef.main_arg11) = m ((c.tc : Thread Cert.InprojRef.nD Cert.InprojRef.τ).loc Cert.InprojRef.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjRef [hProjRef : Cert.ProjRef.Facts] : Prop :=
  ∀ (m : (ℓ : Loc Cert.ProjRef.nD Cert.ProjRef.τ Cert.ProjRef.sig) → Buf (Elt Bits) ℓ) (g : Dev Cert.ProjRef.nD → PrngReg), Pre_ProjRef m →
    θ_run (Cert.ProjRef.defs (F := Bits)) (onTc (τ := Cert.ProjRef.τ) (Cert.ProjRef.main (F := Bits))) ⟨m, fun _ => 0, g⟩ (fun r => (∀ c : Dev Cert.ProjRef.nD,
      r.2.mem ((c.tc : Thread Cert.ProjRef.nD Cert.ProjRef.τ).loc Cert.ProjRef.main_arg0) = m ((c.tc : Thread Cert.ProjRef.nD Cert.ProjRef.τ).loc Cert.ProjRef.main_arg0)
      ∧ r.2.mem ((c.tc : Thread Cert.ProjRef.nD Cert.ProjRef.τ).loc Cert.ProjRef.main_arg1) = m ((c.tc : Thread Cert.ProjRef.nD Cert.ProjRef.τ).loc Cert.ProjRef.main_arg1)
      ∧ r.2.mem ((c.tc : Thread Cert.ProjRef.nD Cert.ProjRef.τ).loc Cert.ProjRef.main_arg2) = m ((c.tc : Thread Cert.ProjRef.nD Cert.ProjRef.τ).loc Cert.ProjRef.main_arg2))
      ∧ r.2.sem = fun _ => 0)

def quiescent_Outb [hOutb : Cert.Outb.Facts] : Prop :=
  ∀ (m : (ℓ : Loc Cert.Outb.nD Cert.Outb.τ Cert.Outb.sig) → Buf (Elt Bits) ℓ) (g : Dev Cert.Outb.nD → PrngReg), Pre_Outb m →
    θ_run (Cert.Outb.defs (F := Bits)) (onTc (τ := Cert.Outb.τ) (Cert.Outb.main (F := Bits))) ⟨m, fun _ => 0, g⟩ (fun r => (∀ c : Dev Cert.Outb.nD,
      r.2.mem ((c.tc : Thread Cert.Outb.nD Cert.Outb.τ).loc Cert.Outb.main_arg0) = m ((c.tc : Thread Cert.Outb.nD Cert.Outb.τ).loc Cert.Outb.main_arg0)
      ∧ r.2.mem ((c.tc : Thread Cert.Outb.nD Cert.Outb.τ).loc Cert.Outb.main_arg1) = m ((c.tc : Thread Cert.Outb.nD Cert.Outb.τ).loc Cert.Outb.main_arg1)
      ∧ r.2.mem ((c.tc : Thread Cert.Outb.nD Cert.Outb.τ).loc Cert.Outb.main_arg2) = m ((c.tc : Thread Cert.Outb.nD Cert.Outb.τ).loc Cert.Outb.main_arg2)
      ∧ r.2.mem ((c.tc : Thread Cert.Outb.nD Cert.Outb.τ).loc Cert.Outb.main_arg3) = m ((c.tc : Thread Cert.Outb.nD Cert.Outb.τ).loc Cert.Outb.main_arg3)
      ∧ r.2.mem ((c.tc : Thread Cert.Outb.nD Cert.Outb.τ).loc Cert.Outb.main_arg4) = m ((c.tc : Thread Cert.Outb.nD Cert.Outb.τ).loc Cert.Outb.main_arg4)
      ∧ r.2.mem ((c.tc : Thread Cert.Outb.nD Cert.Outb.τ).loc Cert.Outb.main_arg5) = m ((c.tc : Thread Cert.Outb.nD Cert.Outb.τ).loc Cert.Outb.main_arg5)
      ∧ r.2.mem ((c.tc : Thread Cert.Outb.nD Cert.Outb.τ).loc Cert.Outb.main_arg6) = m ((c.tc : Thread Cert.Outb.nD Cert.Outb.τ).loc Cert.Outb.main_arg6))
      ∧ r.2.sem = fun _ => 0)

def quiescent_OutbIdeal [hOutbIdeal : Cert.OutbIdeal.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
      ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4)
      ∧ r.2.mem ((c.tc : Thread Cert.OutbIdeal.nD Cert.OutbIdeal.τ).loc Cert.OutbIdeal.main_arg5) = m ((c.tc : Thread Cert.OutbIdeal.nD Cert.OutbIdeal.τ).loc Cert.OutbIdeal.main_arg5)
      ∧ r.2.mem ((c.tc : Thread Cert.OutbIdeal.nD Cert.OutbIdeal.τ).loc Cert.OutbIdeal.main_arg6) = m ((c.tc : Thread Cert.OutbIdeal.nD Cert.OutbIdeal.τ).loc Cert.OutbIdeal.main_arg6))
      ∧ r.2.sem = fun _ => 0)

def quiescent_OutbIdeal_pre_finite_out [hOutbIdeal : Cert.OutbIdeal.Facts] [hPre_finite_out : Cert.Pre_finite_out.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal_finite_out m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
      ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4)
      ∧ r.2.mem ((c.tc : Thread Cert.OutbIdeal.nD Cert.OutbIdeal.τ).loc Cert.OutbIdeal.main_arg5) = m ((c.tc : Thread Cert.OutbIdeal.nD Cert.OutbIdeal.τ).loc Cert.OutbIdeal.main_arg5)
      ∧ r.2.mem ((c.tc : Thread Cert.OutbIdeal.nD Cert.OutbIdeal.τ).loc Cert.OutbIdeal.main_arg6) = m ((c.tc : Thread Cert.OutbIdeal.nD Cert.OutbIdeal.τ).loc Cert.OutbIdeal.main_arg6))
      ∧ r.2.sem = fun _ => 0)

def quiescent_OutbRefIdeal [hOutbRefIdeal : Cert.OutbRefIdeal.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3)
      ∧ r.2.mem ((c.tc : Thread Cert.OutbRefIdeal.nD Cert.OutbRefIdeal.τ).loc Cert.OutbRefIdeal.main_arg4) = m ((c.tc : Thread Cert.OutbRefIdeal.nD Cert.OutbRefIdeal.τ).loc Cert.OutbRefIdeal.main_arg4)
      ∧ r.2.mem ((c.tc : Thread Cert.OutbRefIdeal.nD Cert.OutbRefIdeal.τ).loc Cert.OutbRefIdeal.main_arg5) = m ((c.tc : Thread Cert.OutbRefIdeal.nD Cert.OutbRefIdeal.τ).loc Cert.OutbRefIdeal.main_arg5)
      ∧ r.2.mem ((c.tc : Thread Cert.OutbRefIdeal.nD Cert.OutbRefIdeal.τ).loc Cert.OutbRefIdeal.main_arg6) = m ((c.tc : Thread Cert.OutbRefIdeal.nD Cert.OutbRefIdeal.τ).loc Cert.OutbRefIdeal.main_arg6))
      ∧ r.2.sem = fun _ => 0)

def quiescent_OutbRefIdeal_pre_finite_out [hOutbRefIdeal : Cert.OutbRefIdeal.Facts] [hPre_finite_out : Cert.Pre_finite_out.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal_finite_out m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3)
      ∧ r.2.mem ((c.tc : Thread Cert.OutbRefIdeal.nD Cert.OutbRefIdeal.τ).loc Cert.OutbRefIdeal.main_arg4) = m ((c.tc : Thread Cert.OutbRefIdeal.nD Cert.OutbRefIdeal.τ).loc Cert.OutbRefIdeal.main_arg4)
      ∧ r.2.mem ((c.tc : Thread Cert.OutbRefIdeal.nD Cert.OutbRefIdeal.τ).loc Cert.OutbRefIdeal.main_arg5) = m ((c.tc : Thread Cert.OutbRefIdeal.nD Cert.OutbRefIdeal.τ).loc Cert.OutbRefIdeal.main_arg5)
      ∧ r.2.mem ((c.tc : Thread Cert.OutbRefIdeal.nD Cert.OutbRefIdeal.τ).loc Cert.OutbRefIdeal.main_arg6) = m ((c.tc : Thread Cert.OutbRefIdeal.nD Cert.OutbRefIdeal.τ).loc Cert.OutbRefIdeal.main_arg6))
      ∧ r.2.sem = fun _ => 0)

def quiescent_OutbRef [hOutbRef : Cert.OutbRef.Facts] : Prop :=
  ∀ (m : (ℓ : Loc Cert.OutbRef.nD Cert.OutbRef.τ Cert.OutbRef.sig) → Buf (Elt Bits) ℓ) (g : Dev Cert.OutbRef.nD → PrngReg), Pre_OutbRef m →
    θ_run (Cert.OutbRef.defs (F := Bits)) (onTc (τ := Cert.OutbRef.τ) (Cert.OutbRef.main (F := Bits))) ⟨m, fun _ => 0, g⟩ (fun r => (∀ c : Dev Cert.OutbRef.nD,
      r.2.mem ((c.tc : Thread Cert.OutbRef.nD Cert.OutbRef.τ).loc Cert.OutbRef.main_arg0) = m ((c.tc : Thread Cert.OutbRef.nD Cert.OutbRef.τ).loc Cert.OutbRef.main_arg0)
      ∧ r.2.mem ((c.tc : Thread Cert.OutbRef.nD Cert.OutbRef.τ).loc Cert.OutbRef.main_arg1) = m ((c.tc : Thread Cert.OutbRef.nD Cert.OutbRef.τ).loc Cert.OutbRef.main_arg1)
      ∧ r.2.mem ((c.tc : Thread Cert.OutbRef.nD Cert.OutbRef.τ).loc Cert.OutbRef.main_arg2) = m ((c.tc : Thread Cert.OutbRef.nD Cert.OutbRef.τ).loc Cert.OutbRef.main_arg2)
      ∧ r.2.mem ((c.tc : Thread Cert.OutbRef.nD Cert.OutbRef.τ).loc Cert.OutbRef.main_arg3) = m ((c.tc : Thread Cert.OutbRef.nD Cert.OutbRef.τ).loc Cert.OutbRef.main_arg3)
      ∧ r.2.mem ((c.tc : Thread Cert.OutbRef.nD Cert.OutbRef.τ).loc Cert.OutbRef.main_arg4) = m ((c.tc : Thread Cert.OutbRef.nD Cert.OutbRef.τ).loc Cert.OutbRef.main_arg4)
      ∧ r.2.mem ((c.tc : Thread Cert.OutbRef.nD Cert.OutbRef.τ).loc Cert.OutbRef.main_arg5) = m ((c.tc : Thread Cert.OutbRef.nD Cert.OutbRef.τ).loc Cert.OutbRef.main_arg5)
      ∧ r.2.mem ((c.tc : Thread Cert.OutbRef.nD Cert.OutbRef.τ).loc Cert.OutbRef.main_arg6) = m ((c.tc : Thread Cert.OutbRef.nD Cert.OutbRef.τ).loc Cert.OutbRef.main_arg6))
      ∧ r.2.sem = fun _ => 0)

def quiescent_Outf [hOutf : Cert.Outf.Facts] : Prop :=
  ∀ (m : (ℓ : Loc Cert.Outf.nD Cert.Outf.τ Cert.Outf.sig) → Buf (Elt Bits) ℓ) (g : Dev Cert.Outf.nD → PrngReg), Pre_Outf m →
    θ_run (Cert.Outf.defs (F := Bits)) (onTc (τ := Cert.Outf.τ) (Cert.Outf.main (F := Bits))) ⟨m, fun _ => 0, g⟩ (fun r => (∀ c : Dev Cert.Outf.nD,
      r.2.mem ((c.tc : Thread Cert.Outf.nD Cert.Outf.τ).loc Cert.Outf.main_arg0) = m ((c.tc : Thread Cert.Outf.nD Cert.Outf.τ).loc Cert.Outf.main_arg0)
      ∧ r.2.mem ((c.tc : Thread Cert.Outf.nD Cert.Outf.τ).loc Cert.Outf.main_arg1) = m ((c.tc : Thread Cert.Outf.nD Cert.Outf.τ).loc Cert.Outf.main_arg1)
      ∧ r.2.mem ((c.tc : Thread Cert.Outf.nD Cert.Outf.τ).loc Cert.Outf.main_arg2) = m ((c.tc : Thread Cert.Outf.nD Cert.Outf.τ).loc Cert.Outf.main_arg2)
      ∧ r.2.mem ((c.tc : Thread Cert.Outf.nD Cert.Outf.τ).loc Cert.Outf.main_arg3) = m ((c.tc : Thread Cert.Outf.nD Cert.Outf.τ).loc Cert.Outf.main_arg3)
      ∧ r.2.mem ((c.tc : Thread Cert.Outf.nD Cert.Outf.τ).loc Cert.Outf.main_arg4) = m ((c.tc : Thread Cert.Outf.nD Cert.Outf.τ).loc Cert.Outf.main_arg4)
      ∧ r.2.mem ((c.tc : Thread Cert.Outf.nD Cert.Outf.τ).loc Cert.Outf.main_arg5) = m ((c.tc : Thread Cert.Outf.nD Cert.Outf.τ).loc Cert.Outf.main_arg5)
      ∧ r.2.mem ((c.tc : Thread Cert.Outf.nD Cert.Outf.τ).loc Cert.Outf.main_arg6) = m ((c.tc : Thread Cert.Outf.nD Cert.Outf.τ).loc Cert.Outf.main_arg6))
      ∧ r.2.sem = fun _ => 0)

def quiescent_OutfIdeal [hOutfIdeal : Cert.OutfIdeal.Facts] : Prop :=
  ∀ (m : (ℓ : Loc Cert.OutfIdeal.nD Cert.OutfIdeal.τ Cert.OutfIdeal.sig) → Buf (Elt Ideal) ℓ) (g : Dev Cert.OutfIdeal.nD → PrngReg), Pre_OutfIdeal m →
    θ_run (Cert.OutfIdeal.defs (F := Ideal)) (onTc (τ := Cert.OutfIdeal.τ) (Cert.OutfIdeal.main (F := Ideal))) ⟨m, fun _ => 0, g⟩ (fun r => (∀ c : Dev Cert.OutfIdeal.nD,
      r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
      ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
      ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
      ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
      ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
      ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
      ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6))
      ∧ r.2.sem = fun _ => 0)

def quiescent_OutfRefIdeal [hOutfRefIdeal : Cert.OutfRefIdeal.Facts] : Prop :=
  ∀ (m : (ℓ : Loc Cert.OutfRefIdeal.nD Cert.OutfRefIdeal.τ Cert.OutfRefIdeal.sig) → Buf (Elt Ideal) ℓ) (g : Dev Cert.OutfRefIdeal.nD → PrngReg), Pre_OutfRefIdeal m →
    θ_run (Cert.OutfRefIdeal.defs (F := Ideal)) (onTc (τ := Cert.OutfRefIdeal.τ) (Cert.OutfRefIdeal.main (F := Ideal))) ⟨m, fun _ => 0, g⟩ (fun r => (∀ c : Dev Cert.OutfRefIdeal.nD,
      r.2.mem ((c.tc : Thread Cert.OutfRefIdeal.nD Cert.OutfRefIdeal.τ).loc Cert.OutfRefIdeal.main_arg0) = m ((c.tc : Thread Cert.OutfRefIdeal.nD Cert.OutfRefIdeal.τ).loc Cert.OutfRefIdeal.main_arg0)
      ∧ r.2.mem ((c.tc : Thread Cert.OutfRefIdeal.nD Cert.OutfRefIdeal.τ).loc Cert.OutfRefIdeal.main_arg1) = m ((c.tc : Thread Cert.OutfRefIdeal.nD Cert.OutfRefIdeal.τ).loc Cert.OutfRefIdeal.main_arg1)
      ∧ r.2.mem ((c.tc : Thread Cert.OutfRefIdeal.nD Cert.OutfRefIdeal.τ).loc Cert.OutfRefIdeal.main_arg2) = m ((c.tc : Thread Cert.OutfRefIdeal.nD Cert.OutfRefIdeal.τ).loc Cert.OutfRefIdeal.main_arg2)
      ∧ r.2.mem ((c.tc : Thread Cert.OutfRefIdeal.nD Cert.OutfRefIdeal.τ).loc Cert.OutfRefIdeal.main_arg3) = m ((c.tc : Thread Cert.OutfRefIdeal.nD Cert.OutfRefIdeal.τ).loc Cert.OutfRefIdeal.main_arg3)
      ∧ r.2.mem ((c.tc : Thread Cert.OutfRefIdeal.nD Cert.OutfRefIdeal.τ).loc Cert.OutfRefIdeal.main_arg4) = m ((c.tc : Thread Cert.OutfRefIdeal.nD Cert.OutfRefIdeal.τ).loc Cert.OutfRefIdeal.main_arg4)
      ∧ r.2.mem ((c.tc : Thread Cert.OutfRefIdeal.nD Cert.OutfRefIdeal.τ).loc Cert.OutfRefIdeal.main_arg5) = m ((c.tc : Thread Cert.OutfRefIdeal.nD Cert.OutfRefIdeal.τ).loc Cert.OutfRefIdeal.main_arg5)
      ∧ r.2.mem ((c.tc : Thread Cert.OutfRefIdeal.nD Cert.OutfRefIdeal.τ).loc Cert.OutfRefIdeal.main_arg6) = m ((c.tc : Thread Cert.OutfRefIdeal.nD Cert.OutfRefIdeal.τ).loc Cert.OutfRefIdeal.main_arg6))
      ∧ r.2.sem = fun _ => 0)

def quiescent_OutfRef [hOutfRef : Cert.OutfRef.Facts] : Prop :=
  ∀ (m : (ℓ : Loc Cert.OutfRef.nD Cert.OutfRef.τ Cert.OutfRef.sig) → Buf (Elt Bits) ℓ) (g : Dev Cert.OutfRef.nD → PrngReg), Pre_OutfRef m →
    θ_run (Cert.OutfRef.defs (F := Bits)) (onTc (τ := Cert.OutfRef.τ) (Cert.OutfRef.main (F := Bits))) ⟨m, fun _ => 0, g⟩ (fun r => (∀ c : Dev Cert.OutfRef.nD,
      r.2.mem ((c.tc : Thread Cert.OutfRef.nD Cert.OutfRef.τ).loc Cert.OutfRef.main_arg0) = m ((c.tc : Thread Cert.OutfRef.nD Cert.OutfRef.τ).loc Cert.OutfRef.main_arg0)
      ∧ r.2.mem ((c.tc : Thread Cert.OutfRef.nD Cert.OutfRef.τ).loc Cert.OutfRef.main_arg1) = m ((c.tc : Thread Cert.OutfRef.nD Cert.OutfRef.τ).loc Cert.OutfRef.main_arg1)
      ∧ r.2.mem ((c.tc : Thread Cert.OutfRef.nD Cert.OutfRef.τ).loc Cert.OutfRef.main_arg2) = m ((c.tc : Thread Cert.OutfRef.nD Cert.OutfRef.τ).loc Cert.OutfRef.main_arg2)
      ∧ r.2.mem ((c.tc : Thread Cert.OutfRef.nD Cert.OutfRef.τ).loc Cert.OutfRef.main_arg3) = m ((c.tc : Thread Cert.OutfRef.nD Cert.OutfRef.τ).loc Cert.OutfRef.main_arg3)
      ∧ r.2.mem ((c.tc : Thread Cert.OutfRef.nD Cert.OutfRef.τ).loc Cert.OutfRef.main_arg4) = m ((c.tc : Thread Cert.OutfRef.nD Cert.OutfRef.τ).loc Cert.OutfRef.main_arg4)
      ∧ r.2.mem ((c.tc : Thread Cert.OutfRef.nD Cert.OutfRef.τ).loc Cert.OutfRef.main_arg5) = m ((c.tc : Thread Cert.OutfRef.nD Cert.OutfRef.τ).loc Cert.OutfRef.main_arg5)
      ∧ r.2.mem ((c.tc : Thread Cert.OutfRef.nD Cert.OutfRef.τ).loc Cert.OutfRef.main_arg6) = m ((c.tc : Thread Cert.OutfRef.nD Cert.OutfRef.τ).loc Cert.OutfRef.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRef [hAttnRef : Cert.AttnRef.Facts] : Prop :=
  ∀ (m : (ℓ : Loc Cert.AttnRef.nD Cert.AttnRef.τ Cert.AttnRef.sig) → Buf (Elt Bits) ℓ) (g : Dev Cert.AttnRef.nD → PrngReg), Pre_AttnRef m →
    θ_run (Cert.AttnRef.defs (F := Bits)) (onTc (τ := Cert.AttnRef.τ) (Cert.AttnRef.main (F := Bits))) ⟨m, fun _ => 0, g⟩ (fun r => (∀ c : Dev Cert.AttnRef.nD,
      r.2.mem ((c.tc : Thread Cert.AttnRef.nD Cert.AttnRef.τ).loc Cert.AttnRef.main_arg0) = m ((c.tc : Thread Cert.AttnRef.nD Cert.AttnRef.τ).loc Cert.AttnRef.main_arg0)
      ∧ r.2.mem ((c.tc : Thread Cert.AttnRef.nD Cert.AttnRef.τ).loc Cert.AttnRef.main_arg1) = m ((c.tc : Thread Cert.AttnRef.nD Cert.AttnRef.τ).loc Cert.AttnRef.main_arg1)
      ∧ r.2.mem ((c.tc : Thread Cert.AttnRef.nD Cert.AttnRef.τ).loc Cert.AttnRef.main_arg2) = m ((c.tc : Thread Cert.AttnRef.nD Cert.AttnRef.τ).loc Cert.AttnRef.main_arg2)
      ∧ r.2.mem ((c.tc : Thread Cert.AttnRef.nD Cert.AttnRef.τ).loc Cert.AttnRef.main_arg3) = m ((c.tc : Thread Cert.AttnRef.nD Cert.AttnRef.τ).loc Cert.AttnRef.main_arg3)
      ∧ r.2.mem ((c.tc : Thread Cert.AttnRef.nD Cert.AttnRef.τ).loc Cert.AttnRef.main_arg4) = m ((c.tc : Thread Cert.AttnRef.nD Cert.AttnRef.τ).loc Cert.AttnRef.main_arg4))
      ∧ r.2.sem = fun _ => 0)

def preserves_Kernel_KernelIdeal : Prop :=
  IdealRules.named_const.Statement Cert.KernelIdeal.κ "ln2" .f32 0x3F317218#32 ((Real.log 2 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v104)) (v3 : (c : Dev Cert.KernelIdeal.nD) → Buf (Elt Ideal) ((c.tc : Thread Cert.KernelIdeal.nD Cert.KernelIdeal.τ).loc Cert.KernelIdeal.main_v106)) (v4 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v104) = v2 c
          ∧ r.2.mem ((c.tc : Thread Cert.KernelIdeal.nD Cert.KernelIdeal.τ).loc Cert.KernelIdeal.main_v106) = v3 c
          ∧ r.2.mem ((c.tc : Thread Cert.KernelIdeal.nD Cert.KernelIdeal.τ).loc Cert.KernelIdeal.main_v107) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def preserves_InprojRef_InprojRefIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_v18) = v1 c
          ∧ r.2.mem ((c.tc : Thread Cert.InprojRefIdeal.nD Cert.InprojRefIdeal.τ).loc Cert.InprojRefIdeal.main_v22) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11))

def preserves_Proj_ProjIdeal : Prop :=
  True

def preserves_ProjRef_ProjRefIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v12) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Outb_OutbIdeal : Prop :=
  True

def preserves_OutbRef_OutbRefIdeal : Prop :=
  True

def algebraic_OutbIdeal_OutbRefIdeal_pre_finite_out [hOutbIdeal : Cert.OutbIdeal.Facts] [hOutbRefIdeal : Cert.OutbRefIdeal.Facts] [hPre_finite_out : Cert.Pre_finite_out.Facts] : Prop :=
  ∀ (m : (ℓ : Loc Cert.OutbIdeal.nD Cert.OutbIdeal.τ Cert.OutbIdeal.sig) → Buf (Elt Ideal) ℓ) (g : Dev Cert.OutbIdeal.nD → PrngReg)
    (m' : (ℓ : Loc Cert.OutbRefIdeal.nD Cert.OutbRefIdeal.τ Cert.OutbRefIdeal.sig) → Buf (Elt Ideal) ℓ) (g' : Dev Cert.OutbRefIdeal.nD → PrngReg), Pre_OutbIdeal_finite_out m →
    (∀ c : Dev Cert.OutbIdeal.nD,
      m' ((c.tc : Thread Cert.OutbRefIdeal.nD Cert.OutbRefIdeal.τ).loc Cert.OutbRefIdeal.main_arg0) = m ((c.tc : Thread Cert.OutbIdeal.nD Cert.OutbIdeal.τ).loc Cert.OutbIdeal.main_arg0)
      ∧ m' ((c.tc : Thread Cert.OutbRefIdeal.nD Cert.OutbRefIdeal.τ).loc Cert.OutbRefIdeal.main_arg1) = m ((c.tc : Thread Cert.OutbIdeal.nD Cert.OutbIdeal.τ).loc Cert.OutbIdeal.main_arg1)
      ∧ m' ((c.tc : Thread Cert.OutbRefIdeal.nD Cert.OutbRefIdeal.τ).loc Cert.OutbRefIdeal.main_arg2) = m ((c.tc : Thread Cert.OutbIdeal.nD Cert.OutbIdeal.τ).loc Cert.OutbIdeal.main_arg2)
      ∧ m' ((c.tc : Thread Cert.OutbRefIdeal.nD Cert.OutbRefIdeal.τ).loc Cert.OutbRefIdeal.main_arg3) = m ((c.tc : Thread Cert.OutbIdeal.nD Cert.OutbIdeal.τ).loc Cert.OutbIdeal.main_arg3)
      ∧ m' ((c.tc : Thread Cert.OutbRefIdeal.nD Cert.OutbRefIdeal.τ).loc Cert.OutbRefIdeal.main_arg4) = m ((c.tc : Thread Cert.OutbIdeal.nD Cert.OutbIdeal.τ).loc Cert.OutbIdeal.main_arg4)
      ∧ m' ((c.tc : Thread Cert.OutbRefIdeal.nD Cert.OutbRefIdeal.τ).loc Cert.OutbRefIdeal.main_arg5) = m ((c.tc : Thread Cert.OutbIdeal.nD Cert.OutbIdeal.τ).loc Cert.OutbIdeal.main_arg5)
      ∧ m' ((c.tc : Thread Cert.OutbRefIdeal.nD Cert.OutbRefIdeal.τ).loc Cert.OutbRefIdeal.main_arg6) = m ((c.tc : Thread Cert.OutbIdeal.nD Cert.OutbIdeal.τ).loc Cert.OutbIdeal.main_arg6)) →
    ∃ (v0 : (c : Dev Cert.OutbIdeal.nD) → Buf (Elt Ideal) ((c.tc : Thread Cert.OutbIdeal.nD Cert.OutbIdeal.τ).loc Cert.OutbIdeal.main_v1_0)) (v1 : (c : Dev Cert.OutbIdeal.nD) → Buf (Elt Ideal) ((c.tc : Thread Cert.OutbIdeal.nD Cert.OutbIdeal.τ).loc Cert.OutbIdeal.main_v1_1)) (v2 : (c : Dev Cert.OutbIdeal.nD) → Buf (Elt Ideal) ((c.tc : Thread Cert.OutbIdeal.nD Cert.OutbIdeal.τ).loc Cert.OutbIdeal.main_v1_2)) (v3 : (c : Dev Cert.OutbIdeal.nD) → Buf (Elt Ideal) ((c.tc : Thread Cert.OutbIdeal.nD Cert.OutbIdeal.τ).loc Cert.OutbIdeal.main_v1_3)) (v4 : (c : Dev Cert.OutbIdeal.nD) → Buf (Elt Ideal) ((c.tc : Thread Cert.OutbIdeal.nD Cert.OutbIdeal.τ).loc Cert.OutbIdeal.main_v1_4)) (v5 : (c : Dev Cert.OutbIdeal.nD) → Buf (Elt Ideal) ((c.tc : Thread Cert.OutbIdeal.nD Cert.OutbIdeal.τ).loc Cert.OutbIdeal.main_v1_5)) (v6 : (c : Dev Cert.OutbIdeal.nD) → Buf (Elt Ideal) ((c.tc : Thread Cert.OutbIdeal.nD Cert.OutbIdeal.τ).loc Cert.OutbIdeal.main_v1_6)),
      θ_run (Cert.OutbIdeal.defs (F := Ideal)) (onTc (τ := Cert.OutbIdeal.τ) (Cert.OutbIdeal.main (F := Ideal))) ⟨m, fun _ => 0, g⟩ (fun r => ∀ c : Dev Cert.OutbIdeal.nD,
          r.2.mem ((c.tc : Thread Cert.OutbIdeal.nD Cert.OutbIdeal.τ).loc Cert.OutbIdeal.main_v1_0) = v0 c
          ∧ r.2.mem ((c.tc : Thread Cert.OutbIdeal.nD Cert.OutbIdeal.τ).loc Cert.OutbIdeal.main_v1_1) = v1 c
          ∧ r.2.mem ((c.tc : Thread Cert.OutbIdeal.nD Cert.OutbIdeal.τ).loc Cert.OutbIdeal.main_v1_2) = v2 c
          ∧ r.2.mem ((c.tc : Thread Cert.OutbIdeal.nD Cert.OutbIdeal.τ).loc Cert.OutbIdeal.main_v1_3) = v3 c
          ∧ r.2.mem ((c.tc : Thread Cert.OutbIdeal.nD Cert.OutbIdeal.τ).loc Cert.OutbIdeal.main_v1_4) = v4 c
          ∧ r.2.mem ((c.tc : Thread Cert.OutbIdeal.nD Cert.OutbIdeal.τ).loc Cert.OutbIdeal.main_v1_5) = v5 c
          ∧ r.2.mem ((c.tc : Thread Cert.OutbIdeal.nD Cert.OutbIdeal.τ).loc Cert.OutbIdeal.main_v1_6) = v6 c
          ∧ r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
          ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
          ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
          ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
          ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4)
          ∧ r.2.mem ((c.tc : Thread Cert.OutbIdeal.nD Cert.OutbIdeal.τ).loc Cert.OutbIdeal.main_arg5) = m ((c.tc : Thread Cert.OutbIdeal.nD Cert.OutbIdeal.τ).loc Cert.OutbIdeal.main_arg5)
          ∧ r.2.mem ((c.tc : Thread Cert.OutbIdeal.nD Cert.OutbIdeal.τ).loc Cert.OutbIdeal.main_arg6) = m ((c.tc : Thread Cert.OutbIdeal.nD Cert.OutbIdeal.τ).loc Cert.OutbIdeal.main_arg6))
      ∧ θ_run (Cert.OutbRefIdeal.defs (F := Ideal)) (onTc (τ := Cert.OutbRefIdeal.τ) (Cert.OutbRefIdeal.main (F := Ideal))) ⟨m', fun _ => 0, g'⟩ (fun r => ∀ c : Dev Cert.OutbRefIdeal.nD,
          r.2.mem ((c.tc : Thread Cert.OutbRefIdeal.nD Cert.OutbRefIdeal.τ).loc Cert.OutbRefIdeal.main_v86) = v0 c
          ∧ r.2.mem ((c.tc : Thread Cert.OutbRefIdeal.nD Cert.OutbRefIdeal.τ).loc Cert.OutbRefIdeal.main_v64) = v1 c
          ∧ r.2.mem ((c.tc : Thread Cert.OutbRefIdeal.nD Cert.OutbRefIdeal.τ).loc Cert.OutbRefIdeal.main_v67) = v2 c
          ∧ r.2.mem ((c.tc : Thread Cert.OutbRefIdeal.nD Cert.OutbRefIdeal.τ).loc Cert.OutbRefIdeal.main_v45) = v3 c
          ∧ r.2.mem ((c.tc : Thread Cert.OutbRefIdeal.nD Cert.OutbRefIdeal.τ).loc Cert.OutbRefIdeal.main_v39) = v4 c
          ∧ r.2.mem ((c.tc : Thread Cert.OutbRefIdeal.nD Cert.OutbRefIdeal.τ).loc Cert.OutbRefIdeal.main_v70) = v5 c
          ∧ r.2.mem ((c.tc : Thread Cert.OutbRefIdeal.nD Cert.OutbRefIdeal.τ).loc Cert.OutbRefIdeal.main_v48) = v6 c
          ∧ r.2.mem ((c.tc : Thread Cert.OutbRefIdeal.nD Cert.OutbRefIdeal.τ).loc Cert.OutbRefIdeal.main_arg0) = m' ((c.tc : Thread Cert.OutbRefIdeal.nD Cert.OutbRefIdeal.τ).loc Cert.OutbRefIdeal.main_arg0)
          ∧ r.2.mem ((c.tc : Thread Cert.OutbRefIdeal.nD Cert.OutbRefIdeal.τ).loc Cert.OutbRefIdeal.main_arg1) = m' ((c.tc : Thread Cert.OutbRefIdeal.nD Cert.OutbRefIdeal.τ).loc Cert.OutbRefIdeal.main_arg1)
          ∧ r.2.mem ((c.tc : Thread Cert.OutbRefIdeal.nD Cert.OutbRefIdeal.τ).loc Cert.OutbRefIdeal.main_arg2) = m' ((c.tc : Thread Cert.OutbRefIdeal.nD Cert.OutbRefIdeal.τ).loc Cert.OutbRefIdeal.main_arg2)
          ∧ r.2.mem ((c.tc : Thread Cert.OutbRefIdeal.nD Cert.OutbRefIdeal.τ).loc Cert.OutbRefIdeal.main_arg3) = m' ((c.tc : Thread Cert.OutbRefIdeal.nD Cert.OutbRefIdeal.τ).loc Cert.OutbRefIdeal.main_arg3)
          ∧ r.2.mem ((c.tc : Thread Cert.OutbRefIdeal.nD Cert.OutbRefIdeal.τ).loc Cert.OutbRefIdeal.main_arg4) = m' ((c.tc : Thread Cert.OutbRefIdeal.nD Cert.OutbRefIdeal.τ).loc Cert.OutbRefIdeal.main_arg4)
          ∧ r.2.mem ((c.tc : Thread Cert.OutbRefIdeal.nD Cert.OutbRefIdeal.τ).loc Cert.OutbRefIdeal.main_arg5) = m' ((c.tc : Thread Cert.OutbRefIdeal.nD Cert.OutbRefIdeal.τ).loc Cert.OutbRefIdeal.main_arg5)
          ∧ r.2.mem ((c.tc : Thread Cert.OutbRefIdeal.nD Cert.OutbRefIdeal.τ).loc Cert.OutbRefIdeal.main_arg6) = m' ((c.tc : Thread Cert.OutbRefIdeal.nD Cert.OutbRefIdeal.τ).loc Cert.OutbRefIdeal.main_arg6))

def preserves_Outf_OutfIdeal : Prop :=
  True

def preserves_OutfRef_OutfRefIdeal : Prop :=
  True

def algebraic_OutfIdeal_OutfRefIdeal [hOutfIdeal : Cert.OutfIdeal.Facts] [hOutfRefIdeal : Cert.OutfRefIdeal.Facts] : Prop :=
  ∀ (m : (ℓ : Loc Cert.OutfIdeal.nD Cert.OutfIdeal.τ Cert.OutfIdeal.sig) → Buf (Elt Ideal) ℓ) (g : Dev Cert.OutfIdeal.nD → PrngReg)
    (m' : (ℓ : Loc Cert.OutfRefIdeal.nD Cert.OutfRefIdeal.τ Cert.OutfRefIdeal.sig) → Buf (Elt Ideal) ℓ) (g' : Dev Cert.OutfRefIdeal.nD → PrngReg), Pre_OutfIdeal m →
    (∀ c : Dev Cert.OutfIdeal.nD,
      m' ((c.tc : Thread Cert.OutfRefIdeal.nD Cert.OutfRefIdeal.τ).loc Cert.OutfRefIdeal.main_arg0) = m ((c.tc : Thread Cert.OutfIdeal.nD Cert.OutfIdeal.τ).loc Cert.OutfIdeal.main_arg0)
      ∧ m' ((c.tc : Thread Cert.OutfRefIdeal.nD Cert.OutfRefIdeal.τ).loc Cert.OutfRefIdeal.main_arg1) = m ((c.tc : Thread Cert.OutfIdeal.nD Cert.OutfIdeal.τ).loc Cert.OutfIdeal.main_arg1)
      ∧ m' ((c.tc : Thread Cert.OutfRefIdeal.nD Cert.OutfRefIdeal.τ).loc Cert.OutfRefIdeal.main_arg2) = m ((c.tc : Thread Cert.OutfIdeal.nD Cert.OutfIdeal.τ).loc Cert.OutfIdeal.main_arg2)
      ∧ m' ((c.tc : Thread Cert.OutfRefIdeal.nD Cert.OutfRefIdeal.τ).loc Cert.OutfRefIdeal.main_arg3) = m ((c.tc : Thread Cert.OutfIdeal.nD Cert.OutfIdeal.τ).loc Cert.OutfIdeal.main_arg3)
      ∧ m' ((c.tc : Thread Cert.OutfRefIdeal.nD Cert.OutfRefIdeal.τ).loc Cert.OutfRefIdeal.main_arg4) = m ((c.tc : Thread Cert.OutfIdeal.nD Cert.OutfIdeal.τ).loc Cert.OutfIdeal.main_arg4)
      ∧ m' ((c.tc : Thread Cert.OutfRefIdeal.nD Cert.OutfRefIdeal.τ).loc Cert.OutfRefIdeal.main_arg5) = m ((c.tc : Thread Cert.OutfIdeal.nD Cert.OutfIdeal.τ).loc Cert.OutfIdeal.main_arg5)
      ∧ m' ((c.tc : Thread Cert.OutfRefIdeal.nD Cert.OutfRefIdeal.τ).loc Cert.OutfRefIdeal.main_arg6) = m ((c.tc : Thread Cert.OutfIdeal.nD Cert.OutfIdeal.τ).loc Cert.OutfIdeal.main_arg6)) →
    ∃ (v0 : (c : Dev Cert.OutfIdeal.nD) → Buf (Elt Ideal) ((c.tc : Thread Cert.OutfIdeal.nD Cert.OutfIdeal.τ).loc Cert.OutfIdeal.main_v1)),
      θ_run (Cert.OutfIdeal.defs (F := Ideal)) (onTc (τ := Cert.OutfIdeal.τ) (Cert.OutfIdeal.main (F := Ideal))) ⟨m, fun _ => 0, g⟩ (fun r => ∀ c : Dev Cert.OutfIdeal.nD,
          r.2.mem ((c.tc : Thread Cert.OutfIdeal.nD Cert.OutfIdeal.τ).loc Cert.OutfIdeal.main_v1) = v0 c
          ∧ r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
          ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
          ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
          ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
          ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
          ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
          ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6))
      ∧ θ_run (Cert.OutfRefIdeal.defs (F := Ideal)) (onTc (τ := Cert.OutfRefIdeal.τ) (Cert.OutfRefIdeal.main (F := Ideal))) ⟨m', fun _ => 0, g'⟩ (fun r => ∀ c : Dev Cert.OutfRefIdeal.nD,
          r.2.mem ((c.tc : Thread Cert.OutfRefIdeal.nD Cert.OutfRefIdeal.τ).loc Cert.OutfRefIdeal.main_v32) = v0 c
          ∧ r.2.mem ((c.tc : Thread Cert.OutfRefIdeal.nD Cert.OutfRefIdeal.τ).loc Cert.OutfRefIdeal.main_arg0) = m' ((c.tc : Thread Cert.OutfRefIdeal.nD Cert.OutfRefIdeal.τ).loc Cert.OutfRefIdeal.main_arg0)
          ∧ r.2.mem ((c.tc : Thread Cert.OutfRefIdeal.nD Cert.OutfRefIdeal.τ).loc Cert.OutfRefIdeal.main_arg1) = m' ((c.tc : Thread Cert.OutfRefIdeal.nD Cert.OutfRefIdeal.τ).loc Cert.OutfRefIdeal.main_arg1)
          ∧ r.2.mem ((c.tc : Thread Cert.OutfRefIdeal.nD Cert.OutfRefIdeal.τ).loc Cert.OutfRefIdeal.main_arg2) = m' ((c.tc : Thread Cert.OutfRefIdeal.nD Cert.OutfRefIdeal.τ).loc Cert.OutfRefIdeal.main_arg2)
          ∧ r.2.mem ((c.tc : Thread Cert.OutfRefIdeal.nD Cert.OutfRefIdeal.τ).loc Cert.OutfRefIdeal.main_arg3) = m' ((c.tc : Thread Cert.OutfRefIdeal.nD Cert.OutfRefIdeal.τ).loc Cert.OutfRefIdeal.main_arg3)
          ∧ r.2.mem ((c.tc : Thread Cert.OutfRefIdeal.nD Cert.OutfRefIdeal.τ).loc Cert.OutfRefIdeal.main_arg4) = m' ((c.tc : Thread Cert.OutfRefIdeal.nD Cert.OutfRefIdeal.τ).loc Cert.OutfRefIdeal.main_arg4)
          ∧ r.2.mem ((c.tc : Thread Cert.OutfRefIdeal.nD Cert.OutfRefIdeal.τ).loc Cert.OutfRefIdeal.main_arg5) = m' ((c.tc : Thread Cert.OutfRefIdeal.nD Cert.OutfRefIdeal.τ).loc Cert.OutfRefIdeal.main_arg5)
          ∧ r.2.mem ((c.tc : Thread Cert.OutfRefIdeal.nD Cert.OutfRefIdeal.τ).loc Cert.OutfRefIdeal.main_arg6) = m' ((c.tc : Thread Cert.OutfRefIdeal.nD Cert.OutfRefIdeal.τ).loc Cert.OutfRefIdeal.main_arg6))

def preserves_Attn_AttnIdeal : Prop :=
  IdealRules.named_const.Statement Cert.AttnIdeal.κ "log2e" .f32 0x3FB8AA3B#32 (((Real.log 2)⁻¹ : ℝ) : EReal)

def preserves_AttnRef_AttnRefIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v53)) (v1 : (c : Dev Cert.AttnIdeal.nD) → Buf (Elt Ideal) ((c.tc : Thread Cert.AttnIdeal.nD Cert.AttnIdeal.τ).loc Cert.AttnIdeal.main_v56)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v53) = v0 c
          ∧ r.2.mem ((c.tc : Thread Cert.AttnIdeal.nD Cert.AttnIdeal.τ).loc Cert.AttnIdeal.main_v56) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v39) = v0 c
          ∧ r.2.mem ((c.tc : Thread Cert.AttnRefIdeal.nD Cert.AttnRefIdeal.τ).loc Cert.AttnRefIdeal.main_v18) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hKernel : Cert.Kernel.Facts) (hKernelIdeal : Cert.KernelIdeal.Facts) (hReferenceIdeal : Cert.ReferenceIdeal.Facts) (hReference : Cert.Reference.Facts) (hInproj : Cert.Inproj.Facts) (hInprojIdeal : Cert.InprojIdeal.Facts) (hInprojRefIdeal : Cert.InprojRefIdeal.Facts) (hInprojRef : Cert.InprojRef.Facts) (hProj : Cert.Proj.Facts) (hProjIdeal : Cert.ProjIdeal.Facts) (hProjRefIdeal : Cert.ProjRefIdeal.Facts) (hProjRef : Cert.ProjRef.Facts) (hOutb : Cert.Outb.Facts) (hOutbIdeal : Cert.OutbIdeal.Facts) (hOutbRefIdeal : Cert.OutbRefIdeal.Facts) (hOutbRef : Cert.OutbRef.Facts) (hOutf : Cert.Outf.Facts) (hOutfIdeal : Cert.OutfIdeal.Facts) (hOutfRefIdeal : Cert.OutfRefIdeal.Facts) (hOutfRef : Cert.OutfRef.Facts) (hAttn : Cert.Attn.Facts) (hAttnIdeal : Cert.AttnIdeal.Facts) (hAttnRefIdeal : Cert.AttnRefIdeal.Facts) (hAttnRef : Cert.AttnRef.Facts) (hPre_finite : Cert.Pre_finite.Facts) (hPre_finite_out : Cert.Pre_finite_out.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Inproj (hInproj := hInproj)
    ∧ quiescent_InprojIdeal (hInprojIdeal := hInprojIdeal)
    ∧ quiescent_InprojRefIdeal (hInprojRefIdeal := hInprojRefIdeal)
    ∧ quiescent_InprojRef (hInprojRef := hInprojRef)
    ∧ quiescent_Proj (hProj := hProj)
    ∧ quiescent_ProjIdeal (hProjIdeal := hProjIdeal)
    ∧ quiescent_ProjRefIdeal (hProjRefIdeal := hProjRefIdeal)
    ∧ quiescent_ProjRef (hProjRef := hProjRef)
    ∧ quiescent_Outb (hOutb := hOutb)
    ∧ quiescent_OutbIdeal (hOutbIdeal := hOutbIdeal)
    ∧ quiescent_OutbIdeal_pre_finite_out (hOutbIdeal := hOutbIdeal) (hPre_finite_out := hPre_finite_out)
    ∧ quiescent_OutbRefIdeal (hOutbRefIdeal := hOutbRefIdeal)
    ∧ quiescent_OutbRefIdeal_pre_finite_out (hOutbRefIdeal := hOutbRefIdeal) (hPre_finite_out := hPre_finite_out)
    ∧ quiescent_OutbRef (hOutbRef := hOutbRef)
    ∧ quiescent_Outf (hOutf := hOutf)
    ∧ quiescent_OutfIdeal (hOutfIdeal := hOutfIdeal)
    ∧ quiescent_OutfRefIdeal (hOutfRefIdeal := hOutfRefIdeal)
    ∧ quiescent_OutfRef (hOutfRef := hOutfRef)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AttnRef (hAttnRef := hAttnRef)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Inproj_InprojIdeal
    ∧ preserves_InprojRef_InprojRefIdeal
    ∧ algebraic_InprojIdeal_InprojRefIdeal (hInprojIdeal := hInprojIdeal) (hInprojRefIdeal := hInprojRefIdeal)
    ∧ preserves_Proj_ProjIdeal
    ∧ preserves_ProjRef_ProjRefIdeal
    ∧ algebraic_ProjIdeal_ProjRefIdeal (hProjIdeal := hProjIdeal) (hProjRefIdeal := hProjRefIdeal)
    ∧ preserves_Outb_OutbIdeal
    ∧ preserves_OutbRef_OutbRefIdeal
    ∧ algebraic_OutbIdeal_OutbRefIdeal_pre_finite_out (hOutbIdeal := hOutbIdeal) (hOutbRefIdeal := hOutbRefIdeal) (hPre_finite_out := hPre_finite_out)
    ∧ preserves_Outf_OutfIdeal
    ∧ preserves_OutfRef_OutfRefIdeal
    ∧ algebraic_OutfIdeal_OutfRefIdeal (hOutfIdeal := hOutfIdeal) (hOutfRefIdeal := hOutfRefIdeal)
    ∧ preserves_Attn_AttnIdeal
    ∧ preserves_AttnRef_AttnRefIdeal
    ∧ algebraic_AttnIdeal_AttnRefIdeal_pre_finite_attn (hAttnIdeal := hAttnIdeal) (hAttnRefIdeal := hAttnRefIdeal) (hPre_finite_attn := hPre_finite_attn)
-- ==== Pre_finite.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S_ : Shape := ⟨0, ![]⟩

class Facts : Prop where
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  h_S_ : 0 < S_.numel
  bcast_S_S2x2064x8x32 : S_.BroadcastsInDim S2x2064x8x32 (![] : Fin 0 → Fin S2x2064x8x32.rank)
  reducesTo_S2x2064x8x32_S_d0_1_2_3 : S2x2064x8x32.ReducesTo [0, 1, 2, 3] S_
  bcast_S_S2x2064x32 : S_.BroadcastsInDim S2x2064x32 (![] : Fin 0 → Fin S2x2064x32.rank)
  reducesTo_S2x2064x32_S_d0_1_2 : S2x2064x32.ReducesTo [0, 1, 2] S_
  bcast_S_S2x2064x512 : S_.BroadcastsInDim S2x2064x512 (![] : Fin 0 → Fin S2x2064x512.rank)
  reducesTo_S2x2064x512_S_d0_1_2 : S2x2064x512.ReducesTo [0, 1, 2] S_

variable [Facts]

def fn_part1 {F : FTy → Type} [FloatOps F] (main_arg4 : FVec F S2x2064x8x64 .f32) (main_arg5 : FVec F S2x2064x512 .f32) (main_v13 : IVec S_ 1) (main_v16 : IVec S2x2064x32 1) : IVec S_ 1 :=
  let main_c_5 : IVec S_ 1 := constantI S_ 1 1#1
  let main_v17 : IVec S_ 1 := (fun x v => Host.reduce IntOp.andi x v reducesTo_S2x2064x32_S_d0_1_2 h_S_) main_v16 main_c_5
  let main_v18 : IVec S_ 1 := andi main_v13 main_v17
  let main_v19 : FVec F S2x2064x8x64 .f32 := Host.absf main_arg4
  let main_cst_6 : FVec F S_ .f32 := constant S_ .f32 0x7F800000#32
  let main_v20 : FVec F S2x2064x8x64 .f32 := broadcastInDim S2x2064x8x64 ![] bcast_S_S2x2064x8x64 main_cst_6
  let main_v21 : IVec S2x2064x8x64 1 := cmpf .olt main_v19 main_v20
  let main_c_7 : IVec S_ 1 := constantI S_ 1 1#1
  let main_v22 : IVec S_ 1 := (fun x v => Host.reduce IntOp.andi x v reducesTo_S2x2064x8x64_S_d0_1_2_3 h_S_) main_v21 main_c_7
  let main_v23 : IVec S_ 1 := andi main_v18 main_v22
  let main_v24 : FVec F S2x2064x512 .f32 := Host.absf main_arg5
  let main_cst_8 : FVec F S_ .f32 := constant S_ .f32 0x7F800000#32
  let main_v25 : FVec F S2x2064x512 .f32 := broadcastInDim S2x2064x512 ![] bcast_S_S2x2064x512 main_cst_8
  let main_v26 : IVec S2x2064x512 1 := cmpf .olt main_v24 main_v25
  let main_c_9 : IVec S_ 1 := constantI S_ 1 1#1
  let main_v27 : IVec S_ 1 := (fun x v => Host.reduce IntOp.andi x v reducesTo_S2x2064x512_S_d0_1_2 h_S_) main_v26 main_c_9
  let main_v28 : IVec S_ 1 := andi main_v23 main_v27
  main_v28

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) (main_arg5 : FVec F S2x2064x512 .f32) : IVec S_ 1 :=
  let main_v0 : FVec F S2x2064x8x64 .f32 := Host.absf main_arg0
  let main_cst : FVec F S_ .f32 := constant S_ .f32 0x7F800000#32
  let main_v1 : FVec F S2x2064x8x64 .f32 := broadcastInDim S2x2064x8x64 ![] bcast_S_S2x2064x8x64 main_cst
  let main_v2 : IVec S2x2064x8x64 1 := cmpf .olt main_v0 main_v1
  let main_c : IVec S_ 1 := constantI S_ 1 1#1
  let main_v3 : IVec S_ 1 := (fun x v => Host.reduce IntOp.andi x v reducesTo_S2x2064x8x64_S_d0_1_2_3 h_S_) main_v2 main_c
  let main_v4 : FVec F S2x2064x8x32 .f32 := Host.absf main_arg1
  let main_cst_0 : FVec F S_ .f32 := constant S_ .f32 0x7F800000#32
  let main_v5 : FVec F S2x2064x8x32 .f32 := broadcastInDim S2x2064x8x32 ![] bcast_S_S2x2064x8x32 main_cst_0
  let main_v6 : IVec S2x2064x8x32 1 := cmpf .olt main_v4 main_v5
  let main_c_1 : IVec S_ 1 := constantI S_ 1 1#1
  let main_v7 : IVec S_ 1 := (fun x v => Host.reduce IntOp.andi x v reducesTo_S2x2064x8x32_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x32 .f32 := Host.absf main_arg3
  let main_cst_4 : FVec F S_ .f32 := constant S_ .f32 0x7F800000#32
  let main_v15 : FVec F S2x2064x32 .f32 := broadcastInDim S2x2064x32 ![] bcast_S_S2x2064x32 main_cst_4
  let main_v16 : IVec S2x2064x32 1 := cmpf .olt main_v14 main_v15
  fn_part1 (F := F) main_arg4 main_arg5 main_v13 main_v16
-- ==== Pre_finite_attn.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S_ : Shape := ⟨0, ![]⟩

class Facts : Prop where
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  h_S_ : 0 < S_.numel
  bcast_S_S2x2064x8x32 : S_.BroadcastsInDim S2x2064x8x32 (![] : Fin 0 → Fin S2x2064x8x32.rank)
  reducesTo_S2x2064x8x32_S_d0_1_2_3 : S2x2064x8x32.ReducesTo [0, 1, 2, 3] S_
  bcast_S_S2x2064x32 : S_.BroadcastsInDim S2x2064x32 (![] : Fin 0 → Fin S2x2064x32.rank)
  reducesTo_S2x2064x32_S_d0_1_2 : S2x2064x32.ReducesTo [0, 1, 2] S_

variable [Facts]

def fn_part1 {F : FTy → Type} [FloatOps F] (main_v13 : IVec S_ 1) (main_v16 : IVec S2x2064x32 1) : IVec S_ 1 :=
  let main_c_5 : IVec S_ 1 := constantI S_ 1 1#1
  let main_v17 : IVec S_ 1 := (fun x v => Host.reduce IntOp.andi x v reducesTo_S2x2064x32_S_d0_1_2 h_S_) main_v16 main_c_5
  let main_v18 : IVec S_ 1 := andi main_v13 main_v17
  main_v18

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) : IVec S_ 1 :=
  let main_v0 : FVec F S2x2064x8x64 .f32 := Host.absf main_arg0
  let main_cst : FVec F S_ .f32 := constant S_ .f32 0x7F800000#32
  let main_v1 : FVec F S2x2064x8x64 .f32 := broadcastInDim S2x2064x8x64 ![] bcast_S_S2x2064x8x64 main_cst
  let main_v2 : IVec S2x2064x8x64 1 := cmpf .olt main_v0 main_v1
  let main_c : IVec S_ 1 := constantI S_ 1 1#1
  let main_v3 : IVec S_ 1 := (fun x v => Host.reduce IntOp.andi x v reducesTo_S2x2064x8x64_S_d0_1_2_3 h_S_) main_v2 main_c
  let main_v4 : FVec F S2x2064x8x32 .f32 := Host.absf main_arg1
  let main_cst_0 : FVec F S_ .f32 := constant S_ .f32 0x7F800000#32
  let main_v5 : FVec F S2x2064x8x32 .f32 := broadcastInDim S2x2064x8x32 ![] bcast_S_S2x2064x8x32 main_cst_0
  let main_v6 : IVec S2x2064x8x32 1 := cmpf .olt main_v4 main_v5
  let main_c_1 : IVec S_ 1 := constantI S_ 1 1#1
  let main_v7 : IVec S_ 1 := (fun x v => Host.reduce IntOp.andi x v reducesTo_S2x2064x8x32_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x32 .f32 := Host.absf main_arg3
  let main_cst_4 : FVec F S_ .f32 := constant S_ .f32 0x7F800000#32
  let main_v15 : FVec F S2x2064x32 .f32 := broadcastInDim S2x2064x32 ![] bcast_S_S2x2064x32 main_cst_4
  let main_v16 : IVec S2x2064x32 1 := cmpf .olt main_v14 main_v15
  fn_part1 (F := F) main_v13 main_v16
-- ==== Pre_finite_out.lean ====
abbrev S4352x1024 : Shape := ⟨2, ![4352, 1024]⟩
abbrev S4352x512 : Shape := ⟨2, ![4352, 512]⟩
abbrev S4352x2560 : Shape := ⟨2, ![4352, 2560]⟩
abbrev S1x512 : Shape := ⟨2, ![1, 512]⟩
abbrev S1024x1024 : Shape := ⟨2, ![1024, 1024]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4352x1024 .f32) (main_arg1 : FVec F S4352x512 .f32) (main_arg2 : FVec F S4352x512 .f32) (main_arg3 : FVec F S4352x2560 .f32) (main_arg4 : FVec F S1x512 .f32) (main_arg5 : FVec F S1x512 .f32) (main_arg6 : FVec F S1024x1024 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S1x512 .f32 := Host.absf main_arg4
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg5
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1024x1024 .f32 := Host.absf main_arg6
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x2064x8 : Shape := ⟨3, ![2, 2064, 8]⟩
abbrev S2x2048x8x64 : Shape := ⟨4, ![2, 2048, 8, 64]⟩
abbrev S2x16x8x64 : Shape := ⟨4, ![2, 16, 8, 64]⟩
abbrev S2x112x8x64 : Shape := ⟨4, ![2, 112, 8, 64]⟩
abbrev S2x2176x8x64 : Shape := ⟨4, ![2, 2176, 8, 64]⟩
abbrev S2x2048x8x32 : Shape := ⟨4, ![2, 2048, 8, 32]⟩
abbrev S2x16x8x32 : Shape := ⟨4, ![2, 16, 8, 32]⟩
abbrev S2x112x8x32 : Shape := ⟨4, ![2, 112, 8, 32]⟩
abbrev S2x2176x8x32 : Shape := ⟨4, ![2, 2176, 8, 32]⟩
abbrev S2x2176x8x1 : Shape := ⟨4, ![2, 2176, 8, 1]⟩
abbrev S2x2176x8x31 : Shape := ⟨4, ![2, 2176, 8, 31]⟩
abbrev S2x2176x8x128 : Shape := ⟨4, ![2, 2176, 8, 128]⟩
abbrev S4352x1024 : Shape := ⟨2, ![4352, 1024]⟩
abbrev S2x2064x1x32 : Shape := ⟨4, ![2, 2064, 1, 32]⟩
abbrev S2x2064x8x1 : Shape := ⟨4, ![2, 2064, 8, 1]⟩
abbrev S2x2048x8x1 : Shape := ⟨4, ![2, 2048, 8, 1]⟩
abbrev S2x16x8x1 : Shape := ⟨4, ![2, 16, 8, 1]⟩
abbrev S2x112x8x1 : Shape := ⟨4, ![2, 112, 8, 1]⟩
abbrev S2x2176x8x2 : Shape := ⟨4, ![2, 2176, 8, 2]⟩
abbrev S2x2176x8x62 : Shape := ⟨4, ![2, 2176, 8, 62]⟩
abbrev S2x2064x4x2 : Shape := ⟨4, ![2, 2064, 4, 2]⟩
abbrev S2x2048x4x2 : Shape := ⟨4, ![2, 2048, 4, 2]⟩
abbrev S2x16x4x2 : Shape := ⟨4, ![2, 16, 4, 2]⟩
abbrev S2x112x4x2 : Shape := ⟨4, ![2, 112, 4, 2]⟩
abbrev S2x2176x4x2 : Shape := ⟨4, ![2, 2176, 4, 2]⟩
abbrev S2x2176x4x126 : Shape := ⟨4, ![2, 2176, 4, 126]⟩
abbrev S2x2176x4x128 : Shape := ⟨4, ![2, 2176, 4, 128]⟩
abbrev S4352x512 : Shape := ⟨2, ![4352, 512]⟩
abbrev S2x2048x512 : Shape := ⟨3, ![2, 2048, 512]⟩
abbrev S2x16x512 : Shape := ⟨3, ![2, 16, 512]⟩
abbrev S2x112x512 : Shape := ⟨3, ![2, 112, 512]⟩
abbrev S2x2176x512 : Shape := ⟨3, ![2, 2176, 512]⟩
abbrev S8x128 : Shape := ⟨2, ![8, 128]⟩
abbrev S2176x256 : Shape := ⟨2, ![2176, 256]⟩
abbrev S2176x128 : Shape := ⟨2, ![2176, 128]⟩
abbrev S256x128 : Shape := ⟨2, ![256, 128]⟩
abbrev S256 : Shape := ⟨1, ![256]⟩
abbrev S256x1 : Shape := ⟨2, ![256, 1]⟩
abbrev S256x2176 : Shape := ⟨2, ![256, 2176]⟩
abbrev S128x128 : Shape := ⟨2, ![128, 128]⟩
abbrev S128 : Shape := ⟨1, ![128]⟩
abbrev S128x1 : Shape := ⟨2, ![128, 1]⟩
abbrev S128x2176 : Shape := ⟨2, ![128, 2176]⟩
abbrev S2x16x8x128 : Shape := ⟨4, ![2, 16, 8, 128]⟩
abbrev S2x2048x8x128 : Shape := ⟨4, ![2, 2048, 8, 128]⟩
abbrev S2x2064x8x128 : Shape := ⟨4, ![2, 2064, 8, 128]⟩

abbrev nBuf : Space → Nat
  | .hbm => 139
  | .vmem => 18
  | .smem => 0
  | _ => 0

abbrev hbmTy0_0 (i : Nat) : BufTy := match i % 128 with
  | 0 => ⟨S2x2064x8x64, .f32⟩
  | 1 => ⟨S2x2064x8x32, .f32⟩
  | 2 => ⟨S2x2064x8x64, .f32⟩
  | 3 => ⟨S2x2064x32, .f32⟩
  | 4 => ⟨S2x2064x8x64, .f32⟩
  | 5 => ⟨S2x2064x512, .f32⟩
  | 6 => ⟨S2x8x2064x2064, .f32⟩
  | 7 => ⟨S2x2064x2064x8, .f32⟩
  | 8 => ⟨S2x8x2064x2064, .f32⟩
  | 9 => ⟨S2x8x2064x2064, .f32⟩
  | 10 => ⟨S_, .f32⟩
  | 11 => ⟨S2x8x2064x2064, .f32⟩
  | 12 => ⟨S2x8x2064x2064, .f32⟩
  | 13 => ⟨S_, .f32⟩
  | 14 => ⟨S2x8x2064, .f32⟩
  | 15 => ⟨S2x8x2064x1, .f32⟩
  | 16 => ⟨S2x8x2064x2064, .f32⟩
  | 17 => ⟨S2x8x2064x2064, .f32⟩
  | 18 => ⟨S2x8x2064x2064, .f32⟩
  | 19 => ⟨S_, .f32⟩
  | 20 => ⟨S2x8x2064, .f32⟩
  | 21 => ⟨S2x8x2064x1, .f32⟩
  | 22 => ⟨S2x8x2064x2064, .f32⟩
  | 23 => ⟨S2x8x2064x2064, .f32⟩
  | 24 => ⟨S2x8x64x2064, .f32⟩
  | 25 => ⟨S2x2064x8x64, .f32⟩
  | 26 => ⟨S_, .f32⟩
  | 27 => ⟨S_, .f32⟩
  | 28 => ⟨S2x8x2064, .f32⟩
  | 29 => ⟨S2x8x2064, .f32⟩
  | 30 => ⟨S2x8x2064, .f32⟩
  | 31 => ⟨S2x8x2064, .f32⟩
  | 32 => ⟨S2x2064x8, .f32⟩
  | 33 => ⟨S_, .f32⟩
  | 34 => ⟨S_, .f32⟩
  | 35 => ⟨S2x2064x8x64, .f32⟩
  | 36 => ⟨S2x2064x8x64, .f32⟩
  | 37 => ⟨S2x2048x8x64, .f32⟩
  | 38 => ⟨S2x16x8x64, .f32⟩
  | 39 => ⟨S_, .f32⟩
  | 40 => ⟨S2x112x8x64, .f32⟩
  | 41 => ⟨S2x2176x8x64, .f32⟩
  | 42 => ⟨S2x2064x8x32, .f32⟩
  | 43 => ⟨S2x2064x8x32, .f32⟩
  | 44 => ⟨S2x2048x8x32, .f32⟩
  | 45 => ⟨S2x16x8x32, .f32⟩
  | 46 => ⟨S_, .f32⟩
  | 47 => ⟨S2x112x8x32, .f32⟩
  | 48 => ⟨S2x2176x8x32, .f32⟩
  | 49 => ⟨S_, .f32⟩
  | 50 => ⟨S2x2176x8x1, .f32⟩
  | 51 => ⟨S_, .f32⟩
  | 52 => ⟨S2x2176x8x31, .f32⟩
  | 53 => ⟨S2x2176x8x128, .f32⟩
  | 54 => ⟨S4352x1024, .f32⟩
  | 55 => ⟨S4352x1024, .bf16⟩
  | 56 => ⟨S2x2064x1x32, .f32⟩
  | 57 => ⟨S2x2064x8x32, .f32⟩
  | 58 => ⟨S2x2048x8x64, .f32⟩
  | 59 => ⟨S2x16x8x64, .f32⟩
  | 60 => ⟨S_, .f32⟩
  | 61 => ⟨S2x112x8x64, .f32⟩
  | 62 => ⟨S2x2176x8x64, .f32⟩
  | 63 => ⟨S2x2048x8x32, .f32⟩
  | 64 => ⟨S2x16x8x32, .f32⟩
  | 65 => ⟨S_, .f32⟩
  | 66 => ⟨S2x112x8x32, .f32⟩
  | 67 => ⟨S2x2176x8x32, .f32⟩
  | 68 => ⟨S_, .f32⟩
  | 69 => ⟨S2x2064x8x1, .f32⟩
  | 70 => ⟨S2x2048x8x1, .f32⟩
  | 71 => ⟨S2x16x8x1, .f32⟩
  | 72 => ⟨S_, .f32⟩
  | 73 => ⟨S2x112x8x1, .f32⟩
  | 74 => ⟨S2x2176x8x1, .f32⟩
  | 75 => ⟨S_, .f32⟩
  | 76 => ⟨S2x2176x8x31, .f32⟩
  | 77 => ⟨S2x2176x8x128, .f32⟩
  | 78 => ⟨S4352x1024, .f32⟩
  | 79 => ⟨S4352x1024, .bf16⟩
  | 80 => ⟨S2x2048x8x64, .f32⟩
  | 81 => ⟨S2x16x8x64, .f32⟩
  | 82 => ⟨S_, .f32⟩
  | 83 => ⟨S2x112x8x64, .f32⟩
  | 84 => ⟨S2x2176x8x64, .f32⟩
  | 85 => ⟨S_, .f32⟩
  | 86 => ⟨S2x2176x8x2, .f32⟩
  | 87 => ⟨S_, .f32⟩
  | 88 => ⟨S2x2176x8x62, .f32⟩
  | 89 => ⟨S2x2176x8x128, .f32⟩
  | 90 => ⟨S4352x1024, .f32⟩
  | 91 => ⟨S4352x1024, .bf16⟩
  | 92 => ⟨S2x2064x4x2, .f32⟩
  | 93 => ⟨S2x2048x4x2, .f32⟩
  | 94 => ⟨S2x16x4x2, .f32⟩
  | 95 => ⟨S_, .f32⟩
  | 96 => ⟨S2x112x4x2, .f32⟩
  | 97 => ⟨S2x2176x4x2, .f32⟩
  | 98 => ⟨S_, .f32⟩
  | 99 => ⟨S2x2176x4x126, .f32⟩
  | 100 => ⟨S2x2176x4x128, .f32⟩
  | 101 => ⟨S4352x512, .f32⟩
  | 102 => ⟨S2x2064x512, .f32⟩
  | 103 => ⟨S2x2048x512, .f32⟩
  | 104 => ⟨S2x16x512, .f32⟩
  | 105 => ⟨S_, .f32⟩
  | 106 => ⟨S2x112x512, .f32⟩
  | 107 => ⟨S2x2176x512, .f32⟩
  | 108 => ⟨S4352x512, .f32⟩
  | 109 => ⟨S2x2048x512, .f32⟩
  | 110 => ⟨S2x16x512, .f32⟩
  | 111 => ⟨S_, .f32⟩
  | 112 => ⟨S2x112x512, .f32⟩
  | 113 => ⟨S2x2176x512, .f32⟩
  | 114 => ⟨S4352x512, .f32⟩
  | 115 => ⟨S_, .f32⟩
  | 116 => ⟨S8x128, .f32⟩
  | 117 => ⟨S4352x1024, .f32⟩
  | 118 => ⟨S4352x1024, .f32⟩
  | 119 => ⟨S4352x1024, .f32⟩
  | 120 => ⟨S2x2176x8x128, .f32⟩
  | 121 => ⟨S2x16x8x128, .f32⟩
  | 122 => ⟨S2x2048x8x128, .f32⟩
  | 123 => ⟨S2x2064x8x128, .f32⟩
  | 124 => ⟨S2x2176x8x128, .f32⟩
  | 125 => ⟨S2x16x8x128, .f32⟩
  | 126 => ⟨S2x2048x8x128, .f32⟩
  | 127 => ⟨S2x2064x8x128, .f32⟩
  | _ => ⟨S2x2064x8x64, .f32⟩

abbrev hbmTy0_1 (i : Nat) : BufTy := match i % 128 with
  | 0 => ⟨S2x2176x8x128, .f32⟩
  | 1 => ⟨S2x16x8x128, .f32⟩
  | 2 => ⟨S2x2048x8x128, .f32⟩
  | 3 => ⟨S2x2064x8x128, .f32⟩
  | 4 => ⟨S2x2064x8x64, .f32⟩
  | 5 => ⟨S2x2064x8x32, .f32⟩
  | 6 => ⟨S2x2064x8x64, .f32⟩
  | 7 => ⟨S2x2064x8x32, .f32⟩
  | 8 => ⟨S_, .f32⟩
  | 9 => ⟨S2x2064x32, .f32⟩
  | 10 => ⟨S2x2064x8x64, .f32⟩
  | _ => ⟨S2x2064x8x64, .f32⟩

abbrev hbmTy (i : Nat) : BufTy := match i / 128 with
  | 0 => hbmTy0_0 i
  | 1 => hbmTy0_1 i
  | _ => ⟨S2x2064x8x64, .f32⟩

abbrev bufTy : (tb : Table) → Fin (tcTables nBuf tb) → BufTy
  | .hbm, ⟨i, _⟩ => hbmTy i
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x256, .f32⟩
  | .local _ .vmem, ⟨13, _⟩ => ⟨S2176x256, .f32⟩
  | .local _ .vmem, ⟨14, _⟩ => ⟨S2176x256, .f32⟩
  | .local _ .vmem, ⟨15, _⟩ => ⟨S2176x256, .f32⟩
  | .local _ .vmem, ⟨16, _⟩ => ⟨S2176x256, .f32⟩
  | .local _ .vmem, ⟨17, _⟩ => ⟨S2176x256, .f32⟩
  | _, _ => ⟨S2x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_20 : Ref sig .tc := ⟨.hbm, 115, rfl⟩
abbrev main_v88 : Ref sig .tc := ⟨.hbm, 116, rfl⟩
abbrev main_v89_0 : Ref sig .tc := ⟨.hbm, 117, rfl⟩
abbrev main_v89_1 : Ref sig .tc := ⟨.hbm, 118, rfl⟩
abbrev main_v89_2 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_21 : Ref sig .tc := ⟨.hbm, 136, rfl⟩
abbrev main_v106 : Ref sig .tc := ⟨.hbm, 137, rfl⟩
abbrev main_v107 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  v128
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v131 : Index := Scalar.indexCast v129
  let c0_73 : Index := 0#32
  ![v131.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v161 : Index := Scalar.indexCast v129
  let c0_81 : Index := 0#32
  ![v161.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v219 : Index := Scalar.indexCast v129
  let c128_110 : Index := 128#32
  ![v219.toNat, 128]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  v256
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v259 : Index := Scalar.indexCast v257
  let c0_134 : Index := 0#32
  ![v259.toNat, 0]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v289 : Index := Scalar.indexCast v257
  let c0_142 : Index := 0#32
  ![v289.toNat, 0]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v347 : Index := Scalar.indexCast v257
  let c128_171 : Index := 128#32
  ![v347.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== Reference.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x8x2064x64 : Shape := ⟨4, ![2, 8, 2064, 64]⟩

abbrev nBuf : Space → Nat
  | .hbm => 83
  | .vmem => 0
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x2064x512, .f32⟩
  | .hbm, ⟨6, _⟩ => ⟨S2x8x2064x2064, .f32⟩
  | .hbm, ⟨7, _⟩ => ⟨S2x2064x2064x8, .f32⟩
  | .hbm, ⟨8, _⟩ => ⟨S2x8x2064x2064, .f32⟩
  | .hbm, ⟨9, _⟩ => ⟨S2x8x2064x2064, .f32⟩
  | .hbm, ⟨10, _⟩ => ⟨S_, .f32⟩
  | .hbm, ⟨11, _⟩ => ⟨S2x8x2064x2064, .f32⟩
  | .hbm, ⟨12, _⟩ => ⟨S2x8x2064x2064, .f32⟩
  | .hbm, ⟨13, _⟩ => ⟨S_, .f32⟩
  | .hbm, ⟨14, _⟩ => ⟨S2x8x2064, .f32⟩
  | .hbm, ⟨15, _⟩ => ⟨S2x8x2064x1, .f32⟩
  | .hbm, ⟨16, _⟩ => ⟨S2x8x2064x2064, .f32⟩
  | .hbm, ⟨17, _⟩ => ⟨S2x8x2064x2064, .i1⟩
  | .hbm, ⟨18, _⟩ => ⟨S2x8x2064x2064, .f32⟩
  | .hbm, ⟨19, _⟩ => ⟨S_, .f32⟩
  | .hbm, ⟨20, _⟩ => ⟨S2x8x2064, .f32⟩
  | .hbm, ⟨21, _⟩ => ⟨S_, .f32⟩
  | .hbm, ⟨22, _⟩ => ⟨S2x8x2064, .f32⟩
  | .hbm, ⟨23, _⟩ => ⟨S2x8x2064, .f32⟩
  | .hbm, ⟨24, _⟩ => ⟨S_, .f32⟩
  | .hbm, ⟨25, _⟩ => ⟨S2x8x2064, .f32⟩
  | .hbm, ⟨26, _⟩ => ⟨S2x8x2064, .i1⟩
  | .hbm, ⟨27, _⟩ => ⟨S_, .f32⟩
  | .hbm, ⟨28, _⟩ => ⟨S2x8x2064, .f32⟩
  | .hbm, ⟨29, _⟩ => ⟨S2x8x2064, .i1⟩
  | .hbm, ⟨30, _⟩ => ⟨S_, .f32⟩
  | .hbm, ⟨31, _⟩ => ⟨S2x8x2064, .f32⟩
  | .hbm, ⟨32, _⟩ => ⟨S_, .f32⟩
  | .hbm, ⟨33, _⟩ => ⟨S2x8x2064, .f32⟩
  | .hbm, ⟨34, _⟩ => ⟨S_, .f32⟩
  | .hbm, ⟨35, _⟩ => ⟨S2x8x2064, .f32⟩
  | .hbm, ⟨36, _⟩ => ⟨S2x8x2064, .f32⟩
  | .hbm, ⟨37, _⟩ => ⟨S2x8x2064, .f32⟩
  | .hbm, ⟨38, _⟩ => ⟨S2x8x2064x1, .f32⟩
  | .hbm, ⟨39, _⟩ => ⟨S2x8x2064x2064, .f32⟩
  | .hbm, ⟨40, _⟩ => ⟨S2x8x2064x2064, .f32⟩
  | .hbm, ⟨41, _⟩ => ⟨S2x8x2064x2064, .f32⟩
  | .hbm, ⟨42, _⟩ => ⟨S_, .f32⟩
  | .hbm, ⟨43, _⟩ => ⟨S2x8x2064, .f32⟩
  | .hbm, ⟨44, _⟩ => ⟨S2x8x2064x1, .f32⟩
  | .hbm, ⟨45, _⟩ => ⟨S2x8x2064x2064, .f32⟩
  | .hbm, ⟨46, _⟩ => ⟨S2x8x2064x2064, .f32⟩
  | .hbm, ⟨47, _⟩ => ⟨S2x8x2064x1, .f32⟩
  | .hbm, ⟨48, _⟩ => ⟨S_, .f32⟩
  | .hbm, ⟨49, _⟩ => ⟨S2x8x2064x1, .f32⟩
  | .hbm, ⟨50, _⟩ => ⟨S2x8x2064x1, .f32⟩
  | .hbm, ⟨51, _⟩ => ⟨S2x8x64x2064, .f32⟩
  | .hbm, ⟨52, _⟩ => ⟨S2x2064x8x64, .f32⟩
  | .hbm, ⟨53, _⟩ => ⟨S2x2064x512, .f32⟩
  | .hbm, ⟨54, _⟩ => ⟨S2x2064x8x64, .f32⟩
  | .hbm, ⟨55, _⟩ => ⟨S2x8x64x2064, .f32⟩
  | .hbm, ⟨56, _⟩ => ⟨S2x8x2064x2064, .f32⟩
  | .hbm, ⟨57, _⟩ => ⟨S2x8x64x2064, .f32⟩
  | .hbm, ⟨58, _⟩ => ⟨S2x2064x8x64, .f32⟩
  | .hbm, ⟨59, _⟩ => ⟨S2x8x2064x2064, .f32⟩
  | .hbm, ⟨60, _⟩ => ⟨S2x8x2064x2064, .f32⟩
  | .hbm, ⟨61, _⟩ => ⟨S2x8x2064x2064, .f32⟩
  | .hbm, ⟨62, _⟩ => ⟨S_, .f32⟩
  | .hbm, ⟨63, _⟩ => ⟨S2x8x2064, .f32⟩
  | .hbm, ⟨64, _⟩ => ⟨S2x8x2064x1, .f32⟩
  | .hbm, ⟨65, _⟩ => ⟨S2x8x2064x1, .f32⟩
  | .hbm, ⟨66, _⟩ => ⟨S2x8x2064x2064, .f32⟩
  | .hbm, ⟨67, _⟩ => ⟨S2x8x2064x2064, .f32⟩
  | .hbm, ⟨68, _⟩ => ⟨S_, .f32⟩
  | .hbm, ⟨69, _⟩ => ⟨S2x8x2064, .f32⟩
  | .hbm, ⟨70, _⟩ => ⟨S2x8x2064x2064, .f32⟩
  | .hbm, ⟨71, _⟩ => ⟨S2x8x2064x2064, .f32⟩
  | .hbm, ⟨72, _⟩ => ⟨S2x8x2064x2064, .f32⟩
  | .hbm, ⟨73, _⟩ => ⟨S_, .f32⟩
  | .hbm, ⟨74, _⟩ => ⟨S2x8x2064x2064, .f32⟩
  | .hbm, ⟨75, _⟩ => ⟨S2x8x2064x2064, .f32⟩
  | .hbm, ⟨76, _⟩ => ⟨S2x2064x2064x8, .f32⟩
  | .hbm, ⟨77, _⟩ => ⟨S2x2064x8x32, .f32⟩
  | .hbm, ⟨78, _⟩ => ⟨S2x2064x32, .f32⟩
  | .hbm, ⟨79, _⟩ => ⟨S2x8x2064x64, .f32⟩
  | .hbm, ⟨80, _⟩ => ⟨S2x2064x8x64, .f32⟩
  | .hbm, ⟨81, _⟩ => ⟨S2x8x2064x64, .f32⟩
  | .hbm, ⟨82, _⟩ => ⟨S2x2064x8x64, .f32⟩
  | _, _ => ⟨S2x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Inproj.lean ====
abbrev S4352x512 : Shape := ⟨2, ![4352, 512]⟩
abbrev S4352x256 : Shape := ⟨2, ![4352, 256]⟩
abbrev S4352x128 : Shape := ⟨2, ![4352, 128]⟩
abbrev S4352x1024 : Shape := ⟨2, ![4352, 1024]⟩
abbrev S1x1024 : Shape := ⟨2, ![1, 1024]⟩
abbrev S1024x2560 : Shape := ⟨2, ![1024, 2560]⟩
abbrev S256x512 : Shape := ⟨2, ![256, 512]⟩
abbrev S256x256 : Shape := ⟨2, ![256, 256]⟩
abbrev S256x128 : Shape := ⟨2, ![256, 128]⟩
abbrev S256x1024 : Shape := ⟨2, ![256, 1024]⟩
abbrev S_ : Shape := ⟨0, ![]⟩
abbrev S256x2560 : Shape := ⟨2, ![256, 2560]⟩
abbrev S256 : Shape := ⟨1, ![256]⟩
abbrev S256x1 : Shape := ⟨2, ![256, 1]⟩
abbrev S1024x512 : Shape := ⟨2, ![1024, 512]⟩
abbrev S1024 : Shape := ⟨1, ![1024]⟩

abbrev nBuf : Space → Nat
  | .hbm => 16
  | .vmem => 26
  | .smem => 0
  | _ => 0

abbrev bufTy : (tb : Table) → Fin (tcTables nBuf tb) → BufTy
  | .hbm, ⟨0, _⟩ => ⟨S4352x512, .f32⟩
  | .hbm, ⟨1, _⟩ => ⟨S4352x256, .f32⟩
  | .hbm, ⟨2, _⟩ => ⟨S4352x256, .f32⟩
  | .hbm, ⟨3, _⟩ => ⟨S4352x512, .f32⟩
  | .hbm, ⟨4, _⟩ => ⟨S4352x256, .f32⟩
  | .hbm, ⟨5, _⟩ => ⟨S4352x128, .f32⟩
  | .hbm, ⟨6, _⟩ => ⟨S4352x128, .f32⟩
  | .hbm, ⟨7, _⟩ => ⟨S4352x512, .f32⟩
  | .hbm, ⟨8, _⟩ => ⟨S4352x1024, .f32⟩
  | .hbm, ⟨9, _⟩ => ⟨S1x1024, .f32⟩
  | .hbm, ⟨10, _⟩ => ⟨S1024x2560, .f32⟩
  | .hbm, ⟨11, _⟩ => ⟨S4352x1024, .f32⟩
  | .hbm, ⟨12, _⟩ => ⟨S1024x2560, .bf16⟩
  | .hbm, ⟨13, _⟩ => ⟨S4352x1024, .f32⟩
  | .hbm, ⟨14, _⟩ => ⟨S1024x2560, .f32⟩
  | .hbm, ⟨15, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1024x2560, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x2560, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojRef.lean ====
abbrev S4352x512 : Shape := ⟨2, ![4352, 512]⟩
abbrev S4352x256 : Shape := ⟨2, ![4352, 256]⟩
abbrev S4352x128 : Shape := ⟨2, ![4352, 128]⟩
abbrev S4352x1024 : Shape := ⟨2, ![4352, 1024]⟩
abbrev S1x1024 : Shape := ⟨2, ![1, 1024]⟩
abbrev S1024x2560 : Shape := ⟨2, ![1024, 2560]⟩
abbrev S4352x2560 : Shape := ⟨2, ![4352, 2560]⟩
abbrev S_ : Shape := ⟨0, ![]⟩
abbrev S4352 : Shape := ⟨1, ![4352]⟩
abbrev S4352x1 : Shape := ⟨2, ![4352, 1]⟩
abbrev S2560x1024 : Shape := ⟨2, ![2560, 1024]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x256, .f32⟩
  | .hbm, ⟨2, _⟩ => ⟨S4352x256, .f32⟩
  | .hbm, ⟨3, _⟩ => ⟨S4352x512, .f32⟩
  | .hbm, ⟨4, _⟩ => ⟨S4352x256, .f32⟩
  | .hbm, ⟨5, _⟩ => ⟨S4352x128, .f32⟩
  | .hbm, ⟨6, _⟩ => ⟨S4352x128, .f32⟩
  | .hbm, ⟨7, _⟩ => ⟨S4352x512, .f32⟩
  | .hbm, ⟨8, _⟩ => ⟨S4352x1024, .f32⟩
  | .hbm, ⟨9, _⟩ => ⟨S1x1024, .f32⟩
  | .hbm, ⟨10, _⟩ => ⟨S1024x2560, .f32⟩
  | .hbm, ⟨11, _⟩ => ⟨S4352x1024, .f32⟩
  | .hbm, ⟨12, _⟩ => ⟨S4352x2560, .f32⟩
  | .hbm, ⟨13, _⟩ => ⟨S4352x1024, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x2560, .f32⟩
  | .hbm, ⟨33, _⟩ => ⟨S2560x1024, .f32⟩
  | .hbm, ⟨34, _⟩ => ⟨S1024x2560, .f32⟩
  | .hbm, ⟨35, _⟩ => ⟨S4352x1024, .f32⟩
  | .hbm, ⟨36, _⟩ => ⟨S4352x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352, .f32⟩
  | .hbm, ⟨45, _⟩ => ⟨S4352x1, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1, .f32⟩
  | .hbm, ⟨50, _⟩ => ⟨S_, .f32⟩
  | .hbm, ⟨51, _⟩ => ⟨S4352x1, .f32⟩
  | .hbm, ⟨52, _⟩ => ⟨S4352x1, .f32⟩
  | .hbm, ⟨53, _⟩ => ⟨S_, .f32⟩
  | .hbm, ⟨54, _⟩ => ⟨S4352, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S4352x1024, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proj.lean ====
abbrev S4352x1024 : Shape := ⟨2, ![4352, 1024]⟩
abbrev S1x1024 : Shape := ⟨2, ![1, 1024]⟩
abbrev S1024x2560 : Shape := ⟨2, ![1024, 2560]⟩
abbrev S4352x2560 : Shape := ⟨2, ![4352, 2560]⟩
abbrev S544x1024 : Shape := ⟨2, ![544, 1024]⟩
abbrev S544x2560 : Shape := ⟨2, ![544, 2560]⟩
abbrev S544 : Shape := ⟨1, ![544]⟩
abbrev S544x1 : Shape := ⟨2, ![544, 1]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S4352x2560, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1024x2560, .bf16⟩
  | .local _ .vmem, ⟨4, _⟩ => ⟨S544x2560, .f32⟩
  | .local _ .vmem, ⟨5, _⟩ => ⟨S544x2560, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRef.lean ====
abbrev S4352x1024 : Shape := ⟨2, ![4352, 1024]⟩
abbrev S1x1024 : Shape := ⟨2, ![1, 1024]⟩
abbrev S1024x2560 : Shape := ⟨2, ![1024, 2560]⟩
abbrev S_ : Shape := ⟨0, ![]⟩
abbrev S4352 : Shape := ⟨1, ![4352]⟩
abbrev S4352x1 : Shape := ⟨2, ![4352, 1]⟩
abbrev S4352x2560 : Shape := ⟨2, ![4352, 2560]⟩

abbrev nBuf : Space → Nat
  | .hbm => 19
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S1024x2560, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x2560, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Outb.lean ====
abbrev S4352x1024 : Shape := ⟨2, ![4352, 1024]⟩
abbrev S4352x512 : Shape := ⟨2, ![4352, 512]⟩
abbrev S4352x2560 : Shape := ⟨2, ![4352, 2560]⟩
abbrev S1x512 : Shape := ⟨2, ![1, 512]⟩
abbrev S1024x1024 : Shape := ⟨2, ![1024, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1024 : Shape := ⟨2, ![512, 1024]⟩

abbrev nBuf : Space → Nat
  | .hbm => 15
  | .vmem => 24
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x2560, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1024x1024, .bf16⟩
  | .hbm, ⟨8, _⟩ => ⟨S4352x512, .f32⟩
  | .hbm, ⟨9, _⟩ => ⟨S4352x512, .f32⟩
  | .hbm, ⟨10, _⟩ => ⟨S4352x512, .f32⟩
  | .hbm, ⟨11, _⟩ => ⟨S4352x512, .f32⟩
  | .hbm, ⟨12, _⟩ => ⟨S1024x1024, .f32⟩
  | .hbm, ⟨13, _⟩ => ⟨S1x512, .f32⟩
  | .hbm, ⟨14, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1024x1024, .f32⟩
  | .local _ .vmem, ⟨22, _⟩ => ⟨S1x512, .f32⟩
  | .local _ .vmem, ⟨23, _⟩ => ⟨S1x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutbRef.lean ====
abbrev S4352x1024 : Shape := ⟨2, ![4352, 1024]⟩
abbrev S4352x512 : Shape := ⟨2, ![4352, 512]⟩
abbrev S4352x2560 : Shape := ⟨2, ![4352, 2560]⟩
abbrev S1x512 : Shape := ⟨2, ![1, 512]⟩
abbrev S1024x1024 : Shape := ⟨2, ![1024, 1024]⟩
abbrev S_ : Shape := ⟨0, ![]⟩
abbrev S4352 : Shape := ⟨1, ![4352]⟩
abbrev S4352x1 : Shape := ⟨2, ![4352, 1]⟩
abbrev S512 : Shape := ⟨1, ![512]⟩

abbrev nBuf : Space → Nat
  | .hbm => 140
  | .vmem => 0
  | .smem => 0
  | _ => 0

abbrev hbmTy0_0 (i : Nat) : BufTy := match i % 128 with
  | 0 => ⟨S4352x1024, .f32⟩
  | 1 => ⟨S4352x512, .f32⟩
  | 2 => ⟨S4352x512, .f32⟩
  | 3 => ⟨S4352x2560, .f32⟩
  | 4 => ⟨S1x512, .f32⟩
  | 5 => ⟨S1x512, .f32⟩
  | 6 => ⟨S1024x1024, .f32⟩
  | 7 => ⟨S4352x512, .f32⟩
  | 8 => ⟨S4352x512, .f32⟩
  | 9 => ⟨S4352x512, .f32⟩
  | 10 => ⟨S_, .f32⟩
  | 11 => ⟨S4352, .f32⟩
  | 12 => ⟨S4352x1, .f32⟩
  | 13 => ⟨S_, .f32⟩
  | 14 => ⟨S4352x1, .f32⟩
  | 15 => ⟨S4352x1, .f32⟩
  | 16 => ⟨S_, .f32⟩
  | 17 => ⟨S4352x1, .f32⟩
  | 18 => ⟨S4352x1, .f32⟩
  | 19 => ⟨S4352x1, .f32⟩
  | 20 => ⟨S4352x1, .f32⟩
  | 21 => ⟨S_, .f32⟩
  | 22 => ⟨S4352x1, .f32⟩
  | 23 => ⟨S4352x1, .f32⟩
  | 24 => ⟨S4352x512, .f32⟩
  | 25 => ⟨S4352x512, .f32⟩
  | 26 => ⟨S4352x512, .f32⟩
  | 27 => ⟨S4352x512, .f32⟩
  | 28 => ⟨S4352x512, .f32⟩
  | 29 => ⟨S4352x512, .f32⟩
  | 30 => ⟨S_, .f32⟩
  | 31 => ⟨S4352x512, .f32⟩
  | 32 => ⟨S4352x512, .f32⟩
  | 33 => ⟨S_, .f32⟩
  | 34 => ⟨S4352x512, .f32⟩
  | 35 => ⟨S4352x512, .f32⟩
  | 36 => ⟨S_, .f32⟩
  | 37 => ⟨S4352x512, .f32⟩
  | 38 => ⟨S4352x512, .f32⟩
  | 39 => ⟨S4352x512, .f32⟩
  | 40 => ⟨S4352x512, .f32⟩
  | 41 => ⟨S4352x512, .f32⟩
  | 42 => ⟨S4352x512, .f32⟩
  | 43 => ⟨S_, .f32⟩
  | 44 => ⟨S4352, .f32⟩
  | 45 => ⟨S4352x1, .f32⟩
  | 46 => ⟨S_, .f32⟩
  | 47 => ⟨S4352x1, .f32⟩
  | 48 => ⟨S4352x1, .f32⟩
  | 49 => ⟨S_, .f32⟩
  | 50 => ⟨S4352x1, .f32⟩
  | 51 => ⟨S4352x1, .f32⟩
  | 52 => ⟨S4352x1, .f32⟩
  | 53 => ⟨S4352x1, .f32⟩
  | 54 => ⟨S_, .f32⟩
  | 55 => ⟨S4352x1, .f32⟩
  | 56 => ⟨S4352x1, .f32⟩
  | 57 => ⟨S4352x512, .f32⟩
  | 58 => ⟨S4352x512, .f32⟩
  | 59 => ⟨S4352x512, .f32⟩
  | 60 => ⟨S4352x512, .f32⟩
  | 61 => ⟨S4352x512, .f32⟩
  | 62 => ⟨S4352x512, .f32⟩
  | 63 => ⟨S_, .f32⟩
  | 64 => ⟨S4352x512, .f32⟩
  | 65 => ⟨S4352x512, .f32⟩
  | 66 => ⟨S_, .f32⟩
  | 67 => ⟨S4352x512, .f32⟩
  | 68 => ⟨S4352x512, .f32⟩
  | 69 => ⟨S_, .f32⟩
  | 70 => ⟨S4352x512, .f32⟩
  | 71 => ⟨S4352x512, .f32⟩
  | 72 => ⟨S4352x512, .f32⟩
  | 73 => ⟨S4352x512, .f32⟩
  | 74 => ⟨S4352x512, .f32⟩
  | 75 => ⟨S4352x1024, .f32⟩
  | 76 => ⟨S4352x1024, .f32⟩
  | 77 => ⟨S1024x1024, .f32⟩
  | 78 => ⟨S1024x1024, .f32⟩
  | 79 => ⟨S4352x1024, .f32⟩
  | 80 => ⟨S4352x512, .f32⟩
  | 81 => ⟨S4352x512, .f32⟩
  | 82 => ⟨S4352x512, .f32⟩
  | 83 => ⟨S4352x512, .f32⟩
  | 84 => ⟨S4352x512, .f32⟩
  | 85 => ⟨S4352x512, .f32⟩
  | 86 => ⟨S4352x512, .f32⟩
  | 87 => ⟨S4352x512, .f32⟩
  | 88 => ⟨S4352x512, .f32⟩
  | 89 => ⟨S_, .f32⟩
  | 90 => ⟨S512, .f32⟩
  | 91 => ⟨S1x512, .f32⟩
  | 92 => ⟨S4352x512, .f32⟩
  | 93 => ⟨S4352x512, .f32⟩
  | 94 => ⟨S4352x512, .f32⟩
  | 95 => ⟨S_, .f32⟩
  | 96 => ⟨S4352, .f32⟩
  | 97 => ⟨S4352x1, .f32⟩
  | 98 => ⟨S4352x512, .f32⟩
  | 99 => ⟨S4352x512, .f32⟩
  | 100 => ⟨S4352x1, .f32⟩
  | 101 => ⟨S_, .f32⟩
  | 102 => ⟨S4352x1, .f32⟩
  | 103 => ⟨S4352x1, .f32⟩
  | 104 => ⟨S_, .f32⟩
  | 105 => ⟨S4352, .f32⟩
  | 106 => ⟨S4352x512, .f32⟩
  | 107 => ⟨S4352x512, .f32⟩
  | 108 => ⟨S4352x512, .f32⟩
  | 109 => ⟨S4352x512, .f32⟩
  | 110 => ⟨S4352x512, .f32⟩
  | 111 => ⟨S4352x512, .f32⟩
  | 112 => ⟨S4352x512, .f32⟩
  | 113 => ⟨S4352x512, .f32⟩
  | 114 => ⟨S4352x512, .f32⟩
  | 115 => ⟨S4352x512, .f32⟩
  | 116 => ⟨S4352x512, .f32⟩
  | 117 => ⟨S4352x512, .f32⟩
  | 118 => ⟨S_, .f32⟩
  | 119 => ⟨S512, .f32⟩
  | 120 => ⟨S1x512, .f32⟩
  | 121 => ⟨S4352x512, .f32⟩
  | 122 => ⟨S4352x512, .f32⟩
  | 123 => ⟨S4352x512, .f32⟩
  | 124 => ⟨S_, .f32⟩
  | 125 => ⟨S4352, .f32⟩
  | 126 => ⟨S4352x1, .f32⟩
  | 127 => ⟨S4352x512, .f32⟩
  | _ => ⟨S4352x1024, .f32⟩

abbrev hbmTy0_1 (i : Nat) : BufTy := match i % 128 with
  | 0 => ⟨S4352x512, .f32⟩
  | 1 => ⟨S4352x1, .f32⟩
  | 2 => ⟨S_, .f32⟩
  | 3 => ⟨S4352x1, .f32⟩
  | 4 => ⟨S4352x1, .f32⟩
  | 5 => ⟨S_, .f32⟩
  | 6 => ⟨S4352, .f32⟩
  | 7 => ⟨S4352x512, .f32⟩
  | 8 => ⟨S4352x512, .f32⟩
  | 9 => ⟨S4352x512, .f32⟩
  | 10 => ⟨S4352x512, .f32⟩
  | 11 => ⟨S4352x512, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_v34_2 : Ref sig .tc := ⟨.hbm, 68, rfl⟩
abbrev main_call1_cst_1 : Ref sig .tc := ⟨.hbm, 69, rfl⟩
abbrev main_call1_v6 : Ref sig .tc := ⟨.hbm, 70, rfl⟩
abbrev main_call1_v7 : Ref sig .tc := ⟨.hbm, 71, rfl⟩
abbrev main_v34_1 : Ref sig .tc := ⟨.hbm, 72, rfl⟩
abbrev main_v34_0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_8 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_9 : Ref sig .tc := ⟨.hbm, 101, rfl⟩
abbrev main_v57 : Ref sig .tc := ⟨.hbm, 102, rfl⟩
abbrev main_v58 : Ref sig .tc := ⟨.hbm, 103, rfl⟩
abbrev main_cst_10 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_12 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_13 : Ref sig .tc := ⟨.hbm, 130, rfl⟩
abbrev main_v79 : Ref sig .tc := ⟨.hbm, 131, rfl⟩
abbrev main_v80 : Ref sig .tc := ⟨.hbm, 132, rfl⟩
abbrev main_cst_14 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩

abbrev nD : Nat := 1
abbrev τ : Topo := Topo.v7x

variable {F : FTy → Type} [FloatOps F]
-- ==== Outf.lean ====
abbrev S4352x512 : Shape := ⟨2, ![4352, 512]⟩
abbrev S4352x2560 : Shape := ⟨2, ![4352, 2560]⟩
abbrev S1x512 : Shape := ⟨2, ![1, 512]⟩
abbrev S1024x1024 : Shape := ⟨2, ![1024, 1024]⟩
abbrev S4352x1024 : Shape := ⟨2, ![4352, 1024]⟩
abbrev S544x512 : Shape := ⟨2, ![544, 512]⟩
abbrev S544x1024 : Shape := ⟨2, ![544, 1024]⟩
abbrev S544 : Shape := ⟨1, ![544]⟩
abbrev S544x1 : Shape := ⟨2, ![544, 1]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x2560, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S4352x1024, .f32⟩
  | .hbm, ⟨7, _⟩ => ⟨S1024x1024, .bf16⟩
  | .hbm, ⟨8, _⟩ => ⟨S4352x1024, .f32⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S544x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutfRef.lean ====
abbrev S4352x512 : Shape := ⟨2, ![4352, 512]⟩
abbrev S4352x2560 : Shape := ⟨2, ![4352, 2560]⟩
abbrev S1x512 : Shape := ⟨2, ![1, 512]⟩
abbrev S1024x1024 : Shape := ⟨2, ![1024, 1024]⟩
abbrev S4352x1024 : Shape := ⟨2, ![4352, 1024]⟩
abbrev S_ : Shape := ⟨0, ![]⟩
abbrev S4352 : Shape := ⟨1, ![4352]⟩
abbrev S4352x1 : Shape := ⟨2, ![4352, 1]⟩

abbrev nBuf : Space → Nat
  | .hbm => 62
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x2560, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S4352x1024, .f32⟩
  | .hbm, ⟨7, _⟩ => ⟨S4352x512, .f32⟩
  | .hbm, ⟨8, _⟩ => ⟨S4352x512, .f32⟩
  | .hbm, ⟨9, _⟩ => ⟨S4352x512, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S4352x512, .f32⟩
  | .hbm, ⟨21, _⟩ => ⟨S4352x512, .f32⟩
  | .hbm, ⟨22, _⟩ => ⟨S4352x512, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S_, .f32⟩
  | .hbm, ⟨27, _⟩ => ⟨S4352x512, .f32⟩
  | .hbm, ⟨28, _⟩ => ⟨S4352x512, .f32⟩
  | .hbm, ⟨29, _⟩ => ⟨S_, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S4352x512, .f32⟩
  | .hbm, ⟨35, _⟩ => ⟨S_, .f32⟩
  | .hbm, ⟨36, _⟩ => ⟨S4352, .f32⟩
  | .hbm, ⟨37, _⟩ => ⟨S4352x1, .f32⟩
  | .hbm, ⟨38, _⟩ => ⟨S_, .f32⟩
  | .hbm, ⟨39, _⟩ => ⟨S4352x1, .f32⟩
  | .hbm, ⟨40, _⟩ => ⟨S4352x1, .f32⟩
  | .hbm, ⟨41, _⟩ => ⟨S_, .f32⟩
  | .hbm, ⟨42, _⟩ => ⟨S4352x1, .f32⟩
  | .hbm, ⟨43, _⟩ => ⟨S4352x1, .f32⟩
  | .hbm, ⟨44, _⟩ => ⟨S4352x1, .f32⟩
  | .hbm, ⟨45, _⟩ => ⟨S4352x512, .f32⟩
  | .hbm, ⟨46, _⟩ => ⟨S4352x512, .f32⟩
  | .hbm, ⟨47, _⟩ => ⟨S4352x512, .f32⟩
  | .hbm, ⟨48, _⟩ => ⟨S4352x512, .f32⟩
  | .hbm, ⟨49, _⟩ => ⟨S4352x512, .f32⟩
  | .hbm, ⟨50, _⟩ => ⟨S4352x512, .f32⟩
  | .hbm, ⟨51, _⟩ => ⟨S_, .f32⟩
  | .hbm, ⟨52, _⟩ => ⟨S4352x512, .f32⟩
  | .hbm, ⟨53, _⟩ => ⟨S4352x512, .f32⟩
  | .hbm, ⟨54, _⟩ => ⟨S_, .f32⟩
  | .hbm, ⟨55, _⟩ => ⟨S4352x512, .f32⟩
  | .hbm, ⟨56, _⟩ => ⟨S4352x512, .f32⟩
  | .hbm, ⟨57, _⟩ => ⟨S4352x512, .f32⟩
  | .hbm, ⟨58, _⟩ => ⟨S4352x512, .f32⟩
  | .hbm, ⟨59, _⟩ => ⟨S4352x1024, .f32⟩
  | .hbm, ⟨60, _⟩ => ⟨S4352x1024, .f32⟩
  | .hbm, ⟨61, _⟩ => ⟨S4352x1024, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩

abbrev nD : Nat := 1
abbrev τ : Topo := Topo.v7x

variable {F : FTy → Type} [FloatOps F]
-- ==== Attn.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S_ : Shape := ⟨0, ![]⟩
abbrev S2x2048x8x64 : Shape := ⟨4, ![2, 2048, 8, 64]⟩
abbrev S2x16x8x64 : Shape := ⟨4, ![2, 16, 8, 64]⟩
abbrev S2x112x8x64 : Shape := ⟨4, ![2, 112, 8, 64]⟩
abbrev S2x2176x8x64 : Shape := ⟨4, ![2, 2176, 8, 64]⟩
abbrev S2x2048x8x32 : Shape := ⟨4, ![2, 2048, 8, 32]⟩
abbrev S2x16x8x32 : Shape := ⟨4, ![2, 16, 8, 32]⟩
abbrev S2x112x8x32 : Shape := ⟨4, ![2, 112, 8, 32]⟩
abbrev S2x2176x8x32 : Shape := ⟨4, ![2, 2176, 8, 32]⟩
abbrev S2x2176x8x1 : Shape := ⟨4, ![2, 2176, 8, 1]⟩
abbrev S2x2176x8x31 : Shape := ⟨4, ![2, 2176, 8, 31]⟩
abbrev S2x2176x8x128 : Shape := ⟨4, ![2, 2176, 8, 128]⟩
abbrev S4352x1024 : Shape := ⟨2, ![4352, 1024]⟩
abbrev S2x2064x1x32 : Shape := ⟨4, ![2, 2064, 1, 32]⟩
abbrev S2x2064x8x1 : Shape := ⟨4, ![2, 2064, 8, 1]⟩
abbrev S2x2048x8x1 : Shape := ⟨4, ![2, 2048, 8, 1]⟩
abbrev S2x16x8x1 : Shape := ⟨4, ![2, 16, 8, 1]⟩
abbrev S2x112x8x1 : Shape := ⟨4, ![2, 112, 8, 1]⟩
abbrev S2x2176x8x2 : Shape := ⟨4, ![2, 2176, 8, 2]⟩
abbrev S2x2176x8x62 : Shape := ⟨4, ![2, 2176, 8, 62]⟩
abbrev S4352x512 : Shape := ⟨2, ![4352, 512]⟩
abbrev S2176x256 : Shape := ⟨2, ![2176, 256]⟩
abbrev S2176x128 : Shape := ⟨2, ![2176, 128]⟩
abbrev S256x128 : Shape := ⟨2, ![256, 128]⟩
abbrev S256x2176 : Shape := ⟨2, ![256, 2176]⟩
abbrev S256 : Shape := ⟨1, ![256]⟩
abbrev S256x1 : Shape := ⟨2, ![256, 1]⟩
abbrev S128x128 : Shape := ⟨2, ![128, 128]⟩
abbrev S128x2176 : Shape := ⟨2, ![128, 2176]⟩
abbrev S128 : Shape := ⟨1, ![128]⟩
abbrev S128x1 : Shape := ⟨2, ![128, 1]⟩
abbrev S2x2176x4x128 : Shape := ⟨4, ![2, 2176, 4, 128]⟩
abbrev S2x2176x4x2 : Shape := ⟨4, ![2, 2176, 4, 2]⟩
abbrev S2x16x4x2 : Shape := ⟨4, ![2, 16, 4, 2]⟩
abbrev S2x2048x4x2 : Shape := ⟨4, ![2, 2048, 4, 2]⟩
abbrev S2x2064x4x2 : Shape := ⟨4, ![2, 2064, 4, 2]⟩

abbrev nBuf : Space → Nat
  | .hbm => 77
  | .vmem => 10
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x2064x8x64, .f32⟩
  | .hbm, ⟨10, _⟩ => ⟨S2x2064x8x64, .f32⟩
  | .hbm, ⟨11, _⟩ => ⟨S2x2048x8x64, .f32⟩
  | .hbm, ⟨12, _⟩ => ⟨S2x16x8x64, .f32⟩
  | .hbm, ⟨13, _⟩ => ⟨S_, .f32⟩
  | .hbm, ⟨14, _⟩ => ⟨S2x112x8x64, .f32⟩
  | .hbm, ⟨15, _⟩ => ⟨S2x2176x8x64, .f32⟩
  | .hbm, ⟨16, _⟩ => ⟨S2x2064x8x32, .f32⟩
  | .hbm, ⟨17, _⟩ => ⟨S2x2064x8x32, .f32⟩
  | .hbm, ⟨18, _⟩ => ⟨S2x2048x8x32, .f32⟩
  | .hbm, ⟨19, _⟩ => ⟨S2x16x8x32, .f32⟩
  | .hbm, ⟨20, _⟩ => ⟨S_, .f32⟩
  | .hbm, ⟨21, _⟩ => ⟨S2x112x8x32, .f32⟩
  | .hbm, ⟨22, _⟩ => ⟨S2x2176x8x32, .f32⟩
  | .hbm, ⟨23, _⟩ => ⟨S_, .f32⟩
  | .hbm, ⟨24, _⟩ => ⟨S2x2176x8x1, .f32⟩
  | .hbm, ⟨25, _⟩ => ⟨S_, .f32⟩
  | .hbm, ⟨26, _⟩ => ⟨S2x2176x8x31, .f32⟩
  | .hbm, ⟨27, _⟩ => ⟨S2x2176x8x128, .f32⟩
  | .hbm, ⟨28, _⟩ => ⟨S4352x1024, .f32⟩
  | .hbm, ⟨29, _⟩ => ⟨S4352x1024, .bf16⟩
  | .hbm, ⟨30, _⟩ => ⟨S2x2064x1x32, .f32⟩
  | .hbm, ⟨31, _⟩ => ⟨S2x2064x8x32, .f32⟩
  | .hbm, ⟨32, _⟩ => ⟨S2x2048x8x64, .f32⟩
  | .hbm, ⟨33, _⟩ => ⟨S2x16x8x64, .f32⟩
  | .hbm, ⟨34, _⟩ => ⟨S_, .f32⟩
  | .hbm, ⟨35, _⟩ => ⟨S2x112x8x64, .f32⟩
  | .hbm, ⟨36, _⟩ => ⟨S2x2176x8x64, .f32⟩
  | .hbm, ⟨37, _⟩ => ⟨S2x2048x8x32, .f32⟩
  | .hbm, ⟨38, _⟩ => ⟨S2x16x8x32, .f32⟩
  | .hbm, ⟨39, _⟩ => ⟨S_, .f32⟩
  | .hbm, ⟨40, _⟩ => ⟨S2x112x8x32, .f32⟩
  | .hbm, ⟨41, _⟩ => ⟨S2x2176x8x32, .f32⟩
  | .hbm, ⟨42, _⟩ => ⟨S_, .f32⟩
  | .hbm, ⟨43, _⟩ => ⟨S2x2064x8x1, .f32⟩
  | .hbm, ⟨44, _⟩ => ⟨S2x2048x8x1, .f32⟩
  | .hbm, ⟨45, _⟩ => ⟨S2x16x8x1, .f32⟩
  | .hbm, ⟨46, _⟩ => ⟨S_, .f32⟩
  | .hbm, ⟨47, _⟩ => ⟨S2x112x8x1, .f32⟩
  | .hbm, ⟨48, _⟩ => ⟨S2x2176x8x1, .f32⟩
  | .hbm, ⟨49, _⟩ => ⟨S_, .f32⟩
  | .hbm, ⟨50, _⟩ => ⟨S2x2176x8x31, .f32⟩
  | .hbm, ⟨51, _⟩ => ⟨S2x2176x8x128, .f32⟩
  | .hbm, ⟨52, _⟩ => ⟨S4352x1024, .f32⟩
  | .hbm, ⟨53, _⟩ => ⟨S4352x1024, .bf16⟩
  | .hbm, ⟨54, _⟩ => ⟨S2x2048x8x64, .f32⟩
  | .hbm, ⟨55, _⟩ => ⟨S2x16x8x64, .f32⟩
  | .hbm, ⟨56, _⟩ => ⟨S_, .f32⟩
  | .hbm, ⟨57, _⟩ => ⟨S2x112x8x64, .f32⟩
  | .hbm, ⟨58, _⟩ => ⟨S2x2176x8x64, .f32⟩
  | .hbm, ⟨59, _⟩ => ⟨S_, .f32⟩
  | .hbm, ⟨60, _⟩ => ⟨S2x2176x8x2, .f32⟩
  | .hbm, ⟨61, _⟩ => ⟨S_, .f32⟩
  | .hbm, ⟨62, _⟩ => ⟨S2x2176x8x62, .f32⟩
  | .hbm, ⟨63, _⟩ => ⟨S2x2176x8x128, .f32⟩
  | .hbm, ⟨64, _⟩ => ⟨S4352x1024, .f32⟩
  | .hbm, ⟨65, _⟩ => ⟨S4352x1024, .bf16⟩
  | .hbm, ⟨66, _⟩ => ⟨S4352x512, .f32⟩
  | .hbm, ⟨67, _⟩ => ⟨S4352x512, .f32⟩
  | .hbm, ⟨68, _⟩ => ⟨S2x2176x4x128, .f32⟩
  | .hbm, ⟨69, _⟩ => ⟨S2x2176x4x2, .f32⟩
  | .hbm, ⟨70, _⟩ => ⟨S2x2176x8x64, .f32⟩
  | .hbm, ⟨71, _⟩ => ⟨S2x16x8x64, .f32⟩
  | .hbm, ⟨72, _⟩ => ⟨S2x2048x8x64, .f32⟩
  | .hbm, ⟨73, _⟩ => ⟨S2x2064x8x64, .f32⟩
  | .hbm, ⟨74, _⟩ => ⟨S2x16x4x2, .f32⟩
  | .hbm, ⟨75, _⟩ => ⟨S2x2048x4x2, .f32⟩
  | .hbm, ⟨76, _⟩ => ⟨S2x2064x4x2, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | _, _ => ⟨S2x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  v79
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  v82
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v85 : Index := Scalar.indexCast v80
  let c0_36 : Index := 0#32
  ![v85.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v91 : Index := Scalar.indexCast v80
  let c128_40 : Index := 128#32
  ![v91.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v97 : Index := Scalar.indexCast v83
  let c0_44 : Index := 0#32
  ![v97.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v103 : Index := Scalar.indexCast v83
  let c128_48 : Index := 128#32
  ![v103.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v174 : Index := Scalar.indexCast v80
  let c0_77 : Index := 0#32
  ![v174.toNat, 0]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v243 : Index := Scalar.indexCast v83
  let c0_104 : Index := 0#32
  ![v243.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRef.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x2064x8 : Shape := ⟨3, ![2, 2064, 8]⟩
abbrev S2x2064x4x2 : Shape := ⟨4, ![2, 2064, 4, 2]⟩
abbrev S2x8x64x2064 : Shape := ⟨4, ![2, 8, 64, 2064]⟩
abbrev S2x2064x512 : Shape := ⟨3, ![2, 2064, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x8x2064x2064, .f32⟩
  | .hbm, ⟨6, _⟩ => ⟨S2x2064x2064x8, .f32⟩
  | .hbm, ⟨7, _⟩ => ⟨S2x8x2064x2064, .f32⟩
  | .hbm, ⟨8, _⟩ => ⟨S2x8x2064x2064, .f32⟩
  | .hbm, ⟨9, _⟩ => ⟨S_, .f32⟩
  | .hbm, ⟨10, _⟩ => ⟨S2x8x2064x2064, .f32⟩
  | .hbm, ⟨11, _⟩ => ⟨S2x8x2064x2064, .f32⟩
  | .hbm, ⟨12, _⟩ => ⟨S_, .f32⟩
  | .hbm, ⟨13, _⟩ => ⟨S2x8x2064, .f32⟩
  | .hbm, ⟨14, _⟩ => ⟨S2x8x2064x1, .f32⟩
  | .hbm, ⟨15, _⟩ => ⟨S2x8x2064x2064, .f32⟩
  | .hbm, ⟨16, _⟩ => ⟨S2x8x2064x2064, .f32⟩
  | .hbm, ⟨17, _⟩ => ⟨S2x8x2064x2064, .f32⟩
  | .hbm, ⟨18, _⟩ => ⟨S_, .f32⟩
  | .hbm, ⟨19, _⟩ => ⟨S2x8x2064, .f32⟩
  | .hbm, ⟨20, _⟩ => ⟨S2x8x2064, .f32⟩
  | .hbm, ⟨21, _⟩ => ⟨S2x8x2064, .f32⟩
  | .hbm, ⟨22, _⟩ => ⟨S_, .f32⟩
  | .hbm, ⟨23, _⟩ => ⟨S_, .f32⟩
  | .hbm, ⟨24, _⟩ => ⟨S2x8x2064, .f32⟩
  | .hbm, ⟨25, _⟩ => ⟨S2x8x2064, .f32⟩
  | .hbm, ⟨26, _⟩ => ⟨S2x2064x8, .f32⟩
  | .hbm, ⟨27, _⟩ => ⟨S2x2064x4x2, .f32⟩
  | .hbm, ⟨28, _⟩ => ⟨S2x8x2064x2064, .f32⟩
  | .hbm, ⟨29, _⟩ => ⟨S2x2064x2064x8, .f32⟩
  | .hbm, ⟨30, _⟩ => ⟨S2x8x2064x2064, .f32⟩
  | .hbm, ⟨31, _⟩ => ⟨S2x8x2064x2064, .f32⟩
  | .hbm, ⟨32, _⟩ => ⟨S_, .f32⟩
  | .hbm, ⟨33, _⟩ => ⟨S2x8x2064x2064, .f32⟩
  | .hbm, ⟨34, _⟩ => ⟨S2x8x2064x2064, .f32⟩
  | .hbm, ⟨35, _⟩ => ⟨S_, .f32⟩
  | .hbm, ⟨36, _⟩ => ⟨S2x8x2064, .f32⟩
  | .hbm, ⟨37, _⟩ => ⟨S_, .f32⟩
  | .hbm, ⟨38, _⟩ => ⟨S2x8x2064, .f32⟩
  | .hbm, ⟨39, _⟩ => ⟨S2x8x2064, .f32⟩
  | .hbm, ⟨40, _⟩ => ⟨S2x8x2064x1, .f32⟩
  | .hbm, ⟨41, _⟩ => ⟨S2x8x2064x2064, .f32⟩
  | .hbm, ⟨42, _⟩ => ⟨S2x8x2064x2064, .f32⟩
  | .hbm, ⟨43, _⟩ => ⟨S2x8x2064x2064, .f32⟩
  | .hbm, ⟨44, _⟩ => ⟨S_, .f32⟩
  | .hbm, ⟨45, _⟩ => ⟨S2x8x2064, .f32⟩
  | .hbm, ⟨46, _⟩ => ⟨S2x8x2064x1, .f32⟩
  | .hbm, ⟨47, _⟩ => ⟨S2x8x2064x2064, .f32⟩
  | .hbm, ⟨48, _⟩ => ⟨S2x8x2064x2064, .f32⟩
  | .hbm, ⟨49, _⟩ => ⟨S2x8x64x2064, .f32⟩
  | .hbm, ⟨50, _⟩ => ⟨S2x2064x8x64, .f32⟩
  | .hbm, ⟨51, _⟩ => ⟨S2x2064x512, .f32⟩
  | .hbm, ⟨52, _⟩ => ⟨S2x2064x8x64, .f32⟩
  | _, _ => ⟨S2x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.KFrame.lean ====
/- The frame of the kernel as it is written, at any number type: it runs to the end, its six arguments end as they began, and
   every semaphore counter ends at zero. Nothing is said here of the three gradients, so the output windows are
   forgotten: a grid step may leave anything in them. -/
module

public import proofs.«01_k».proof.Proof.Gen.Kernel.Frame.Runs
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### One grid step, whatever it leaves in the outputs -/

set_option maxHeartbeats 2000000 in
/-- The body gives every buffer back, the inputs as they were. -/
theorem body (c : Dev nD) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg9 : Memref sig .tc .vmem S2176x256 .f32) (harg9 : arg9.IsWhole) (arg10 : Memref sig .tc .vmem S2176x256 .f32) (harg10 : arg10.IsWhole) (arg11 : Memref sig .tc .vmem S2176x256 .f32) (harg11 : arg11.IsWhole)
    (x0 x1 x2 : Vec F S2176x256 .bf16) (x3 x4 x5 : Vec F S2176x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_bwd i arg2 harg2 arg3 harg3 arg4 harg4 arg5 harg5 arg6 harg6 arg7 harg7 (Memref.whole main_v88) (Memref.isWhole_whole _) arg9 harg9 arg10 harg10 arg11 harg11) K := by
    simp only [cc0_mla_bwd_eq_skeleton]; unfold cc0_mla_bwd_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexists _; isplitr; swap; · iexact H6
      ipureintro; rfl
    isplitl [H7]
    · iexists _; iexists _; isplitr; swap; · iexact H7
      ipureintro; rfl
    iexists _; iexists _; isplitr; swap; · iexact H8
    ipureintro; rfl

variable (m : (ℓ : Loc nD τ sig) → Buf (Elt F) ℓ) (ρ : Dev nD → PrngReg)

/-- The windows of which nothing is said: the three outputs. -/
def unsaid (w : Fin cfg0.W) : Bool := decide (6 ≤ w.val)

/-- The buffers that the host lines after the region write. -/
def tailBufs : Finset (Ref sig .tc) :=
  {main_cst_21, main_v90, main_v91, main_v92, main_v93, main_v94, main_v95, main_v96, main_v97, main_v98, main_v99, main_v100, main_v101, main_v102, main_v103, main_v104, main_v105, main_v106, main_v107}

/-- They write no others. -/
theorem tail_writes : ∀ ops ∈ ([hostOps1] : List (List (HloOp τ sig (Elt F)))), ∀ op ∈ ops,
    ∀ b : Ref sig .tc, Proc.devRef .tc b ∈ op.writes → b ∈ tailBufs := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro b hb; simp only [StableHlo.nullary_writes, StableHlo.unary_writes, StableHlo.binary_writes, StableHlo.reshape_writes, Finset.mem_singleton] at hb; cases Proc.devRef_injective _ hb; decide

/-- The proof data of the pipeline on core `c`: the arrays as the region finds them, each input's buffer at its block, the
    outputs' at contents nothing depends on, the scoped rest and the generator register kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => VO0_6.read (Elt F) VO0_6.junk
    | ⟨7, _⟩ => VO0_7.read (Elt F) VO0_7.junk
    | ⟨8, _⟩ => VO0_8.read (Elt F) VO0_8.junk
  Φ _ := Pipeline.ΦA spec0 c
  q _ := fullShare
  owed _ := 0

/-- The arrays of the data are what the region finds. -/
theorem A_eq (c : Dev nD) (w : Fin cfg0.W) : (dats m 0 c).A w = V m c (Pipeline.arrRef spec0 w) := by
  dsimp only [dats]

/-- What a step leaves in each input's window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- What a step finds in each input's window: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ### The body's obligation -/

/-- What a step is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What a step returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 800000 in
/-- A step's triple: the body's, at the step's windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The program table's entry for the body. -/
theorem defs₀_row (t : Fin cfg0.N) :
    defs₀ (F := F) .tc cfg0.body (cfg0.bodyArgs t (cfg0.slots t)) = bodyAt0 t := by
  unfold defs₀; rw [Defs.onTc_tc]

/-- The obligation at every step. -/
theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

/-! ### The run and the frame -/

set_option backward.isDefEq.respectTransparency.types false in
set_option maxHeartbeats 800000 in
/-- The program's run: every buffer that is neither one of the pipeline's arrays nor written afterwards ends as the region
    finds it, and every counter is zero. -/
theorem run_main_quiescent : θ_run defs (onTc (τ := τ) (main (F := F))) (s₀ m ρ) (fun r => (Pipeline.RDat.FramePostR cfg0 (fun c => (dats m 0 c).toRForget unsaid) tailBufs (V m)) r ∧ r.2.sem = fun _ => 0) :=
  Pipeline.θ_run_frame_around_T_forget (Q' := _) cfgs (dats m) (0 : Fin 1) launch0 defs₀ Variants.none unsaid tailBufs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl) (hQ' := fun _ h => h)

/-- A buffer outside the pipeline that the later lines do not write is among those the run speaks of. -/
theorem kept (b : Ref sig .tc) (h1 : b ∈ Pipeline.restRefs sig spec0) (h2 : b ∉ tailBufs) : b ∈ Pipeline.restRefs sig spec0 \ tailBufs :=
  Finset.mem_sdiff.mpr ⟨h1, h2⟩

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (kept _ (Pipeline.mem_restRefs_of main_arg0 (by decide) (by decide)) (by decide))).trans (V_main_arg0 m c),
      ((h.1 c).2 main_arg1 (kept _ (Pipeline.mem_restRefs_of main_arg1 (by decide) (by decide)) (by decide))).trans (V_main_arg1 m c),
      ((h.1 c).2 main_arg2 (kept _ (Pipeline.mem_restRefs_of main_arg2 (by decide) (by decide)) (by decide))).trans (V_main_arg2 m c),
      ((h.1 c).2 main_arg3 (kept _ (Pipeline.mem_restRefs_of main_arg3 (by decide) (by decide)) (by decide))).trans (V_main_arg3 m c),
      ((h.1 c).2 main_arg4 (kept _ (Pipeline.mem_restRefs_of main_arg4 (by decide) (by decide)) (by decide))).trans (V_main_arg4 m c),
      ((h.1 c).2 main_arg5 (kept _ (Pipeline.mem_restRefs_of main_arg5 (by decide) (by decide)) (by decide))).trans (V_main_arg5 m c)⟩, h.2⟩) (run_main_quiescent m ρ)

end Cert.Kernel.Gen

end
-- ==== Proof.Rows.lean ====
/- The backward pass of one query row against all key rows, as plain formulas: what the kernel's vector operations
   compute element by element. -/
module

public import Idealize.ShloMosaic.Lib.Pointwise
public import Idealize.ShloMosaic.Lib.WordCmp

@[expose] public section

set_option maxRecDepth 16384

noncomputable section

namespace Cert.Mla

open Idealize.ShloMosaic Idealize.ShloMosaic.TcCoe

/-- The inner product of the output's cotangent with the output over head `h`'s half of the lanes. -/
def delta (h : Fin 2) (d o : Fin 128 → EReal) : EReal := ∑ x : Fin 128, if x.val / 64 = h.val then d x * o x else 0

/-- The cotangent row the products read: head `h`'s lanes first, then `delta` in two parts, then zeros. -/
def domx (h : Fin 2) (d o : Fin 128 → EReal) (l : Fin 128) : EReal :=
  if l.val = 64 then delta h d o
  else if l.val = 65 then delta h d o - delta h d o
  else if hl : l.val < 64 then d ⟨64 * h.val + l.val, by omega⟩ else 0

theorem domx_eq (h : Fin 2) (d o : Fin 128 → EReal) (l : Fin 128) :
    domx h d o l = if l.val = 64 then delta h d o
      else if l.val = 65 then delta h d o - delta h d o
      else if l.val < 64 then d ⟨(64 * h.val + l.val) % 128, Nat.mod_lt _ (by decide)⟩ else 0 := by
  unfold domx
  split
  · rfl
  · split
    · rfl
    · by_cases hl : l.val < 64
      · rw [dif_pos hl, if_pos hl]
        congr 1
        exact Fin.ext (Nat.mod_eq_of_lt (by omega)).symm
      · rw [dif_neg hl, if_neg hl]

/-- One probability: two to the power of the product less the saved logarithm. -/
def prob (lse : EReal) (q k : Fin 128 → EReal) : EReal := Ideal.exp2 ((∑ x : Fin 128, q x * k x) - lse)

/-- A comparison of a lane number with a constant, as a plain condition. -/
theorem sel_eq {α : Type} (l : Fin 128) (n : ℕ) (hn : n < 128) (a b : α) :
    Scalar.select (IntOp.cmpi .eq (BitVec.ofNat 32 l.val) (BitVec.ofNat 32 n)) a b = if l.val = n then a else b := by
  by_cases h : l.val = n <;> simp (disch := omega) only [hlo_ix, h] <;> simp [Scalar.select, h]

theorem sel_slt {α : Type} (l : Fin 128) (n : ℕ) (hn : n < 128) (a b : α) :
    Scalar.select (IntOp.cmpi .slt (BitVec.ofNat 32 l.val) (BitVec.ofNat 32 n)) a b = if l.val < n then a else b := by
  by_cases h : l.val < n <;> simp (disch := omega) only [hlo_ix, h] <;> simp [Scalar.select, h]

theorem sel_sge {α : Type} (l : ℕ) (hl : l < 128) (n : ℕ) (hn : n < 128) (a b : α) :
    Scalar.select (IntOp.cmpi .sge (BitVec.ofNat 32 l) (BitVec.ofNat 32 n)) a b = if n ≤ l then a else b := by
  by_cases h : n ≤ l <;> simp (disch := omega) only [hlo_ix, h] <;> simp [Scalar.select, h]

theorem delta_low (d o : Fin 128 → EReal) : (∑ x : Fin 128, if x.val < 64 then d x * o x else 0) = delta 0 d o := by
  refine Finset.sum_congr rfl fun x _ => ?_
  by_cases h : x.val < 64
  · rw [if_pos h, if_pos (by show x.val / 64 = 0; omega)]
  · rw [if_neg h, if_neg (by show ¬ x.val / 64 = 0; omega)]

theorem delta_high (d o : Fin 128 → EReal) : (∑ x : Fin 128, if 64 ≤ x.val then d x * o x else 0) = delta 1 d o := by
  refine Finset.sum_congr rfl fun x _ => ?_
  by_cases h : 64 ≤ x.val
  · rw [if_pos h, if_pos (by show x.val / 64 = 1; omega)]
  · rw [if_neg h, if_neg (by show ¬ x.val / 64 = 1; omega)]

/-- A row whose lower half was cleared, turned by half its lanes: the upper half in front, zeros behind it. -/
theorem roll_high (d : Fin 128 → EReal) (l : Fin 128) :
    (if 64 ≤ (l.val + 128 - 64) % 128 then d ⟨(l.val + 128 - 64) % 128, Nat.mod_lt _ (by decide)⟩ else 0)
      = if l.val < 64 then d ⟨(64 * (1 : Fin 2).val + l.val) % 128, Nat.mod_lt _ (by decide)⟩ else 0 := by
  by_cases h : l.val < 64
  · rw [if_pos h, if_pos (by omega)]
    congr 1
    apply Fin.ext
    show (l.val + 128 - 64) % 128 = (64 * 1 + l.val) % 128
    omega
  · rw [if_neg h, if_neg (by omega)]

/-- One lane picked out of a row by summing it under a condition. -/
theorem sum_pick (f : Fin 128 → EReal) (h : Fin 128) : (∑ x : Fin 128, if x.val = h.val then f x else 0) = f h := by
  rw [Finset.sum_eq_single h]
  · simp
  · intro b _ hb
    rw [if_neg (fun e => hb (Fin.ext e))]
  · intro hh; exact absurd (Finset.mem_univ _) hh

end Cert.Mla

end
-- ==== Proof.Pay.lean ====
/- The kernel's vector operations on one tile of query rows, element by element. -/
module

public import proofs.«01_k».proof.Proof.Gen.KernelIdeal.Skeleton
public import proofs.«01_k».proof.Proof.Rows

@[expose] public section

set_option maxRecDepth 16384

noncomputable section

namespace Cert.KernelIdeal.Gen

open Idealize.ShloMosaic Idealize.ShloMosaic.TcCoe Idealize.SL.Sem
open Cert.Mla

/-! ### Tiles of 256 rows -/

/-- The lane numbers. -/
def lanes256 : IVec S256x128 32 := iota .tc S256x128 32 [1] iota_S256x128_d1_w32

/-- The cotangent row of the pair's first head. -/
theorem domx0_256 (d o : Vec Ideal S256x128 .f32) (r : Fin 256) (l : Fin 128) :
    k0_pay34 (F := Ideal) d o (ix2 r l) = domx 0 (fun y => d (ix2 r y)) (fun y => o (ix2 r y)) l := by
  pointwise [lanes256, k0_pay34, k0_pay31, k0_pay32]
  rw [sel_eq _ 64 (by omega), sel_eq _ 65 (by omega), sel_slt _ 64 (by omega)]
  simp only [sel_slt _ 64 (by omega : 64 < 128)]
  rw [domx_eq, ← delta_low]
  simp only [Fin.val_zero, Nat.mul_zero, Nat.zero_add, Nat.mod_eq_of_lt l.isLt, Fin.eta]

/-- The cotangent row of the pair's second head: its lanes turned to the front. -/
theorem domx1_256 (d o : Vec Ideal S256x128 .f32) (r : Fin 256) (l : Fin 128) :
    k0_pay42 (F := Ideal) lanes256 (k0_pay31 d) (k0_pay32 o) (ix2 r l) = domx 1 (fun y => d (ix2 r y)) (fun y => o (ix2 r y)) l := by
  pointwise [lanes256, k0_pay42, k0_pay31, k0_pay32]
  rw [sel_eq _ 64 (by omega), sel_eq _ 65 (by omega), sel_sge _ (Nat.mod_lt _ (by decide)) 64 (by omega)]
  simp only [sel_sge _ (Fin.isLt _) 64 (by omega : 64 < 128)]
  rw [domx_eq, ← delta_high, roll_high (fun y => d (ix2 r y)) l]

/-- One probability of the pair's first head. -/
theorem prob0_256 (lt : Vec Ideal S256x128 .f32) (dx q : Vec Ideal S256x128 .bf16) (k v : Vec Ideal S2176x128 .bf16) (r : Fin 256) (x : Fin 2176) :
    k0_pay37 (F := Ideal) lanes256 (k0_pay33 lt) q k (ix2 r x) = prob (lt (ix2 r 0)) (fun y => q (ix2 r y)) (fun y => k (ix2 x y)) := by
  pointwise [lanes256, k0_pay37, k0_pay33, k0_pay35, k0_pay36]
  rw [prob, ← sum_pick (fun y => lt (ix2 r y)) 0]
  simp only [sel_eq _ 0 (by omega : 0 < 128)]
  rfl

/-- One probability of the pair's second head. -/
theorem prob1_256 (lt : Vec Ideal S256x128 .f32) (dx q : Vec Ideal S256x128 .bf16) (k v : Vec Ideal S2176x128 .bf16) (r : Fin 256) (x : Fin 2176) :
    k0_pay45 (F := Ideal) lanes256 (k0_pay33 lt) q k (ix2 r x) = prob (lt (ix2 r 1)) (fun y => q (ix2 r y)) (fun y => k (ix2 x y)) := by
  pointwise [lanes256, k0_pay45, k0_pay33, k0_pay43, k0_pay44]
  rw [prob, ← sum_pick (fun y => lt (ix2 r y)) 1]
  simp only [sel_eq _ 1 (by omega : 1 < 128)]
  rfl

/-- The gradient of one logit, first head. -/
theorem ds0_256 (lt : Vec Ideal S256x128 .f32) (dx q : Vec Ideal S256x128 .bf16) (k v : Vec Ideal S2176x128 .bf16) (r : Fin 256) (x : Fin 2176) :
    k0_pay38 (F := Ideal) lanes256 (k0_pay33 lt) dx q k v (ix2 r x) = prob (lt (ix2 r 0)) (fun y => q (ix2 r y)) (fun y => k (ix2 x y)) * ∑ y : Fin 128, dx (ix2 r y) * v (ix2 x y) := by
  rw [← prob0_256 lt dx q k v r x]
  pointwise [lanes256, k0_pay38]

/-- The gradient of one logit, second head. -/
theorem ds1_256 (d o lt : Vec Ideal S256x128 .f32) (q : Vec Ideal S256x128 .bf16) (k v : Vec Ideal S2176x128 .bf16) (r : Fin 256) (x : Fin 2176) :
    k0_pay46 (F := Ideal) lanes256 (k0_pay31 d) (k0_pay32 o) (k0_pay33 lt) q k v (ix2 r x)
      = prob (lt (ix2 r 1)) (fun y => q (ix2 r y)) (fun y => k (ix2 x y)) * ∑ y : Fin 128, domx 1 (fun y => d (ix2 r y)) (fun y => o (ix2 r y)) y * v (ix2 x y) := by
  simp only [← domx1_256]
  rw [← prob1_256 lt q q k v r x]
  pointwise [lanes256, k0_pay46]

/-- The query's gradient on the tile's rows, first head. -/
theorem dq0_256 (lt : Vec Ideal S256x128 .f32) (dx q : Vec Ideal S256x128 .bf16) (k v : Vec Ideal S2176x128 .bf16) (r : Fin 256) (l : Fin 128) :
    k0_pay39 (F := Ideal) lanes256 (k0_pay33 lt) dx q k v (ix2 r l)
      = (∑ x : Fin 2176, (prob (lt (ix2 r 0)) (fun y => q (ix2 r y)) (fun y => k (ix2 x y)) * ∑ y : Fin 128, dx (ix2 r y) * v (ix2 x y)) * k (ix2 x l)) * Ideal.ofBits .f32 1037108716#32 := by
  pointwise [lanes256, k0_pay39, k0_pay36]
  exact congrArg (· * _) (Finset.sum_congr rfl fun x _ => congrArg (· * k (ix2 x l)) (ds0_256 lt dx q k v r x))

/-- The key's gradient with the tile's part added, first head. -/
theorem dk0_256 (lt : Vec Ideal S256x128 .f32) (dx q : Vec Ideal S256x128 .bf16) (k v : Vec Ideal S2176x128 .bf16) (f : Vec Ideal S2176x128 .f32) (x : Fin 2176) (l : Fin 128) :
    k0_pay40 (F := Ideal) lanes256 (k0_pay33 lt) dx q k v f (ix2 x l)
      = f (ix2 x l) + ∑ r : Fin 256, (prob (lt (ix2 r 0)) (fun y => q (ix2 r y)) (fun y => k (ix2 x y)) * ∑ y : Fin 128, dx (ix2 r y) * v (ix2 x y)) * q (ix2 r l) := by
  pointwise [lanes256, k0_pay40, k0_pay35]
  exact congrArg (_ + ·) (Finset.sum_congr rfl fun r _ => congrArg (· * q (ix2 r l)) (ds0_256 lt dx q k v r x))

/-- The value's gradient with the tile's part added, first head. -/
theorem dv0_256 (lt : Vec Ideal S256x128 .f32) (dx q : Vec Ideal S256x128 .bf16) (k v : Vec Ideal S2176x128 .bf16) (f : Vec Ideal S2176x128 .f32) (x : Fin 2176) (l : Fin 128) :
    k0_pay41 (F := Ideal) lanes256 (k0_pay33 lt) dx q k f (ix2 x l)
      = f (ix2 x l) + ∑ r : Fin 256, prob (lt (ix2 r 0)) (fun y => q (ix2 r y)) (fun y => k (ix2 x y)) * dx (ix2 r l) := by
  simp only [← prob0_256 lt dx q k v]
  pointwise [lanes256, k0_pay41]

/-- The query's gradient on the tile's rows, second head. -/
theorem dq1_256 (k : Vec Ideal S2176x128 .bf16) (w : Vec Ideal S256x2176 .bf16) (r : Fin 256) (l : Fin 128) :
    k0_pay49 (F := Ideal) (k0_pay44 k) w (constant S256x128 .f32 0x00000000#32) (ix2 r l)
      = (∑ x : Fin 2176, w (ix2 r x) * k (ix2 x l)) * Ideal.ofBits .f32 1037108716#32 := by
  pointwise [lanes256, k0_pay49, k0_pay44]

/-- The key's gradient with the tile's part added, second head. -/
theorem dk1_256 (q : Vec Ideal S256x128 .bf16) (w : Vec Ideal S256x2176 .bf16) (f : Vec Ideal S2176x128 .f32) (x : Fin 2176) (l : Fin 128) :
    k0_pay50 (F := Ideal) (k0_pay43 q) w f (ix2 x l) = f (ix2 x l) + ∑ r : Fin 256, w (ix2 r x) * q (ix2 r l) := by
  pointwise [lanes256, k0_pay50, k0_pay43]

/-- The value's gradient with the tile's part added, second head. -/
theorem dv1_256 (dx : Vec Ideal S256x128 .bf16) (w : Vec Ideal S256x2176 .f32) (f : Vec Ideal S2176x128 .f32) (x : Fin 2176) (l : Fin 128) :
    k0_pay51 (F := Ideal) dx w f (ix2 x l) = f (ix2 x l) + ∑ r : Fin 256, w (ix2 r x) * dx (ix2 r l) := by
  pointwise [lanes256, k0_pay51]

/-! ### Tiles of 128 rows -/

/-- The lane numbers. -/
def lanes128 : IVec S128x128 32 := iota .tc S128x128 32 [1] iota_S128x128_d1_w32

/-- The cotangent row of the pair's first head. -/
theorem domx0_128 (d o : Vec Ideal S128x128 .f32) (r : Fin 128) (l : Fin 128) :
    k0_pay55 (F := Ideal) d o (ix2 r l) = domx 0 (fun y => d (ix2 r y)) (fun y => o (ix2 r y)) l := by
  pointwise [lanes128, k0_pay55, k0_pay52, k0_pay53]
  rw [sel_eq _ 64 (by omega), sel_eq _ 65 (by omega), sel_slt _ 64 (by omega)]
  simp only [sel_slt _ 64 (by omega : 64 < 128)]
  rw [domx_eq, ← delta_low]
  simp only [Fin.val_zero, Nat.mul_zero, Nat.zero_add, Nat.mod_eq_of_lt l.isLt, Fin.eta]

/-- The cotangent row of the pair's second head: its lanes turned to the front. -/
theorem domx1_128 (d o : Vec Ideal S128x128 .f32) (r : Fin 128) (l : Fin 128) :
    k0_pay63 (F := Ideal) lanes128 (k0_pay52 d) (k0_pay53 o) (ix2 r l) = domx 1 (fun y => d (ix2 r y)) (fun y => o (ix2 r y)) l := by
  pointwise [lanes128, k0_pay63, k0_pay52, k0_pay53]
  rw [sel_eq _ 64 (by omega), sel_eq _ 65 (by omega), sel_sge _ (Nat.mod_lt _ (by decide)) 64 (by omega)]
  simp only [sel_sge _ (Fin.isLt _) 64 (by omega : 64 < 128)]
  rw [domx_eq, ← delta_high, roll_high (fun y => d (ix2 r y)) l]

/-- One probability of the pair's first head. -/
theorem prob0_128 (lt : Vec Ideal S128x128 .f32) (dx q : Vec Ideal S128x128 .bf16) (k v : Vec Ideal S2176x128 .bf16) (r : Fin 128) (x : Fin 2176) :
    k0_pay58 (F := Ideal) lanes128 (k0_pay54 lt) q k (ix2 r x) = prob (lt (ix2 r 0)) (fun y => q (ix2 r y)) (fun y => k (ix2 x y)) := by
  pointwise [lanes128, k0_pay58, k0_pay54, k0_pay56, k0_pay57]
  rw [prob, ← sum_pick (fun y => lt (ix2 r y)) 0]
  simp only [sel_eq _ 0 (by omega : 0 < 128)]
  rfl

/-- One probability of the pair's second head. -/
theorem prob1_128 (lt : Vec Ideal S128x128 .f32) (dx q : Vec Ideal S128x128 .bf16) (k v : Vec Ideal S2176x128 .bf16) (r : Fin 128) (x : Fin 2176) :
    k0_pay66 (F := Ideal) lanes128 (k0_pay54 lt) q k (ix2 r x) = prob (lt (ix2 r 1)) (fun y => q (ix2 r y)) (fun y => k (ix2 x y)) := by
  pointwise [lanes128, k0_pay66, k0_pay54, k0_pay64, k0_pay65]
  rw [prob, ← sum_pick (fun y => lt (ix2 r y)) 1]
  simp only [sel_eq _ 1 (by omega : 1 < 128)]
  rfl

/-- The gradient of one logit, first head. -/
theorem ds0_128 (lt : Vec Ideal S128x128 .f32) (dx q : Vec Ideal S128x128 .bf16) (k v : Vec Ideal S2176x128 .bf16) (r : Fin 128) (x : Fin 2176) :
    k0_pay59 (F := Ideal) lanes128 (k0_pay54 lt) dx q k v (ix2 r x) = prob (lt (ix2 r 0)) (fun y => q (ix2 r y)) (fun y => k (ix2 x y)) * ∑ y : Fin 128, dx (ix2 r y) * v (ix2 x y) := by
  rw [← prob0_128 lt dx q k v r x]
  pointwise [lanes128, k0_pay59]

/-- The gradient of one logit, second head. -/
theorem ds1_128 (d o lt : Vec Ideal S128x128 .f32) (q : Vec Ideal S128x128 .bf16) (k v : Vec Ideal S2176x128 .bf16) (r : Fin 128) (x : Fin 2176) :
    k0_pay67 (F := Ideal) lanes128 (k0_pay52 d) (k0_pay53 o) (k0_pay54 lt) q k v (ix2 r x)
      = prob (lt (ix2 r 1)) (fun y => q (ix2 r y)) (fun y => k (ix2 x y)) * ∑ y : Fin 128, domx 1 (fun y => d (ix2 r y)) (fun y => o (ix2 r y)) y * v (ix2 x y) := by
  simp only [← domx1_128]
  rw [← prob1_128 lt q q k v r x]
  pointwise [lanes128, k0_pay67]

/-- The query's gradient on the tile's rows, first head. -/
theorem dq0_128 (lt : Vec Ideal S128x128 .f32) (dx q : Vec Ideal S128x128 .bf16) (k v : Vec Ideal S2176x128 .bf16) (r : Fin 128) (l : Fin 128) :
    k0_pay60 (F := Ideal) lanes128 (k0_pay54 lt) dx q k v (ix2 r l)
      = (∑ x : Fin 2176, (prob (lt (ix2 r 0)) (fun y => q (ix2 r y)) (fun y => k (ix2 x y)) * ∑ y : Fin 128, dx (ix2 r y) * v (ix2 x y)) * k (ix2 x l)) * Ideal.ofBits .f32 1037108716#32 := by
  pointwise [lanes128, k0_pay60, k0_pay57]
  exact congrArg (· * _) (Finset.sum_congr rfl fun x _ => congrArg (· * k (ix2 x l)) (ds0_128 lt dx q k v r x))

/-- The key's gradient with the tile's part added, first head. -/
theorem dk0_128 (lt : Vec Ideal S128x128 .f32) (dx q : Vec Ideal S128x128 .bf16) (k v : Vec Ideal S2176x128 .bf16) (f : Vec Ideal S2176x128 .f32) (x : Fin 2176) (l : Fin 128) :
    k0_pay61 (F := Ideal) lanes128 (k0_pay54 lt) dx q k v f (ix2 x l)
      = f (ix2 x l) + ∑ r : Fin 128, (prob (lt (ix2 r 0)) (fun y => q (ix2 r y)) (fun y => k (ix2 x y)) * ∑ y : Fin 128, dx (ix2 r y) * v (ix2 x y)) * q (ix2 r l) := by
  pointwise [lanes128, k0_pay61, k0_pay56]
  exact congrArg (_ + ·) (Finset.sum_congr rfl fun r _ => congrArg (· * q (ix2 r l)) (ds0_128 lt dx q k v r x))

/-- The value's gradient with the tile's part added, first head. -/
theorem dv0_128 (lt : Vec Ideal S128x128 .f32) (dx q : Vec Ideal S128x128 .bf16) (k v : Vec Ideal S2176x128 .bf16) (f : Vec Ideal S2176x128 .f32) (x : Fin 2176) (l : Fin 128) :
    k0_pay62 (F := Ideal) lanes128 (k0_pay54 lt) dx q k f (ix2 x l)
      = f (ix2 x l) + ∑ r : Fin 128, prob (lt (ix2 r 0)) (fun y => q (ix2 r y)) (fun y => k (ix2 x y)) * dx (ix2 r l) := by
  simp only [← prob0_128 lt dx q k v]
  pointwise [lanes128, k0_pay62]

/-- The query's gradient on the tile's rows, second head. -/
theorem dq1_128 (k : Vec Ideal S2176x128 .bf16) (w : Vec Ideal S128x2176 .bf16) (r : Fin 128) (l : Fin 128) :
    k0_pay1 (F := Ideal) (k0_pay65 k) w (constant S128x128 .f32 0x00000000#32) (ix2 r l)
      = (∑ x : Fin 2176, w (ix2 r x) * k (ix2 x l)) * Ideal.ofBits .f32 1037108716#32 := by
  pointwise [lanes128, k0_pay1, k0_pay65]

/-- The key's gradient with the tile's part added, second head. -/
theorem dk1_128 (q : Vec Ideal S128x128 .bf16) (w : Vec Ideal S128x2176 .bf16) (f : Vec Ideal S2176x128 .f32) (x : Fin 2176) (l : Fin 128) :
    k0_pay2 (F := Ideal) (k0_pay64 q) w f (ix2 x l) = f (ix2 x l) + ∑ r : Fin 128, w (ix2 r x) * q (ix2 r l) := by
  pointwise [lanes128, k0_pay2, k0_pay64]

/-- The value's gradient with the tile's part added, second head. -/
theorem dv1_128 (dx : Vec Ideal S128x128 .bf16) (w : Vec Ideal S128x2176 .f32) (f : Vec Ideal S2176x128 .f32) (x : Fin 2176) (l : Fin 128) :
    k0_pay3 (F := Ideal) dx w f (ix2 x l) = f (ix2 x l) + ∑ r : Fin 128, w (ix2 r x) * dx (ix2 r l) := by
  pointwise [lanes128, k0_pay3]

/-! ### The two fills and the last scaling -/

theorem zero_dk (y : S2176x256.Idx) : k0_pay47 (F := Ideal) y = 0 := by
  idx_vars y
  pointwise [k0_pay47]

theorem zero_dv (y : S2176x256.Idx) : k0_pay48 (F := Ideal) y = 0 := by
  idx_vars y
  pointwise [k0_pay48]

theorem scale_dk (f : Vec Ideal S2176x256 .f32) (y : S2176x256.Idx) :
    k0_pay4 (F := Ideal) f y = f y * ((Real.log 2 : ℝ) : EReal) := by
  idx_vars y
  pointwise [k0_pay4]
  rfl

end Cert.KernelIdeal.Gen

end
-- ==== Proof.Tile.lean ====
/- One tile of query rows of the kernel's body as a step on whole vectors, and what each step leaves at an index. -/
module

public import proofs.«01_k».proof.Proof.Pay
public import Idealize.ShloMosaic.Lib.VecWindow

@[expose] public section

set_option maxRecDepth 16384

noncomputable section

namespace Cert.KernelIdeal.Gen

open Idealize.ShloMosaic Idealize.ShloMosaic.TcCoe Idealize.SL.Sem
open Cert.Mla

/-! ### The gradients as formulas over the whole blocks: two heads side by side in the lanes -/

/-- Lane `l` of head `h`. -/
def col (h : Fin 2) (l : Fin 128) : Fin 256 := ⟨128 * h.val + l.val, by omega⟩
/-- The head a lane belongs to, and its place among that head's lanes. -/
def headOf (c : Fin 256) : Fin 2 := ⟨c.val / 128, by omega⟩
def laneOf (c : Fin 256) : Fin 128 := ⟨c.val % 128, Nat.mod_lt _ (by decide)⟩
/-- Where a head's logarithm stands. -/
def low (h : Fin 2) : Fin 128 := ⟨h.val, by omega⟩

theorem headOf_eq (c : Fin 256) (h : Fin 2) (e : c.val / 128 = h.val) : headOf c = h := Fin.ext e
theorem laneOf_eq (c : Fin 256) (h : Fin 2) (e : c.val / 128 = h.val) : laneOf c = ⟨c.val - 128 * h.val, by omega⟩ :=
  Fin.ext (by show c.val % 128 = c.val - 128 * h.val; omega)

section
variable (x0 x1 x2 : Vec Ideal S2176x256 .bf16) (x3 x4 x5 : Vec Ideal S2176x128 .f32)

/-- The probability of key row `k` for query row `r`. -/
def pP (h : Fin 2) (r k : Fin 2176) : EReal :=
  prob (x5 (ix2 r (low h))) (fun y => x0 (ix2 r (col h y))) (fun y => x1 (ix2 k (col h y)))
/-- The cotangent row of query row `r`. -/
def pX (h : Fin 2) (r : Fin 2176) (l : Fin 128) : EReal := domx h (fun y => x4 (ix2 r y)) (fun y => x3 (ix2 r y)) l
/-- The gradient of one logit. -/
def pS (h : Fin 2) (r k : Fin 2176) : EReal := pP x0 x1 x5 h r k * ∑ y : Fin 128, pX x3 x4 h r y * x2 (ix2 k (col h y))

/-- One query row's part of the key's gradient, and of the value's. -/
def tK (k : Fin 2176) (c : Fin 256) (r : Fin 2176) : EReal := pS x0 x1 x2 x3 x4 x5 (headOf c) r k * x0 (ix2 r c)
def tV (k : Fin 2176) (c : Fin 256) (r : Fin 2176) : EReal := pP x0 x1 x5 (headOf c) r k * pX x3 x4 (headOf c) r (laneOf c)

/-- The three gradients of a pair of heads. -/
def gQ : Vec Ideal S2176x256 .f32 := fun y =>
  (∑ k : Fin 2176, pS x0 x1 x2 x3 x4 x5 (headOf (y 1)) (y 0) k * x1 (ix2 k (y 1))) * Ideal.ofBits .f32 1037108716#32
def gK : Vec Ideal S2176x256 .f32 := fun y => (∑ r : Fin 2176, tK x0 x1 x2 x3 x4 x5 (y 0) (y 1) r) * ((Real.log 2 : ℝ) : EReal)
def gV : Vec Ideal S2176x256 .f32 := fun y => ∑ r : Fin 2176, tV x0 x1 x3 x4 x5 (y 0) (y 1) r
end

/-! ### Windows and stores by rows and lanes -/

theorem inb2 {R C a b n m : ℕ} (h : a + n ≤ R) (h' : b + m ≤ C) :
    ∀ i : Fin 2, (![a, b] : Fin 2 → ℕ) i + (![n, m] : Fin 2 → ℕ) i ≤ (![R, C] : Fin 2 → ℕ) i := by
  intro i
  fin_cases i
  · exact h
  · exact h'

theorem ix2_ext {R C : ℕ} (y : (⟨2, ![R, C]⟩ : Shape).Idx) {a : Fin R} {b : Fin C} (p : (y 0).val = a.val) (q : (y 1).val = b.val) :
    y = ix2 a b := by
  funext i
  fin_cases i
  · exact Fin.ext p
  · exact Fin.ext q

theorem put_ix2 {α : Type} {R C n m : ℕ} (x : (⟨2, ![R, C]⟩ : Shape).Idx → α) (a b : ℕ) (w : (⟨2, ![n, m]⟩ : Shape).Idx → α) (r : Fin R) (c : Fin C) :
    VecWindow.put (s := ⟨2, ![R, C]⟩) x ![a, b] ![n, m] w (ix2 r c)
      = if h : a ≤ r.val ∧ r.val < a + n ∧ b ≤ c.val ∧ c.val < b + m then w (ix2 ⟨r.val - a, by omega⟩ ⟨c.val - b, by omega⟩) else x (ix2 r c) := by
  unfold VecWindow.put
  by_cases h : a ≤ r.val ∧ r.val < a + n ∧ b ≤ c.val ∧ c.val < b + m
  · rw [dif_pos h, dif_pos (by intro i; fin_cases i; · exact ⟨h.1, h.2.1⟩
                               · exact h.2.2)]
    exact congrArg w (by funext i; fin_cases i <;> rfl)
  · rw [dif_neg h, dif_neg (fun k => h ⟨(k 0).1, (k 0).2, (k 1).1, (k 1).2⟩)]

/-- One head's lanes of a wide operand. -/
def wcol {e : EltTy} (x : Vec Ideal S2176x256 e) (c0 : ℕ) (hc : c0 + 128 ≤ 256) : Vec Ideal S2176x128 e :=
  VecWindow.window x ![0, c0] S2176x128.size (inb2 (by omega) hc)

theorem wcol_at {e : EltTy} (x : Vec Ideal S2176x256 e) (c0 : ℕ) (hc : c0 + 128 ≤ 256) (r : Fin 2176) (l : Fin 128) :
    wcol x c0 hc (ix2 r l) = x (ix2 r ⟨c0 + l.val, by omega⟩) :=
  congrArg x (ix2_ext _ (by show 0 + 1 * r.val = r.val; omega) (by show c0 + 1 * l.val = c0 + l.val; omega))

/-- One head's lanes stored over `A`. -/
def putc (A : Vec Ideal S2176x256 .f32) (c0 : ℕ) (w : Vec Ideal S2176x128 .f32) : Vec Ideal S2176x256 .f32 :=
  VecWindow.put A ![0, c0] S2176x128.size w

theorem putc_at (A : Vec Ideal S2176x256 .f32) (c0 : ℕ) (w : Vec Ideal S2176x128 .f32) (r : Fin 2176) (c : Fin 256) :
    putc A c0 w (ix2 r c) = if h : 0 ≤ r.val ∧ r.val < 0 + 2176 ∧ c0 ≤ c.val ∧ c.val < c0 + 128
      then w (ix2 ⟨r.val - 0, by omega⟩ ⟨c.val - c0, by omega⟩) else A (ix2 r c) := put_ix2 A 0 c0 w r c

/-- A head's lanes just stored read back; a store to the other head's lanes leaves them. -/
theorem wcol_put_same (A : Vec Ideal S2176x256 .f32) (c0 : ℕ) (w : Vec Ideal S2176x128 .f32) (hc : c0 + 128 ≤ 256) :
    wcol (putc A c0 w) c0 hc = w :=
  VecWindow.window_put_same A ![0, c0] S2176x128.size (inb2 (by omega) hc) w

theorem wcol_put_low (A : Vec Ideal S2176x256 .f32) (w : Vec Ideal S2176x128 .f32) (hc : 128 + 128 ≤ 256) :
    wcol (putc A 0 w) 128 hc = wcol A 128 hc :=
  VecWindow.window_put_of_disjoint A ![0, 0] S2176x128.size ![0, 128] S2176x128.size (inb2 (by omega) hc) w 1 (Or.inr (by decide))

theorem wcol_put_high (A : Vec Ideal S2176x256 .f32) (w : Vec Ideal S2176x128 .f32) (hc : 0 + 128 ≤ 256) :
    wcol (putc A 128 w) 0 hc = wcol A 0 hc :=
  VecWindow.window_put_of_disjoint A ![0, 128] S2176x128.size ![0, 0] S2176x128.size (inb2 (by omega) hc) w 1 (Or.inl (by decide))

/-! ### One tile of 256 query rows -/

/-- The tile's rows of a narrow operand. -/
def wrow256 {e : EltTy} (x : Vec Ideal S2176x128 e) (r0 : ℕ) (hr : r0 + 256 ≤ 2176) : Vec Ideal S256x128 e :=
  VecWindow.window x ![r0, 0] S256x128.size (inb2 (by omega) (by omega))

/-- The tile's rows of one head's lanes of a wide operand. -/
def wblk256 {e : EltTy} (x : Vec Ideal S2176x256 e) (r0 c0 : ℕ) (hr : r0 + 256 ≤ 2176) (hc : c0 + 128 ≤ 256) : Vec Ideal S256x128 e :=
  VecWindow.window x ![r0, c0] S256x128.size (inb2 hr hc)

theorem wrow256_at {e : EltTy} (x : Vec Ideal S2176x128 e) (r0 : ℕ) (hr : r0 + 256 ≤ 2176) (r : Fin 256) (l : Fin 128) :
    wrow256 x r0 hr (ix2 r l) = x (ix2 ⟨r0 + r.val, by omega⟩ l) :=
  congrArg x (ix2_ext _ (by show r0 + 1 * r.val = r0 + r.val; omega) (by show 0 + 1 * l.val = l.val; omega))

theorem wblk256_at {e : EltTy} (x : Vec Ideal S2176x256 e) (r0 c0 : ℕ) (hr : r0 + 256 ≤ 2176) (hc : c0 + 128 ≤ 256) (r : Fin 256) (l : Fin 128) :
    wblk256 x r0 c0 hr hc (ix2 r l) = x (ix2 ⟨r0 + r.val, by omega⟩ ⟨c0 + l.val, by omega⟩) :=
  congrArg x (ix2_ext _ (by show r0 + 1 * r.val = r0 + r.val; omega) (by show c0 + 1 * l.val = c0 + l.val; omega))

/-- The tile's rows of one head's lanes stored over `A`. -/
def putb256 (A : Vec Ideal S2176x256 .f32) (r0 c0 : ℕ) (w : Vec Ideal S256x128 .f32) : Vec Ideal S2176x256 .f32 :=
  VecWindow.put A ![r0, c0] S256x128.size w

theorem putb256_at (A : Vec Ideal S2176x256 .f32) (r0 c0 : ℕ) (w : Vec Ideal S256x128 .f32) (r : Fin 2176) (c : Fin 256) :
    putb256 A r0 c0 w (ix2 r c) = if h : r0 ≤ r.val ∧ r.val < r0 + 256 ∧ c0 ≤ c.val ∧ c.val < c0 + 128
      then w (ix2 ⟨r.val - r0, by omega⟩ ⟨c.val - c0, by omega⟩) else A (ix2 r c) := put_ix2 A r0 c0 w r c

/-- What one tile leaves in the query's gradient over `A`. -/
def stepQ256 (x0 x1 x2 : Vec Ideal S2176x256 .bf16) (x3 x4 x5 : Vec Ideal S2176x128 .f32) (r0 : ℕ) (hr : r0 + 256 ≤ 2176) (A : Vec Ideal S2176x256 .f32) : Vec Ideal S2176x256 .f32 :=
  putb256 (putb256 A r0 0 (k0_pay39 (F := Ideal) lanes256 (k0_pay33 (F := Ideal) (wrow256 x5 r0 hr)) (k0_pay34 (F := Ideal) (wrow256 x4 r0 hr) (wrow256 x3 r0 hr)) (wblk256 x0 r0 0 hr (by omega)) (wcol x1 0 (by omega)) (wcol x2 0 (by omega))))
    r0 128 (k0_pay49 (F := Ideal) (k0_pay44 (F := Ideal) (wcol x1 128 (by omega))) (k0_pay46 (F := Ideal) lanes256 (k0_pay31 (F := Ideal) (wrow256 x4 r0 hr)) (k0_pay32 (F := Ideal) (wrow256 x3 r0 hr)) (k0_pay33 (F := Ideal) (wrow256 x5 r0 hr)) (wblk256 x0 r0 128 hr (by omega)) (wcol x1 128 (by omega)) (wcol x2 128 (by omega))) (constant S256x128 .f32 0x00000000#32))

/-- The key's gradient after the tile's first head. -/
def halfK256 (x0 x1 x2 : Vec Ideal S2176x256 .bf16) (x3 x4 x5 : Vec Ideal S2176x128 .f32) (r0 : ℕ) (hr : r0 + 256 ≤ 2176) (A : Vec Ideal S2176x256 .f32) : Vec Ideal S2176x256 .f32 :=
  putc A 0 (k0_pay40 (F := Ideal) lanes256 (k0_pay33 (F := Ideal) (wrow256 x5 r0 hr)) (k0_pay34 (F := Ideal) (wrow256 x4 r0 hr) (wrow256 x3 r0 hr)) (wblk256 x0 r0 0 hr (by omega)) (wcol x1 0 (by omega)) (wcol x2 0 (by omega)) (wcol A 0 (by omega)))

/-- What one tile leaves in the key's gradient over `A`. -/
def stepK256 (x0 x1 x2 : Vec Ideal S2176x256 .bf16) (x3 x4 x5 : Vec Ideal S2176x128 .f32) (r0 : ℕ) (hr : r0 + 256 ≤ 2176) (A : Vec Ideal S2176x256 .f32) : Vec Ideal S2176x256 .f32 :=
  putc (halfK256 x0 x1 x2 x3 x4 x5 r0 hr A) 128
    (k0_pay50 (F := Ideal) (k0_pay43 (F := Ideal) (wblk256 x0 r0 128 hr (by omega))) (k0_pay46 (F := Ideal) lanes256 (k0_pay31 (F := Ideal) (wrow256 x4 r0 hr)) (k0_pay32 (F := Ideal) (wrow256 x3 r0 hr)) (k0_pay33 (F := Ideal) (wrow256 x5 r0 hr)) (wblk256 x0 r0 128 hr (by omega)) (wcol x1 128 (by omega)) (wcol x2 128 (by omega))) (wcol (halfK256 x0 x1 x2 x3 x4 x5 r0 hr A) 128 (by omega)))

/-- The value's gradient after the tile's first head. -/
def halfV256 (x0 x1 x2 : Vec Ideal S2176x256 .bf16) (x3 x4 x5 : Vec Ideal S2176x128 .f32) (r0 : ℕ) (hr : r0 + 256 ≤ 2176) (A : Vec Ideal S2176x256 .f32) : Vec Ideal S2176x256 .f32 :=
  putc A 0 (k0_pay41 (F := Ideal) lanes256 (k0_pay33 (F := Ideal) (wrow256 x5 r0 hr)) (k0_pay34 (F := Ideal) (wrow256 x4 r0 hr) (wrow256 x3 r0 hr)) (wblk256 x0 r0 0 hr (by omega)) (wcol x1 0 (by omega)) (wcol A 0 (by omega)))

/-- What one tile leaves in the value's gradient over `A`. -/
def stepV256 (x0 x1 x2 : Vec Ideal S2176x256 .bf16) (x3 x4 x5 : Vec Ideal S2176x128 .f32) (r0 : ℕ) (hr : r0 + 256 ≤ 2176) (A : Vec Ideal S2176x256 .f32) : Vec Ideal S2176x256 .f32 :=
  putc (halfV256 x0 x1 x2 x3 x4 x5 r0 hr A) 128
    (k0_pay51 (F := Ideal) (k0_pay42 (F := Ideal) lanes256 (k0_pay31 (F := Ideal) (wrow256 x4 r0 hr)) (k0_pay32 (F := Ideal) (wrow256 x3 r0 hr))) (k0_pay45 (F := Ideal) lanes256 (k0_pay33 (F := Ideal) (wrow256 x5 r0 hr)) (wblk256 x0 r0 128 hr (by omega)) (wcol x1 128 (by omega))) (wcol (halfV256 x0 x1 x2 x3 x4 x5 r0 hr A) 128 (by omega)))

theorem stepQ256_at (x0 x1 x2 : Vec Ideal S2176x256 .bf16) (x3 x4 x5 : Vec Ideal S2176x128 .f32) (r0 : ℕ) (hr : r0 + 256 ≤ 2176) (A : Vec Ideal S2176x256 .f32) (r : Fin 2176) (c : Fin 256) :
    stepQ256 x0 x1 x2 x3 x4 x5 r0 hr A (ix2 r c)
      = if r0 ≤ r.val ∧ r.val < r0 + 256 then gQ x0 x1 x2 x3 x4 x5 (ix2 r c) else A (ix2 r c) := by
  rw [stepQ256, putb256_at, putb256_at]
  by_cases h : r0 ≤ r.val ∧ r.val < r0 + 256
  · rw [if_pos h]
    by_cases hc : 128 ≤ c.val
    · rw [dif_pos ⟨h.1, h.2, hc, by omega⟩, dq1_256]
      simp only [ds1_256, wrow256_at, wblk256_at, wcol_at]
      have e : r0 + (r.val - r0) = r.val := by omega
      simp only [e, Nat.add_sub_cancel' hc]
      show _ = (∑ k : Fin 2176, pS x0 x1 x2 x3 x4 x5 (headOf c) r k * x1 (ix2 k c)) * Ideal.ofBits .f32 1037108716#32
      rw [headOf_eq c 1 (by show c.val / 128 = 1; omega)]
      rfl
    · rw [dif_neg (fun k => hc k.2.2.1), dif_pos ⟨h.1, h.2, Nat.zero_le _, by omega⟩, dq0_256]
      simp only [domx0_256, wrow256_at, wblk256_at, wcol_at]
      have e : r0 + (r.val - r0) = r.val := by omega
      simp only [e, Nat.zero_add, Nat.sub_zero]
      show _ = (∑ k : Fin 2176, pS x0 x1 x2 x3 x4 x5 (headOf c) r k * x1 (ix2 k c)) * Ideal.ofBits .f32 1037108716#32
      rw [headOf_eq c 0 (by show c.val / 128 = 0; omega)]
      simp only [pS, pP, pX, col, Fin.val_zero, Nat.mul_zero, Nat.zero_add]
      rfl
  · rw [if_neg h, dif_neg (fun k => h ⟨k.1, k.2.1⟩), dif_neg (fun k => h ⟨k.1, k.2.1⟩)]

theorem stepK256_at (x0 x1 x2 : Vec Ideal S2176x256 .bf16) (x3 x4 x5 : Vec Ideal S2176x128 .f32) (r0 : ℕ) (hr : r0 + 256 ≤ 2176) (A : Vec Ideal S2176x256 .f32) (x : Fin 2176) (c : Fin 256) :
    stepK256 x0 x1 x2 x3 x4 x5 r0 hr A (ix2 x c)
      = A (ix2 x c) + ∑ r : Fin 256, tK x0 x1 x2 x3 x4 x5 x c ⟨r0 + r.val, by omega⟩ := by
  have hx := x.isLt
  rw [stepK256, putc_at]
  by_cases hc : 128 ≤ c.val
  · rw [dif_pos ⟨Nat.zero_le _, by omega, hc, by omega⟩, dk1_256]
    simp only [ds1_256, wrow256_at, wblk256_at, wcol_at, halfK256, putc_at, Nat.add_sub_cancel' hc, Nat.sub_zero]
    rw [dif_neg (fun k => by have := k.2.2.2; omega)]
    simp only [tK, headOf_eq c 1 (by show c.val / 128 = 1; omega)]
    rfl
  · rw [dif_neg (fun k => hc k.2.2.1), halfK256, putc_at, dif_pos ⟨Nat.zero_le _, by omega, Nat.zero_le _, by omega⟩, dk0_256]
    simp only [domx0_256, wrow256_at, wblk256_at, wcol_at, Nat.zero_add, Nat.sub_zero]
    simp only [tK, headOf_eq c 0 (by show c.val / 128 = 0; omega), pS, pP, pX, col, Fin.val_zero, Nat.mul_zero, Nat.zero_add]
    rfl

theorem stepV256_at (x0 x1 x2 : Vec Ideal S2176x256 .bf16) (x3 x4 x5 : Vec Ideal S2176x128 .f32) (r0 : ℕ) (hr : r0 + 256 ≤ 2176) (A : Vec Ideal S2176x256 .f32) (x : Fin 2176) (c : Fin 256) :
    stepV256 x0 x1 x2 x3 x4 x5 r0 hr A (ix2 x c)
      = A (ix2 x c) + ∑ r : Fin 256, tV x0 x1 x3 x4 x5 x c ⟨r0 + r.val, by omega⟩ := by
  have hx := x.isLt
  rw [stepV256, putc_at]
  by_cases hc : 128 ≤ c.val
  · rw [dif_pos ⟨Nat.zero_le _, by omega, hc, by omega⟩, dv1_256]
    simp only [prob1_256 _ (wblk256 x0 r0 128 hr (by omega)) (wblk256 x0 r0 128 hr (by omega)) _ (wcol x1 128 (by omega)), domx1_256, wrow256_at, wblk256_at, wcol_at, halfV256, putc_at, Nat.add_sub_cancel' hc, Nat.sub_zero]
    rw [dif_neg (fun k => by have := k.2.2.2; omega)]
    simp only [tV, headOf_eq c 1 (by show c.val / 128 = 1; omega), laneOf_eq c 1 (by show c.val / 128 = 1; omega)]
    rfl
  · rw [dif_neg (fun k => hc k.2.2.1), halfV256, putc_at, dif_pos ⟨Nat.zero_le _, by omega, Nat.zero_le _, by omega⟩,
      dv0_256 _ _ _ _ (wcol x1 0 (by omega))]
    simp only [domx0_256, wrow256_at, wblk256_at, wcol_at, Nat.zero_add, Nat.sub_zero]
    simp only [tV, headOf_eq c 0 (by show c.val / 128 = 0; omega), laneOf_eq c 0 (by show c.val / 128 = 0; omega), pP, pX, col, Fin.val_zero,
      Nat.mul_zero, Nat.zero_add, Nat.sub_zero]
    rfl

/-! ### One tile of 128 query rows -/

/-- The tile's rows of a narrow operand. -/
def wrow128 {e : EltTy} (x : Vec Ideal S2176x128 e) (r0 : ℕ) (hr : r0 + 128 ≤ 2176) : Vec Ideal S128x128 e :=
  VecWindow.window x ![r0, 0] S128x128.size (inb2 (by omega) (by omega))

/-- The tile's rows of one head's lanes of a wide operand. -/
def wblk128 {e : EltTy} (x : Vec Ideal S2176x256 e) (r0 c0 : ℕ) (hr : r0 + 128 ≤ 2176) (hc : c0 + 128 ≤ 256) : Vec Ideal S128x128 e :=
  VecWindow.window x ![r0, c0] S128x128.size (inb2 hr hc)

theorem wrow128_at {e : EltTy} (x : Vec Ideal S2176x128 e) (r0 : ℕ) (hr : r0 + 128 ≤ 2176) (r : Fin 128) (l : Fin 128) :
    wrow128 x r0 hr (ix2 r l) = x (ix2 ⟨r0 + r.val, by omega⟩ l) :=
  congrArg x (ix2_ext _ (by show r0 + 1 * r.val = r0 + r.val; omega) (by show 0 + 1 * l.val = l.val; omega))

theorem wblk128_at {e : EltTy} (x : Vec Ideal S2176x256 e) (r0 c0 : ℕ) (hr : r0 + 128 ≤ 2176) (hc : c0 + 128 ≤ 256) (r : Fin 128) (l : Fin 128) :
    wblk128 x r0 c0 hr hc (ix2 r l) = x (ix2 ⟨r0 + r.val, by omega⟩ ⟨c0 + l.val, by omega⟩) :=
  congrArg x (ix2_ext _ (by show r0 + 1 * r.val = r0 + r.val; omega) (by show c0 + 1 * l.val = c0 + l.val; omega))

/-- The tile's rows of one head's lanes stored over `A`. -/
def putb128 (A : Vec Ideal S2176x256 .f32) (r0 c0 : ℕ) (w : Vec Ideal S128x128 .f32) : Vec Ideal S2176x256 .f32 :=
  VecWindow.put A ![r0, c0] S128x128.size w

theorem putb128_at (A : Vec Ideal S2176x256 .f32) (r0 c0 : ℕ) (w : Vec Ideal S128x128 .f32) (r : Fin 2176) (c : Fin 256) :
    putb128 A r0 c0 w (ix2 r c) = if h : r0 ≤ r.val ∧ r.val < r0 + 128 ∧ c0 ≤ c.val ∧ c.val < c0 + 128
      then w (ix2 ⟨r.val - r0, by omega⟩ ⟨c.val - c0, by omega⟩) else A (ix2 r c) := put_ix2 A r0 c0 w r c

/-- What one tile leaves in the query's gradient over `A`. -/
def stepQ128 (x0 x1 x2 : Vec Ideal S2176x256 .bf16) (x3 x4 x5 : Vec Ideal S2176x128 .f32) (r0 : ℕ) (hr : r0 + 128 ≤ 2176) (A : Vec Ideal S2176x256 .f32) : Vec Ideal S2176x256 .f32 :=
  putb128 (putb128 A r0 0 (k0_pay60 (F := Ideal) lanes128 (k0_pay54 (F := Ideal) (wrow128 x5 r0 hr)) (k0_pay55 (F := Ideal) (wrow128 x4 r0 hr) (wrow128 x3 r0 hr)) (wblk128 x0 r0 0 hr (by omega)) (wcol x1 0 (by omega)) (wcol x2 0 (by omega))))
    r0 128 (k0_pay1 (F := Ideal) (k0_pay65 (F := Ideal) (wcol x1 128 (by omega))) (k0_pay67 (F := Ideal) lanes128 (k0_pay52 (F := Ideal) (wrow128 x4 r0 hr)) (k0_pay53 (F := Ideal) (wrow128 x3 r0 hr)) (k0_pay54 (F := Ideal) (wrow128 x5 r0 hr)) (wblk128 x0 r0 128 hr (by omega)) (wcol x1 128 (by omega)) (wcol x2 128 (by omega))) (constant S128x128 .f32 0x00000000#32))

/-- The key's gradient after the tile's first head. -/
def halfK128 (x0 x1 x2 : Vec Ideal S2176x256 .bf16) (x3 x4 x5 : Vec Ideal S2176x128 .f32) (r0 : ℕ) (hr : r0 + 128 ≤ 2176) (A : Vec Ideal S2176x256 .f32) : Vec Ideal S2176x256 .f32 :=
  putc A 0 (k0_pay61 (F := Ideal) lanes128 (k0_pay54 (F := Ideal) (wrow128 x5 r0 hr)) (k0_pay55 (F := Ideal) (wrow128 x4 r0 hr) (wrow128 x3 r0 hr)) (wblk128 x0 r0 0 hr (by omega)) (wcol x1 0 (by omega)) (wcol x2 0 (by omega)) (wcol A 0 (by omega)))

/-- What one tile leaves in the key's gradient over `A`. -/
def stepK128 (x0 x1 x2 : Vec Ideal S2176x256 .bf16) (x3 x4 x5 : Vec Ideal S2176x128 .f32) (r0 : ℕ) (hr : r0 + 128 ≤ 2176) (A : Vec Ideal S2176x256 .f32) : Vec Ideal S2176x256 .f32 :=
  putc (halfK128 x0 x1 x2 x3 x4 x5 r0 hr A) 128
    (k0_pay2 (F := Ideal) (k0_pay64 (F := Ideal) (wblk128 x0 r0 128 hr (by omega))) (k0_pay67 (F := Ideal) lanes128 (k0_pay52 (F := Ideal) (wrow128 x4 r0 hr)) (k0_pay53 (F := Ideal) (wrow128 x3 r0 hr)) (k0_pay54 (F := Ideal) (wrow128 x5 r0 hr)) (wblk128 x0 r0 128 hr (by omega)) (wcol x1 128 (by omega)) (wcol x2 128 (by omega))) (wcol (halfK128 x0 x1 x2 x3 x4 x5 r0 hr A) 128 (by omega)))

/-- The value's gradient after the tile's first head. -/
def halfV128 (x0 x1 x2 : Vec Ideal S2176x256 .bf16) (x3 x4 x5 : Vec Ideal S2176x128 .f32) (r0 : ℕ) (hr : r0 + 128 ≤ 2176) (A : Vec Ideal S2176x256 .f32) : Vec Ideal S2176x256 .f32 :=
  putc A 0 (k0_pay62 (F := Ideal) lanes128 (k0_pay54 (F := Ideal) (wrow128 x5 r0 hr)) (k0_pay55 (F := Ideal) (wrow128 x4 r0 hr) (wrow128 x3 r0 hr)) (wblk128 x0 r0 0 hr (by omega)) (wcol x1 0 (by omega)) (wcol A 0 (by omega)))

/-- What one tile leaves in the value's gradient over `A`. -/
def stepV128 (x0 x1 x2 : Vec Ideal S2176x256 .bf16) (x3 x4 x5 : Vec Ideal S2176x128 .f32) (r0 : ℕ) (hr : r0 + 128 ≤ 2176) (A : Vec Ideal S2176x256 .f32) : Vec Ideal S2176x256 .f32 :=
  putc (halfV128 x0 x1 x2 x3 x4 x5 r0 hr A) 128
    (k0_pay3 (F := Ideal) (k0_pay63 (F := Ideal) lanes128 (k0_pay52 (F := Ideal) (wrow128 x4 r0 hr)) (k0_pay53 (F := Ideal) (wrow128 x3 r0 hr))) (k0_pay66 (F := Ideal) lanes128 (k0_pay54 (F := Ideal) (wrow128 x5 r0 hr)) (wblk128 x0 r0 128 hr (by omega)) (wcol x1 128 (by omega))) (wcol (halfV128 x0 x1 x2 x3 x4 x5 r0 hr A) 128 (by omega)))

theorem stepQ128_at (x0 x1 x2 : Vec Ideal S2176x256 .bf16) (x3 x4 x5 : Vec Ideal S2176x128 .f32) (r0 : ℕ) (hr : r0 + 128 ≤ 2176) (A : Vec Ideal S2176x256 .f32) (r : Fin 2176) (c : Fin 256) :
    stepQ128 x0 x1 x2 x3 x4 x5 r0 hr A (ix2 r c)
      = if r0 ≤ r.val ∧ r.val < r0 + 128 then gQ x0 x1 x2 x3 x4 x5 (ix2 r c) else A (ix2 r c) := by
  rw [stepQ128, putb128_at, putb128_at]
  by_cases h : r0 ≤ r.val ∧ r.val < r0 + 128
  · rw [if_pos h]
    by_cases hc : 128 ≤ c.val
    · rw [dif_pos ⟨h.1, h.2, hc, by omega⟩, dq1_128]
      simp only [ds1_128, wrow128_at, wblk128_at, wcol_at]
      have e : r0 + (r.val - r0) = r.val := by omega
      simp only [e, Nat.add_sub_cancel' hc]
      show _ = (∑ k : Fin 2176, pS x0 x1 x2 x3 x4 x5 (headOf c) r k * x1 (ix2 k c)) * Ideal.ofBits .f32 1037108716#32
      rw [headOf_eq c 1 (by show c.val / 128 = 1; omega)]
      rfl
    · rw [dif_neg (fun k => hc k.2.2.1), dif_pos ⟨h.1, h.2, Nat.zero_le _, by omega⟩, dq0_128]
      simp only [domx0_128, wrow128_at, wblk128_at, wcol_at]
      have e : r0 + (r.val - r0) = r.val := by omega
      simp only [e, Nat.zero_add, Nat.sub_zero]
      show _ = (∑ k : Fin 2176, pS x0 x1 x2 x3 x4 x5 (headOf c) r k * x1 (ix2 k c)) * Ideal.ofBits .f32 1037108716#32
      rw [headOf_eq c 0 (by show c.val / 128 = 0; omega)]
      simp only [pS, pP, pX, col, Fin.val_zero, Nat.mul_zero, Nat.zero_add]
      rfl
  · rw [if_neg h, dif_neg (fun k => h ⟨k.1, k.2.1⟩), dif_neg (fun k => h ⟨k.1, k.2.1⟩)]

theorem stepK128_at (x0 x1 x2 : Vec Ideal S2176x256 .bf16) (x3 x4 x5 : Vec Ideal S2176x128 .f32) (r0 : ℕ) (hr : r0 + 128 ≤ 2176) (A : Vec Ideal S2176x256 .f32) (x : Fin 2176) (c : Fin 256) :
    stepK128 x0 x1 x2 x3 x4 x5 r0 hr A (ix2 x c)
      = A (ix2 x c) + ∑ r : Fin 128, tK x0 x1 x2 x3 x4 x5 x c ⟨r0 + r.val, by omega⟩ := by
  have hx := x.isLt
  rw [stepK128, putc_at]
  by_cases hc : 128 ≤ c.val
  · rw [dif_pos ⟨Nat.zero_le _, by omega, hc, by omega⟩, dk1_128]
    simp only [ds1_128, wrow128_at, wblk128_at, wcol_at, halfK128, putc_at, Nat.add_sub_cancel' hc, Nat.sub_zero]
    rw [dif_neg (fun k => by have := k.2.2.2; omega)]
    simp only [tK, headOf_eq c 1 (by show c.val / 128 = 1; omega)]
    rfl
  · rw [dif_neg (fun k => hc k.2.2.1), halfK128, putc_at, dif_pos ⟨Nat.zero_le _, by omega, Nat.zero_le _, by omega⟩, dk0_128]
    simp only [domx0_128, wrow128_at, wblk128_at, wcol_at, Nat.zero_add, Nat.sub_zero]
    simp only [tK, headOf_eq c 0 (by show c.val / 128 = 0; omega), pS, pP, pX, col, Fin.val_zero, Nat.mul_zero, Nat.zero_add]
    rfl

theorem stepV128_at (x0 x1 x2 : Vec Ideal S2176x256 .bf16) (x3 x4 x5 : Vec Ideal S2176x128 .f32) (r0 : ℕ) (hr : r0 + 128 ≤ 2176) (A : Vec Ideal S2176x256 .f32) (x : Fin 2176) (c : Fin 256) :
    stepV128 x0 x1 x2 x3 x4 x5 r0 hr A (ix2 x c)
      = A (ix2 x c) + ∑ r : Fin 128, tV x0 x1 x3 x4 x5 x c ⟨r0 + r.val, by omega⟩ := by
  have hx := x.isLt
  rw [stepV128, putc_at]
  by_cases hc : 128 ≤ c.val
  · rw [dif_pos ⟨Nat.zero_le _, by omega, hc, by omega⟩, dv1_128]
    simp only [prob1_128 _ (wblk128 x0 r0 128 hr (by omega)) (wblk128 x0 r0 128 hr (by omega)) _ (wcol x1 128 (by omega)), domx1_128, wrow128_at, wblk128_at, wcol_at, halfV128, putc_at, Nat.add_sub_cancel' hc, Nat.sub_zero]
    rw [dif_neg (fun k => by have := k.2.2.2; omega)]
    simp only [tV, headOf_eq c 1 (by show c.val / 128 = 1; omega), laneOf_eq c 1 (by show c.val / 128 = 1; omega)]
    rfl
  · rw [dif_neg (fun k => hc k.2.2.1), halfV128, putc_at, dif_pos ⟨Nat.zero_le _, by omega, Nat.zero_le _, by omega⟩,
      dv0_128 _ _ _ _ (wcol x1 0 (by omega))]
    simp only [domx0_128, wrow128_at, wblk128_at, wcol_at, Nat.zero_add, Nat.sub_zero]
    simp only [tV, headOf_eq c 0 (by show c.val / 128 = 0; omega), laneOf_eq c 0 (by show c.val / 128 = 0; omega), pP, pX, col, Fin.val_zero,
      Nat.mul_zero, Nat.zero_add, Nat.sub_zero]
    rfl

end Cert.KernelIdeal.Gen

end
-- ==== Proof.Trip.lean ====
/- One trip of the kernel's loop over the query rows: two tiles of 256 rows. What the trip's stores leave in the three
   gradients, and what all trips together leave. -/
module

public import proofs.«01_k».proof.Proof.Gen.KernelIdeal.Loops
public import proofs.«01_k».proof.Proof.Tile

@[expose] public section

set_option maxRecDepth 16384

noncomputable section

namespace Cert.KernelIdeal.Gen

open Idealize.ShloMosaic Idealize.ShloMosaic.TcCoe Idealize.ShloMosaic.Tactic Idealize.SL.Sem
open Cert.Mla

theorem trips_four (k : Fin k0_t1_loop.trips) : k.val < 4 := Nat.lt_of_lt_of_le k.isLt k0_t1_abs.2.1
theorem rows_a (k : Fin k0_t1_loop.trips) : 512 * k.val + 256 ≤ 2176 := by have := trips_four k; omega
theorem rows_b (k : Fin k0_t1_loop.trips) : 512 * k.val + 256 + 256 ≤ 2176 := by have := trips_four k; omega

theorem readAt_row256 {sp : Space} {e : EltTy} (v : View sig .tc sp S2176x128 e) (f : v.ty.Contents (Elt Ideal)) {off : Fin 2 → ℕ}
    (inb : ∀ a, off a + S256x128.size a ≤ S2176x128.size a) (r0 : ℕ) (h : off = ![r0, 0]) (hr : r0 + 256 ≤ 2176) :
    v.readAt (Elt Ideal) (Rect.unit (s := S2176x128) off S256x128.size inb).toLoadRect f = wrow256 (v.read (Elt Ideal) f) r0 hr := by
  subst h; rfl

theorem readAt_blk256 {sp : Space} {e : EltTy} (v : View sig .tc sp S2176x256 e) (f : v.ty.Contents (Elt Ideal)) {off : Fin 2 → ℕ}
    (inb : ∀ a, off a + S256x128.size a ≤ S2176x256.size a) (r0 c0 : ℕ) (h : off = ![r0, c0]) (hr : r0 + 256 ≤ 2176) (hc : c0 + 128 ≤ 256) :
    v.readAt (Elt Ideal) (Rect.unit (s := S2176x256) off S256x128.size inb).toLoadRect f = wblk256 (v.read (Elt Ideal) f) r0 c0 hr hc := by
  subst h; rfl

theorem readAt_col {sp : Space} {e : EltTy} (v : View sig .tc sp S2176x256 e) (f : v.ty.Contents (Elt Ideal)) (c0 : ℕ)
    (inb : ∀ a, (![0, c0] : Fin 2 → ℕ) a + S2176x128.size a ≤ S2176x256.size a) (hc : c0 + 128 ≤ 256) :
    v.readAt (Elt Ideal) (Rect.unit (s := S2176x256) ![0, c0] S2176x128.size inb).toLoadRect f = wcol (v.read (Elt Ideal) f) c0 hc := rfl

theorem readCov_col {sp : Space} {e : EltTy} (v : View sig .tc sp S2176x256 e) (L : List (View.Piece (Elt Ideal) S2176x256 e)) (c0 : ℕ)
    (inb : ∀ a, (![0, c0] : Fin 2 → ℕ) a + S2176x128.size a ≤ S2176x256.size a) (hc : c0 + 128 ≤ 256) :
    v.readCov L (Rect.unit (s := S2176x256) ![0, c0] S2176x128.size inb).toLoadRect = wcol (v.read (Elt Ideal) (v.writes (Elt Ideal) v.junk L)) c0 hc := rfl

theorem read_putc {sp : Space} (v : View sig .tc sp S2176x256 .f32) (f : v.ty.Contents (Elt Ideal)) (c0 : ℕ)
    (inb : ∀ a, (![0, c0] : Fin 2 → ℕ) a + (![2176, 128] : Fin 2 → ℕ) a ≤ S2176x256.size a) (w : Vec Ideal S2176x128 .f32)
    (L : List (View.Piece (Elt Ideal) S2176x256 .f32)) :
    v.read (Elt Ideal) (v.writes (Elt Ideal) f (⟨Rect.unit (s := S2176x256) ![0, c0] ![2176, 128] inb, w⟩ :: L))
      = putc (v.read (Elt Ideal) (v.writes (Elt Ideal) f L)) c0 w :=
  View.read_writes_cons_put v f inb w L rfl

theorem read_putb256 {sp : Space} (v : View sig .tc sp S2176x256 .f32) (f : v.ty.Contents (Elt Ideal)) {off : Fin 2 → ℕ}
    (inb : ∀ a, off a + S256x128.size a ≤ S2176x256.size a) (w : Vec Ideal S256x128 .f32)
    (L : List (View.Piece (Elt Ideal) S2176x256 .f32)) (r0 c0 : ℕ) (h : off = ![r0, c0]) :
    v.read (Elt Ideal) (v.writes (Elt Ideal) f (⟨Rect.unit (s := S2176x256) off S256x128.size inb, w⟩ :: L))
      = putb256 (v.read (Elt Ideal) (v.writes (Elt Ideal) f L)) r0 c0 w :=
  View.read_writes_cons_put v f inb w L h

/-- A function of the rows as a function of all numbers. -/
def onRows (f : Fin 2176 → EReal) (r : ℕ) : EReal := if h : r < 2176 then f ⟨r, h⟩ else 0

theorem sum_tile (f : Fin 2176 → EReal) (r0 n : ℕ) (h : r0 + n ≤ 2176) :
    (∑ r : Fin n, f ⟨r0 + r.val, by omega⟩) = ∑ r ∈ Finset.range n, onRows f (r0 + r) := by
  rw [← Fin.sum_univ_eq_sum_range (fun r => onRows f (r0 + r))]
  refine Finset.sum_congr rfl fun r _ => ?_
  unfold onRows
  rw [dif_pos (show r0 + r.val < 2176 by omega)]

theorem sum_rows (f : Fin 2176 → EReal) : (∑ r ∈ Finset.range 2176, onRows f r) = ∑ r : Fin 2176, f r := by
  rw [← Fin.sum_univ_eq_sum_range (fun r => onRows f r)]
  exact Finset.sum_congr rfl fun r _ => dif_pos r.isLt

section
variable (𝒱 : Variants) (c : Dev nD) (bd : Option 𝒱.V) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .hbm S8x128 .f32) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2176x256 .f32) (harg11 : arg11.IsWhole)
  (x0 x1 x2 : Vec Ideal S2176x256 .bf16) (x3 x4 x5 : Vec Ideal S2176x128 .f32)

set_option maxHeartbeats 1600000 in
theorem tripQ (k : Fin k0_t1_loop.trips) (f9 : BufTy.Contents (Elt Ideal) arg9.view.ty) (f10 : BufTy.Contents (Elt Ideal) arg10.view.ty) (f11 : BufTy.Contents (Elt Ideal) arg11.view.ty) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).1 f9 f10 f11))
      = stepQ256 x0 x1 x2 x3 x4 x5 (512 * k.val + 256) (rows_b k) (stepQ256 x0 x1 x2 x3 x4 x5 (512 * k.val) (rows_a k) (arg9.view.read (Elt Ideal) f9)) := by
  unfold trip_k0_t1
  dsimp only
  sl_unfold_run_names
  simp only [readAt_row256 _ _ _ _ (k0_off1_eq k) (rows_a k), readAt_row256 _ _ _ _ (k0_off4_eq k) (rows_b k),
    readAt_blk256 _ _ _ _ _ (k0_off2_eq k) (rows_a k) (by omega), readAt_blk256 _ _ _ _ _ (k0_off3_eq k) (rows_a k) (by omega),
    readAt_blk256 _ _ _ _ _ (k0_off5_eq k) (rows_b k) (by omega), readAt_blk256 _ _ _ _ _ (k0_off6_eq k) (rows_b k) (by omega),
    readAt_col _ _ 0 _ (by omega), readAt_col _ _ 128 _ (by omega),
    readCov_col _ _ 0 _ (by omega), readCov_col _ _ 128 _ (by omega), read_putc, read_putb256 _ _ _ _ _ _ _ (k0_off2_eq k),
    read_putb256 _ _ _ _ _ _ _ (k0_off3_eq k), read_putb256 _ _ _ _ _ _ _ (k0_off5_eq k), read_putb256 _ _ _ _ _ _ _ (k0_off6_eq k), View.writes_nil, harg2.read_unread, harg3.read_unread, harg4.read_unread, harg5.read_unread, harg6.read_unread,
    harg7.read_unread]
  simp only [wcol_put_same, wcol_put_low, wcol_put_high, stepQ256, stepK256, stepV256, halfK256, halfV256, lanes256, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51]

set_option maxHeartbeats 1600000 in
theorem tripK (k : Fin k0_t1_loop.trips) (f9 : BufTy.Contents (Elt Ideal) arg9.view.ty) (f10 : BufTy.Contents (Elt Ideal) arg10.view.ty) (f11 : BufTy.Contents (Elt Ideal) arg11.view.ty) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).2.1 f9 f10 f11))
      = stepK256 x0 x1 x2 x3 x4 x5 (512 * k.val + 256) (rows_b k) (stepK256 x0 x1 x2 x3 x4 x5 (512 * k.val) (rows_a k) (arg10.view.read (Elt Ideal) f10)) := by
  unfold trip_k0_t1
  dsimp only
  sl_unfold_run_names
  simp only [readAt_row256 _ _ _ _ (k0_off1_eq k) (rows_a k), readAt_row256 _ _ _ _ (k0_off4_eq k) (rows_b k),
    readAt_blk256 _ _ _ _ _ (k0_off2_eq k) (rows_a k) (by omega), readAt_blk256 _ _ _ _ _ (k0_off3_eq k) (rows_a k) (by omega),
    readAt_blk256 _ _ _ _ _ (k0_off5_eq k) (rows_b k) (by omega), readAt_blk256 _ _ _ _ _ (k0_off6_eq k) (rows_b k) (by omega),
    readAt_col _ _ 0 _ (by omega), readAt_col _ _ 128 _ (by omega),
    readCov_col _ _ 0 _ (by omega), readCov_col _ _ 128 _ (by omega), read_putc, read_putb256 _ _ _ _ _ _ _ (k0_off2_eq k),
    read_putb256 _ _ _ _ _ _ _ (k0_off3_eq k), read_putb256 _ _ _ _ _ _ _ (k0_off5_eq k), read_putb256 _ _ _ _ _ _ _ (k0_off6_eq k), View.writes_nil, harg2.read_unread, harg3.read_unread, harg4.read_unread, harg5.read_unread, harg6.read_unread,
    harg7.read_unread]
  simp only [wcol_put_same, wcol_put_low, wcol_put_high, stepQ256, stepK256, stepV256, halfK256, halfV256, lanes256, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51]

set_option maxHeartbeats 1600000 in
theorem tripV (k : Fin k0_t1_loop.trips) (f9 : BufTy.Contents (Elt Ideal) arg9.view.ty) (f10 : BufTy.Contents (Elt Ideal) arg10.view.ty) (f11 : BufTy.Contents (Elt Ideal) arg11.view.ty) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).2.2.1 f9 f10 f11))
      = stepV256 x0 x1 x2 x3 x4 x5 (512 * k.val + 256) (rows_b k) (stepV256 x0 x1 x2 x3 x4 x5 (512 * k.val) (rows_a k) (arg11.view.read (Elt Ideal) f11)) := by
  unfold trip_k0_t1
  dsimp only
  sl_unfold_run_names
  simp only [readAt_row256 _ _ _ _ (k0_off1_eq k) (rows_a k), readAt_row256 _ _ _ _ (k0_off4_eq k) (rows_b k),
    readAt_blk256 _ _ _ _ _ (k0_off2_eq k) (rows_a k) (by omega), readAt_blk256 _ _ _ _ _ (k0_off3_eq k) (rows_a k) (by omega),
    readAt_blk256 _ _ _ _ _ (k0_off5_eq k) (rows_b k) (by omega), readAt_blk256 _ _ _ _ _ (k0_off6_eq k) (rows_b k) (by omega),
    readAt_col _ _ 0 _ (by omega), readAt_col _ _ 128 _ (by omega),
    readCov_col _ _ 0 _ (by omega), readCov_col _ _ 128 _ (by omega), read_putc, read_putb256 _ _ _ _ _ _ _ (k0_off2_eq k),
    read_putb256 _ _ _ _ _ _ _ (k0_off3_eq k), read_putb256 _ _ _ _ _ _ _ (k0_off5_eq k), read_putb256 _ _ _ _ _ _ _ (k0_off6_eq k), View.writes_nil, harg2.read_unread, harg3.read_unread, harg4.read_unread, harg5.read_unread, harg6.read_unread,
    harg7.read_unread]
  simp only [wcol_put_same, wcol_put_low, wcol_put_high, stepQ256, stepK256, stepV256, halfK256, halfV256, lanes256, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51]

/-- What all trips before trip `n` leave, whatever the three buffers held when the loop began. -/
theorem loop_reads (g9 : BufTy.Contents (Elt Ideal) arg9.view.ty) (g10 : BufTy.Contents (Elt Ideal) arg10.view.ty) (g11 : BufTy.Contents (Elt Ideal) arg11.view.ty)
    (n : ℕ) (hn : n ≤ k0_t1_loop.trips) :
    (∀ r c', arg9.view.read (Elt Ideal) (arg9.view.writes (Elt Ideal) g9 (pb_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g9 g10 g11 n).1) (ix2 r c')
        = if r.val < 512 * n then gQ x0 x1 x2 x3 x4 x5 (ix2 r c') else arg9.view.read (Elt Ideal) g9 (ix2 r c'))
    ∧ (∀ x c', arg10.view.read (Elt Ideal) (arg10.view.writes (Elt Ideal) g10 (pb_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g9 g10 g11 n).2.1) (ix2 x c')
        = arg10.view.read (Elt Ideal) g10 (ix2 x c') + ∑ r ∈ Finset.range (512 * n), onRows (tK x0 x1 x2 x3 x4 x5 x c') r)
    ∧ (∀ x c', arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g9 g10 g11 n).2.2) (ix2 x c')
        = arg11.view.read (Elt Ideal) g11 (ix2 x c') + ∑ r ∈ Finset.range (512 * n), onRows (tV x0 x1 x3 x4 x5 x c') r) := by
  induction n with
  | zero =>
    refine ⟨fun r c' => ?_, fun x c' => ?_, fun x c' => ?_⟩
    · rw [if_neg (by omega)]; rfl
    · rw [Nat.mul_zero, Finset.range_zero, Finset.sum_empty, add_zero]; rfl
    · rw [Nat.mul_zero, Finset.range_zero, Finset.sum_empty, add_zero]; rfl
  | succ n ih =>
    obtain ⟨iq, ik, iv⟩ := ih (by omega)
    rw [pb_k0_t1_succ 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g9 g10 g11 ⟨n, hn⟩]
    dsimp only [tripL_k0_t1]
    have e1 : 512 * (n + 1) = 512 * n + 256 + 256 := by omega
    refine ⟨fun r c' => ?_, fun x c' => ?_, fun x c' => ?_⟩
    · rw [View.writes_append, tripQ, stepQ256_at, stepQ256_at, iq]
      dsimp only
      by_cases h : r.val < 512 * n
      · rw [if_neg (by omega), if_neg (by omega), if_pos h, if_pos (by omega)]
      · by_cases h2 : r.val < 512 * n + 256
        · rw [if_neg (by omega), if_pos (by omega), if_pos (by omega)]
        · by_cases h3 : r.val < 512 * (n + 1)
          · rw [if_pos (by omega), if_pos h3]
          · rw [if_neg (by omega), if_neg (by omega), if_neg h, if_neg h3]
    · rw [View.writes_append, tripK, stepK256_at, stepK256_at, ik, e1, Finset.sum_range_add, Finset.sum_range_add, ← add_assoc, ← add_assoc]
      dsimp only
      rw [sum_tile _ _ _ (rows_a ⟨n, hn⟩), sum_tile _ _ _ (rows_b ⟨n, hn⟩)]
    · rw [View.writes_append, tripV, stepV256_at, stepV256_at, iv, e1, Finset.sum_range_add, Finset.sum_range_add, ← add_assoc, ← add_assoc]
      dsimp only
      rw [sum_tile _ _ _ (rows_a ⟨n, hn⟩), sum_tile _ _ _ (rows_b ⟨n, hn⟩)]
end

end Cert.KernelIdeal.Gen

end
-- ==== Proof.Body.lean ====
/- The kernel's body on one grid step: given a pair of heads' blocks, it leaves the three gradients of that pair. -/
module

public import proofs.«01_k».proof.Proof.Gen.KernelIdeal.Frame.Runs
public import proofs.«01_k».proof.Proof.Trip
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Mla

local notation "𝕄" => MT nD τ sig Unit (Elt Ideal) ℕ (UR sig nD τ) ℕ

/-! ### The last tile's 128 query rows, and the loads and stores of a whole block -/

theorem readAt_row128 {sp : Space} {e : EltTy} (v : View sig .tc sp S2176x128 e) (f : v.ty.Contents (Elt Ideal))
    (inb : ∀ a, (![2048, 0] : Fin 2 → ℕ) a + (![128, 128] : Fin 2 → ℕ) a ≤ S2176x128.size a) :
    v.readAt (Elt Ideal) (Rect.unit (s := S2176x128) ![2048, 0] ![128, 128] inb).toLoadRect f = wrow128 (v.read (Elt Ideal) f) 2048 (by omega) := rfl

theorem readAt_blk128 {sp : Space} {e : EltTy} (v : View sig .tc sp S2176x256 e) (f : v.ty.Contents (Elt Ideal)) (c0 : ℕ)
    (inb : ∀ a, (![2048, c0] : Fin 2 → ℕ) a + S128x128.size a ≤ S2176x256.size a) (hc : c0 + 128 ≤ 256) :
    v.readAt (Elt Ideal) (Rect.unit (s := S2176x256) ![2048, c0] S128x128.size inb).toLoadRect f = wblk128 (v.read (Elt Ideal) f) 2048 c0 (by omega) hc := rfl

theorem read_putb128 {sp : Space} (v : View sig .tc sp S2176x256 .f32) (f : v.ty.Contents (Elt Ideal)) (c0 : ℕ)
    (inb : ∀ a, (![2048, c0] : Fin 2 → ℕ) a + (![128, 128] : Fin 2 → ℕ) a ≤ S2176x256.size a) (w : Vec Ideal S128x128 .f32)
    (L : List (View.Piece (Elt Ideal) S2176x256 .f32)) :
    v.read (Elt Ideal) (v.writes (Elt Ideal) f (⟨Rect.unit (s := S2176x256) ![2048, c0] ![128, 128] inb, w⟩ :: L))
      = putb128 (v.read (Elt Ideal) (v.writes (Elt Ideal) f L)) 2048 c0 w :=
  View.read_writes_cons_put v f inb w L rfl

theorem read_whole {sp : Space} (v : View sig .tc sp S2176x256 .f32) (f : v.ty.Contents (Elt Ideal))
    (inb : ∀ a, (![0, 0] : Fin 2 → ℕ) a + (![2176, 256] : Fin 2 → ℕ) a ≤ S2176x256.size a) (w : Vec Ideal S2176x256 .f32)
    (L : List (View.Piece (Elt Ideal) S2176x256 .f32)) :
    v.read (Elt Ideal) (v.writes (Elt Ideal) f (⟨Rect.unit (s := S2176x256) ![0, 0] ![2176, 256] inb, w⟩ :: L)) = w :=
  View.read_writes_full v f inb w L

theorem readCov_whole {sp : Space} (v : View sig .tc sp S2176x256 .f32) (L : List (View.Piece (Elt Ideal) S2176x256 .f32))
    (inb : ∀ a, (![0, 0] : Fin 2 → ℕ) a + (![2176, 256] : Fin 2 → ℕ) a ≤ S2176x256.size a) :
    v.readCov L (Rect.unit (s := S2176x256) ![0, 0] ![2176, 256] inb).toLoadRect = v.read (Elt Ideal) (v.writes (Elt Ideal) v.junk L) :=
  View.readAt_full v (v.writes (Elt Ideal) v.junk L) inb

theorem trips_eq : k0_t1_loop.trips = 4 := by decide

theorem ext_wide {f g : Vec Ideal S2176x256 .f32} (h : ∀ (r : Fin 2176) (c : Fin 256), f (ix2 r c) = g (ix2 r c)) : f = g := by
  funext y
  rw [ix2_ext y (a := y 0) (b := y 1) rfl rfl]
  exact h (y 0) (y 1)

set_option maxHeartbeats 2000000 in
theorem body (c : Dev nD) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg9 : Memref sig .tc .vmem S2176x256 .f32) (harg9 : arg9.IsWhole) (arg10 : Memref sig .tc .vmem S2176x256 .f32) (harg10 : arg10.IsWhole) (arg11 : Memref sig .tc .vmem S2176x256 .f32) (harg11 : arg11.IsWhole)
    (x0 x1 x2 : Vec Ideal S2176x256 .bf16) (x3 x4 x5 : Vec Ideal S2176x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (gQ x0 x1 x2 x3 x4 x5) ∗ owns (c : Thread nD τ) arg10 fullShare (gK x0 x1 x2 x3 x4 x5) ∗ owns (c : Thread nD τ) arg11 fullShare (gV x0 x1 x3 x4 x5)) -∗ K ⟨⟩))
          ⊢ wp frame (wpE (defs₀ (F := Ideal)) Variants.none c none) E (cc0_mla_bwd i arg2 harg2 arg3 harg3 arg4 harg4 arg5 harg5 arg6 harg6 arg7 harg7 (Memref.whole main_v88) (Memref.isWhole_whole _) arg9 harg9 arg10 harg10 arg11 harg11) K := by
    simp only [cc0_mla_bwd_eq_skeleton]; unfold cc0_mla_bwd_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_run_names
      simp only [readAt_row128, readAt_blk128 _ _ 0 _ (by omega), readAt_blk128 _ _ 128 _ (by omega),
        readAt_col _ _ 0 _ (by omega), readAt_col _ _ 128 _ (by omega), readCov_col _ _ 0 _ (by omega), readCov_col _ _ 128 _ (by omega),
        readCov_whole, read_whole, read_putc, read_putb128, View.writes_append, harg2.read_unread, harg3.read_unread, harg4.read_unread, harg5.read_unread,
        harg6.read_unread, harg7.read_unread]
      change stepQ128 x0 x1 x2 x3 x4 x5 2048 (by omega) _ = _
      refine ext_wide fun x l => ?_
      rw [stepQ128_at]
      by_cases h : 2048 ≤ x.val ∧ x.val < 2048 + 128
      · rw [if_pos h]
      · rw [if_neg h]
        refine ((loop_reads Variants.none c none i arg2 harg2 arg3 harg3 arg4 harg4 arg5 harg5 arg6 harg6 arg7 harg7 (Memref.whole main_v88) (Memref.isWhole_whole _) arg9 harg9 arg10 harg10 arg11 harg11 x0 x1 x2 x3 x4 x5 f6 _ _ k0_t1_loop.trips le_rfl).1 x l).trans (if_pos ?_)
        have := x.isLt
        rw [trips_eq]
        omega
    isplitl [H7]
    · iexists _; isplitr; swap; · iexact H7
      ipureintro
      sl_unfold_run_names
      simp only [readAt_row128, readAt_blk128 _ _ 0 _ (by omega), readAt_blk128 _ _ 128 _ (by omega),
        readAt_col _ _ 0 _ (by omega), readAt_col _ _ 128 _ (by omega), readCov_col _ _ 0 _ (by omega), readCov_col _ _ 128 _ (by omega),
        readCov_whole, read_whole, read_putc, read_putb128, View.writes_append, harg2.read_unread, harg3.read_unread, harg4.read_unread, harg5.read_unread,
        harg6.read_unread, harg7.read_unread]
      change k0_pay4 (stepK128 x0 x1 x2 x3 x4 x5 2048 (by omega) _) = _
      refine ext_wide fun x l => ?_
      rw [scale_dk]
      refine congrArg (· * ((Real.log 2 : ℝ) : EReal)) ?_
      rw [stepK128_at, sum_tile _ _ _ (by omega)]
      refine (congrArg (· + _) ((loop_reads Variants.none c none i arg2 harg2 arg3 harg3 arg4 harg4 arg5 harg5 arg6 harg6 arg7 harg7 (Memref.whole main_v88) (Memref.isWhole_whole _) arg9 harg9 arg10 harg10 arg11 harg11 x0 x1 x2 x3 x4 x5 f6 _ _ k0_t1_loop.trips le_rfl).2.1 x l)).trans ?_
      rw [trips_eq, read_whole, zero_dk, zero_add, ← Finset.sum_range_add]
      exact sum_rows _
    iexists _; isplitr; swap; · iexact H8
    ipureintro
    sl_unfold_run_names
    simp only [readAt_row128, readAt_blk128 _ _ 0 _ (by omega), readAt_blk128 _ _ 128 _ (by omega),
      readAt_col _ _ 0 _ (by omega), readAt_col _ _ 128 _ (by omega), readCov_col _ _ 0 _ (by omega), readCov_col _ _ 128 _ (by omega),
      readCov_whole, read_whole, read_putc, read_putb128, View.writes_append, harg2.read_unread, harg3.read_unread, harg4.read_unread, harg5.read_unread,
      harg6.read_unread, harg7.read_unread]
    change stepV128 x0 x1 x2 x3 x4 x5 2048 (by omega) _ = _
    refine ext_wide fun x l => ?_
    rw [stepV128_at, sum_tile _ _ _ (by omega)]
    refine (congrArg (· + _) ((loop_reads Variants.none c none i arg2 harg2 arg3 harg3 arg4 harg4 arg5 harg5 arg6 harg6 arg7 harg7 (Memref.whole main_v88) (Memref.isWhole_whole _) arg9 harg9 arg10 harg10 arg11 harg11 x0 x1 x2 x3 x4 x5 f6 _ _ k0_t1_loop.trips le_rfl).2.2 x l)).trans ?_
    rw [trips_eq, read_whole, zero_dv, zero_add, ← Finset.sum_range_add]
    exact sum_rows _
end Cert.KernelIdeal.Gen
end
-- ==== Proof.Region.lean ====
/- The run of the ideal kernel: the pipeline's data (each grid step leaves the three gradients of its pair of heads), the
   body's obligation, the run of the whole program, and the frame. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The three gradients of grid step `t`'s pair of heads, from that step's input blocks. -/
def outQ (c : Dev nD) (t : Fin cfg0.N) : Vec Ideal S2176x256 .f32 := gQ (iblk m c 0 t) (iblk m c 1 t) (iblk m c 2 t) (iblk m c 3 t) (iblk m c 4 t) (iblk m c 5 t)
def outK (c : Dev nD) (t : Fin cfg0.N) : Vec Ideal S2176x256 .f32 := gK (iblk m c 0 t) (iblk m c 1 t) (iblk m c 2 t) (iblk m c 3 t) (iblk m c 4 t) (iblk m c 5 t)
def outV (c : Dev nD) (t : Fin cfg0.N) : Vec Ideal S2176x256 .f32 := gV (iblk m c 0 t) (iblk m c 1 t) (iblk m c 3 t) (iblk m c 4 t) (iblk m c 5 t)

/-- The proof data of the pipeline on core `c`: the arrays as the region finds them, each input's buffer at its block and each
    output's at its gradient, the scoped rest and the generator register kept, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ m c t
    | ⟨7, _⟩ => outK m c t
    | ⟨8, _⟩ => outV m c t
  Φ _ := Pipeline.ΦA spec0 c
  q _ := fullShare
  owed _ := 0

/-- The arrays of the data are what the region finds. -/
theorem A_eq (c : Dev nD) (w : Fin cfg0.W) : (dats m 0 c).A w = V m c (Pipeline.arrRef spec0 w) := by
  dsimp only [dats]

/-- What a step leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ m c t := by dsimp only [dats]
theorem after0_7 (c : Dev nD) (t : Fin cfg0.N) : (dats m 0 c).after 7 t = outK m c t := by dsimp only [dats]
theorem after0_8 (c : Dev nD) (t : Fin cfg0.N) : (dats m 0 c).after 8 t = outV m c t := by dsimp only [dats]

/-- What a step finds in each input's window: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ### The body's obligation -/

/-- What a step is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What a step returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- A step's triple: the body's, at the step's windows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The program table's entry for the body. -/
theorem defs₀_row (t : Fin cfg0.N) :
    defs₀ (F := Ideal) .tc cfg0.body (cfg0.bodyArgs t (cfg0.slots t)) = bodyAt0 t := by
  unfold defs₀; rw [Defs.onTc_tc]

/-- The obligation at every step. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ### The run and the frame -/

set_option backward.isDefEq.respectTransparency.types false in
set_option maxHeartbeats 800000 in
/-- The program's run: the arrays end as the data says, the later host lines done, every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.RefLine.lean ====
/- The reference's straight line of host operations in four stretches — the logits, the softmax, the derivative of the logits,
   the five gradients — and what each stretch leaves, read at an index. -/
module

public import proofs.«01_k».proof.Proof.Gen.ReferenceIdeal
public import Idealize.ShloMosaic.Lib.Claim
public import Idealize.ShloMosaic.Lib.Pointwise
public import Idealize.ShloMosaic.Lib.IdealHost
public import Idealize.ShloMosaic.Lib.StableHlo.RunRead

@[expose] public section

set_option maxRecDepth 16384

noncomputable section

namespace Cert.ReferenceIdeal.Gen

open Idealize.ShloMosaic Idealize.ShloMosaic.TcCoe Idealize.ShloMosaic.Tactic Idealize.SL.Sem

section
variable {F : FTy → Type} [FloatOps F]

/-- Logits and row maximum. -/
abbrev logOps : List (HloOp τ sig (Elt F)) :=
  [ StableHlo.binary main_arg0 main_arg2 main_v0 ((fun l r => Host.dotGeneral dot_S2x2064x8x64_S2x2064x8x64_S2x8x2064x2064_3_3_1_1_02_02 none l r) : (⟨S2x2064x8x64, .f32⟩ : BufTy).Contents (Elt F) → (⟨S2x2064x8x64, .f32⟩ : BufTy).Contents (Elt F) → (⟨S2x8x2064x2064, .f32⟩ : BufTy).Contents (Elt F)),
    StableHlo.binary main_arg3 main_arg1 main_v1 ((fun l r => Host.dotGeneral dot_S2x2064x32_S2x2064x8x32_S2x2064x2064x8_2_3_1_12_0_0 none l r) : (⟨S2x2064x32, .f32⟩ : BufTy).Contents (Elt F) → (⟨S2x2064x8x32, .f32⟩ : BufTy).Contents (Elt F) → (⟨S2x2064x2064x8, .f32⟩ : BufTy).Contents (Elt F)),
    StableHlo.unary main_v1 main_v2 ((transpose S2x8x2064x2064 [0, 3, 2, 1] · transposes_S2x2064x2064x8_S2x8x2064x2064_0_3_2_1) : (⟨S2x2064x2064x8, .f32⟩ : BufTy).Contents (Elt F) → (⟨S2x8x2064x2064, .f32⟩ : BufTy).Contents (Elt F)),
    StableHlo.binary main_v0 main_v2 main_v3 (addf : (⟨S2x8x2064x2064, .f32⟩ : BufTy).Contents (Elt F) → (⟨S2x8x2064x2064, .f32⟩ : BufTy).Contents (Elt F) → (⟨S2x8x2064x2064, .f32⟩ : BufTy).Contents (Elt F)),
    StableHlo.nullary main_cst (constant S_ .f32 0x3DD105EC#32),
    StableHlo.unary main_cst main_v4 (broadcastInDim S2x8x2064x2064 ![] bcast_S_S2x8x2064x2064 : (⟨S_, .f32⟩ : BufTy).Contents (Elt F) → (⟨S2x8x2064x2064, .f32⟩ : BufTy).Contents (Elt F)),
    StableHlo.binary main_v3 main_v4 main_v5 (mulf : (⟨S2x8x2064x2064, .f32⟩ : BufTy).Contents (Elt F) → (⟨S2x8x2064x2064, .f32⟩ : BufTy).Contents (Elt F) → (⟨S2x8x2064x2064, .f32⟩ : BufTy).Contents (Elt F)),
    StableHlo.nullary main_cst_0 (constant S_ .f32 0xFF800000#32),
    StableHlo.binary main_v5 main_cst_0 main_v6 ((fun x v => Host.reduce FloatOps.maximumf x v reducesTo_S2x8x2064x2064_S2x8x2064_d3 h_S_) : (⟨S2x8x2064x2064, .f32⟩ : BufTy).Contents (Elt F) → (⟨S_, .f32⟩ : BufTy).Contents (Elt F) → (⟨S2x8x2064, .f32⟩ : BufTy).Contents (Elt F)) ]

/-- Weights before division, row sum, weights. -/
abbrev softOps : List (HloOp τ sig (Elt F)) :=
  [ StableHlo.reshape main_v6 main_v7 (rfl : (.f32 : EltTy) = .f32) shapeCasts_S2x8x2064_S2x8x2064x1,
    StableHlo.unary main_v7 main_v8 (broadcastInDim S2x8x2064x2064 ![0, 1, 2, 3] bcast_S2x8x2064x1_S2x8x2064x2064_0_1_2_3 : (⟨S2x8x2064x1, .f32⟩ : BufTy).Contents (Elt F) → (⟨S2x8x2064x2064, .f32⟩ : BufTy).Contents (Elt F)),
    StableHlo.binary main_v5 main_v8 main_v9 (cmpf .oeq : (⟨S2x8x2064x2064, .f32⟩ : BufTy).Contents (Elt F) → (⟨S2x8x2064x2064, .f32⟩ : BufTy).Contents (Elt F) → (⟨S2x8x2064x2064, .i1⟩ : BufTy).Contents (Elt F)),
    StableHlo.unary main_v9 main_v10 (uitofp .f32 : (⟨S2x8x2064x2064, .i1⟩ : BufTy).Contents (Elt F) → (⟨S2x8x2064x2064, .f32⟩ : BufTy).Contents (Elt F)),
    StableHlo.nullary main_cst_1 (constant S_ .f32 0x00000000#32),
    StableHlo.binary main_v10 main_cst_1 main_v11 ((fun x v => Host.reduceAdd x v reducesTo_S2x8x2064x2064_S2x8x2064_d3 h_S_) : (⟨S2x8x2064x2064, .f32⟩ : BufTy).Contents (Elt F) → (⟨S_, .f32⟩ : BufTy).Contents (Elt F) → (⟨S2x8x2064, .f32⟩ : BufTy).Contents (Elt F)),
    StableHlo.nullary main_cst_2 (constant S_ .f32 0xFF800000#32),
    StableHlo.unary main_cst_2 main_v12 (broadcastInDim S2x8x2064 ![] bcast_S_S2x8x2064 : (⟨S_, .f32⟩ : BufTy).Contents (Elt F) → (⟨S2x8x2064, .f32⟩ : BufTy).Contents (Elt F)),
    StableHlo.binary main_v12 main_v6 main_v13 (maximumf : (⟨S2x8x2064, .f32⟩ : BufTy).Contents (Elt F) → (⟨S2x8x2064, .f32⟩ : BufTy).Contents (Elt F) → (⟨S2x8x2064, .f32⟩ : BufTy).Contents (Elt F)),
    StableHlo.nullary main_cst_3 (constant S_ .f32 0xFF800000#32),
    StableHlo.unary main_cst_3 main_v14 (broadcastInDim S2x8x2064 ![] bcast_S_S2x8x2064 : (⟨S_, .f32⟩ : BufTy).Contents (Elt F) → (⟨S2x8x2064, .f32⟩ : BufTy).Contents (Elt F)),
    StableHlo.binary main_v6 main_v14 main_v15 (cmpf .ogt : (⟨S2x8x2064, .f32⟩ : BufTy).Contents (Elt F) → (⟨S2x8x2064, .f32⟩ : BufTy).Contents (Elt F) → (⟨S2x8x2064, .i1⟩ : BufTy).Contents (Elt F)),
    StableHlo.nullary main_cst_4 (constant S_ .f32 0xFF800000#32),
    StableHlo.unary main_cst_4 main_v16 (broadcastInDim S2x8x2064 ![] bcast_S_S2x8x2064 : (⟨S_, .f32⟩ : BufTy).Contents (Elt F) → (⟨S2x8x2064, .f32⟩ : BufTy).Contents (Elt F)),
    StableHlo.binary main_v6 main_v16 main_v17 (cmpf .oeq : (⟨S2x8x2064, .f32⟩ : BufTy).Contents (Elt F) → (⟨S2x8x2064, .f32⟩ : BufTy).Contents (Elt F) → (⟨S2x8x2064, .i1⟩ : BufTy).Contents (Elt F)),
    StableHlo.nullary main_cst_5 (constant S_ .f32 0x3F800000#32),
    StableHlo.unary main_cst_5 main_v18 (broadcastInDim S2x8x2064 ![] bcast_S_S2x8x2064 : (⟨S_, .f32⟩ : BufTy).Contents (Elt F) → (⟨S2x8x2064, .f32⟩ : BufTy).Contents (Elt F)),
    StableHlo.nullary main_cst_6 (constant S_ .f32 0x00000000#32),
    StableHlo.unary main_cst_6 main_v19 (broadcastInDim S2x8x2064 ![] bcast_S_S2x8x2064 : (⟨S_, .f32⟩ : BufTy).Contents (Elt F) → (⟨S2x8x2064, .f32⟩ : BufTy).Contents (Elt F)),
    StableHlo.nullary main_cst_7 (constant S_ .f32 0x3F000000#32),
    StableHlo.unary main_cst_7 main_v20 (broadcastInDim S2x8x2064 ![] bcast_S_S2x8x2064 : (⟨S_, .f32⟩ : BufTy).Contents (Elt F) → (⟨S2x8x2064, .f32⟩ : BufTy).Contents (Elt F)),
    StableHlo.ternary main_v17 main_v20 main_v19 main_v21 (select : (⟨S2x8x2064, .i1⟩ : BufTy).Contents (Elt F) → (⟨S2x8x2064, .f32⟩ : BufTy).Contents (Elt F) → (⟨S2x8x2064, .f32⟩ : BufTy).Contents (Elt F) → (⟨S2x8x2064, .f32⟩ : BufTy).Contents (Elt F)),
    StableHlo.ternary main_v15 main_v18 main_v21 main_v22 (select : (⟨S2x8x2064, .i1⟩ : BufTy).Contents (Elt F) → (⟨S2x8x2064, .f32⟩ : BufTy).Contents (Elt F) → (⟨S2x8x2064, .f32⟩ : BufTy).Contents (Elt F) → (⟨S2x8x2064, .f32⟩ : BufTy).Contents (Elt F)),
    StableHlo.unary main_v13 main_v23 (broadcastInDim S2x8x2064x1 ![0, 1, 2] bcast_S2x8x2064_S2x8x2064x1_0_1_2 : (⟨S2x8x2064, .f32⟩ : BufTy).Contents (Elt F) → (⟨S2x8x2064x1, .f32⟩ : BufTy).Contents (Elt F)),
    StableHlo.unary main_v23 main_v24 (broadcastInDim S2x8x2064x2064 ![0, 1, 2, 3] bcast_S2x8x2064x1_S2x8x2064x2064_0_1_2_3 : (⟨S2x8x2064x1, .f32⟩ : BufTy).Contents (Elt F) → (⟨S2x8x2064x2064, .f32⟩ : BufTy).Contents (Elt F)),
    StableHlo.binary main_v5 main_v24 main_v25 (subf : (⟨S2x8x2064x2064, .f32⟩ : BufTy).Contents (Elt F) → (⟨S2x8x2064x2064, .f32⟩ : BufTy).Contents (Elt F) → (⟨S2x8x2064x2064, .f32⟩ : BufTy).Contents (Elt F)),
    StableHlo.unary main_v25 main_v26 (Host.exp : (⟨S2x8x2064x2064, .f32⟩ : BufTy).Contents (Elt F) → (⟨S2x8x2064x2064, .f32⟩ : BufTy).Contents (Elt F)),
    StableHlo.nullary main_cst_8 (constant S_ .f32 0x00000000#32),
    StableHlo.binary main_v26 main_cst_8 main_v27 ((fun x v => Host.reduceAdd x v reducesTo_S2x8x2064x2064_S2x8x2064_d3 h_S_) : (⟨S2x8x2064x2064, .f32⟩ : BufTy).Contents (Elt F) → (⟨S_, .f32⟩ : BufTy).Contents (Elt F) → (⟨S2x8x2064, .f32⟩ : BufTy).Contents (Elt F)),
    StableHlo.unary main_v27 main_v28 (broadcastInDim S2x8x2064x1 ![0, 1, 2] bcast_S2x8x2064_S2x8x2064x1_0_1_2 : (⟨S2x8x2064, .f32⟩ : BufTy).Contents (Elt F) → (⟨S2x8x2064x1, .f32⟩ : BufTy).Contents (Elt F)),
    StableHlo.unary main_v28 main_v29 (broadcastInDim S2x8x2064x2064 ![0, 1, 2, 3] bcast_S2x8x2064x1_S2x8x2064x2064_0_1_2_3 : (⟨S2x8x2064x1, .f32⟩ : BufTy).Contents (Elt F) → (⟨S2x8x2064x2064, .f32⟩ : BufTy).Contents (Elt F)),
    StableHlo.binary main_v26 main_v29 main_v30 (Host.divf : (⟨S2x8x2064x2064, .f32⟩ : BufTy).Contents (Elt F) → (⟨S2x8x2064x2064, .f32⟩ : BufTy).Contents (Elt F) → (⟨S2x8x2064x2064, .f32⟩ : BufTy).Contents (Elt F)) ]

/-- The derivative of the logits, and the values' gradient. -/
abbrev gradOps : List (HloOp τ sig (Elt F)) :=
  [ StableHlo.binary main_v28 main_v28 main_v31 (mulf : (⟨S2x8x2064x1, .f32⟩ : BufTy).Contents (Elt F) → (⟨S2x8x2064x1, .f32⟩ : BufTy).Contents (Elt F) → (⟨S2x8x2064x1, .f32⟩ : BufTy).Contents (Elt F)),
    StableHlo.nullary main_cst_9 (constant S_ .f32 0x3F800000#32),
    StableHlo.unary main_cst_9 main_v32 (broadcastInDim S2x8x2064x1 ![] bcast_S_S2x8x2064x1 : (⟨S_, .f32⟩ : BufTy).Contents (Elt F) → (⟨S2x8x2064x1, .f32⟩ : BufTy).Contents (Elt F)),
    StableHlo.binary main_v32 main_v31 main_v33 (Host.divf : (⟨S2x8x2064x1, .f32⟩ : BufTy).Contents (Elt F) → (⟨S2x8x2064x1, .f32⟩ : BufTy).Contents (Elt F) → (⟨S2x8x2064x1, .f32⟩ : BufTy).Contents (Elt F)),
    StableHlo.binary main_arg4 main_v30 main_v34 ((fun l r => Host.dotGeneral dot_S2x2064x8x64_S2x8x2064x2064_S2x8x64x2064_1_3_3_2_02_01 none l r) : (⟨S2x2064x8x64, .f32⟩ : BufTy).Contents (Elt F) → (⟨S2x8x2064x2064, .f32⟩ : BufTy).Contents (Elt F) → (⟨S2x8x64x2064, .f32⟩ : BufTy).Contents (Elt F)),
    StableHlo.unary main_v34 main_v35 ((transpose S2x2064x8x64 [0, 3, 1, 2] · transposes_S2x8x64x2064_S2x2064x8x64_0_3_1_2) : (⟨S2x8x64x2064, .f32⟩ : BufTy).Contents (Elt F) → (⟨S2x2064x8x64, .f32⟩ : BufTy).Contents (Elt F)),
    StableHlo.reshape main_v35 main_v36 (rfl : (.f32 : EltTy) = .f32) shapeCasts_S2x2064x8x64_S2x2064x512,
    StableHlo.reshape main_arg5 main_v37 (rfl : (.f32 : EltTy) = .f32) shapeCasts_S2x2064x512_S2x2064x8x64,
    StableHlo.unary main_v37 main_v38 ((transpose S2x8x64x2064 [0, 2, 3, 1] · transposes_S2x2064x8x64_S2x8x64x2064_0_2_3_1) : (⟨S2x2064x8x64, .f32⟩ : BufTy).Contents (Elt F) → (⟨S2x8x64x2064, .f32⟩ : BufTy).Contents (Elt F)),
    StableHlo.binary main_v38 main_arg4 main_v39 ((fun l r => Host.dotGeneral dot_S2x8x64x2064_S2x2064x8x64_S2x8x2064x2064_2_3_3_1_01_02 none l r) : (⟨S2x8x64x2064, .f32⟩ : BufTy).Contents (Elt F) → (⟨S2x2064x8x64, .f32⟩ : BufTy).Contents (Elt F) → (⟨S2x8x2064x2064, .f32⟩ : BufTy).Contents (Elt F)),
    StableHlo.binary main_v38 main_v30 main_v40 ((fun l r => Host.dotGeneral dot_S2x8x64x2064_S2x8x2064x2064_S2x8x64x2064_3_2_2_3_01_01 none l r) : (⟨S2x8x64x2064, .f32⟩ : BufTy).Contents (Elt F) → (⟨S2x8x2064x2064, .f32⟩ : BufTy).Contents (Elt F) → (⟨S2x8x64x2064, .f32⟩ : BufTy).Contents (Elt F)),
    StableHlo.unary main_v40 main_v41 ((transpose S2x2064x8x64 [0, 3, 1, 2] · transposes_S2x8x64x2064_S2x2064x8x64_0_3_1_2) : (⟨S2x8x64x2064, .f32⟩ : BufTy).Contents (Elt F) → (⟨S2x2064x8x64, .f32⟩ : BufTy).Contents (Elt F)),
    StableHlo.unary main_v33 main_v42 (broadcastInDim S2x8x2064x2064 ![0, 1, 2, 3] bcast_S2x8x2064x1_S2x8x2064x2064_0_1_2_3 : (⟨S2x8x2064x1, .f32⟩ : BufTy).Contents (Elt F) → (⟨S2x8x2064x2064, .f32⟩ : BufTy).Contents (Elt F)),
    StableHlo.binary main_v39 main_v42 main_v43 (mulf : (⟨S2x8x2064x2064, .f32⟩ : BufTy).Contents (Elt F) → (⟨S2x8x2064x2064, .f32⟩ : BufTy).Contents (Elt F) → (⟨S2x8x2064x2064, .f32⟩ : BufTy).Contents (Elt F)),
    StableHlo.binary main_v43 main_v26 main_v44 (mulf : (⟨S2x8x2064x2064, .f32⟩ : BufTy).Contents (Elt F) → (⟨S2x8x2064x2064, .f32⟩ : BufTy).Contents (Elt F) → (⟨S2x8x2064x2064, .f32⟩ : BufTy).Contents (Elt F)),
    StableHlo.nullary main_cst_10 (constant S_ .f32 0x00000000#32),
    StableHlo.binary main_v44 main_cst_10 main_v45 ((fun x v => Host.reduceAdd x v reducesTo_S2x8x2064x2064_S2x8x2064_d3 h_S_) : (⟨S2x8x2064x2064, .f32⟩ : BufTy).Contents (Elt F) → (⟨S_, .f32⟩ : BufTy).Contents (Elt F) → (⟨S2x8x2064, .f32⟩ : BufTy).Contents (Elt F)),
    StableHlo.reshape main_v45 main_v46 (rfl : (.f32 : EltTy) = .f32) shapeCasts_S2x8x2064_S2x8x2064x1,
    StableHlo.unary main_v46 main_v47 (Host.negf : (⟨S2x8x2064x1, .f32⟩ : BufTy).Contents (Elt F) → (⟨S2x8x2064x1, .f32⟩ : BufTy).Contents (Elt F)),
    StableHlo.unary main_v28 main_v48 (broadcastInDim S2x8x2064x2064 ![0, 1, 2, 3] bcast_S2x8x2064x1_S2x8x2064x2064_0_1_2_3 : (⟨S2x8x2064x1, .f32⟩ : BufTy).Contents (Elt F) → (⟨S2x8x2064x2064, .f32⟩ : BufTy).Contents (Elt F)),
    StableHlo.binary main_v39 main_v48 main_v49 (Host.divf : (⟨S2x8x2064x2064, .f32⟩ : BufTy).Contents (Elt F) → (⟨S2x8x2064x2064, .f32⟩ : BufTy).Contents (Elt F) → (⟨S2x8x2064x2064, .f32⟩ : BufTy).Contents (Elt F)),
    StableHlo.nullary main_cst_11 (constant S_ .f32 0x00000000#32),
    StableHlo.binary main_v47 main_cst_11 main_v50 ((fun x v => Host.reduceAdd x v reducesTo_S2x8x2064x1_S2x8x2064_d3 h_S_) : (⟨S2x8x2064x1, .f32⟩ : BufTy).Contents (Elt F) → (⟨S_, .f32⟩ : BufTy).Contents (Elt F) → (⟨S2x8x2064, .f32⟩ : BufTy).Contents (Elt F)),
    StableHlo.unary main_v50 main_v51 (broadcastInDim S2x8x2064x2064 ![0, 1, 2] bcast_S2x8x2064_S2x8x2064x2064_0_1_2 : (⟨S2x8x2064, .f32⟩ : BufTy).Contents (Elt F) → (⟨S2x8x2064x2064, .f32⟩ : BufTy).Contents (Elt F)),
    StableHlo.binary main_v49 main_v51 main_v52 (addf : (⟨S2x8x2064x2064, .f32⟩ : BufTy).Contents (Elt F) → (⟨S2x8x2064x2064, .f32⟩ : BufTy).Contents (Elt F) → (⟨S2x8x2064x2064, .f32⟩ : BufTy).Contents (Elt F)),
    StableHlo.binary main_v52 main_v26 main_v53 (mulf : (⟨S2x8x2064x2064, .f32⟩ : BufTy).Contents (Elt F) → (⟨S2x8x2064x2064, .f32⟩ : BufTy).Contents (Elt F) → (⟨S2x8x2064x2064, .f32⟩ : BufTy).Contents (Elt F)),
    StableHlo.nullary main_cst_12 (constant S_ .f32 0x3DD105EC#32),
    StableHlo.unary main_cst_12 main_v54 (broadcastInDim S2x8x2064x2064 ![] bcast_S_S2x8x2064x2064 : (⟨S_, .f32⟩ : BufTy).Contents (Elt F) → (⟨S2x8x2064x2064, .f32⟩ : BufTy).Contents (Elt F)),
    StableHlo.binary main_v53 main_v54 main_v55 (mulf : (⟨S2x8x2064x2064, .f32⟩ : BufTy).Contents (Elt F) → (⟨S2x8x2064x2064, .f32⟩ : BufTy).Contents (Elt F) → (⟨S2x8x2064x2064, .f32⟩ : BufTy).Contents (Elt F)) ]

/-- The gradients of the queries and keys. -/
abbrev outOps : List (HloOp τ sig (Elt F)) :=
  [ StableHlo.unary main_v55 main_v56 ((transpose S2x2064x2064x8 [0, 3, 2, 1] · transposes_S2x8x2064x2064_S2x2064x2064x8_0_3_2_1) : (⟨S2x8x2064x2064, .f32⟩ : BufTy).Contents (Elt F) → (⟨S2x2064x2064x8, .f32⟩ : BufTy).Contents (Elt F)),
    StableHlo.binary main_v56 main_arg3 main_v57 ((fun l r => Host.dotGeneral dot_S2x2064x2064x8_S2x2064x32_S2x2064x8x32_1_1_23_2_0_0 none l r) : (⟨S2x2064x2064x8, .f32⟩ : BufTy).Contents (Elt F) → (⟨S2x2064x32, .f32⟩ : BufTy).Contents (Elt F) → (⟨S2x2064x8x32, .f32⟩ : BufTy).Contents (Elt F)),
    StableHlo.binary main_v56 main_arg1 main_v58 ((fun l r => Host.dotGeneral dot_S2x2064x2064x8_S2x2064x8x32_S2x2064x32_23_12_1_3_0_0 none l r) : (⟨S2x2064x2064x8, .f32⟩ : BufTy).Contents (Elt F) → (⟨S2x2064x8x32, .f32⟩ : BufTy).Contents (Elt F) → (⟨S2x2064x32, .f32⟩ : BufTy).Contents (Elt F)),
    StableHlo.binary main_v55 main_arg0 main_v59 ((fun l r => Host.dotGeneral dot_S2x8x2064x2064_S2x2064x8x64_S2x8x2064x64_2_1_3_3_01_02 none l r) : (⟨S2x8x2064x2064, .f32⟩ : BufTy).Contents (Elt F) → (⟨S2x2064x8x64, .f32⟩ : BufTy).Contents (Elt F) → (⟨S2x8x2064x64, .f32⟩ : BufTy).Contents (Elt F)),
    StableHlo.unary main_v59 main_v60 ((transpose S2x2064x8x64 [0, 2, 1, 3] · transposes_S2x8x2064x64_S2x2064x8x64_0_2_1_3) : (⟨S2x8x2064x64, .f32⟩ : BufTy).Contents (Elt F) → (⟨S2x2064x8x64, .f32⟩ : BufTy).Contents (Elt F)),
    StableHlo.binary main_v55 main_arg2 main_v61 ((fun l r => Host.dotGeneral dot_S2x8x2064x2064_S2x2064x8x64_S2x8x2064x64_3_1_2_3_01_02 none l r) : (⟨S2x8x2064x2064, .f32⟩ : BufTy).Contents (Elt F) → (⟨S2x2064x8x64, .f32⟩ : BufTy).Contents (Elt F) → (⟨S2x8x2064x64, .f32⟩ : BufTy).Contents (Elt F)),
    StableHlo.unary main_v61 main_v62 ((transpose S2x2064x8x64 [0, 2, 1, 3] · transposes_S2x8x2064x64_S2x2064x8x64_0_2_1_3) : (⟨S2x8x2064x64, .f32⟩ : BufTy).Contents (Elt F) → (⟨S2x2064x8x64, .f32⟩ : BufTy).Contents (Elt F)) ]

end

theorem main_seq (d : Dev nD) : StableHlo.IsSeq (main (F := Ideal) d) (logOps ++ (softOps ++ (gradOps ++ outOps))) := by
  have e : ∃ ops, StableHlo.IsSeq (main (F := Ideal) d) ops ∧ ops = logOps ++ (softOps ++ (gradOps ++ outOps)) :=
    ⟨_, by hlo_seq, by rfl⟩
  obtain ⟨_, h, rfl⟩ := e
  exact h

/-- The state after each stretch, from any contents. -/
abbrev Val0 := Valuation τ sig (Elt Ideal)
def logS (σ : Val0) : Val0 := StableHlo.after logOps σ
def softS (σ : Val0) : Val0 := StableHlo.after softOps σ
def gradS (σ : Val0) : Val0 := StableHlo.after gradOps σ
def outS (σ : Val0) : Val0 := StableHlo.after outOps σ

theorem after_all (σ : Val0) : StableHlo.after (logOps ++ (softOps ++ (gradOps ++ outOps))) σ = outS (gradS (softS (logS σ))) := rfl

end Cert.ReferenceIdeal.Gen

end
-- ==== Proof.Final.lean ====
/- The three gradient arrays after the run, and the blocks a grid step reads, at coordinates: batch row `b`, pair of heads `j`. -/
module

public import proofs.«01_k».proof.Proof.Region
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The grid step of batch row `b` and pair of heads `j`. -/
def pt (b : Fin 2) (j : Fin 4) : Fin cfg0.N := ⟨4 * b.val + j.val, by show _ < 8; omega⟩

/-- Every window's block at step `t` sits at batch row `t / 4`, pair `t % 4`. -/
theorem idx : ∀ t : Fin cfg0.N, (win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![t.val / 4, t.val % 4] ∧ win0_7.index t = ![t.val / 4, t.val % 4]
    ∧ win0_8.index t = ![t.val / 4, t.val % 4]) ∧ t.val < 8 :=
  (by decide +kernel : ∀ t : Fin grid0.N, _)

/-- Row `r` of batch row `b` in a packed array. -/
def rowAt (b : Fin 2) (r : Fin 2176) : Fin 4352 := ⟨2176 * b.val + r.val, by omega⟩
/-- Lane `x` of the pair `j` in a packed array of 256 lanes a pair, and of 128. -/
def laneAt (j : Fin 4) (x : Fin 256) : Fin 1024 := ⟨256 * j.val + x.val, by omega⟩
def laneAt' (j : Fin 4) (x : Fin 128) : Fin 512 := ⟨128 * j.val + x.val, by omega⟩

/-- An array made of one block a grid step. -/
def spread (f : Fin cfg0.N → Vec Ideal S2176x256 .f32) : Vec Ideal S4352x1024 .f32 := fun i =>
  f ⟨4 * ((i 0).val / 2176) + (i 1).val / 256, by
      have h0 : (i 0).val < 4352 := (i 0).isLt
      have h1 : (i 1).val < 1024 := (i 1).isLt
      show _ < 8
      omega⟩
    (ix2 ⟨(i 0).val % 2176, Nat.mod_lt _ (by decide)⟩ ⟨(i 1).val % 256, Nat.mod_lt _ (by decide)⟩)

theorem spread_at (f : Fin cfg0.N → Vec Ideal S2176x256 .f32) (b : Fin 2) (j : Fin 4) (r : Fin 2176) (x : Fin 256) :
    spread f (ix2 (rowAt b r) (laneAt j x)) = f (pt b j) (ix2 r x) := by
  unfold spread
  have e : ∀ {t t' : Fin cfg0.N} {r r' : Fin 2176} {x x' : Fin 256}, t = t' → r = r' → x = x' → f t (ix2 r x) = f t' (ix2 r' x') := by
    rintro _ _ _ _ _ _ rfl rfl rfl; rfl
  refine e (Fin.ext ?_) (Fin.ext ?_) (Fin.ext ?_)
  · show 4 * ((2176 * b.val + r.val) / 2176) + (256 * j.val + x.val) / 256 = 4 * b.val + j.val; omega
  · show (2176 * b.val + r.val) % 2176 = r.val; omega
  · show (256 * j.val + x.val) % 256 = x.val; omega

/-- A spread array, read where block `t` puts its row `r` and lane `x`. -/
theorem spread_of (f : Fin cfg0.N → Vec Ideal S2176x256 .f32) (t : Fin cfg0.N) (y : S2176x256.Idx) (i : S4352x1024.Idx)
    (h0 : (i 0).val = t.val / 4 * 2176 + (y 0).val) (h1 : (i 1).val = t.val % 4 * 256 + (y 1).val) : f t y = spread f i := by
  unfold spread
  have hy0 : (y 0).val < 2176 := (y 0).isLt
  have hy1 : (y 1).val < 256 := (y 1).isLt
  have ht : t.val < 8 := t.isLt
  have e : ∀ {t t' : Fin cfg0.N} {y y' : S2176x256.Idx}, t = t' → y = y' → f t y = f t' y' := by
    rintro _ _ _ _ rfl rfl; rfl
  refine e (Fin.ext ?_) (Cert.KernelIdeal.Gen.ix2_ext y ?_ ?_)
  · show t.val = 4 * ((i 0).val / 2176) + (i 1).val / 256; omega
  · show (y 0).val = (i 0).val % 2176; omega
  · show (y 1).val = (i 1).val % 256; omega

theorem arrQ (c : Dev nD) : (dats m 0 c).arrAt 6 (cfgs 0).N = spread (outQ m c) := by
  refine (dats m 0 c).arrAt_eq_of_covers 6 _ (by decide +kernel) fun t _ y => ?_
  blk_simp
  rw [after0_6]
  refine spread_of _ t y _ ?_ ?_
  · blk_simp [idx t]
  · blk_simp [idx t]

theorem arrK (c : Dev nD) : (dats m 0 c).arrAt 7 (cfgs 0).N = spread (outK m c) := by
  refine (dats m 0 c).arrAt_eq_of_covers 7 _ (by decide +kernel) fun t _ y => ?_
  blk_simp
  rw [after0_7]
  refine spread_of _ t y _ ?_ ?_
  · blk_simp [idx t]
  · blk_simp [idx t]

theorem arrV (c : Dev nD) : (dats m 0 c).arrAt 8 (cfgs 0).N = spread (outV m c) := by
  refine (dats m 0 c).arrAt_eq_of_covers 8 _ (by decide +kernel) fun t _ y => ?_
  blk_simp
  rw [after0_8]
  refine spread_of _ t y _ ?_ ?_
  · blk_simp [idx t]
  · blk_simp [idx t]

/-! ### The blocks a step reads -/

theorem blk0 (c : Dev nD) (b : Fin 2) (j : Fin 4) (r : Fin 2176) (x : Fin 256) :
    iblk m c 0 (pt b j) (ix2 r x) = V m c main_v40 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]
theorem blk1 (c : Dev nD) (b : Fin 2) (j : Fin 4) (r : Fin 2176) (x : Fin 256) :
    iblk m c 1 (pt b j) (ix2 r x) = V m c main_v59 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]
theorem blk2 (c : Dev nD) (b : Fin 2) (j : Fin 4) (r : Fin 2176) (x : Fin 256) :
    iblk m c 2 (pt b j) (ix2 r x) = V m c main_v68 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]
theorem blk3 (c : Dev nD) (b : Fin 2) (j : Fin 4) (r : Fin 2176) (x : Fin 128) :
    iblk m c 3 (pt b j) (ix2 r x) = V m c main_v82 (ix2 (rowAt b r) (laneAt' j x)) := by
  obtain ⟨t, e, ht⟩ : ∃ t, pt b j = t ∧ t.val = 4 * b.val + j.val := ⟨_, rfl, rfl⟩
  rw [e]
  blk_ext [iblk, idx t, rowAt, laneAt']
theorem blk4 (c : Dev nD) (b : Fin 2) (j : Fin 4) (r : Fin 2176) (x : Fin 128) :
    iblk m c 4 (pt b j) (ix2 r x) = V m c main_v87 (ix2 (rowAt b r) (laneAt' j x)) := by
  obtain ⟨t, e, ht⟩ : ∃ t, pt b j = t ∧ t.val = 4 * b.val + j.val := ⟨_, rfl, rfl⟩
  rw [e]
  blk_ext [iblk, idx t, rowAt, laneAt']
theorem blk5 (c : Dev nD) (b : Fin 2) (j : Fin 4) (r : Fin 2176) (x : Fin 128) :
    iblk m c 5 (pt b j) (ix2 r x) = V m c main_v76 (ix2 (rowAt b r) (laneAt' j x)) := by
  obtain ⟨t, e, ht⟩ : ∃ t, pt b j = t ∧ t.val = 4 * b.val + j.val := ⟨_, rfl, rfl⟩
  rw [e]
  blk_ext [iblk, idx t, rowAt, laneAt']

end Cert.KernelIdeal.Gen

end
-- ==== Proof.Packed.lean ====
/- What the host packs into the kernel's six input arrays, read at batch row `b`, packed row `r`, head `h`, lane `l`. -/
module

public import proofs.«01_k».proof.Proof.Final
public import Idealize.ShloMosaic.Lib.Pointwise
public import Idealize.ShloMosaic.Lib.IdealHost
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ)

/-- Lane `l` of head `h` in a packed row of 8 heads of 128 lanes. -/
def hl (h : Fin 8) (l : Fin 128) : Fin 1024 := ⟨128 * h.val + l.val, by omega⟩

/-- The packed order of the rows: natural rows 16 to 2063, then 0 to 15, then 112 rows of `fill`. -/
def rows {α : Type} (fill : α) (f : Fin 2064 → α) (r : Fin 2176) : α :=
  if h : r.val < 2048 then f ⟨16 + r.val, by omega⟩ else if h' : r.val - 2048 < 16 then f ⟨r.val - 2048, by omega⟩ else fill

theorem row_div (b : Fin 2) (r : Fin 2176) (p : (rowAt b r).val / 2176 < 2) : (⟨(rowAt b r).val / 2176, p⟩ : Fin 2) = b :=
  Fin.ext (by show (2176 * b.val + r.val) / 2176 = b.val; omega)
theorem row_mod (b : Fin 2) (r : Fin 2176) (p : (rowAt b r).val % 2176 < 2176) : (⟨(rowAt b r).val % 2176, p⟩ : Fin 2176) = r :=
  Fin.ext (by show (2176 * b.val + r.val) % 2176 = r.val; omega)
theorem hl_div (h : Fin 8) (l : Fin 128) (p : (hl h l).val / 128 < 8) : (⟨(hl h l).val / 128, p⟩ : Fin 8) = h :=
  Fin.ext (by show (128 * h.val + l.val) / 128 = h.val; omega)
theorem hl_mod (h : Fin 8) (l : Fin 128) (p : (hl h l).val % 128 < 128) : (⟨(hl h l).val % 128, p⟩ : Fin 128) = l :=
  Fin.ext (by show (128 * h.val + l.val) % 128 = l.val; omega)

theorem hl_mod_val (h : Fin 8) (l : Fin 128) : (hl h l).val % 128 = l.val := by
  show (128 * h.val + l.val) % 128 = l.val; omega
theorem row_mod_val (b : Fin 2) (r : Fin 2176) : (rowAt b r).val % 2176 = r.val := by
  show (2176 * b.val + r.val) % 2176 = r.val; omega
theorem lane_div (j : Fin 4) (x : Fin 128) (p : (laneAt' j x).val / 128 < 4) : (⟨(laneAt' j x).val / 128, p⟩ : Fin 4) = j :=
  Fin.ext (by show (128 * j.val + x.val) / 128 = j.val; omega)
theorem lane_mod_val (j : Fin 4) (x : Fin 128) : (laneAt' j x).val % 128 = x.val := by
  show (128 * j.val + x.val) % 128 = x.val; omega

/-! ### The forward values the host computes: logits, row maxima, weights before division, row sums -/

section Values
variable (a0 : FVec Ideal S2x2064x8x64 .f32) (a1 : FVec Ideal S2x2064x8x32 .f32) (a2 : FVec Ideal S2x2064x8x64 .f32)
  (a3 : FVec Ideal S2x2064x32 .f32) (a4 : FVec Ideal S2x2064x8x64 .f32) (a5 : FVec Ideal S2x2064x512 .f32)

/-- The scale 1/√96 as the literal both programs have. -/
def scl : EReal := Ideal.ofBits .f32 0x3DD105EC#32
/-- Minus infinity as the literal both programs have. -/
def ninf : EReal := Ideal.ofBits .f32 0xFF800000#32
/-- The logarithm of two as the host computes it. -/
def ln2 : EReal := Ideal.log (Ideal.ofBits .f32 0x40000000#32)
/-- Head `C / 64` and lane `C % 64` of a natural lane. -/
def hd (C : Fin 512) : Fin 8 := ⟨C.val / 64, by omega⟩
def ln (C : Fin 512) : Fin 64 := ⟨C.val % 64, Nat.mod_lt _ (by decide)⟩

def LG (b : Fin 2) (h : Fin 8) (q k : Fin 2064) : EReal :=
  ((∑ d : Fin 64, a0 (ix4 b q h d) * a2 (ix4 b k h d)) + ∑ e : Fin 32, a3 (ix3 b k e) * a1 (ix4 b q h e)) * scl
def MX (b : Fin 2) (h : Fin 8) (q : Fin 2064) : EReal := Finset.univ.fold max ninf fun k : Fin 2064 => LG a0 a1 a2 a3 b h q k
def EX (b : Fin 2) (h : Fin 8) (q k : Fin 2064) : EReal := Ideal.exp (LG a0 a1 a2 a3 b h q k - MX a0 a1 a2 a3 b h q)
def ZZ (b : Fin 2) (h : Fin 8) (q : Fin 2064) : EReal := ∑ k : Fin 2064, EX a0 a1 a2 a3 b h q k

/-! ### The six packed arrays -/

def qP (b : Fin 2) (r : Fin 2176) (h : Fin 8) (l : Fin 128) : EReal :=
  if p : l.val < 64 then rows 0 (fun q => a0 (ix4 b q h ⟨l.val, p⟩) * Ideal.div scl ln2) r
  else if p : l.val - 64 < 32 then rows 0 (fun q => a1 (ix4 b q h ⟨l.val - 64, p⟩) * Ideal.div scl ln2) r
  else if l.val - 64 - 32 < 1 then 1 else 0
def kP (b : Fin 2) (r : Fin 2176) (h : Fin 8) (l : Fin 128) : EReal :=
  if p : l.val < 64 then rows 0 (fun q => a2 (ix4 b q h ⟨l.val, p⟩)) r
  else if p : l.val - 64 < 32 then rows 0 (fun q => a3 (ix3 b q ⟨l.val - 64, p⟩)) r
  else if l.val - 64 - 32 < 1 then rows ninf (fun _ => 0) r else 0
def vP (b : Fin 2) (r : Fin 2176) (h : Fin 8) (l : Fin 128) : EReal :=
  if p : l.val < 64 then rows 0 (fun q => a4 (ix4 b q h ⟨l.val, p⟩)) r
  else if l.val - 64 < 2 then Ideal.ofBits .f32 0xBF800000#32 else 0
def oP (b : Fin 2) (r : Fin 2176) (C : Fin 512) : EReal :=
  rows 0 (fun q => ∑ k : Fin 2064, a4 (ix4 b k (hd C) (ln C)) * Ideal.div (EX a0 a1 a2 a3 b (hd C) q k) (ZZ a0 a1 a2 a3 b (hd C) q)) r
def dP (b : Fin 2) (r : Fin 2176) (C : Fin 512) : EReal := rows 0 (fun q => a5 (ix3 b q C)) r
def lP (b : Fin 2) (r : Fin 2176) (j : Fin 4) (x : Fin 128) : EReal :=
  if p : x.val < 2 then rows 0 (fun q => Ideal.div (MX a0 a1 a2 a3 b ⟨j.val * 2 + x.val, by omega⟩ q
    + Ideal.log (ZZ a0 a1 a2 a3 b ⟨j.val * 2 + x.val, by omega⟩ q)) ln2) r else 0

end Values

/-- A buffer at the region's entry is what the host's first line leaves there. -/
theorem V_line (c : Dev nD) (b : Ref sig .tc) : V m c b = StableHlo.after hostOps0 (fun b => m (c, b)) (Proc.devRef .tc b) := by
  show StableHlo.after (List.flatten [hostOps0]) _ _ = _
  rw [List.flatten_singleton]

theorem v40_at (c : Dev nD) (b : Fin 2) (r : Fin 2176) (h : Fin 8) (l : Fin 128) :
    (V m c main_v40 : Vec Ideal S4352x1024 .bf16) (ix2 (rowAt b r) (hl h l))
      = qP (m (c, Proc.devRef .tc main_arg0)) (m (c, Proc.devRef .tc main_arg1)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [qP, rows, scl, ninf, ln2]
  rfl

theorem v59_at (c : Dev nD) (b : Fin 2) (r : Fin 2176) (h : Fin 8) (l : Fin 128) :
    (V m c main_v59 : Vec Ideal S4352x1024 .bf16) (ix2 (rowAt b r) (hl h l))
      = kP (m (c, Proc.devRef .tc main_arg2)) (m (c, Proc.devRef .tc main_arg3)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [kP, rows, ninf]
  rfl

theorem v68_at (c : Dev nD) (b : Fin 2) (r : Fin 2176) (h : Fin 8) (l : Fin 128) :
    (V m c main_v68 : Vec Ideal S4352x1024 .bf16) (ix2 (rowAt b r) (hl h l))
      = vP (m (c, Proc.devRef .tc main_arg4)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [vP, rows]
  rfl

theorem v87_at (c : Dev nD) (b : Fin 2) (r : Fin 2176) (C : Fin 512) :
    (V m c main_v87 : Vec Ideal S4352x512 .f32) (ix2 (rowAt b r) C) = dP (m (c, Proc.devRef .tc main_arg5)) b r C := by
  rw [V_line]
  after_reads_simp
  simp only [Matrix.cons_val_zero, Matrix.cons_val_one, Matrix.cons_val]
  pointwise [row_div, row_mod_val]
  after_reads_simp
  pointwise [dP, rows]

theorem v82_at (c : Dev nD) (b : Fin 2) (r : Fin 2176) (C : Fin 512) :
    (V m c main_v82 : Vec Ideal S4352x512 .f32) (ix2 (rowAt b r) C)
      = oP (m (c, Proc.devRef .tc main_arg0)) (m (c, Proc.devRef .tc main_arg1)) (m (c, Proc.devRef .tc main_arg2))
          (m (c, Proc.devRef .tc main_arg3)) (m (c, Proc.devRef .tc main_arg4)) b r C := by
  rw [V_line]
  after_reads_simp
  simp only [Matrix.cons_val_zero, Matrix.cons_val_one, Matrix.cons_val]
  pointwise [row_div, row_mod_val]
  after_reads_simp
  pointwise [oP, rows, EX, ZZ, MX, LG, scl, ninf, hd, ln]

/-- A sum of two vectors, read at an index. -/
theorem add_read (x y : FVec Ideal S2x8x2064 .f32) (j : S2x8x2064.Idx) : addf x y j = x j + y j := by
  pointwise

theorem v76_at (c : Dev nD) (b : Fin 2) (r : Fin 2176) (j : Fin 4) (x : Fin 128) :
    (V m c main_v76 : Vec Ideal S4352x512 .f32) (ix2 (rowAt b r) (laneAt' j x))
      = lP (m (c, Proc.devRef .tc main_arg0)) (m (c, Proc.devRef .tc main_arg1)) (m (c, Proc.devRef .tc main_arg2))
          (m (c, Proc.devRef .tc main_arg3)) b r j x := by
  rw [V_line]
  after_reads_simp
  pointwise [row_div, row_mod, lane_div, lane_mod_val]
  after_reads_simp
  simp only [Matrix.cons_val_zero, Matrix.cons_val_one, Matrix.cons_val]
  pointwise
  after_reads_simp
  generalize hx : (addf (Host.reduce _ _ _ _ _) (Host.log _) : FVec Ideal S2x8x2064 .f32) = X
  have hX : ∀ (b : Fin 2) (h : Fin 8) (q : Fin 2064), X (ix3 b h q) = MX (m (c, Proc.devRef .tc main_arg0)) (m (c, Proc.devRef .tc main_arg1)) (m (c, Proc.devRef .tc main_arg2)) (m (c, Proc.devRef .tc main_arg3)) b h q + Ideal.log (ZZ (m (c, Proc.devRef .tc main_arg0)) (m (c, Proc.devRef .tc main_arg1)) (m (c, Proc.devRef .tc main_arg2)) (m (c, Proc.devRef .tc main_arg3)) b h q) := by
    intro b h q
    rw [← hx]
    refine (add_read _ _ _).trans (congrArg₂ (· + ·) ?_ ?_)
    · pointwise [MX, LG, ninf, scl]
    · pointwise [ZZ, EX, MX, LG, ninf, scl]
  clear hx
  pointwise [lP, rows, ln2, hX]

end Cert.KernelIdeal.Gen

end
-- ==== Proof.RefRead.lean ====
/- What the reference's stretches leave, read at an index as numbers. -/
module

public import proofs.«01_k».proof.Proof.RefLine
public import proofs.«01_k».proof.Proof.Packed

@[expose] public section

set_option maxRecDepth 16384

noncomputable section

namespace Cert.ReferenceIdeal.Gen

open Idealize.ShloMosaic Idealize.ShloMosaic.TcCoe Idealize.ShloMosaic.Tactic Idealize.SL.Sem
open Cert.KernelIdeal.Gen (LG MX ninf scl)

/-! ### The numbers each stretch computes, from the arrays it reads -/

section Values
variable (L : FVec Ideal S2x8x2064x2064 .f32) (M : FVec Ideal S2x8x2064 .f32) (a4 : FVec Ideal S2x2064x8x64 .f32) (a5 : FVec Ideal S2x2064x512 .f32)
  (E : FVec Ideal S2x8x2064x2064 .f32) (S : FVec Ideal S2x8x2064x1 .f32)

/-- The softmax's weight before division, from the logits `L` and the row maxima `M`. -/
def wtF (b : Fin 2) (h : Fin 8) (q k : Fin 2064) : EReal := Ideal.exp ((L (ix4 b h q k) : EReal) - max ninf (M (ix3 b h q)))
/-- The incoming gradient of head `h`, lane `d`. -/
def cth (b : Fin 2) (q : Fin 2064) (h : Fin 8) (d : Fin 64) : EReal := a5 (ix3 b q ⟨h.val * 64 + d.val, by omega⟩)
/-- The gradient of the attention weights. -/
def dwF (b : Fin 2) (h : Fin 8) (q k : Fin 2064) : EReal := ∑ d : Fin 64, cth a5 b q h d * a4 (ix4 b k h d)
/-- The gradient of the logits, from the undivided weights `E` and the row sums `S`. -/
def dlF (b : Fin 2) (h : Fin 8) (q k : Fin 2064) : EReal :=
  (Ideal.div (dwF a4 a5 b h q k) (S (ix4 b h q 0)) + ∑ z : Fin 1, -(∑ x : Fin 2064, dwF a4 a5 b h q x * Ideal.div (Ideal.ofBits .f32 0x3F800000#32) ((S (ix4 b h q 0) : EReal) * S (ix4 b h q 0)) * E (ix4 b h q x)))
    * E (ix4 b h q k) * scl

/-- The gradients of the queries and keys from the logits' gradient `D`. -/
def gqF (D : FVec Ideal S2x8x2064x2064 .f32) (a2 : FVec Ideal S2x2064x8x64 .f32) (b : Fin 2) (q : Fin 2064) (h : Fin 8) (d : Fin 64) : EReal :=
  ∑ k : Fin 2064, D (ix4 b h q k) * a2 (ix4 b k h d)
def grF (D : FVec Ideal S2x8x2064x2064 .f32) (a3 : FVec Ideal S2x2064x32 .f32) (b : Fin 2) (q : Fin 2064) (h : Fin 8) (e : Fin 32) : EReal :=
  ∑ k : Fin 2064, D (ix4 b h q k) * a3 (ix3 b k e)
def gkF (D : FVec Ideal S2x8x2064x2064 .f32) (a0 : FVec Ideal S2x2064x8x64 .f32) (b : Fin 2) (k : Fin 2064) (h : Fin 8) (d : Fin 64) : EReal :=
  ∑ q : Fin 2064, D (ix4 b h q k) * a0 (ix4 b q h d)
def gsF (D : FVec Ideal S2x8x2064x2064 .f32) (a1 : FVec Ideal S2x2064x8x32 .f32) (b : Fin 2) (k : Fin 2064) (e : Fin 32) : EReal :=
  ∑ q : Fin 2064, ∑ h : Fin 8, D (ix4 b h q k) * a1 (ix4 b q h e)
/-- The values' gradient from the divided weights `P`. -/
def gvF (P : FVec Ideal S2x8x2064x2064 .f32) (b : Fin 2) (k : Fin 2064) (h : Fin 8) (d : Fin 64) : EReal :=
  ∑ q : Fin 2064, cth a5 b q h d * P (ix4 b h q k)

end Values

variable (σ : Val0)

theorem v5_at (b : Fin 2) (h : Fin 8) (q k : Fin 2064) :
    (logS σ (Proc.devRef .tc main_v5) : FVec Ideal S2x8x2064x2064 .f32) (ix4 b h q k) = LG (σ (Proc.devRef .tc main_arg0)) (σ (Proc.devRef .tc main_arg1)) (σ (Proc.devRef .tc main_arg2)) (σ (Proc.devRef .tc main_arg3)) b h q k := by
  unfold logS
  after_reads_simp
  pointwise [LG, scl]

theorem v6_at (b : Fin 2) (h : Fin 8) (q : Fin 2064) :
    (logS σ (Proc.devRef .tc main_v6) : FVec Ideal S2x8x2064 .f32) (ix3 b h q) = MX (σ (Proc.devRef .tc main_arg0)) (σ (Proc.devRef .tc main_arg1)) (σ (Proc.devRef .tc main_arg2)) (σ (Proc.devRef .tc main_arg3)) b h q := by
  unfold logS
  after_reads_simp
  pointwise [MX, LG, ninf, scl]

theorem v26_at (b : Fin 2) (h : Fin 8) (q k : Fin 2064) :
    (softS σ (Proc.devRef .tc main_v26) : FVec Ideal S2x8x2064x2064 .f32) (ix4 b h q k) = wtF (σ (Proc.devRef .tc main_v5)) (σ (Proc.devRef .tc main_v6)) b h q k := by
  unfold softS
  after_reads_simp
  pointwise [wtF, ninf]

theorem v28_at (b : Fin 2) (h : Fin 8) (q : Fin 2064) (z : Fin 1) :
    (softS σ (Proc.devRef .tc main_v28) : FVec Ideal S2x8x2064x1 .f32) (ix4 b h q z) = (∑ k : Fin 2064, wtF (σ (Proc.devRef .tc main_v5)) (σ (Proc.devRef .tc main_v6)) b h q k : EReal) := by
  unfold softS
  after_reads_simp
  pointwise [wtF, ninf]

theorem v30_at (b : Fin 2) (h : Fin 8) (q k : Fin 2064) :
    (softS σ (Proc.devRef .tc main_v30) : FVec Ideal S2x8x2064x2064 .f32) (ix4 b h q k)
      = Ideal.div (wtF (σ (Proc.devRef .tc main_v5)) (σ (Proc.devRef .tc main_v6)) b h q k) (∑ k : Fin 2064, wtF (σ (Proc.devRef .tc main_v5)) (σ (Proc.devRef .tc main_v6)) b h q k) := by
  unfold softS
  after_reads_simp
  pointwise [wtF, ninf]

theorem v41_at (b : Fin 2) (k : Fin 2064) (h : Fin 8) (d : Fin 64) :
    (gradS σ (Proc.devRef .tc main_v41) : FVec Ideal S2x2064x8x64 .f32) (ix4 b k h d)
      = gvF (σ (Proc.devRef .tc main_arg5)) (σ (Proc.devRef .tc main_v30)) b k h d := by
  unfold gradS
  after_reads_simp
  pointwise [gvF, cth]

theorem v55_at (b : Fin 2) (h : Fin 8) (q k : Fin 2064) :
    (gradS σ (Proc.devRef .tc main_v55) : FVec Ideal S2x8x2064x2064 .f32) (ix4 b h q k)
      = dlF (σ (Proc.devRef .tc main_arg4)) (σ (Proc.devRef .tc main_arg5)) (σ (Proc.devRef .tc main_v26)) (σ (Proc.devRef .tc main_v28)) b h q k := by
  unfold gradS
  after_reads_simp
  pointwise [dlF, dwF, cth, scl]

/-! ### The gradients of the queries and keys -/

theorem v62_at (b : Fin 2) (q : Fin 2064) (h : Fin 8) (d : Fin 64) :
    (outS σ (Proc.devRef .tc main_v62) : FVec Ideal S2x2064x8x64 .f32) (ix4 b q h d)
      = gqF (σ (Proc.devRef .tc main_v55)) (σ (Proc.devRef .tc main_arg2)) b q h d := by
  unfold outS
  after_reads_simp
  pointwise [gqF]

theorem v57_at (b : Fin 2) (q : Fin 2064) (h : Fin 8) (e : Fin 32) :
    (outS σ (Proc.devRef .tc main_v57) : FVec Ideal S2x2064x8x32 .f32) (ix4 b q h e)
      = grF (σ (Proc.devRef .tc main_v55)) (σ (Proc.devRef .tc main_arg3)) b q h e := by
  unfold outS
  after_reads_simp
  pointwise [grF]

theorem v60_at (b : Fin 2) (k : Fin 2064) (h : Fin 8) (d : Fin 64) :
    (outS σ (Proc.devRef .tc main_v60) : FVec Ideal S2x2064x8x64 .f32) (ix4 b k h d)
      = gkF (σ (Proc.devRef .tc main_v55)) (σ (Proc.devRef .tc main_arg0)) b k h d := by
  unfold outS
  after_reads_simp
  pointwise [gkF]

theorem v58_at (b : Fin 2) (k : Fin 2064) (e : Fin 32) :
    (outS σ (Proc.devRef .tc main_v58) : FVec Ideal S2x2064x32 .f32) (ix3 b k e)
      = gsF (σ (Proc.devRef .tc main_v55)) (σ (Proc.devRef .tc main_arg1)) b k e := by
  unfold outS
  after_reads_simp
  pointwise [gsF]

end Cert.ReferenceIdeal.Gen

end
-- ==== Proof.Tail.lean ====
/- What the run leaves in the five results: the gradient arrays, unpacked by the host. -/
module

public import proofs.«01_k».proof.Proof.Packed

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- What the host's last line starts from: the region's arrays over what the first line left. -/
def mid (c : Dev nD) : Valuation τ sig (Elt Ideal) :=
  Pipeline.withArrays (cfgs 0).spec c (V0 m c) fun w => (dats m 0 c).arrAt w (cfgs 0).N

theorem tail_line (c : Dev nD) (b : Ref sig .tc) : Pipeline.afterTail₀ cfgs (dats m) 0 (V0 m) [hostOps1] c b
    = StableHlo.after hostOps1 (mid m c) (Proc.devRef .tc b) := by
  show StableHlo.after (List.flatten [hostOps1]) _ _ = _
  rw [List.flatten_singleton]
  rfl

theorem mid_Q (c : Dev nD) : (mid m c (Proc.devRef .tc main_v89_0) : Vec Ideal S4352x1024 .f32) = spread (outQ m c) :=
  (Pipeline.withArrays_arr spec0 launch0.win.arr_inj c (V0 m c) (fun w => (dats m 0 c).arrAt w (cfgs 0).N) 6).trans (arrQ m c)
theorem mid_K (c : Dev nD) : (mid m c (Proc.devRef .tc main_v89_1) : Vec Ideal S4352x1024 .f32) = spread (outK m c) :=
  (Pipeline.withArrays_arr spec0 launch0.win.arr_inj c (V0 m c) (fun w => (dats m 0 c).arrAt w (cfgs 0).N) 7).trans (arrK m c)
theorem mid_V (c : Dev nD) : (mid m c (Proc.devRef .tc main_v89_2) : Vec Ideal S4352x1024 .f32) = spread (outV m c) :=
  (Pipeline.withArrays_arr spec0 launch0.win.arr_inj c (V0 m c) (fun w => (dats m 0 c).arrAt w (cfgs 0).N) 8).trans (arrV m c)

/-- The packed row of natural row `q`, the pair of heads and the head in the pair of head `h`. -/
def pos (q : Fin 2064) : Fin 2176 := if p : q.val < 16 then ⟨2048 + q.val, by omega⟩ else ⟨q.val - 16, by omega⟩
def pair (h : Fin 8) : Fin 4 := ⟨h.val / 2, by omega⟩
def side (h : Fin 8) : Fin 2 := ⟨h.val % 2, by omega⟩

/-- What a block a grid step gives at batch row `b`, natural row `q`, head `h`, lane `l`. -/
def gat (f : Fin cfg0.N → Vec Ideal S2176x256 .f32) (b : Fin 2) (q : Fin 2064) (h : Fin 8) (l : Fin 128) : EReal :=
  f (pt b (pair h)) (ix2 (pos q) (Cert.KernelIdeal.Gen.col (side h) l))

theorem spread_gat (f : Fin cfg0.N → Vec Ideal S2176x256 .f32) (b : Fin 2) (q : Fin 2064) (h : Fin 8) (l : Fin 128) :
    spread f (ix2 (rowAt b (pos q)) (hl h l)) = gat f b q h l := by
  unfold gat
  rw [← spread_at f]
  congr 2
  refine Fin.ext ?_
  show 128 * h.val + l.val = 256 * (h.val / 2) + (128 * (h.val % 2) + l.val)
  omega

theorem pos_low (q : Fin 2064) (p : q.val < 16) : (pos q).val = 2048 + q.val := by unfold pos; rw [dif_pos p]
theorem pos_high (q : Fin 2064) (p : ¬ q.val < 16) : (pos q).val = q.val - 16 := by unfold pos; rw [dif_neg p]

/-- Where the host's unpacking of rows reads, for a natural row below 16 and one from 16 on. -/
theorem unpack_lo (b : Fin 2) (q : Fin 2064) (h : Fin 8) (l : Fin 128) (p : q.val < 16) (R : Fin 4352) (C : Fin 1024)
    (e : R.val = b.val * 2176 + (2048 + q.val)) (f : C.val = h.val * 128 + l.val) :
    (ix2 R C : S4352x1024.Idx) = ix2 (rowAt b (pos q)) (hl h l) :=
  congrArg₂ ix2 (Fin.ext (by show R.val = 2176 * b.val + (pos q).val; rw [pos_low q p]; omega))
    (Fin.ext (by show C.val = 128 * h.val + l.val; omega))
theorem unpack_hi (b : Fin 2) (q : Fin 2064) (h : Fin 8) (l : Fin 128) (p : ¬ q.val < 16) (R : Fin 4352) (C : Fin 1024)
    (e : R.val = b.val * 2176 + (q.val - 16)) (f : C.val = h.val * 128 + l.val) :
    (ix2 R C : S4352x1024.Idx) = ix2 (rowAt b (pos q)) (hl h l) :=
  congrArg₂ ix2 (Fin.ext (by show R.val = 2176 * b.val + (pos q).val; rw [pos_high q p]; omega))
    (Fin.ext (by show C.val = 128 * h.val + l.val; omega))

set_option maxHeartbeats 2000000 in
theorem v102_at (c : Dev nD) (b : Fin 2) (q : Fin 2064) (h : Fin 8) (l : Fin 64) :
    (Pipeline.afterTail₀ cfgs (dats m) 0 (V0 m) [hostOps1] c main_v102 : Vec Ideal S2x2064x8x64 .f32) (ix4 b q h l) = gat (outQ m c) b q h ⟨l.val, by omega⟩ := by
  rw [tail_line, ← spread_gat, ← mid_Q]
  after_reads_simp
  pointwise
  after_reads_simp
  generalize mid m c (Proc.devRef .tc main_v89_0) = X
  pointwise
  by_cases p : q.val < 16
  · exact (dif_pos p).trans (congrArg X (unpack_lo b q h ⟨l.val, by omega⟩ p _ _ rfl rfl))
  · exact (dif_neg p).trans (congrArg X (unpack_hi b q h ⟨l.val, by omega⟩ p _ _ rfl rfl))

set_option maxHeartbeats 2000000 in
theorem v104_at (c : Dev nD) (b : Fin 2) (q : Fin 2064) (h : Fin 8) (l : Fin 64) :
    (Pipeline.afterTail₀ cfgs (dats m) 0 (V0 m) [hostOps1] c main_v104 : Vec Ideal S2x2064x8x64 .f32) (ix4 b q h l) = gat (outK m c) b q h ⟨l.val, by omega⟩ := by
  rw [tail_line, ← spread_gat, ← mid_K]
  after_reads_simp
  pointwise
  after_reads_simp
  generalize mid m c (Proc.devRef .tc main_v89_1) = X
  pointwise
  by_cases p : q.val < 16
  · exact (dif_pos p).trans (congrArg X (unpack_lo b q h ⟨l.val, by omega⟩ p _ _ rfl rfl))
  · exact (dif_neg p).trans (congrArg X (unpack_hi b q h ⟨l.val, by omega⟩ p _ _ rfl rfl))

set_option maxHeartbeats 2000000 in
theorem v107_at (c : Dev nD) (b : Fin 2) (q : Fin 2064) (h : Fin 8) (l : Fin 64) :
    (Pipeline.afterTail₀ cfgs (dats m) 0 (V0 m) [hostOps1] c main_v107 : Vec Ideal S2x2064x8x64 .f32) (ix4 b q h l) = gat (outV m c) b q h ⟨l.val, by omega⟩ := by
  rw [tail_line, ← spread_gat, ← mid_V]
  after_reads_simp
  pointwise
  after_reads_simp
  generalize mid m c (Proc.devRef .tc main_v89_2) = X
  pointwise
  by_cases p : q.val < 16
  · exact (dif_pos p).trans (congrArg X (unpack_lo b q h ⟨l.val, by omega⟩ p _ _ rfl rfl))
  · exact (dif_neg p).trans (congrArg X (unpack_hi b q h ⟨l.val, by omega⟩ p _ _ rfl rfl))

set_option maxHeartbeats 2000000 in
theorem v103_at (c : Dev nD) (b : Fin 2) (q : Fin 2064) (h : Fin 8) (l : Fin 32) :
    (Pipeline.afterTail₀ cfgs (dats m) 0 (V0 m) [hostOps1] c main_v103 : Vec Ideal S2x2064x8x32 .f32) (ix4 b q h l) = gat (outQ m c) b q h ⟨64 + l.val, by omega⟩ := by
  rw [tail_line, ← spread_gat, ← mid_Q]
  after_reads_simp
  pointwise
  after_reads_simp
  generalize mid m c (Proc.devRef .tc main_v89_0) = X
  pointwise
  by_cases p : q.val < 16
  · exact (dif_pos p).trans (congrArg X (unpack_lo b q h ⟨64 + l.val, by omega⟩ p _ _ rfl rfl))
  · exact (dif_neg p).trans (congrArg X (unpack_hi b q h ⟨64 + l.val, by omega⟩ p _ _ rfl rfl))

set_option maxHeartbeats 2000000 in
theorem v106_at (c : Dev nD) (b : Fin 2) (q : Fin 2064) (l : Fin 32) :
    (Pipeline.afterTail₀ cfgs (dats m) 0 (V0 m) [hostOps1] c main_v106 : Vec Ideal S2x2064x32 .f32) (ix3 b q l) = ∑ h : Fin 8, gat (outK m c) b q h ⟨64 + l.val, by omega⟩ := by
  have e : ∀ h : Fin 8, gat (outK m c) b q h ⟨64 + l.val, by omega⟩ = (mid m c (Proc.devRef .tc main_v89_1) : Vec Ideal S4352x1024 .f32) (ix2 (rowAt b (pos q)) (hl h ⟨64 + l.val, by omega⟩)) :=
    fun h => ((congrFun (mid_K m c) _).trans (spread_gat _ b q h ⟨64 + l.val, by omega⟩)).symm
  rw [tail_line]
  simp only [e]
  clear e
  after_reads_simp
  pointwise
  after_reads_simp
  generalize mid m c (Proc.devRef .tc main_v89_1) = X
  pointwise
  by_cases p : q.val < 16
  · simp only [dif_pos p]
    exact Finset.sum_congr (M := EReal) rfl fun h _ => congrArg X (unpack_lo b q h ⟨64 + l.val, by omega⟩ p _ _ rfl rfl)
  · simp only [dif_neg p]
    exact Finset.sum_congr (M := EReal) rfl fun h _ => congrArg X (unpack_hi b q h ⟨64 + l.val, by omega⟩ p _ _ rfl rfl)

end Cert.KernelIdeal.Gen

end
-- ==== Proof.Heads.lean ====
/- The kernel's three gradients at a natural row, head and lane, over the packed arrays of that head; and the packed
   arrays at the natural rows and at the padding rows. -/
module

public import proofs.«01_k».proof.Proof.Tail

@[expose] public section

set_option maxRecDepth 16384

noncomputable section

namespace Cert.KernelIdeal.Gen

open Idealize.ShloMosaic Idealize.ShloMosaic.TcCoe Idealize.ShloMosaic.Tactic Idealize.SL.Sem
open Cert.Mla

section Values
variable (a0 : FVec Ideal S2x2064x8x64 .f32) (a1 : FVec Ideal S2x2064x8x32 .f32) (a2 : FVec Ideal S2x2064x8x64 .f32)
  (a3 : FVec Ideal S2x2064x32 .f32) (a4 : FVec Ideal S2x2064x8x64 .f32) (a5 : FVec Ideal S2x2064x512 .f32)

/-- The probability of packed key row `k` for packed query row `r` in head `h`. -/
def hP (b : Fin 2) (h : Fin 8) (r k : Fin 2176) : EReal :=
  prob (lP a0 a1 a2 a3 b r (pair h) (low (side h))) (fun y => qP a0 a1 b r h y) (fun y => kP a2 a3 b k h y)
/-- The cotangent row of packed query row `r`. -/
def hX (b : Fin 2) (h : Fin 8) (r : Fin 2176) (l : Fin 128) : EReal :=
  domx (side h) (fun y => dP a5 b r (laneAt' (pair h) y)) (fun y => oP a0 a1 a2 a3 a4 b r (laneAt' (pair h) y)) l
/-- The gradient of one packed logit. -/
def hS (b : Fin 2) (h : Fin 8) (r k : Fin 2176) : EReal :=
  hP a0 a1 a2 a3 b h r k * ∑ y : Fin 128, hX a0 a1 a2 a3 a4 a5 b h r y * vP a4 b k h y
end Values

variable (m : (ℓ : Loc nD τ sig) → Buf (Elt Ideal) ℓ)

theorem lane_hl (h : Fin 8) (l : Fin 128) : laneAt (pair h) (Cert.KernelIdeal.Gen.col (side h) l) = hl h l :=
  Fin.ext (by show 256 * (h.val / 2) + (128 * (h.val % 2) + l.val) = 128 * h.val + l.val; omega)
theorem headOf_col (s : Fin 2) (l : Fin 128) : headOf (Cert.KernelIdeal.Gen.col s l) = s :=
  Fin.ext (by show (128 * s.val + l.val) / 128 = s.val; omega)
theorem laneOf_col (s : Fin 2) (l : Fin 128) : laneOf (Cert.KernelIdeal.Gen.col s l) = l :=
  Fin.ext (by show (128 * s.val + l.val) % 128 = l.val; omega)

theorem in0 (c : Dev nD) (b : Fin 2) (h : Fin 8) (r : Fin 2176) (l : Fin 128) :
    iblk m c 0 (pt b (pair h)) (ix2 r (Cert.KernelIdeal.Gen.col (side h) l)) = qP (m (c, Proc.devRef .tc main_arg0)) (m (c, Proc.devRef .tc main_arg1)) b r h l := by
  rw [blk0, lane_hl]; exact v40_at m c b r h l
theorem in1 (c : Dev nD) (b : Fin 2) (h : Fin 8) (r : Fin 2176) (l : Fin 128) :
    iblk m c 1 (pt b (pair h)) (ix2 r (Cert.KernelIdeal.Gen.col (side h) l)) = kP (m (c, Proc.devRef .tc main_arg2)) (m (c, Proc.devRef .tc main_arg3)) b r h l := by
  rw [blk1, lane_hl]; exact v59_at m c b r h l
theorem in2 (c : Dev nD) (b : Fin 2) (h : Fin 8) (r : Fin 2176) (l : Fin 128) :
    iblk m c 2 (pt b (pair h)) (ix2 r (Cert.KernelIdeal.Gen.col (side h) l)) = vP (m (c, Proc.devRef .tc main_arg4)) b r h l := by
  rw [blk2, lane_hl]; exact v68_at m c b r h l
theorem in3 (c : Dev nD) (b : Fin 2) (j : Fin 4) (r : Fin 2176) (l : Fin 128) :
    iblk m c 3 (pt b j) (ix2 r l) = oP (m (c, Proc.devRef .tc main_arg0)) (m (c, Proc.devRef .tc main_arg1)) (m (c, Proc.devRef .tc main_arg2)) (m (c, Proc.devRef .tc main_arg3)) (m (c, Proc.devRef .tc main_arg4)) b r (laneAt' j l) := by
  rw [blk3]; exact v82_at m c b r _
theorem in4 (c : Dev nD) (b : Fin 2) (j : Fin 4) (r : Fin 2176) (l : Fin 128) :
    iblk m c 4 (pt b j) (ix2 r l) = dP (m (c, Proc.devRef .tc main_arg5)) b r (laneAt' j l) := by
  rw [blk4]; exact v87_at m c b r _
theorem in5 (c : Dev nD) (b : Fin 2) (j : Fin 4) (r : Fin 2176) (l : Fin 128) :
    iblk m c 5 (pt b j) (ix2 r l) = lP (m (c, Proc.devRef .tc main_arg0)) (m (c, Proc.devRef .tc main_arg1)) (m (c, Proc.devRef .tc main_arg2)) (m (c, Proc.devRef .tc main_arg3)) b r j l := by
  rw [blk5]; exact v76_at m c b r j l

theorem pP_head (c : Dev nD) (b : Fin 2) (h : Fin 8) (r k : Fin 2176) :
    pP (iblk m c 0 (pt b (pair h))) (iblk m c 1 (pt b (pair h))) (iblk m c 5 (pt b (pair h))) (side h) r k
      = hP (m (c, Proc.devRef .tc main_arg0)) (m (c, Proc.devRef .tc main_arg1)) (m (c, Proc.devRef .tc main_arg2)) (m (c, Proc.devRef .tc main_arg3)) b h r k := by
  unfold pP hP
  rw [in5 m c b (pair h) r (low (side h))]
  exact congrArg₂ (prob _) (funext fun y => in0 m c b h r y) (funext fun y => in1 m c b h k y)

theorem pX_head (c : Dev nD) (b : Fin 2) (h : Fin 8) (r : Fin 2176) (l : Fin 128) :
    pX (iblk m c 3 (pt b (pair h))) (iblk m c 4 (pt b (pair h))) (side h) r l
      = hX (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) b h r l := by
  unfold pX hX
  exact congrArg₂ (fun d o => domx (side h) d o l) (funext fun y => in4 m c b (pair h) r y) (funext fun y => in3 m c b (pair h) r y)

theorem pS_head (c : Dev nD) (b : Fin 2) (h : Fin 8) (r k : Fin 2176) :
    pS (iblk m c 0 (pt b (pair h))) (iblk m c 1 (pt b (pair h))) (iblk m c 2 (pt b (pair h))) (iblk m c 3 (pt b (pair h))) (iblk m c 4 (pt b (pair h))) (iblk m c 5 (pt b (pair h))) (side h) r k
      = hS (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) b h r k := by
  unfold pS hS
  rw [pP_head]
  exact congrArg (_ * ·) (Finset.sum_congr (M := EReal) rfl fun y _ => congrArg₂ (fun u w : EReal => u * w) (pX_head m c b h r y) (in2 m c b h k y))

theorem gat_Q (c : Dev nD) (b : Fin 2) (q : Fin 2064) (h : Fin 8) (l : Fin 128) :
    gat (outQ m c) b q h l = (∑ k : Fin 2176, hS (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) b h (pos q) k
      * kP (m (c, Proc.devRef .tc main_arg2)) (m (c, Proc.devRef .tc main_arg3)) b k h l) * scl := by
  unfold gat outQ gQ
  show (∑ k : Fin 2176, pS _ _ _ _ _ _ (headOf (Cert.KernelIdeal.Gen.col (side h) l)) (pos q) k * _) * _ = _
  rw [headOf_col]
  exact congrArg (· * scl) (Finset.sum_congr (M := EReal) rfl fun k _ => congrArg₂ (fun u w : EReal => u * w) (pS_head m c b h (pos q) k) (in1 m c b h k l))

theorem gat_K (c : Dev nD) (b : Fin 2) (k : Fin 2064) (h : Fin 8) (l : Fin 128) :
    gat (outK m c) b k h l = (∑ r : Fin 2176, hS (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) b h r (pos k)
      * qP (m (c, Proc.devRef .tc main_arg0)) (m (c, Proc.devRef .tc main_arg1)) b r h l) * ((Real.log 2 : ℝ) : EReal) := by
  unfold gat outK gK tK
  show (∑ r : Fin 2176, pS _ _ _ _ _ _ (headOf (Cert.KernelIdeal.Gen.col (side h) l)) r (pos k) * _) * _ = _
  rw [headOf_col]
  exact congrArg (· * ((Real.log 2 : ℝ) : EReal)) (Finset.sum_congr (M := EReal) rfl fun r _ => congrArg₂ (fun u w : EReal => u * w) (pS_head m c b h r (pos k)) (in0 m c b h r l))

theorem gat_V (c : Dev nD) (b : Fin 2) (k : Fin 2064) (h : Fin 8) (l : Fin 128) :
    gat (outV m c) b k h l = ∑ r : Fin 2176, hP (m (c, Proc.devRef .tc main_arg0)) (m (c, Proc.devRef .tc main_arg1)) (m (c, Proc.devRef .tc main_arg2)) (m (c, Proc.devRef .tc main_arg3)) b h r (pos k)
      * hX (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) b h r l := by
  unfold gat outV gV tV
  show (∑ r : Fin 2176, pP _ _ _ (headOf (Cert.KernelIdeal.Gen.col (side h) l)) r (pos k) * pX _ _ (headOf (Cert.KernelIdeal.Gen.col (side h) l)) r (laneOf (Cert.KernelIdeal.Gen.col (side h) l))) = _
  rw [headOf_col, laneOf_col]
  exact Finset.sum_congr (M := EReal) rfl fun r _ => congrArg₂ (fun u w : EReal => u * w) (pP_head m c b h r (pos k)) (pX_head m c b h r l)

/-! ### Natural rows and padding rows -/

theorem rows_pos {α : Type} (z : α) (f : Fin 2064 → α) (q : Fin 2064) : rows z f (pos q) = f q := by
  unfold rows
  by_cases p : q.val < 16
  · have e := pos_low q p
    rw [dif_neg (by omega), dif_pos (by omega)]
    exact congrArg f (Fin.ext (by show (pos q).val - 2048 = q.val; omega))
  · have e := pos_high q p
    rw [dif_pos (by omega)]
    exact congrArg f (Fin.ext (by show 16 + (pos q).val = q.val; omega))

theorem rows_pad {α : Type} (z : α) (f : Fin 2064 → α) (r : Fin 2176) (h : 2064 ≤ r.val) : rows z f r = z := by
  unfold rows
  rw [dif_neg (by omega), dif_neg (by omega)]

theorem pos_inj : Function.Injective pos := by
  intro q q' e
  have e := congrArg Fin.val e
  by_cases p : q.val < 16 <;> by_cases p' : q'.val < 16
  · rw [pos_low q p, pos_low q' p'] at e; exact Fin.ext (by omega)
  · rw [pos_low q p, pos_high q' p'] at e; exact absurd e (by omega)
  · rw [pos_high q p, pos_low q' p'] at e; exact absurd e (by omega)
  · rw [pos_high q p, pos_high q' p'] at e; exact Fin.ext (by omega)

/-- A sum over the packed rows whose padding rows vanish is the sum over the natural rows. -/
theorem sum_packed (f : Fin 2176 → EReal) (h : ∀ r : Fin 2176, 2064 ≤ r.val → f r = 0) : (∑ r : Fin 2176, f r) = ∑ q : Fin 2064, f (pos q) := by
  refine (Fintype.sum_of_injective pos pos_inj (fun q => f (pos q)) f (fun r hr => h r ?_) (fun _ => rfl)).symm
  by_contra hlt
  refine hr ?_
  by_cases p : r.val < 2048
  · refine ⟨⟨r.val + 16, by omega⟩, Fin.ext ?_⟩
    rw [pos_high _ (by show ¬ r.val + 16 < 16; omega)]
    show r.val + 16 - 16 = r.val; omega
  · refine ⟨⟨r.val - 2048, by omega⟩, Fin.ext ?_⟩
    rw [pos_low _ (by show r.val - 2048 < 16; omega)]
    show 2048 + (r.val - 2048) = r.val; omega

/-- A sum over 128 lanes in four pieces: 64 lanes, 32 lanes, one lane, 31 lanes. -/
theorem sum_lanes (f : Fin 128 → EReal) : (∑ y : Fin 128, f y) = (∑ d : Fin 64, f ⟨d.val, by omega⟩) + ((∑ e : Fin 32, f ⟨64 + e.val, by omega⟩) + (f ⟨96, by omega⟩ + ∑ z : Fin 31, f ⟨97 + z.val, by omega⟩)) := by
  rw [Fin.sum_univ_two_halves 64 64 (by norm_num), Fin.sum_univ_two_halves 32 32 (by norm_num) (fun k : Fin 64 => f ⟨64 + k.val, by omega⟩),
    Fin.sum_univ_two_halves 1 31 (by norm_num) (fun k : Fin 32 => f ⟨64 + (32 + k.val), by omega⟩), Fin.sum_univ_one]
  refine congrArg₂ (· + ·) rfl (congrArg₂ (· + ·) rfl (congrArg₂ (· + ·) rfl (Finset.sum_congr rfl fun z _ => congrArg f (Fin.ext ?_))))
  show 64 + (32 + (1 + z.val)) = 97 + z.val
  omega

/-- A sum over 128 lanes in four pieces: 64 lanes, two single lanes, 62 lanes. -/
theorem sum_lanes' (f : Fin 128 → EReal) : (∑ y : Fin 128, f y) = (∑ d : Fin 64, f ⟨d.val, by omega⟩) + (f ⟨64, by omega⟩ + (f ⟨65, by omega⟩ + ∑ z : Fin 62, f ⟨66 + z.val, by omega⟩)) := by
  rw [Fin.sum_univ_two_halves 64 64 (by norm_num), Fin.sum_univ_two_halves 1 63 (by norm_num) (fun k : Fin 64 => f ⟨64 + k.val, by omega⟩), Fin.sum_univ_one,
    Fin.sum_univ_two_halves 1 62 (by norm_num) (fun k : Fin 63 => f ⟨64 + (1 + k.val), by omega⟩), Fin.sum_univ_one]
  refine congrArg₂ (· + ·) rfl (congrArg₂ (· + ·) rfl (congrArg₂ (· + ·) rfl (Finset.sum_congr rfl fun z _ => congrArg f (Fin.ext ?_))))
  show 64 + (1 + (1 + z.val)) = 66 + z.val
  omega

end Cert.KernelIdeal.Gen

end
-- ==== Proof.Real.lean ====
/- The real-number mathematics of the attention's backward pass at one batch row and head: the probabilities by powers
   of two of scaled products are the softmax's, and both forms of the logits' gradient are one number. -/
module

public import Idealize.ShloMosaic.PureOps.Ideal
public import Idealize.ShloMosaic.Lib.IdealHost
public import Idealize.ShloMosaic.Lib.Pointwise

@[expose] public section

noncomputable section

namespace Cert.Mla

open Idealize.ShloMosaic

/-! ### Sums and maxima of real numbers among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_coe {n : ℕ} (f : Fin (n + 1) → ℝ) : ∃ M : ℝ, Finset.univ.fold max (⊥ : EReal) (fun k => (f k : EReal)) = (M : EReal) := by
  classical
  have key : ∀ s : Finset (Fin (n + 1)), s = ∅ ∨ ∃ M : ℝ, s.fold max (⊥ : EReal) (fun k => (f k : EReal)) = (M : EReal) := by
    intro s
    induction s using Finset.induction_on with
    | empty => exact Or.inl rfl
    | insert a s ha ih =>
      refine Or.inr ?_
      rw [Finset.fold_insert ha]
      rcases ih with e | ⟨M, e⟩
      · subst e; exact ⟨f a, by simp⟩
      · rw [e]; exact ⟨max (f a) M, by rw [EReal.coe_strictMono.monotone.map_max]⟩
  rcases key Finset.univ with e | e
  · exact absurd e (Finset.univ_nonempty.ne_empty)
  · exact e

theorem div_real (x : ℝ) {y : ℝ} (h : y ≠ 0) : Ideal.div (x : EReal) (y : EReal) = ((x / y : ℝ) : EReal) := by
  rw [Ideal.div_coe h, ← EReal.coe_mul, mul_one_div]

/-! ### The softmax and its gradient -/

section
variable {n : ℕ} (L : Fin n → ℝ) (M : ℝ) (dp : Fin n → ℝ)

/-- The sum of the weights of a row of logits `L` against the reference point `M`. -/
def zsum : ℝ := ∑ k, Real.exp (L k - M)
/-- The softmax of the row. -/
def soft (k : Fin n) : ℝ := Real.exp (L k - M) / zsum L M
/-- The gradient of logit `k` when the weights' gradient is `dp`. -/
def dlog (k : Fin n) : ℝ := soft L M k * (dp k - ∑ x, soft L M x * dp x)

theorem zsum_pos (k : Fin n) : 0 < zsum L M :=
  Finset.sum_pos (fun _ _ => Real.exp_pos _) ⟨k, Finset.mem_univ k⟩

/-- A power of two of the scaled logit less the saved logarithm is the softmax. -/
theorem pow_soft (k : Fin n) (s : ℝ) (hs : s * Real.log 2 = L k) :
    Real.rpow 2 (s - (M + Real.log (zsum L M)) / Real.log 2) = soft L M k := by
  have h2 : Real.log 2 ≠ 0 := (Real.log_pos (by norm_num)).ne'
  have hz := zsum_pos L M k
  show (2 : ℝ) ^ (s - (M + Real.log (zsum L M)) / Real.log 2) = _
  rw [Real.rpow_def_of_pos (by norm_num : (0 : ℝ) < 2)]
  have e : Real.log 2 * (s - (M + Real.log (zsum L M)) / Real.log 2) = (L k - M) - Real.log (zsum L M) := by
    rw [← hs]; field_simp; ring
  rw [e, Real.exp_sub, Real.exp_log hz]
  rfl

/-- The derivative of division as the reference spells it. -/
theorem dlog_ref (k : Fin n) (c : ℝ) :
    (dp k / zsum L M + -(∑ x, dp x * (1 / (zsum L M * zsum L M)) * Real.exp (L x - M))) * Real.exp (L k - M) * c = dlog L M dp k * c := by
  have hz := (zsum_pos L M k).ne'
  have e : (∑ x, dp x * (1 / (zsum L M * zsum L M)) * Real.exp (L x - M)) = (∑ x, soft L M x * dp x) / zsum L M := by
    rw [Finset.sum_div]
    refine Finset.sum_congr rfl fun x _ => ?_
    unfold soft; field_simp
  rw [e]
  unfold dlog
  rw [show soft L M k = Real.exp (L k - M) / zsum L M from rfl]
  field_simp
  ring

end

end Cert.Mla

end
-- ==== Proof.Lift.lean ====
/- The kernel's gradients as real numbers, when every argument's element is a real number. -/
module

public import proofs.«01_k».proof.Proof.Heads
public import proofs.«01_k».proof.Proof.Real

@[expose] public section

set_option maxRecDepth 16384

noncomputable section

namespace Cert.KernelIdeal.Gen

open Idealize.ShloMosaic Idealize.ShloMosaic.TcCoe Idealize.ShloMosaic.Tactic Idealize.SL.Sem
open Cert.Mla

/-! ### The literals -/

theorem ninf_eq : ninf = ⊥ := by unfold ninf; simp [Ideal.ofBits, Ideal.ieee]
theorem scl_real : ∃ c : ℝ, scl = (c : EReal) := by
  unfold scl Ideal.ofBits
  simp only [Ideal.ieee]
  rw [if_neg (by decide), if_neg (by decide)]
  exact ⟨_, rfl⟩
theorem ln2_eq : ln2 = ((Real.log 2 : ℝ) : EReal) := by
  have e : Ideal.ofBits .f32 0x40000000#32 = ((2 : ℝ) : EReal) := by
    simp [Ideal.ofBits, Ideal.ieee, ← EReal.coe_mul]; norm_num
  unfold ln2
  rw [e, Ideal.log_coe, if_neg (by norm_num)]
theorem neg_one_eq : Ideal.ofBits .f32 0xBF800000#32 = ((-1 : ℝ) : EReal) := by
  simp [Ideal.ofBits, Ideal.ieee, ← EReal.coe_mul]; norm_num

/-- Lane `d` of head `h` in a natural row of the output. -/
def lane (h : Fin 8) (d : Fin 64) : Fin 512 := ⟨h.val * 64 + d.val, by omega⟩

/-! ### The real arrays -/

section Reals
variable (r0 : Fin 2 → Fin 2064 → Fin 8 → Fin 64 → ℝ) (r1 : Fin 2 → Fin 2064 → Fin 8 → Fin 32 → ℝ) (r2 : Fin 2 → Fin 2064 → Fin 8 → Fin 64 → ℝ)
  (r3 : Fin 2 → Fin 2064 → Fin 32 → ℝ) (r4 : Fin 2 → Fin 2064 → Fin 8 → Fin 64 → ℝ) (r5 : Fin 2 → Fin 2064 → Fin 512 → ℝ)
  (c : ℝ) (M : Fin 2 → Fin 8 → Fin 2064 → ℝ)

/-- The logits. -/
def lgR (b : Fin 2) (h : Fin 8) (q k : Fin 2064) : ℝ := ((∑ d : Fin 64, r0 b q h d * r2 b k h d) + ∑ e : Fin 32, r3 b k e * r1 b q h e) * c
/-- The gradient of the attention weights. -/
def dpR (b : Fin 2) (h : Fin 8) (q k : Fin 2064) : ℝ := ∑ d : Fin 64, r5 b q (lane h d) * r4 b k h d
/-- The attention weights. -/
def pR (b : Fin 2) (h : Fin 8) (q k : Fin 2064) : ℝ := soft (lgR r0 r1 r2 r3 c b h q) (M b h q) k
/-- The gradient of the logits. -/
def dR (b : Fin 2) (h : Fin 8) (q k : Fin 2064) : ℝ := dlog (lgR r0 r1 r2 r3 c b h q) (M b h q) (dpR r4 r5 b h q) k

variable {r0 r1 r2 r3 r4 r5 c M}
variable {a0 : FVec Ideal S2x2064x8x64 .f32} {a1 : FVec Ideal S2x2064x8x32 .f32} {a2 : FVec Ideal S2x2064x8x64 .f32}
  {a3 : FVec Ideal S2x2064x32 .f32} {a4 : FVec Ideal S2x2064x8x64 .f32} {a5 : FVec Ideal S2x2064x512 .f32}
  (h0 : ∀ b q h d, (a0 (ix4 b q h d) : EReal) = (r0 b q h d : EReal)) (h1 : ∀ b q h d, (a1 (ix4 b q h d) : EReal) = (r1 b q h d : EReal))
  (h2 : ∀ b q h d, (a2 (ix4 b q h d) : EReal) = (r2 b q h d : EReal)) (h3 : ∀ b q e, (a3 (ix3 b q e) : EReal) = (r3 b q e : EReal))
  (h4 : ∀ b q h d, (a4 (ix4 b q h d) : EReal) = (r4 b q h d : EReal)) (h5 : ∀ b q C, (a5 (ix3 b q C) : EReal) = (r5 b q C : EReal))
  (hc : scl = (c : EReal)) (hM : ∀ b h q, MX a0 a1 a2 a3 b h q = (M b h q : EReal))

include h0 h1 h2 h3 hc in
theorem LG_real (b : Fin 2) (h : Fin 8) (q k : Fin 2064) : LG a0 a1 a2 a3 b h q k = (lgR r0 r1 r2 r3 c b h q k : EReal) := by
  unfold LG lgR
  simp only [h0, h1, h2, h3, hc, EReal.coe_mul, EReal.coe_add, coe_sum]

include h0 h1 h2 h3 hc in
theorem MX_real : ∃ M : Fin 2 → Fin 8 → Fin 2064 → ℝ, ∀ b h q, MX a0 a1 a2 a3 b h q = (M b h q : EReal) := by
  have e : ∀ b h q, ∃ M : ℝ, MX a0 a1 a2 a3 b h q = (M : EReal) := by
    intro b h q
    unfold MX
    rw [ninf_eq, show (fun k : Fin 2064 => LG a0 a1 a2 a3 b h q k) = fun k : Fin 2064 => (lgR r0 r1 r2 r3 c b h q k : EReal) from
      funext fun k => LG_real h0 h1 h2 h3 hc b h q k]
    exact fold_max_coe (n := 2063) _
  choose M hM using e
  exact ⟨M, hM⟩

include h0 h1 h2 h3 hc hM in
theorem EX_real (b : Fin 2) (h : Fin 8) (q k : Fin 2064) : EX a0 a1 a2 a3 b h q k = (Real.exp (lgR r0 r1 r2 r3 c b h q k - M b h q) : EReal) := by
  unfold EX
  rw [LG_real h0 h1 h2 h3 hc, hM, ← EReal.coe_sub, Ideal.exp_coe]

include h0 h1 h2 h3 hc hM in
theorem ZZ_real (b : Fin 2) (h : Fin 8) (q : Fin 2064) : ZZ a0 a1 a2 a3 b h q = (zsum (lgR r0 r1 r2 r3 c b h q) (M b h q) : EReal) := by
  unfold ZZ zsum
  simp only [EX_real h0 h1 h2 h3 hc hM, coe_sum]

/-! ### The packed arrays at the natural rows -/

include h0 h1 h2 h3 hc hM in
theorem lP_real (b : Fin 2) (h : Fin 8) (q : Fin 2064) : lP a0 a1 a2 a3 b (pos q) (pair h) (low (side h))
    = (((M b h q + Real.log (zsum (lgR r0 r1 r2 r3 c b h q) (M b h q))) / Real.log 2 : ℝ) : EReal) := by
  have e : ∀ p, (⟨(pair h).val * 2 + (low (side h)).val, p⟩ : Fin 8) = h := fun p => Fin.ext (by show h.val / 2 * 2 + h.val % 2 = h.val; omega)
  unfold lP
  rw [dif_pos (show (low (side h)).val < 2 from (side h).isLt), rows_pos]
  simp only [e]
  rw [hM, ZZ_real h0 h1 h2 h3 hc hM, ln2_eq, Ideal.log_coe, if_neg (not_le.2 (zsum_pos _ _ q)), ← EReal.coe_add, div_real _ (Real.log_pos (by norm_num)).ne']

include h0 hc in
theorem qP_nope (b : Fin 2) (q : Fin 2064) (h : Fin 8) (d : Fin 64) (p : d.val < 128) : qP a0 a1 b (pos q) h ⟨d.val, p⟩ = ((r0 b q h d * (c / Real.log 2) : ℝ) : EReal) := by
  unfold qP
  rw [dif_pos (show (⟨d.val, p⟩ : Fin 128).val < 64 from d.isLt), rows_pos, hc, ln2_eq, div_real _ (Real.log_pos (by norm_num)).ne', EReal.coe_mul]
  exact congrArg (· * _) (h0 b q h d)

include h1 hc in
theorem qP_rope (b : Fin 2) (q : Fin 2064) (h : Fin 8) (e : Fin 32) (p : 64 + e.val < 128) : qP a0 a1 b (pos q) h ⟨64 + e.val, p⟩ = ((r1 b q h e * (c / Real.log 2) : ℝ) : EReal) := by
  unfold qP
  rw [dif_neg (show ¬ 64 + e.val < 64 by omega), dif_pos (show 64 + e.val - 64 < 32 by omega), rows_pos, hc, ln2_eq, div_real _ (Real.log_pos (by norm_num)).ne', EReal.coe_mul]
  exact congrArg (fun x : EReal => x * _) ((congrArg (fun e' => a1 (ix4 b q h e')) (Fin.ext (by show 64 + e.val - 64 = e.val; omega))).trans (h1 b q h e))

theorem qP_one (b : Fin 2) (r : Fin 2176) (h : Fin 8) (p : 96 < 128) : qP a0 a1 b r h ⟨96, p⟩ = 1 := by
  unfold qP
  rw [dif_neg (show ¬ 96 < 64 by omega), dif_neg (show ¬ 96 - 64 < 32 by omega), if_pos (show 96 - 64 - 32 < 1 by omega)]
theorem qP_zero (b : Fin 2) (r : Fin 2176) (h : Fin 8) (z : Fin 31) (p : 97 + z.val < 128) : qP a0 a1 b r h ⟨97 + z.val, p⟩ = 0 := by
  unfold qP
  rw [dif_neg (show ¬ 97 + z.val < 64 by omega), dif_neg (show ¬ 97 + z.val - 64 < 32 by omega), if_neg (show ¬ 97 + z.val - 64 - 32 < 1 by omega)]

include h2 in
theorem kP_nope (b : Fin 2) (k : Fin 2064) (h : Fin 8) (d : Fin 64) (p : d.val < 128) : kP a2 a3 b (pos k) h ⟨d.val, p⟩ = (r2 b k h d : EReal) := by
  unfold kP
  rw [dif_pos (show (⟨d.val, p⟩ : Fin 128).val < 64 from d.isLt), rows_pos]
  exact h2 b k h d
include h3 in
theorem kP_rope (b : Fin 2) (k : Fin 2064) (h : Fin 8) (e : Fin 32) (p : 64 + e.val < 128) : kP a2 a3 b (pos k) h ⟨64 + e.val, p⟩ = (r3 b k e : EReal) := by
  unfold kP
  rw [dif_neg (show ¬ 64 + e.val < 64 by omega), dif_pos (show 64 + e.val - 64 < 32 by omega), rows_pos]
  exact (congrArg (fun e' => a3 (ix3 b k e')) (Fin.ext (by show 64 + e.val - 64 = e.val; omega))).trans (h3 b k e)
theorem kP_mask (b : Fin 2) (k : Fin 2064) (h : Fin 8) (p : 96 < 128) : kP a2 a3 b (pos k) h ⟨96, p⟩ = 0 := by
  unfold kP
  rw [dif_neg (show ¬ 96 < 64 by omega), dif_neg (show ¬ 96 - 64 < 32 by omega), if_pos (show 96 - 64 - 32 < 1 by omega), rows_pos]
theorem kP_zero (b : Fin 2) (r : Fin 2176) (h : Fin 8) (z : Fin 31) (p : 97 + z.val < 128) : kP a2 a3 b r h ⟨97 + z.val, p⟩ = 0 := by
  unfold kP
  rw [dif_neg (show ¬ 97 + z.val < 64 by omega), dif_neg (show ¬ 97 + z.val - 64 < 32 by omega), if_neg (show ¬ 97 + z.val - 64 - 32 < 1 by omega)]
/-- A padding key row: zeros, and minus infinity in the lane the queries hold a one in. -/
theorem kP_pad (b : Fin 2) (r : Fin 2176) (hr : 2064 ≤ r.val) (h : Fin 8) (l : Fin 128) : kP a2 a3 b r h l = if l.val = 96 then ⊥ else 0 := by
  unfold kP
  simp only [rows_pad _ _ r hr, ninf_eq]
  by_cases p : l.val < 64
  · rw [dif_pos p, if_neg (by omega)]
  · rw [dif_neg p]
    by_cases p' : l.val - 64 < 32
    · rw [dif_pos p', if_neg (by omega)]
    · rw [dif_neg p']
      by_cases p'' : l.val - 64 - 32 < 1
      · rw [if_pos p'', if_pos (by omega)]
      · rw [if_neg p'', if_neg (by omega)]

include h4 in
theorem vP_val (b : Fin 2) (k : Fin 2064) (h : Fin 8) (d : Fin 64) (p : d.val < 128) : vP a4 b (pos k) h ⟨d.val, p⟩ = (r4 b k h d : EReal) := by
  unfold vP
  rw [dif_pos (show (⟨d.val, p⟩ : Fin 128).val < 64 from d.isLt), rows_pos]
  exact h4 b k h d
theorem vP_neg (b : Fin 2) (r : Fin 2176) (h : Fin 8) (l : Fin 128) (p : 64 ≤ l.val) (p' : l.val < 66) : vP a4 b r h l = ((-1 : ℝ) : EReal) := by
  unfold vP
  rw [dif_neg (by omega), if_pos (by omega), neg_one_eq]
theorem vP_zero (b : Fin 2) (r : Fin 2176) (h : Fin 8) (l : Fin 128) (p : 66 ≤ l.val) : vP a4 b r h l = 0 := by
  unfold vP
  rw [dif_neg (by omega), if_neg (by omega)]

/-! ### The probabilities -/

include h0 h1 h2 h3 hc hM in
theorem hP_real (b : Fin 2) (h : Fin 8) (q k : Fin 2064) : hP a0 a1 a2 a3 b h (pos q) (pos k) = (pR r0 r1 r2 r3 c M b h q k : EReal) := by
  unfold hP prob
  rw [lP_real h0 h1 h2 h3 hc hM, sum_lanes]
  simp only [qP_nope h0 hc, qP_rope h1 hc, qP_one, qP_zero, kP_nope h2, kP_rope h3, kP_mask, kP_zero, mul_zero, Finset.sum_const_zero, add_zero, one_mul]
  simp only [← EReal.coe_mul, ← coe_sum, ← EReal.coe_add, ← EReal.coe_sub]
  rw [Ideal.exp2_coe]
  refine congrArg _ (pow_soft (lgR r0 r1 r2 r3 c b h q) (M b h q) k _ ?_)
  have hl : Real.log 2 ≠ 0 := (Real.log_pos (by norm_num)).ne'
  unfold lgR
  rw [add_mul, add_mul, Finset.sum_mul, Finset.sum_mul, Finset.sum_mul, Finset.sum_mul]
  refine congrArg₂ (· + ·) (Finset.sum_congr rfl fun d _ => ?_) (Finset.sum_congr rfl fun e _ => ?_)
  · field_simp
  · field_simp

theorem hP_pad (b : Fin 2) (h : Fin 8) (r k : Fin 2176) (hk : 2064 ≤ k.val) : hP a0 a1 a2 a3 b h r k = 0 := by
  unfold hP prob
  rw [sum_lanes]
  have e1 : ∀ d : Fin 64, kP a2 a3 b k h ⟨d.val, by omega⟩ = 0 := fun d => (kP_pad b k hk h _).trans (if_neg (by show ¬ d.val = 96; omega))
  have e2 : ∀ d : Fin 32, kP a2 a3 b k h ⟨64 + d.val, by omega⟩ = 0 := fun d => (kP_pad b k hk h _).trans (if_neg (by show ¬ 64 + d.val = 96; omega))
  have e3 : kP a2 a3 b k h ⟨96, by omega⟩ = ⊥ := (kP_pad b k hk h _).trans (if_pos rfl)
  simp only [e1, e2, e3, qP_one, kP_zero, mul_zero, Finset.sum_const_zero, add_zero, one_mul, zero_add]
  rw [sub_eq_add_neg, EReal.bot_add, Ideal.exp2_bot]

/-! ### The cotangent rows -/

theorem delta_head (s : Fin 2) (d o : Fin 128 → EReal) : delta s d o = ∑ x : Fin 64, d ⟨64 * s.val + x.val, by omega⟩ * o ⟨64 * s.val + x.val, by omega⟩ := by
  unfold delta
  rw [Fin.sum_univ_two_halves 64 64 (by norm_num)]
  have hs : s.val = 0 ∨ s.val = 1 := by omega
  rcases hs with e | e
  · rw [Finset.sum_eq_zero (s := Finset.univ) (f := fun k : Fin 64 => if (64 + k.val) / 64 = s.val then d ⟨64 + k.val, by omega⟩ * o ⟨64 + k.val, by omega⟩ else 0)
      (fun k _ => if_neg (by omega)), add_zero]
    refine Finset.sum_congr rfl fun x _ => ?_
    rw [if_pos (by show x.val / 64 = s.val; omega)]
    have e' : (⟨x.val, by omega⟩ : Fin 128) = ⟨64 * s.val + x.val, by omega⟩ := Fin.ext (by show x.val = 64 * s.val + x.val; omega)
    rw [e']
  · rw [Finset.sum_eq_zero (s := Finset.univ) (f := fun k : Fin 64 => if k.val / 64 = s.val then d ⟨k.val, by omega⟩ * o ⟨k.val, by omega⟩ else 0)
      (fun k _ => if_neg (by omega)), zero_add]
    refine Finset.sum_congr rfl fun x _ => ?_
    rw [if_pos (by show (64 + x.val) / 64 = s.val; omega)]
    have e' : (⟨64 + x.val, by omega⟩ : Fin 128) = ⟨64 * s.val + x.val, by omega⟩ := Fin.ext (by show 64 + x.val = 64 * s.val + x.val; omega)
    rw [e']

theorem lane_eq (h : Fin 8) (x : Fin 64) : laneAt' (pair h) ⟨64 * (side h).val + x.val, by omega⟩ = lane h x :=
  Fin.ext (by show 128 * (h.val / 2) + (64 * (h.val % 2) + x.val) = h.val * 64 + x.val; omega)
theorem hd_lane (h : Fin 8) (x : Fin 64) : hd (lane h x) = h := Fin.ext (by show (h.val * 64 + x.val) / 64 = h.val; omega)
theorem ln_lane (h : Fin 8) (x : Fin 64) : ln (lane h x) = x := Fin.ext (by show (h.val * 64 + x.val) % 64 = x.val; omega)

/-- The inner product of the cotangent with the output. -/
def dotR (r0 : Fin 2 → Fin 2064 → Fin 8 → Fin 64 → ℝ) (r1 : Fin 2 → Fin 2064 → Fin 8 → Fin 32 → ℝ) (r2 : Fin 2 → Fin 2064 → Fin 8 → Fin 64 → ℝ)
    (r3 : Fin 2 → Fin 2064 → Fin 32 → ℝ) (r4 : Fin 2 → Fin 2064 → Fin 8 → Fin 64 → ℝ) (r5 : Fin 2 → Fin 2064 → Fin 512 → ℝ)
    (c : ℝ) (M : Fin 2 → Fin 8 → Fin 2064 → ℝ) (b : Fin 2) (h : Fin 8) (q : Fin 2064) : ℝ :=
  ∑ x : Fin 2064, pR r0 r1 r2 r3 c M b h q x * dpR r4 r5 b h q x

include h0 h1 h2 h3 h4 hc hM in
theorem oP_real (b : Fin 2) (h : Fin 8) (q : Fin 2064) (d : Fin 64) : oP a0 a1 a2 a3 a4 b (pos q) (lane h d)
    = ((∑ k : Fin 2064, r4 b k h d * pR r0 r1 r2 r3 c M b h q k : ℝ) : EReal) := by
  unfold oP
  rw [rows_pos, hd_lane, ln_lane, coe_sum]
  refine Finset.sum_congr rfl fun k _ => ?_
  rw [h4, EX_real h0 h1 h2 h3 hc hM, ZZ_real h0 h1 h2 h3 hc hM, div_real _ (zsum_pos _ _ q).ne', EReal.coe_mul]
  rfl

include h5 in
theorem dP_real (b : Fin 2) (h : Fin 8) (q : Fin 2064) (d : Fin 64) : dP a5 b (pos q) (lane h d) = (r5 b q (lane h d) : EReal) := by
  unfold dP
  rw [rows_pos]; exact h5 b q _

include h0 h1 h2 h3 h4 h5 hc hM in
theorem delta_real (b : Fin 2) (h : Fin 8) (q : Fin 2064) :
    delta (side h) (fun y => dP a5 b (pos q) (laneAt' (pair h) y)) (fun y => oP a0 a1 a2 a3 a4 b (pos q) (laneAt' (pair h) y))
      = (dotR r0 r1 r2 r3 r4 r5 c M b h q : EReal) := by
  rw [delta_head]
  simp only [lane_eq, dP_real h5, oP_real h0 h1 h2 h3 h4 hc hM]
  simp only [← EReal.coe_mul, ← coe_sum]
  refine congrArg _ ?_
  unfold dotR dpR
  simp only [Finset.mul_sum]
  rw [Finset.sum_comm]
  refine Finset.sum_congr rfl fun k _ => Finset.sum_congr rfl fun d _ => ?_
  ring

include h5 in
theorem hX_low (b : Fin 2) (h : Fin 8) (q : Fin 2064) (d : Fin 64) (p : d.val < 128) : hX a0 a1 a2 a3 a4 a5 b h (pos q) ⟨d.val, p⟩ = (r5 b q (lane h d) : EReal) := by
  unfold hX domx
  rw [if_neg (by show ¬ d.val = 64; omega), if_neg (by show ¬ d.val = 65; omega), dif_pos (show d.val < 64 from d.isLt)]
  show dP a5 b (pos q) (laneAt' (pair h) ⟨64 * (side h).val + d.val, _⟩) = _
  rw [lane_eq, dP_real h5]

include h0 h1 h2 h3 h4 h5 hc hM in
theorem hX_64 (b : Fin 2) (h : Fin 8) (q : Fin 2064) (p : 64 < 128) : hX a0 a1 a2 a3 a4 a5 b h (pos q) ⟨64, p⟩ = (dotR r0 r1 r2 r3 r4 r5 c M b h q : EReal) := by
  unfold hX domx
  rw [if_pos rfl, delta_real h0 h1 h2 h3 h4 h5 hc hM]

include h0 h1 h2 h3 h4 h5 hc hM in
theorem hX_65 (b : Fin 2) (h : Fin 8) (q : Fin 2064) (p : 65 < 128) : hX a0 a1 a2 a3 a4 a5 b h (pos q) ⟨65, p⟩ = 0 := by
  unfold hX domx
  rw [if_neg (by show ¬ 65 = 64; omega), if_pos rfl, delta_real h0 h1 h2 h3 h4 h5 hc hM, ← EReal.coe_sub, sub_self, EReal.coe_zero]

/-- A padding query row's cotangent vanishes. -/
theorem hX_pad (b : Fin 2) (h : Fin 8) (r : Fin 2176) (hr : 2064 ≤ r.val) (l : Fin 128) : hX a0 a1 a2 a3 a4 a5 b h r l = 0 := by
  unfold hX dP oP
  simp only [rows_pad _ _ r hr]
  have e : delta (side h) (fun _ => (0 : EReal)) (fun _ => 0) = 0 := by
    unfold delta; exact Finset.sum_eq_zero fun x _ => by split <;> simp
  unfold domx
  rw [e]
  split
  · rfl
  · split
    · simp
    · split <;> rfl

/-! ### The logits' gradient and the three results -/

include h0 h1 h2 h3 h4 h5 hc hM in
theorem hS_real (b : Fin 2) (h : Fin 8) (q k : Fin 2064) : hS a0 a1 a2 a3 a4 a5 b h (pos q) (pos k) = (dR r0 r1 r2 r3 r4 r5 c M b h q k : EReal) := by
  unfold hS
  rw [hP_real h0 h1 h2 h3 hc hM, sum_lanes']
  have e : ∀ z : Fin 62, vP a4 b (pos k) h ⟨66 + z.val, by omega⟩ = 0 := fun z => vP_zero b (pos k) h _ (by show 66 ≤ 66 + z.val; omega)
  rw [hX_64 h0 h1 h2 h3 h4 h5 hc hM, hX_65 h0 h1 h2 h3 h4 h5 hc hM, vP_neg b (pos k) h ⟨64, by omega⟩ (by show 64 ≤ 64; omega) (by show 64 < 66; omega)]
  simp only [e, hX_low h5, vP_val h4, mul_zero, zero_mul, Finset.sum_const_zero, add_zero]
  simp only [← EReal.coe_mul, ← coe_sum, ← EReal.coe_add]
  refine congrArg _ ?_
  unfold dR dlog
  show pR r0 r1 r2 r3 c M b h q k * (dpR r4 r5 b h q k + dotR r0 r1 r2 r3 r4 r5 c M b h q * -1) = pR r0 r1 r2 r3 c M b h q k * (dpR r4 r5 b h q k - dotR r0 r1 r2 r3 r4 r5 c M b h q)
  ring

theorem hS_row_pad (b : Fin 2) (h : Fin 8) (r k : Fin 2176) (hr : 2064 ≤ r.val) : hS a0 a1 a2 a3 a4 a5 b h r k = 0 := by
  unfold hS
  simp only [hX_pad b h r hr, zero_mul, Finset.sum_const_zero, mul_zero]
theorem hS_key_pad (b : Fin 2) (h : Fin 8) (r k : Fin 2176) (hk : 2064 ≤ k.val) : hS a0 a1 a2 a3 a4 a5 b h r k = 0 := by
  unfold hS
  rw [hP_pad b h r k hk, zero_mul]

include h0 h1 h2 h3 h4 h5 hc hM in
theorem sumQ_nope (b : Fin 2) (q : Fin 2064) (h : Fin 8) (d : Fin 64) (p : d.val < 128) :
    (∑ k : Fin 2176, hS a0 a1 a2 a3 a4 a5 b h (pos q) k * kP a2 a3 b k h ⟨d.val, p⟩) * scl
      = ((∑ k : Fin 2064, dR r0 r1 r2 r3 r4 r5 c M b h q k * c * r2 b k h d : ℝ) : EReal) := by
  rw [sum_packed _ (fun k hk => by rw [hS_key_pad b h _ k hk, zero_mul]), hc]
  simp only [hS_real h0 h1 h2 h3 h4 h5 hc hM, kP_nope h2]
  simp only [← EReal.coe_mul, ← coe_sum]
  refine congrArg _ ?_
  rw [Finset.sum_mul]
  exact Finset.sum_congr rfl fun k _ => by ring

include h0 h1 h2 h3 h4 h5 hc hM in
theorem sumQ_rope (b : Fin 2) (q : Fin 2064) (h : Fin 8) (e : Fin 32) (p : 64 + e.val < 128) :
    (∑ k : Fin 2176, hS a0 a1 a2 a3 a4 a5 b h (pos q) k * kP a2 a3 b k h ⟨64 + e.val, p⟩) * scl
      = ((∑ k : Fin 2064, dR r0 r1 r2 r3 r4 r5 c M b h q k * c * r3 b k e : ℝ) : EReal) := by
  rw [sum_packed _ (fun k hk => by rw [hS_key_pad b h _ k hk, zero_mul]), hc]
  simp only [hS_real h0 h1 h2 h3 h4 h5 hc hM, kP_rope h3]
  simp only [← EReal.coe_mul, ← coe_sum]
  refine congrArg _ ?_
  rw [Finset.sum_mul]
  exact Finset.sum_congr rfl fun k _ => by ring

include h0 h1 h2 h3 h4 h5 hc hM in
theorem sumK_nope (b : Fin 2) (k : Fin 2064) (h : Fin 8) (d : Fin 64) (p : d.val < 128) :
    (∑ r : Fin 2176, hS a0 a1 a2 a3 a4 a5 b h r (pos k) * qP a0 a1 b r h ⟨d.val, p⟩) * ((Real.log 2 : ℝ) : EReal)
      = ((∑ q : Fin 2064, dR r0 r1 r2 r3 r4 r5 c M b h q k * c * r0 b q h d : ℝ) : EReal) := by
  rw [sum_packed _ (fun r hr => by rw [hS_row_pad b h r _ hr, zero_mul])]
  simp only [hS_real h0 h1 h2 h3 h4 h5 hc hM, qP_nope h0 hc]
  simp only [← EReal.coe_mul, ← coe_sum]
  refine congrArg _ ?_
  have hl : Real.log 2 ≠ 0 := (Real.log_pos (by norm_num)).ne'
  rw [Finset.sum_mul]
  exact Finset.sum_congr rfl fun q _ => by field_simp

include h0 h1 h2 h3 h4 h5 hc hM in
theorem sumK_rope (b : Fin 2) (k : Fin 2064) (h : Fin 8) (e : Fin 32) (p : 64 + e.val < 128) :
    (∑ r : Fin 2176, hS a0 a1 a2 a3 a4 a5 b h r (pos k) * qP a0 a1 b r h ⟨64 + e.val, p⟩) * ((Real.log 2 : ℝ) : EReal)
      = ((∑ q : Fin 2064, dR r0 r1 r2 r3 r4 r5 c M b h q k * c * r1 b q h e : ℝ) : EReal) := by
  rw [sum_packed _ (fun r hr => by rw [hS_row_pad b h r _ hr, zero_mul])]
  simp only [hS_real h0 h1 h2 h3 h4 h5 hc hM, qP_rope h1 hc]
  simp only [← EReal.coe_mul, ← coe_sum]
  refine congrArg _ ?_
  have hl : Real.log 2 ≠ 0 := (Real.log_pos (by norm_num)).ne'
  rw [Finset.sum_mul]
  exact Finset.sum_congr rfl fun q _ => by field_simp

include h0 h1 h2 h3 h5 hc hM in
theorem sumV (b : Fin 2) (k : Fin 2064) (h : Fin 8) (d : Fin 64) (p : d.val < 128) :
    (∑ r : Fin 2176, hP a0 a1 a2 a3 b h r (pos k) * hX a0 a1 a2 a3 a4 a5 b h r ⟨d.val, p⟩)
      = ((∑ q : Fin 2064, r5 b q (lane h d) * pR r0 r1 r2 r3 c M b h q k : ℝ) : EReal) := by
  rw [sum_packed _ (fun r hr => by rw [hX_pad b h r hr, mul_zero])]
  simp only [hP_real h0 h1 h2 h3 hc hM, hX_low h5]
  simp only [← EReal.coe_mul, ← coe_sum]
  refine congrArg _ (Finset.sum_congr rfl fun q _ => by ring)

end Reals

end Cert.KernelIdeal.Gen

end
-- ==== Proof.RefLift.lean ====
/- The reference's gradients as real numbers, when every argument's element is a real number. -/
module

public import proofs.«01_k».proof.Proof.RefRead
public import proofs.«01_k».proof.Proof.Lift

@[expose] public section

set_option maxRecDepth 16384

noncomputable section

namespace Cert.ReferenceIdeal.Gen

open Idealize.ShloMosaic Idealize.ShloMosaic.TcCoe Idealize.ShloMosaic.Tactic Idealize.SL.Sem
open Cert.Mla
open Cert.KernelIdeal.Gen (LG MX ninf scl ninf_eq lane lgR dpR pR dR LG_real)

/-! ### What each stretch leaves alone -/

theorem pass_log0 (σ : Val0) : logS σ (Proc.devRef .tc main_arg0) = σ (Proc.devRef .tc main_arg0) := by unfold logS; after_reads_simp
theorem pass_log1 (σ : Val0) : logS σ (Proc.devRef .tc main_arg1) = σ (Proc.devRef .tc main_arg1) := by unfold logS; after_reads_simp
theorem pass_log2 (σ : Val0) : logS σ (Proc.devRef .tc main_arg2) = σ (Proc.devRef .tc main_arg2) := by unfold logS; after_reads_simp
theorem pass_log3 (σ : Val0) : logS σ (Proc.devRef .tc main_arg3) = σ (Proc.devRef .tc main_arg3) := by unfold logS; after_reads_simp
theorem pass_log4 (σ : Val0) : logS σ (Proc.devRef .tc main_arg4) = σ (Proc.devRef .tc main_arg4) := by unfold logS; after_reads_simp
theorem pass_log5 (σ : Val0) : logS σ (Proc.devRef .tc main_arg5) = σ (Proc.devRef .tc main_arg5) := by unfold logS; after_reads_simp
theorem pass_soft0 (σ : Val0) : softS σ (Proc.devRef .tc main_arg0) = σ (Proc.devRef .tc main_arg0) := by unfold softS; after_reads_simp
theorem pass_soft1 (σ : Val0) : softS σ (Proc.devRef .tc main_arg1) = σ (Proc.devRef .tc main_arg1) := by unfold softS; after_reads_simp
theorem pass_soft2 (σ : Val0) : softS σ (Proc.devRef .tc main_arg2) = σ (Proc.devRef .tc main_arg2) := by unfold softS; after_reads_simp
theorem pass_soft3 (σ : Val0) : softS σ (Proc.devRef .tc main_arg3) = σ (Proc.devRef .tc main_arg3) := by unfold softS; after_reads_simp
theorem pass_soft4 (σ : Val0) : softS σ (Proc.devRef .tc main_arg4) = σ (Proc.devRef .tc main_arg4) := by unfold softS; after_reads_simp
theorem pass_soft5 (σ : Val0) : softS σ (Proc.devRef .tc main_arg5) = σ (Proc.devRef .tc main_arg5) := by unfold softS; after_reads_simp
theorem pass_grad0 (σ : Val0) : gradS σ (Proc.devRef .tc main_arg0) = σ (Proc.devRef .tc main_arg0) := by unfold gradS; after_reads_simp
theorem pass_grad1 (σ : Val0) : gradS σ (Proc.devRef .tc main_arg1) = σ (Proc.devRef .tc main_arg1) := by unfold gradS; after_reads_simp
theorem pass_grad2 (σ : Val0) : gradS σ (Proc.devRef .tc main_arg2) = σ (Proc.devRef .tc main_arg2) := by unfold gradS; after_reads_simp
theorem pass_grad3 (σ : Val0) : gradS σ (Proc.devRef .tc main_arg3) = σ (Proc.devRef .tc main_arg3) := by unfold gradS; after_reads_simp
theorem pass_grad4 (σ : Val0) : gradS σ (Proc.devRef .tc main_arg4) = σ (Proc.devRef .tc main_arg4) := by unfold gradS; after_reads_simp
theorem pass_grad5 (σ : Val0) : gradS σ (Proc.devRef .tc main_arg5) = σ (Proc.devRef .tc main_arg5) := by unfold gradS; after_reads_simp
theorem pass_out0 (σ : Val0) : outS σ (Proc.devRef .tc main_arg0) = σ (Proc.devRef .tc main_arg0) := by unfold outS; after_reads_simp
theorem pass_out1 (σ : Val0) : outS σ (Proc.devRef .tc main_arg1) = σ (Proc.devRef .tc main_arg1) := by unfold outS; after_reads_simp
theorem pass_out2 (σ : Val0) : outS σ (Proc.devRef .tc main_arg2) = σ (Proc.devRef .tc main_arg2) := by unfold outS; after_reads_simp
theorem pass_out3 (σ : Val0) : outS σ (Proc.devRef .tc main_arg3) = σ (Proc.devRef .tc main_arg3) := by unfold outS; after_reads_simp
theorem pass_out4 (σ : Val0) : outS σ (Proc.devRef .tc main_arg4) = σ (Proc.devRef .tc main_arg4) := by unfold outS; after_reads_simp
theorem pass_out5 (σ : Val0) : outS σ (Proc.devRef .tc main_arg5) = σ (Proc.devRef .tc main_arg5) := by unfold outS; after_reads_simp
theorem pass_out41 (σ : Val0) : outS σ (Proc.devRef .tc main_v41) = σ (Proc.devRef .tc main_v41) := by unfold outS; after_reads_simp

/-! ### The numbers, from arrays of reals -/

theorem one_eq : Ideal.ofBits .f32 0x3F800000#32 = ((1 : ℝ) : EReal) := by rw [Ideal.ofBits_one_f32, EReal.coe_one]

section Reals
variable {r0 : Fin 2 → Fin 2064 → Fin 8 → Fin 64 → ℝ} {r1 : Fin 2 → Fin 2064 → Fin 8 → Fin 32 → ℝ} {r2 : Fin 2 → Fin 2064 → Fin 8 → Fin 64 → ℝ}
  {r3 : Fin 2 → Fin 2064 → Fin 32 → ℝ} {r4 : Fin 2 → Fin 2064 → Fin 8 → Fin 64 → ℝ} {r5 : Fin 2 → Fin 2064 → Fin 512 → ℝ}
  {c : ℝ} {M : Fin 2 → Fin 8 → Fin 2064 → ℝ}

section Weights
variable {L : FVec Ideal S2x8x2064x2064 .f32} {N : FVec Ideal S2x8x2064 .f32}
  (hL : ∀ b h q k, (L (ix4 b h q k) : EReal) = (lgR r0 r1 r2 r3 c b h q k : EReal)) (hN : ∀ b h q, (N (ix3 b h q) : EReal) = (M b h q : EReal))

include hL hN in
theorem wt_real (b : Fin 2) (h : Fin 8) (q k : Fin 2064) : wtF L N b h q k = (Real.exp (lgR r0 r1 r2 r3 c b h q k - M b h q) : EReal) := by
  unfold wtF
  rw [hL, hN, ninf_eq, max_eq_right bot_le, ← EReal.coe_sub, Ideal.exp_coe]

include hL hN in
theorem wt_sum (b : Fin 2) (h : Fin 8) (q : Fin 2064) : (∑ k : Fin 2064, wtF L N b h q k) = (zsum (lgR r0 r1 r2 r3 c b h q) (M b h q) : EReal) := by
  unfold zsum
  simp only [wt_real hL hN, coe_sum]
end Weights

section Logits
variable {a4 : FVec Ideal S2x2064x8x64 .f32} {a5 : FVec Ideal S2x2064x512 .f32} {E : FVec Ideal S2x8x2064x2064 .f32} {S : FVec Ideal S2x8x2064x1 .f32}
  (h4 : ∀ b q h d, (a4 (ix4 b q h d) : EReal) = (r4 b q h d : EReal)) (h5 : ∀ b q C, (a5 (ix3 b q C) : EReal) = (r5 b q C : EReal))
  (hE : ∀ b h q k, (E (ix4 b h q k) : EReal) = (Real.exp (lgR r0 r1 r2 r3 c b h q k - M b h q) : EReal))
  (hS : ∀ b h q, (S (ix4 b h q 0) : EReal) = (zsum (lgR r0 r1 r2 r3 c b h q) (M b h q) : EReal)) (hc : scl = (c : EReal))

include h5 in
theorem cth_real (b : Fin 2) (q : Fin 2064) (h : Fin 8) (d : Fin 64) : cth a5 b q h d = (r5 b q (lane h d) : EReal) := h5 b q _

include h4 h5 in
theorem dw_real (b : Fin 2) (h : Fin 8) (q k : Fin 2064) : dwF a4 a5 b h q k = (dpR r4 r5 b h q k : EReal) := by
  unfold dwF dpR
  simp only [cth_real h5, h4, ← EReal.coe_mul, coe_sum]

include h4 h5 hE hS hc in
theorem dl_real (b : Fin 2) (h : Fin 8) (q k : Fin 2064) : dlF a4 a5 E S b h q k = ((dR r0 r1 r2 r3 r4 r5 c M b h q k * c : ℝ) : EReal) := by
  have hz : zsum (lgR r0 r1 r2 r3 c b h q) (M b h q) ≠ 0 := (zsum_pos _ _ k).ne'
  unfold dlF
  simp only [dw_real h4 h5, hE, hS, hc, one_eq, Finset.univ_unique, Finset.sum_singleton]
  simp only [← EReal.coe_mul]
  rw [div_real _ hz, div_real _ (mul_ne_zero hz hz)]
  simp only [← EReal.coe_mul, ← coe_sum, ← EReal.coe_neg, ← EReal.coe_add]
  exact congrArg _ (dlog_ref _ _ _ k c)
end Logits

/-! ### The five results -/

variable (σ : Val0)
  (h0 : ∀ b q h d, ((σ (Proc.devRef .tc main_arg0) : FVec Ideal S2x2064x8x64 .f32) (ix4 b q h d) : EReal) = (r0 b q h d : EReal))
  (h1 : ∀ b q h d, ((σ (Proc.devRef .tc main_arg1) : FVec Ideal S2x2064x8x32 .f32) (ix4 b q h d) : EReal) = (r1 b q h d : EReal))
  (h2 : ∀ b q h d, ((σ (Proc.devRef .tc main_arg2) : FVec Ideal S2x2064x8x64 .f32) (ix4 b q h d) : EReal) = (r2 b q h d : EReal))
  (h3 : ∀ b q e, ((σ (Proc.devRef .tc main_arg3) : FVec Ideal S2x2064x32 .f32) (ix3 b q e) : EReal) = (r3 b q e : EReal))
  (h4 : ∀ b q h d, ((σ (Proc.devRef .tc main_arg4) : FVec Ideal S2x2064x8x64 .f32) (ix4 b q h d) : EReal) = (r4 b q h d : EReal))
  (h5 : ∀ b q C, ((σ (Proc.devRef .tc main_arg5) : FVec Ideal S2x2064x512 .f32) (ix3 b q C) : EReal) = (r5 b q C : EReal))
  (hc : scl = (c : EReal))
  (hM : ∀ b h q, MX (σ (Proc.devRef .tc main_arg0)) (σ (Proc.devRef .tc main_arg1)) (σ (Proc.devRef .tc main_arg2)) (σ (Proc.devRef .tc main_arg3)) b h q = (M b h q : EReal))

include h0 h1 h2 h3 hc in
theorem log_real (b : Fin 2) (h : Fin 8) (q k : Fin 2064) :
    ((logS σ (Proc.devRef .tc main_v5) : FVec Ideal S2x8x2064x2064 .f32) (ix4 b h q k) : EReal) = (lgR r0 r1 r2 r3 c b h q k : EReal) :=
  (v5_at σ b h q k).trans (LG_real h0 h1 h2 h3 hc b h q k)

include hM in
theorem max_real (b : Fin 2) (h : Fin 8) (q : Fin 2064) :
    ((logS σ (Proc.devRef .tc main_v6) : FVec Ideal S2x8x2064 .f32) (ix3 b h q) : EReal) = (M b h q : EReal) :=
  (v6_at σ b h q).trans (hM b h q)

include h0 h1 h2 h3 hc hM in
theorem soft_real (b : Fin 2) (h : Fin 8) (q k : Fin 2064) :
    ((softS (logS σ) (Proc.devRef .tc main_v30) : FVec Ideal S2x8x2064x2064 .f32) (ix4 b h q k) : EReal) = (pR r0 r1 r2 r3 c M b h q k : EReal) := by
  refine (v30_at _ b h q k).trans ?_
  rw [wt_real (log_real σ h0 h1 h2 h3 hc) (max_real σ hM), wt_sum (log_real σ h0 h1 h2 h3 hc) (max_real σ hM), div_real _ (zsum_pos _ _ k).ne']
  rfl

include h0 h1 h2 h3 h4 h5 hc hM in
theorem grad_real (b : Fin 2) (h : Fin 8) (q k : Fin 2064) :
    ((gradS (softS (logS σ)) (Proc.devRef .tc main_v55) : FVec Ideal S2x8x2064x2064 .f32) (ix4 b h q k) : EReal) = ((dR r0 r1 r2 r3 r4 r5 c M b h q k * c : ℝ) : EReal) := by
  refine (v55_at _ b h q k).trans ?_
  rw [pass_soft4, pass_log4, pass_soft5, pass_log5]
  exact dl_real h4 h5 (fun b h q k => (v26_at _ b h q k).trans (wt_real (log_real σ h0 h1 h2 h3 hc) (max_real σ hM) b h q k))
    (fun b h q => (v28_at _ b h q 0).trans (wt_sum (log_real σ h0 h1 h2 h3 hc) (max_real σ hM) b h q)) hc b h q k

include h0 h1 h2 h3 h4 h5 hc hM in
theorem ref_q_nope (b : Fin 2) (q : Fin 2064) (h : Fin 8) (d : Fin 64) :
    (outS (gradS (softS (logS σ))) (Proc.devRef .tc main_v62) : FVec Ideal S2x2064x8x64 .f32) (ix4 b q h d)
      = ((∑ k : Fin 2064, dR r0 r1 r2 r3 r4 r5 c M b h q k * c * r2 b k h d : ℝ) : EReal) := by
  refine (v62_at _ b q h d).trans ?_
  rw [pass_grad2, pass_soft2, pass_log2]
  unfold gqF
  simp only [grad_real σ h0 h1 h2 h3 h4 h5 hc hM, h2]
  simp only [← EReal.coe_mul, ← coe_sum]

include h0 h1 h2 h3 h4 h5 hc hM in
theorem ref_q_rope (b : Fin 2) (q : Fin 2064) (h : Fin 8) (e : Fin 32) :
    (outS (gradS (softS (logS σ))) (Proc.devRef .tc main_v57) : FVec Ideal S2x2064x8x32 .f32) (ix4 b q h e)
      = ((∑ k : Fin 2064, dR r0 r1 r2 r3 r4 r5 c M b h q k * c * r3 b k e : ℝ) : EReal) := by
  refine (v57_at _ b q h e).trans ?_
  rw [pass_grad3, pass_soft3, pass_log3]
  unfold grF
  simp only [grad_real σ h0 h1 h2 h3 h4 h5 hc hM, h3]
  simp only [← EReal.coe_mul, ← coe_sum]

include h0 h1 h2 h3 h4 h5 hc hM in
theorem ref_k_nope (b : Fin 2) (k : Fin 2064) (h : Fin 8) (d : Fin 64) :
    (outS (gradS (softS (logS σ))) (Proc.devRef .tc main_v60) : FVec Ideal S2x2064x8x64 .f32) (ix4 b k h d)
      = ((∑ q : Fin 2064, dR r0 r1 r2 r3 r4 r5 c M b h q k * c * r0 b q h d : ℝ) : EReal) := by
  refine (v60_at _ b k h d).trans ?_
  rw [pass_grad0, pass_soft0, pass_log0]
  unfold gkF
  simp only [grad_real σ h0 h1 h2 h3 h4 h5 hc hM, h0]
  simp only [← EReal.coe_mul, ← coe_sum]

include h0 h1 h2 h3 h4 h5 hc hM in
theorem ref_k_rope (b : Fin 2) (k : Fin 2064) (e : Fin 32) :
    (outS (gradS (softS (logS σ))) (Proc.devRef .tc main_v58) : FVec Ideal S2x2064x32 .f32) (ix3 b k e)
      = ∑ h : Fin 8, ((∑ q : Fin 2064, dR r0 r1 r2 r3 r4 r5 c M b h q k * c * r1 b q h e : ℝ) : EReal) := by
  refine (v58_at _ b k e).trans ?_
  rw [pass_grad1, pass_soft1, pass_log1]
  unfold gsF
  simp only [grad_real σ h0 h1 h2 h3 h4 h5 hc hM, h1]
  rw [Finset.sum_comm]
  simp only [← EReal.coe_mul, ← coe_sum]

include h0 h1 h2 h3 h5 hc hM in
theorem ref_v (b : Fin 2) (k : Fin 2064) (h : Fin 8) (d : Fin 64) :
    (outS (gradS (softS (logS σ))) (Proc.devRef .tc main_v41) : FVec Ideal S2x2064x8x64 .f32) (ix4 b k h d)
      = ((∑ q : Fin 2064, r5 b q (lane h d) * pR r0 r1 r2 r3 c M b h q k : ℝ) : EReal) := by
  rw [pass_out41]
  refine (v41_at _ b k h d).trans ?_
  rw [pass_soft5, pass_log5]
  unfold gvF
  simp only [soft_real σ h0 h1 h2 h3 hc hM, cth_real h5]
  simp only [← EReal.coe_mul, ← coe_sum]

end Reals

end Cert.ReferenceIdeal.Gen

end
-- ==== Proof.Equal.lean ====
/- The kernel's five results are the reference's, from argument arrays of real numbers. -/
module

public import proofs.«01_k».proof.Proof.RefLift
public import proofs.«01_k».proof.Proof.Tail

@[expose] public section

set_option maxRecDepth 16384

noncomputable section

namespace Cert.KernelIdeal.Gen

open Idealize.ShloMosaic Idealize.ShloMosaic.TcCoe Idealize.ShloMosaic.Tactic Idealize.SL.Sem
open Cert.Mla
open Cert.ReferenceIdeal.Gen (logS softS gradS outS Val0 ref_q_nope ref_q_rope ref_k_nope ref_k_rope ref_v)

variable (m : (ℓ : Loc nD τ sig) → Buf (Elt Ideal) ℓ) (c : Dev nD) (σ : Val0)

/-- The reference's argument arrays are the kernel's. -/
structure Agree : Prop where
  e0 : (σ (Proc.devRef .tc Cert.ReferenceIdeal.main_arg0) : FVec Ideal S2x2064x8x64 .f32) = m (c, Proc.devRef .tc main_arg0)
  e1 : (σ (Proc.devRef .tc Cert.ReferenceIdeal.main_arg1) : FVec Ideal S2x2064x8x32 .f32) = m (c, Proc.devRef .tc main_arg1)
  e2 : (σ (Proc.devRef .tc Cert.ReferenceIdeal.main_arg2) : FVec Ideal S2x2064x8x64 .f32) = m (c, Proc.devRef .tc main_arg2)
  e3 : (σ (Proc.devRef .tc Cert.ReferenceIdeal.main_arg3) : FVec Ideal S2x2064x32 .f32) = m (c, Proc.devRef .tc main_arg3)
  e4 : (σ (Proc.devRef .tc Cert.ReferenceIdeal.main_arg4) : FVec Ideal S2x2064x8x64 .f32) = m (c, Proc.devRef .tc main_arg4)
  e5 : (σ (Proc.devRef .tc Cert.ReferenceIdeal.main_arg5) : FVec Ideal S2x2064x512 .f32) = m (c, Proc.devRef .tc main_arg5)

/-- The kernel's argument arrays hold real numbers, with real scale `s` and real row maxima `M`. -/
structure AreReal (r0 : Fin 2 → Fin 2064 → Fin 8 → Fin 64 → ℝ) (r1 : Fin 2 → Fin 2064 → Fin 8 → Fin 32 → ℝ) (r2 : Fin 2 → Fin 2064 → Fin 8 → Fin 64 → ℝ)
    (r3 : Fin 2 → Fin 2064 → Fin 32 → ℝ) (r4 : Fin 2 → Fin 2064 → Fin 8 → Fin 64 → ℝ) (r5 : Fin 2 → Fin 2064 → Fin 512 → ℝ)
    (s : ℝ) (M : Fin 2 → Fin 8 → Fin 2064 → ℝ) : Prop where
  h0 : ∀ b q h d, ((m (c, Proc.devRef .tc main_arg0) : FVec Ideal S2x2064x8x64 .f32) (ix4 b q h d) : EReal) = (r0 b q h d : EReal)
  h1 : ∀ b q h d, ((m (c, Proc.devRef .tc main_arg1) : FVec Ideal S2x2064x8x32 .f32) (ix4 b q h d) : EReal) = (r1 b q h d : EReal)
  h2 : ∀ b q h d, ((m (c, Proc.devRef .tc main_arg2) : FVec Ideal S2x2064x8x64 .f32) (ix4 b q h d) : EReal) = (r2 b q h d : EReal)
  h3 : ∀ b q e, ((m (c, Proc.devRef .tc main_arg3) : FVec Ideal S2x2064x32 .f32) (ix3 b q e) : EReal) = (r3 b q e : EReal)
  h4 : ∀ b q h d, ((m (c, Proc.devRef .tc main_arg4) : FVec Ideal S2x2064x8x64 .f32) (ix4 b q h d) : EReal) = (r4 b q h d : EReal)
  h5 : ∀ b q C, ((m (c, Proc.devRef .tc main_arg5) : FVec Ideal S2x2064x512 .f32) (ix3 b q C) : EReal) = (r5 b q C : EReal)
  hs : scl = (s : EReal)
  hM : ∀ b h q, MX (m (c, Proc.devRef .tc main_arg0)) (m (c, Proc.devRef .tc main_arg1)) (m (c, Proc.devRef .tc main_arg2)) (m (c, Proc.devRef .tc main_arg3)) b h q = (M b h q : EReal)

section
variable {m c σ} {r0 : Fin 2 → Fin 2064 → Fin 8 → Fin 64 → ℝ} {r1 : Fin 2 → Fin 2064 → Fin 8 → Fin 32 → ℝ} {r2 : Fin 2 → Fin 2064 → Fin 8 → Fin 64 → ℝ}
  {r3 : Fin 2 → Fin 2064 → Fin 32 → ℝ} {r4 : Fin 2 → Fin 2064 → Fin 8 → Fin 64 → ℝ} {r5 : Fin 2 → Fin 2064 → Fin 512 → ℝ}
  {s : ℝ} {M : Fin 2 → Fin 8 → Fin 2064 → ℝ} (A : AreReal m c r0 r1 r2 r3 r4 r5 s M) (G : Agree m c σ)

include A G in
theorem eq_q_nope : (outS (gradS (softS (logS σ))) (Proc.devRef .tc Cert.ReferenceIdeal.main_v62) : FVec Ideal S2x2064x8x64 .f32)
    = Pipeline.afterTail₀ cfgs (dats m) 0 (V0 m) [hostOps1] c main_v102 := by
  funext y
  idx_vars y
  rw [v102_at, gat_Q, sumQ_nope A.h0 A.h1 A.h2 A.h3 A.h4 A.h5 A.hs A.hM]
  exact ref_q_nope σ (by rw [G.e0]; exact A.h0) (by rw [G.e1]; exact A.h1) (by rw [G.e2]; exact A.h2) (by rw [G.e3]; exact A.h3) (by rw [G.e4]; exact A.h4) (by rw [G.e5]; exact A.h5) A.hs
    (by rw [G.e0, G.e1, G.e2, G.e3]; exact A.hM) _ _ _ _

include A G in
theorem eq_q_rope : (outS (gradS (softS (logS σ))) (Proc.devRef .tc Cert.ReferenceIdeal.main_v57) : FVec Ideal S2x2064x8x32 .f32)
    = Pipeline.afterTail₀ cfgs (dats m) 0 (V0 m) [hostOps1] c main_v103 := by
  funext y
  idx_vars y
  rw [v103_at, gat_Q, sumQ_rope A.h0 A.h1 A.h2 A.h3 A.h4 A.h5 A.hs A.hM]
  exact ref_q_rope σ (by rw [G.e0]; exact A.h0) (by rw [G.e1]; exact A.h1) (by rw [G.e2]; exact A.h2) (by rw [G.e3]; exact A.h3) (by rw [G.e4]; exact A.h4) (by rw [G.e5]; exact A.h5) A.hs
    (by rw [G.e0, G.e1, G.e2, G.e3]; exact A.hM) _ _ _ _

include A G in
theorem eq_k_nope : (outS (gradS (softS (logS σ))) (Proc.devRef .tc Cert.ReferenceIdeal.main_v60) : FVec Ideal S2x2064x8x64 .f32)
    = Pipeline.afterTail₀ cfgs (dats m) 0 (V0 m) [hostOps1] c main_v104 := by
  funext y
  idx_vars y
  rw [v104_at, gat_K, sumK_nope A.h0 A.h1 A.h2 A.h3 A.h4 A.h5 A.hs A.hM]
  exact ref_k_nope σ (by rw [G.e0]; exact A.h0) (by rw [G.e1]; exact A.h1) (by rw [G.e2]; exact A.h2) (by rw [G.e3]; exact A.h3) (by rw [G.e4]; exact A.h4) (by rw [G.e5]; exact A.h5) A.hs
    (by rw [G.e0, G.e1, G.e2, G.e3]; exact A.hM) _ _ _ _

include A G in
theorem eq_k_rope : (outS (gradS (softS (logS σ))) (Proc.devRef .tc Cert.ReferenceIdeal.main_v58) : FVec Ideal S2x2064x32 .f32)
    = Pipeline.afterTail₀ cfgs (dats m) 0 (V0 m) [hostOps1] c main_v106 := by
  funext y
  idx_vars y
  rw [v106_at]
  simp only [gat_K, sumK_rope A.h0 A.h1 A.h2 A.h3 A.h4 A.h5 A.hs A.hM]
  exact ref_k_rope σ (by rw [G.e0]; exact A.h0) (by rw [G.e1]; exact A.h1) (by rw [G.e2]; exact A.h2) (by rw [G.e3]; exact A.h3) (by rw [G.e4]; exact A.h4) (by rw [G.e5]; exact A.h5) A.hs
    (by rw [G.e0, G.e1, G.e2, G.e3]; exact A.hM) _ _ _

include A G in
theorem eq_v : (outS (gradS (softS (logS σ))) (Proc.devRef .tc Cert.ReferenceIdeal.main_v41) : FVec Ideal S2x2064x8x64 .f32)
    = Pipeline.afterTail₀ cfgs (dats m) 0 (V0 m) [hostOps1] c main_v107 := by
  funext y
  idx_vars y
  rw [v107_at, gat_V, sumV A.h0 A.h1 A.h2 A.h3 A.h5 A.hs A.hM]
  exact ref_v σ (by rw [G.e0]; exact A.h0) (by rw [G.e1]; exact A.h1) (by rw [G.e2]; exact A.h2) (by rw [G.e3]; exact A.h3) (by rw [G.e5]; exact A.h5) A.hs
    (by rw [G.e0, G.e1, G.e2, G.e3]; exact A.hM) _ _ _ _
end

/-- Argument arrays whose elements are their own real parts hold real numbers. -/
theorem are_real
    (h : (∀ i, ((((m (c, Proc.devRef .tc main_arg0) : FVec Ideal S2x2064x8x64 .f32) i : EReal).toReal : ℝ) : EReal) = (m (c, Proc.devRef .tc main_arg0) : FVec Ideal S2x2064x8x64 .f32) i)
      ∧ (∀ i, ((((m (c, Proc.devRef .tc main_arg1) : FVec Ideal S2x2064x8x32 .f32) i : EReal).toReal : ℝ) : EReal) = (m (c, Proc.devRef .tc main_arg1) : FVec Ideal S2x2064x8x32 .f32) i)
      ∧ (∀ i, ((((m (c, Proc.devRef .tc main_arg2) : FVec Ideal S2x2064x8x64 .f32) i : EReal).toReal : ℝ) : EReal) = (m (c, Proc.devRef .tc main_arg2) : FVec Ideal S2x2064x8x64 .f32) i)
      ∧ (∀ i, ((((m (c, Proc.devRef .tc main_arg3) : FVec Ideal S2x2064x32 .f32) i : EReal).toReal : ℝ) : EReal) = (m (c, Proc.devRef .tc main_arg3) : FVec Ideal S2x2064x32 .f32) i)
      ∧ (∀ i, ((((m (c, Proc.devRef .tc main_arg4) : FVec Ideal S2x2064x8x64 .f32) i : EReal).toReal : ℝ) : EReal) = (m (c, Proc.devRef .tc main_arg4) : FVec Ideal S2x2064x8x64 .f32) i)
      ∧ (∀ i, ((((m (c, Proc.devRef .tc main_arg5) : FVec Ideal S2x2064x512 .f32) i : EReal).toReal : ℝ) : EReal) = (m (c, Proc.devRef .tc main_arg5) : FVec Ideal S2x2064x512 .f32) i)) :
    ∃ r0 r1 r2 r3 r4 r5 s M, AreReal m c r0 r1 r2 r3 r4 r5 s M := by
  obtain ⟨h0, h1, h2, h3, h4, h5⟩ := h
  obtain ⟨s, hs⟩ := scl_real
  obtain ⟨M, hM⟩ := MX_real (fun b q h d => (h0 (ix4 b q h d)).symm) (fun b q h d => (h1 (ix4 b q h d)).symm) (fun b q h d => (h2 (ix4 b q h d)).symm) (fun b q e => (h3 (ix3 b q e)).symm) hs
  exact ⟨_, _, _, _, _, _, s, M, ⟨fun b q h d => (h0 (ix4 b q h d)).symm, fun b q h d => (h1 (ix4 b q h d)).symm, fun b q h d => (h2 (ix4 b q h d)).symm,
    fun b q e => (h3 (ix3 b q e)).symm, fun b q h d => (h4 (ix4 b q h d)).symm, fun b q C => (h5 (ix3 b q C)).symm, hs, hM⟩⟩

end Cert.KernelIdeal.Gen

end
-- ==== Proof.Pre.lean ====
/- What the precondition says of each argument: every element is a real number. -/
module

public import proofs.«01_k».proof.Defs
public import proofs.«01_k».proof.Proof.Gen.Pre_finite
public import Idealize.ShloMosaic.Lib.ReduceAll
public import Idealize.ShloMosaic.Lib.Pointwise
public import Idealize.ShloMosaic.Lib.IdealHost

@[expose] public section

noncomputable section

namespace Cert.Pre_finite.Gen

open Idealize.ShloMosaic Idealize.ShloMosaic.Tactic

theorem inf_eq : Ideal.ofBits .f32 0x7F800000#32 = ⊤ := by simp [Ideal.ofBits, Ideal.ieee]

/-- An extended real whose absolute value is below infinity is a real number. -/
theorem real_of_abs (x : EReal) (h : FloatOps.cmpf (F := Ideal) .olt (FloatOps.hostAbsf (F := Ideal) (φ := .f32) x) (Ideal.ofBits .f32 0x7F800000#32) = 1#1) : ((x.toReal : ℝ) : EReal) = x := by
  rw [inf_eq] at h
  induction x with
  | bot => exact absurd h (by show ¬ BitVec.ofBool (decide (max (⊥ : EReal) (-⊥) < ⊤)) = 1#1; simp)
  | top => exact absurd h (by show ¬ BitVec.ofBool (decide (max (⊤ : EReal) (-⊤) < ⊤)) = 1#1; simp)
  | coe r => rfl

variable (a0 : FVec Ideal S2x2064x8x64 .f32) (a1 : FVec Ideal S2x2064x8x32 .f32) (a2 : FVec Ideal S2x2064x8x64 .f32)
  (a3 : FVec Ideal S2x2064x32 .f32) (a4 : FVec Ideal S2x2064x8x64 .f32) (a5 : FVec Ideal S2x2064x512 .f32)

instance : Subsingleton S_.Idx := ⟨fun a b => funext fun i => i.elim0⟩

theorem real_args (h : fn (F := Ideal) a0 a1 a2 a3 a4 a5 = fun _ => 1#1) :
    (∀ i, (((a0 i : EReal).toReal : ℝ) : EReal) = a0 i) ∧ (∀ i, (((a1 i : EReal).toReal : ℝ) : EReal) = a1 i)
    ∧ (∀ i, (((a2 i : EReal).toReal : ℝ) : EReal) = a2 i) ∧ (∀ i, (((a3 i : EReal).toReal : ℝ) : EReal) = a3 i)
    ∧ (∀ i, (((a4 i : EReal).toReal : ℝ) : EReal) = a4 i) ∧ (∀ i, (((a5 i : EReal).toReal : ℝ) : EReal) = a5 i) := by
  have h := congrFun h (fun i => i.elim0)
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h4 i), fun i => real_of_abs _ (Host.reduce_andi_all _ _ _ _ _ h5 i)⟩

end Cert.Pre_finite.Gen

end
-- ==== Proof.InRow.lean ====
/- The gradient of the input projection and its norm on one row, as plain formulas. -/
module

public import Idealize.ShloMosaic.Lib.Pointwise

@[expose] public section

set_option maxRecDepth 16384

noncomputable section

namespace Cert.Inproj

open Idealize.ShloMosaic Idealize.ShloMosaic.TcCoe

/-- The row width, as the programs print it. -/
abbrev width : EReal := Ideal.ofBits .f32 0x44800000#32
/-- The number added to the mean square, as the programs print it. -/
abbrev eps : EReal := Ideal.ofBits .f32 0x358637BD#32

/-- The mean square of a row, with `eps` added. -/
def msq (h : Fin 1024 → EReal) : EReal := Ideal.div (∑ k : Fin 1024, h k * h k) width + eps
/-- One over its root. -/
def rst (h : Fin 1024 → EReal) : EReal := Ideal.rsqrt (msq h)

/-- Eight rows laid end to end. -/
def cat8 (a0 : Fin 512 → EReal) (a1 a2 : Fin 256 → EReal) (a3 : Fin 512 → EReal) (a4 : Fin 256 → EReal) (a5 a6 : Fin 128 → EReal) (a7 : Fin 512 → EReal)
    (j : Fin 2560) : EReal :=
  if h0 : j.val < 512 then a0 ⟨j.val, h0⟩
  else if h1 : j.val - 512 < 256 then a1 ⟨j.val - 512, h1⟩
  else if h2 : j.val - 512 - 256 < 256 then a2 ⟨j.val - 512 - 256, h2⟩
  else if h3 : j.val - 512 - 256 - 256 < 512 then a3 ⟨j.val - 512 - 256 - 256, h3⟩
  else if h4 : j.val - 512 - 256 - 256 - 512 < 256 then a4 ⟨j.val - 512 - 256 - 256 - 512, h4⟩
  else if h5 : j.val - 512 - 256 - 256 - 512 - 256 < 128 then a5 ⟨j.val - 512 - 256 - 256 - 512 - 256, h5⟩
  else if h6 : j.val - 512 - 256 - 256 - 512 - 256 - 128 < 128 then a6 ⟨j.val - 512 - 256 - 256 - 512 - 256 - 128, h6⟩
  else a7 ⟨j.val - 512 - 256 - 256 - 512 - 256 - 128 - 128, by omega⟩

/-- The gradient of the normed row: the projection's gradient `d` against each row of the weight. -/
def dnr (d : Fin 2560 → EReal) (w : Fin 1024 → Fin 2560 → EReal) (k : Fin 1024) : EReal := ∑ j : Fin 2560, d j * w k j

/-- The row's gradient as the kernel computes it. -/
def dhK (d : Fin 2560 → EReal) (w : Fin 1024 → Fin 2560 → EReal) (h g o : Fin 1024 → EReal) (k : Fin 1024) : EReal :=
  o k + (rst h * (dnr d w k * g k) - h k * (rst h * rst h * rst h) * Ideal.div (∑ x : Fin 1024, dnr d w x * g x * h x) width)

end Cert.Inproj

end
-- ==== Proof.InPay.lean ====
/- The input projection's backward kernel: its vector operations on one block of 256 rows, element by element. -/
module

public import proofs.«01_k».proof.Proof.Gen.InprojIdeal.Skeleton
public import proofs.«01_k».proof.Proof.InRow

@[expose] public section

set_option maxRecDepth 16384

noncomputable section

namespace Cert.InprojIdeal.Gen

open Idealize.ShloMosaic Idealize.ShloMosaic.TcCoe Idealize.SL.Sem
open Cert.Inproj

/-- The block's rows of the projection's gradient. -/
theorem pay3_at (x0 : Vec Ideal S256x512 .f32) (x1 x2 : Vec Ideal S256x256 .f32) (x3 : Vec Ideal S256x512 .f32) (x4 : Vec Ideal S256x256 .f32)
    (x5 x6 : Vec Ideal S256x128 .f32) (x7 : Vec Ideal S256x512 .f32) (r : Fin 256) (j : Fin 2560) :
    k0_pay3 (F := Ideal) x0 x1 x2 x3 x4 x5 x6 x7 (ix2 r j)
      = cat8 (fun y => x0 (ix2 r y)) (fun y => x1 (ix2 r y)) (fun y => x2 (ix2 r y)) (fun y => x3 (ix2 r y)) (fun y => x4 (ix2 r y)) (fun y => x5 (ix2 r y))
          (fun y => x6 (ix2 r y)) (fun y => x7 (ix2 r y)) j := by
  pointwise [k0_pay3, cat8]

theorem pay4_at (x : Vec Ideal S256x1024 .f32) (r : Fin 256) (z : Fin 1) :
    k0_pay4 (F := Ideal) x (ix2 r z) = rst (fun k => x (ix2 r k)) := by
  pointwise [k0_pay4, rst, msq]

theorem pay5_at (x : Vec Ideal S256x1024 .f32) (r : Fin 256) (k : Fin 1024) :
    k0_pay5 (F := Ideal) x (ix2 r k) = x (ix2 r k) * rst (fun k => x (ix2 r k)) := by
  rw [← pay4_at x r 0]
  pointwise [k0_pay5]

theorem pay7_at (x : Vec Ideal S256x1024 .f32) (g : Vec Ideal S1x1024 .f32) (r : Fin 256) (k : Fin 1024) :
    k0_pay7 (F := Ideal) (k0_pay5 x) (k0_pay6 g) (ix2 r k) = x (ix2 r k) * rst (fun k => x (ix2 r k)) * g (ix2 0 k) := by
  rw [← pay5_at]
  pointwise [k0_pay7, k0_pay6]

/-- One chunk of the weight's gradient with the block's part added. -/
theorem pay8_at (d : Vec Ideal S256x2560 .bf16) (u v : Vec Ideal S256x1024 .f32) (a : Vec Ideal S1024x512 .f32) (k : Fin 1024) (y : Fin 512) :
    k0_pay8 (F := Ideal) d u v a (ix2 k y) = a (ix2 k y) + ∑ r : Fin 256, k0_pay7 (F := Ideal) u v (ix2 r k) * d (ix2 r ⟨y.val, by omega⟩) := by
  pointwise [k0_pay8]

theorem pay9_at (d : Vec Ideal S256x2560 .bf16) (u v : Vec Ideal S256x1024 .f32) (a : Vec Ideal S1024x512 .f32) (k : Fin 1024) (y : Fin 512) :
    k0_pay9 (F := Ideal) d u v a (ix2 k y) = a (ix2 k y) + ∑ r : Fin 256, k0_pay7 (F := Ideal) u v (ix2 r k) * d (ix2 r ⟨512 + y.val, by omega⟩) := by
  pointwise [k0_pay9]

theorem pay10_at (d : Vec Ideal S256x2560 .bf16) (u v : Vec Ideal S256x1024 .f32) (a : Vec Ideal S1024x512 .f32) (k : Fin 1024) (y : Fin 512) :
    k0_pay10 (F := Ideal) d u v a (ix2 k y) = a (ix2 k y) + ∑ r : Fin 256, k0_pay7 (F := Ideal) u v (ix2 r k) * d (ix2 r ⟨1024 + y.val, by omega⟩) := by
  pointwise [k0_pay10]

theorem pay11_at (d : Vec Ideal S256x2560 .bf16) (u v : Vec Ideal S256x1024 .f32) (a : Vec Ideal S1024x512 .f32) (k : Fin 1024) (y : Fin 512) :
    k0_pay11 (F := Ideal) d u v a (ix2 k y) = a (ix2 k y) + ∑ r : Fin 256, k0_pay7 (F := Ideal) u v (ix2 r k) * d (ix2 r ⟨1536 + y.val, by omega⟩) := by
  pointwise [k0_pay11]

theorem pay13_at (d : Vec Ideal S256x2560 .bf16) (u v : Vec Ideal S256x1024 .f32) (a : Vec Ideal S1024x512 .f32) (k : Fin 1024) (y : Fin 512) :
    k0_pay13 (F := Ideal) a (k0_pay12 d u v) (ix2 k y) = a (ix2 k y) + ∑ r : Fin 256, k0_pay7 (F := Ideal) u v (ix2 r k) * d (ix2 r ⟨2048 + y.val, by omega⟩) := by
  pointwise [k0_pay13, k0_pay12]

theorem pay14_at (d : Vec Ideal S256x2560 .bf16) (w : Vec Ideal S1024x2560 .bf16) (r : Fin 256) (k : Fin 1024) :
    k0_pay14 (F := Ideal) d w (ix2 r k) = dnr (fun j => d (ix2 r j)) (fun k j => w (ix2 k j)) k := by
  pointwise [k0_pay14, dnr]

theorem pay15_at (d : Vec Ideal S256x2560 .bf16) (x : Vec Ideal S256x1024 .f32) (g : Vec Ideal S1x1024 .f32) (w : Vec Ideal S1024x2560 .bf16) (o : Vec Ideal S256x1024 .f32)
    (r : Fin 256) (k : Fin 1024) :
    k0_pay15 (F := Ideal) d x g (k0_pay4 x) w o (ix2 r k)
      = dhK (fun j => d (ix2 r j)) (fun k j => w (ix2 k j)) (fun k => x (ix2 r k)) (fun k => g (ix2 0 k)) (fun k => o (ix2 r k)) k := by
  unfold dhK
  simp only [← pay14_at, ← pay4_at x r 0]
  pointwise [k0_pay15]

theorem pay16_at (d : Vec Ideal S256x2560 .bf16) (x : Vec Ideal S256x1024 .f32) (w : Vec Ideal S1024x2560 .bf16) (a : Vec Ideal S1x1024 .f32) (z : Fin 1) (k : Fin 1024) :
    k0_pay16 (F := Ideal) d x (k0_pay4 x) w a (ix2 z k)
      = a (ix2 0 k) + ∑ r : Fin 256, dnr (fun j => d (ix2 r j)) (fun k j => w (ix2 k j)) k * (x (ix2 r k) * rst (fun k => x (ix2 r k))) := by
  simp only [← pay14_at, ← pay4_at _ _ 0]
  obtain rfl : z = 0 := Subsingleton.elim _ _
  pointwise [k0_pay16]

end Cert.InprojIdeal.Gen

end
-- ==== Proof.InFill.lean ====
/- The input projection's backward kernel: loads and stores of whole blocks, and the five chunks of the weight's gradient. -/
module

public import proofs.«01_k».proof.Proof.Gen.InprojIdeal.Skeleton
public import proofs.«01_k».proof.Proof.InPay
public import Idealize.ShloMosaic.Lib.VecWindow
public import Idealize.ShloMosaic.Lib.WritesUnit

@[expose] public section

set_option maxRecDepth 16384

noncomputable section

namespace Cert.InprojIdeal.Gen

open Idealize.ShloMosaic Idealize.ShloMosaic.TcCoe Idealize.ShloMosaic.Tactic Idealize.SL.Sem
open Cert.Inproj

/-- The weight's gradient with one block's part added: `D` the block's projection gradients, `U` its normed rows. -/
def accStep (D : Vec Ideal S256x2560 .bf16) (U : Vec Ideal S256x1024 .bf16) (A : Vec Ideal S1024x2560 .f32) : Vec Ideal S1024x2560 .f32 :=
  fun y => A y + ∑ r : Fin 256, U (ix2 r (y 0)) * D (ix2 r (y 1))

/-- Five chunks of 512 columns that agree with `g` leave `g`. -/
theorem fill5 {sp : Space} (v : View sig .tc sp S1024x2560 .f32) (f : v.ty.Contents (Elt Ideal)) (g : Vec Ideal S1024x2560 .f32)
    (w0 w1 w2 w3 w4 : Vec Ideal S1024x512 .f32) (L : List (View.Piece (Elt Ideal) S1024x2560 .f32))
    (i0 : ∀ a, (![0, 0] : Fin 2 → ℕ) a + S1024x512.size a ≤ S1024x2560.size a) (i1 : ∀ a, (![0, 512] : Fin 2 → ℕ) a + S1024x512.size a ≤ S1024x2560.size a)
    (i2 : ∀ a, (![0, 1024] : Fin 2 → ℕ) a + S1024x512.size a ≤ S1024x2560.size a) (i3 : ∀ a, (![0, 1536] : Fin 2 → ℕ) a + S1024x512.size a ≤ S1024x2560.size a)
    (i4 : ∀ a, (![0, 2048] : Fin 2 → ℕ) a + S1024x512.size a ≤ S1024x2560.size a)
    (h0 : ∀ (k : Fin 1024) (y : Fin 512), w0 (ix2 k y) = g (ix2 k ⟨y.val, by omega⟩))
    (h1 : ∀ (k : Fin 1024) (y : Fin 512), w1 (ix2 k y) = g (ix2 k ⟨512 + y.val, by omega⟩))
    (h2 : ∀ (k : Fin 1024) (y : Fin 512), w2 (ix2 k y) = g (ix2 k ⟨1024 + y.val, by omega⟩))
    (h3 : ∀ (k : Fin 1024) (y : Fin 512), w3 (ix2 k y) = g (ix2 k ⟨1536 + y.val, by omega⟩))
    (h4 : ∀ (k : Fin 1024) (y : Fin 512), w4 (ix2 k y) = g (ix2 k ⟨2048 + y.val, by omega⟩)) :
    v.read (Elt Ideal) (v.writes (Elt Ideal) f (⟨Rect.unit (s := S1024x2560) ![0, 2048] S1024x512.size i4, w4⟩ :: ⟨Rect.unit (s := S1024x2560) ![0, 1536] S1024x512.size i3, w3⟩
      :: ⟨Rect.unit (s := S1024x2560) ![0, 1024] S1024x512.size i2, w2⟩ :: ⟨Rect.unit (s := S1024x2560) ![0, 512] S1024x512.size i1, w1⟩
      :: ⟨Rect.unit (s := S1024x2560) ![0, 0] S1024x512.size i0, w0⟩ :: L)) = g := by
  funext z
  obtain ⟨k, j, rfl⟩ : ∃ (k : Fin 1024) (j : Fin 2560), z = ix2 k j := ⟨z 0, z 1, (ix2_eta z).symm⟩
  have hout : ∀ (c : ℕ) (i : ∀ a, (![0, c] : Fin 2 → ℕ) a + S1024x512.size a ≤ S1024x2560.size a) (w : Vec Ideal S1024x512 .f32) (L : List (View.Piece (Elt Ideal) S1024x2560 .f32)),
      j.val < c → v.read (Elt Ideal) (v.writes (Elt Ideal) f (⟨Rect.unit (s := S1024x2560) ![0, c] S1024x512.size i, w⟩ :: L)) (ix2 k j)
        = v.read (Elt Ideal) (v.writes (Elt Ideal) f L) (ix2 k j) := fun c i w L h =>
    View.read_writes_cons_unit_of_not_mem v f i w L _ rfl 1 (Or.inl h)
  have hin : ∀ (c : ℕ) (i : ∀ a, (![0, c] : Fin 2 → ℕ) a + S1024x512.size a ≤ S1024x2560.size a) (w : Vec Ideal S1024x512 .f32) (L : List (View.Piece (Elt Ideal) S1024x2560 .f32))
      (hc : c ≤ j.val) (hj : j.val - c < 512), v.read (Elt Ideal) (v.writes (Elt Ideal) f (⟨Rect.unit (s := S1024x2560) ![0, c] S1024x512.size i, w⟩ :: L)) (ix2 k j)
        = w (ix2 k ⟨j.val - c, hj⟩) := fun c i w L hc hj =>
    View.read_writes_cons_unit_of_mem v f i w L _ (ix2 k ⟨j.val - c, hj⟩ : S1024x512.Idx) rfl (Fin.forall_fin_two.2 ⟨(Nat.zero_add _).symm, (Nat.add_sub_of_le hc).symm⟩)
  have e : ∀ (c : ℕ) (hc : c ≤ j.val) (h : c + (j.val - c) < 2560), g (ix2 k ⟨c + (j.val - c), h⟩) = g (ix2 k j) := fun c hc h => by
    congr 2
    exact Fin.ext (Nat.add_sub_of_le hc)
  by_cases c4 : 2048 ≤ j.val
  · rw [hin 2048 i4 w4 _ c4 (by omega), h4]; exact e 2048 c4 _
  rw [hout 2048 i4 w4 _ (by omega)]
  by_cases c3 : 1536 ≤ j.val
  · rw [hin 1536 i3 w3 _ c3 (by omega), h3]; exact e 1536 c3 _
  rw [hout 1536 i3 w3 _ (by omega)]
  by_cases c2 : 1024 ≤ j.val
  · rw [hin 1024 i2 w2 _ c2 (by omega), h2]; exact e 1024 c2 _
  rw [hout 1024 i2 w2 _ (by omega)]
  by_cases c1 : 512 ≤ j.val
  · rw [hin 512 i1 w1 _ c1 (by omega), h1]; exact e 512 c1 _
  rw [hout 512 i1 w1 _ (by omega), hin 0 i0 w0 _ (Nat.zero_le _) (by omega), h0]
  rfl

/-- A load of a whole rank-two array. -/
theorem readAt_whole2 {sp : Space} {e : EltTy} {a b : ℕ} (v : View sig .tc sp ⟨2, ![a, b]⟩ e) (f : v.ty.Contents (Elt Ideal))
    (inb : ∀ x, (![0, 0] : Fin 2 → ℕ) x + (![a, b] : Fin 2 → ℕ) x ≤ (⟨2, ![a, b]⟩ : Shape).size x) :
    v.readAt (Elt Ideal) (Rect.unit (s := ⟨2, ![a, b]⟩) ![0, 0] ![a, b] inb).toLoadRect f = v.read (Elt Ideal) f :=
  View.readAt_full v f inb

/-- A store of a whole rank-two array. -/
theorem read_whole2 {sp : Space} {e : EltTy} {a b : ℕ} (v : View sig .tc sp ⟨2, ![a, b]⟩ e) (f : v.ty.Contents (Elt Ideal))
    (inb : ∀ x, (![0, 0] : Fin 2 → ℕ) x + (![a, b] : Fin 2 → ℕ) x ≤ (⟨2, ![a, b]⟩ : Shape).size x) (w : Vec Ideal ⟨2, ![a, b]⟩ e)
    (L : List (View.Piece (Elt Ideal) ⟨2, ![a, b]⟩ e)) :
    v.read (Elt Ideal) (v.writes (Elt Ideal) f (⟨Rect.unit (s := ⟨2, ![a, b]⟩) ![0, 0] ![a, b] inb, w⟩ :: L)) = w :=
  View.read_writes_full v f inb w L

/-- 512 columns of the wide array, from column `c0`. -/
def chunk (A : Vec Ideal S1024x2560 .f32) (c0 : ℕ) (hc : c0 + 512 ≤ 2560) : Vec Ideal S1024x512 .f32 := fun y => A (ix2 (y 0) ⟨c0 + (y 1).val, by have : (y 1).val < 512 := (y 1).isLt; omega⟩)

theorem readAt_chunk {sp : Space} (v : View sig .tc sp S1024x2560 .f32) (f : v.ty.Contents (Elt Ideal)) (c0 : ℕ)
    (inb : ∀ a, (![0, c0] : Fin 2 → ℕ) a + (![1024, 512] : Fin 2 → ℕ) a ≤ S1024x2560.size a) (hc : c0 + 512 ≤ 2560) :
    v.readAt (Elt Ideal) (Rect.unit (s := S1024x2560) ![0, c0] ![1024, 512] inb).toLoadRect f = chunk (v.read (Elt Ideal) f) c0 hc := by
  funext y
  refine congrArg (v.read (Elt Ideal) f) (funext (Fin.forall_fin_two.2 ⟨Fin.ext ?_, Fin.ext ?_⟩))
  · show 0 + 1 * (y 0).val = (y 0).val
    omega
  · show c0 + 1 * (y 1).val = c0 + (y 1).val
    omega

theorem readAt_chunk' {sp : Space} (v : View sig .tc sp S1024x2560 .f32) (f : v.ty.Contents (Elt Ideal)) (c0 : ℕ)
    (inb : ∀ a, (![0, c0] : Fin 2 → ℕ) a + S1024x512.size a ≤ S1024x2560.size a) (hc : c0 + 512 ≤ 2560) :
    v.readAt (Elt Ideal) (Rect.unit (s := S1024x2560) ![0, c0] S1024x512.size inb).toLoadRect f = chunk (v.read (Elt Ideal) f) c0 hc :=
  readAt_chunk v f c0 inb hc

/-- A chunk to the right of the newest piece reads what the earlier pieces left. -/
theorem chunk_skip {sp : Space} (v : View sig .tc sp S1024x2560 .f32) (f : v.ty.Contents (Elt Ideal)) (c' c : ℕ)
    (inb : ∀ a, (![0, c'] : Fin 2 → ℕ) a + (![1024, 512] : Fin 2 → ℕ) a ≤ S1024x2560.size a) (w : Vec Ideal S1024x512 .f32)
    (L : List (View.Piece (Elt Ideal) S1024x2560 .f32)) (hc : c + 512 ≤ 2560) (h : c' + 512 ≤ c) :
    chunk (v.read (Elt Ideal) (v.writes (Elt Ideal) f (⟨Rect.unit (s := S1024x2560) ![0, c'] ![1024, 512] inb, w⟩ :: L))) c hc
      = chunk (v.read (Elt Ideal) (v.writes (Elt Ideal) f L)) c hc := by
  funext y
  refine View.read_writes_cons_unit_of_not_mem v f inb w L _ rfl 1 (Or.inr ?_)
  show c' + 512 ≤ c + (y 1).val
  omega

/-- A block's five chunks stored, each with the block's part added to what was there. -/
theorem fill_step {sp : Space} (v : View sig .tc sp S1024x2560 .f32) (f : v.ty.Contents (Elt Ideal))
    (D : Vec Ideal S256x2560 .bf16) (u t : Vec Ideal S256x1024 .f32) (A : Vec Ideal S1024x2560 .f32) (L : List (View.Piece (Elt Ideal) S1024x2560 .f32))
    (i0 : ∀ a, (![0, 0] : Fin 2 → ℕ) a + S1024x512.size a ≤ S1024x2560.size a) (i1 : ∀ a, (![0, 512] : Fin 2 → ℕ) a + S1024x512.size a ≤ S1024x2560.size a)
    (i2 : ∀ a, (![0, 1024] : Fin 2 → ℕ) a + S1024x512.size a ≤ S1024x2560.size a) (i3 : ∀ a, (![0, 1536] : Fin 2 → ℕ) a + S1024x512.size a ≤ S1024x2560.size a)
    (i4 : ∀ a, (![0, 2048] : Fin 2 → ℕ) a + S1024x512.size a ≤ S1024x2560.size a) :
    v.read (Elt Ideal) (v.writes (Elt Ideal) f (⟨Rect.unit (s := S1024x2560) ![0, 2048] S1024x512.size i4, k0_pay13 (chunk A 2048 (by omega)) (k0_pay12 D u t)⟩
      :: ⟨Rect.unit (s := S1024x2560) ![0, 1536] S1024x512.size i3, k0_pay11 D u t (chunk A 1536 (by omega))⟩
      :: ⟨Rect.unit (s := S1024x2560) ![0, 1024] S1024x512.size i2, k0_pay10 D u t (chunk A 1024 (by omega))⟩
      :: ⟨Rect.unit (s := S1024x2560) ![0, 512] S1024x512.size i1, k0_pay9 D u t (chunk A 512 (by omega))⟩
      :: ⟨Rect.unit (s := S1024x2560) ![0, 0] S1024x512.size i0, k0_pay8 D u t (chunk A 0 (by omega))⟩ :: L)) = accStep D (k0_pay7 (F := Ideal) u t) A := by
  refine fill5 v f _ _ _ _ _ _ L i0 i1 i2 i3 i4 (fun k y => ?_) (fun k y => ?_) (fun k y => ?_) (fun k y => ?_) (fun k y => ?_)
  · rw [pay8_at]; exact congrArg (· + _) (congrArg A (congrArg (ix2 k) (Fin.ext (Nat.zero_add _))))
  · rw [pay9_at]; rfl
  · rw [pay10_at]; rfl
  · rw [pay11_at]; rfl
  · rw [pay13_at]; rfl

end Cert.InprojIdeal.Gen

end
-- ==== Proof.InBody.lean ====
/- The input projection's backward kernel: what its body leaves at each grid point, from the point's blocks and what the point before left. -/
module

public import proofs.«01_k».proof.Proof.Gen.InprojIdeal.Frame
public import proofs.«01_k».proof.Proof.InFill

@[expose] public section

set_option maxRecDepth 16384

noncomputable section

namespace Cert.InprojIdeal.Gen

open Idealize.ShloMosaic Idealize.ShloMosaic.TcCoe Idealize.ShloMosaic.Tactic Idealize.SL.Sem
open Cert.Inproj

variable (c : Dev nD) (i : grid0.Coords) (arg1 : Memref sig .tc .vmem S256x512 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S256x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x512 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x2560 .bf16) (harg11 : arg11.IsWhole) (arg12 : Memref sig .tc .vmem S256x1024 .f32) (harg12 : arg12.IsWhole) (arg13 : Memref sig .tc .vmem S256x1024 .f32) (harg13 : arg13.IsWhole) (arg15 : Memref sig .tc .vmem S1x1024 .f32) (harg15 : arg15.IsWhole) (arg16 : Memref sig .tc .vmem S1024x2560 .f32) (harg16 : arg16.IsWhole)
  (x0 : Vec Ideal S256x512 .f32) (x1 x2 : Vec Ideal S256x256 .f32) (x3 : Vec Ideal S256x512 .f32) (x4 : Vec Ideal S256x256 .f32) (x5 x6 : Vec Ideal S256x128 .f32) (x7 : Vec Ideal S256x512 .f32) (x8 : Vec Ideal S256x1024 .f32) (x9 : Vec Ideal S1x1024 .f32) (x10 : Vec Ideal S1024x2560 .bf16) (x11 : Vec Ideal S256x1024 .f32)

set_option maxHeartbeats 1600000 in
theorem out0_A_12_eq (hc0 : cond0_0 i) (hc1 : ¬cond0_1 i)
    (fw0 : HbBuf0 (F := Ideal) c hbM0_0) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 fw0
      = k0_pay15 (k0_pay3 (F := Ideal) x0 x1 x2 x3 x4 x5 x6 x7) x8 x9 (k0_pay4 x8) x10 x11 := by
  unfold out0_A_12 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread]
set_option maxHeartbeats 1600000 in
theorem out0_A_13_eq (hc0 : cond0_0 i) (hc1 : ¬cond0_1 i)
    (fw0 : HbBuf0 (F := Ideal) c hbM0_0) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 fw0
      = k0_pay16 (k0_pay3 (F := Ideal) x0 x1 x2 x3 x4 x5 x6 x7) x8 (k0_pay4 x8) x10 (k0_pay2 (F := Ideal)) := by
  unfold out0_A_13 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread]
set_option maxHeartbeats 1600000 in
theorem sout0_A_0_eq (hc0 : cond0_0 i) (hc1 : ¬cond0_1 i)
    (fw0 : HbBuf0 (F := Ideal) c hbM0_0) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 fw0
      = accStep (k0_pay3 (F := Ideal) x0 x1 x2 x3 x4 x5 x6 x7) (k0_pay7 (F := Ideal) (k0_pay5 x8) (k0_pay6 x9)) (k0_pay1 (F := Ideal)) := by
  unfold sout0_A_0 kernelRun0_A
  dsimp only
  sl_unfold_run_names
  simp only [readAt_whole2, read_whole2, View.readCov, readAt_chunk _ _ 0 _ (by omega), readAt_chunk' _ _ 512 _ (by omega), readAt_chunk' _ _ 1024 _ (by omega), readAt_chunk' _ _ 1536 _ (by omega), readAt_chunk' _ _ 2048 _ (by omega), harg1.read_unread, harg2.read_unread, harg3.read_unread, harg4.read_unread, harg5.read_unread, harg6.read_unread, harg7.read_unread, harg8.read_unread, harg9.read_unread, harg10.read_unread, harg11.read_unread, harg12.read_unread]
  simp (discharger := omega) only [chunk_skip, read_whole2]
  exact fill_step _ _ _ _ _ _ _ _ _ _ _ _

set_option maxHeartbeats 1600000 in
theorem out0_B_12_eq (hc0 : ¬cond0_0 i) (hc1 : ¬cond0_1 i)
    (xo13 : Vec Ideal S1x1024 .f32) (xs0 : Vec Ideal S1024x2560 .f32) (fw0 : HbBuf0 (F := Ideal) c hbM0_0) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = k0_pay15 (k0_pay3 (F := Ideal) x0 x1 x2 x3 x4 x5 x6 x7) x8 x9 (k0_pay4 x8) x10 x11 := by
  unfold out0_B_12 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
set_option maxHeartbeats 1600000 in
theorem out0_B_13_eq (hc0 : ¬cond0_0 i) (hc1 : ¬cond0_1 i)
    (xo13 : Vec Ideal S1x1024 .f32) (xs0 : Vec Ideal S1024x2560 .f32) (fw0 : HbBuf0 (F := Ideal) c hbM0_0) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = k0_pay16 (k0_pay3 (F := Ideal) x0 x1 x2 x3 x4 x5 x6 x7) x8 (k0_pay4 x8) x10 xo13 := by
  unfold out0_B_13 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
set_option maxHeartbeats 1600000 in
theorem sout0_B_0_eq (hc0 : ¬cond0_0 i) (hc1 : ¬cond0_1 i)
    (xo13 : Vec Ideal S1x1024 .f32) (xs0 : Vec Ideal S1024x2560 .f32) (fw0 : HbBuf0 (F := Ideal) c hbM0_0) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = accStep (k0_pay3 (F := Ideal) x0 x1 x2 x3 x4 x5 x6 x7) (k0_pay7 (F := Ideal) (k0_pay5 x8) (k0_pay6 x9)) xs0 := by
  unfold sout0_B_0 kernelRun0_B
  dsimp only
  sl_unfold_run_names
  simp only [readAt_whole2, read_whole2, View.readCov, readAt_chunk _ _ 0 _ (by omega), readAt_chunk' _ _ 512 _ (by omega), readAt_chunk' _ _ 1024 _ (by omega), readAt_chunk' _ _ 1536 _ (by omega), readAt_chunk' _ _ 2048 _ (by omega), harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
  exact fill_step _ _ _ _ _ _ _ _ _ _ _ _

set_option maxHeartbeats 1600000 in
theorem out0_C_12_eq (hc0 : ¬cond0_0 i) (hc1 : cond0_1 i)
    (xo13 : Vec Ideal S1x1024 .f32) (xs0 : Vec Ideal S1024x2560 .f32) (fw0 : HbBuf0 (F := Ideal) c hbM0_0) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = k0_pay15 (k0_pay3 (F := Ideal) x0 x1 x2 x3 x4 x5 x6 x7) x8 x9 (k0_pay4 x8) x10 x11 := by
  unfold out0_C_12 kernelRun0_C
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
set_option maxHeartbeats 1600000 in
theorem out0_C_13_eq (hc0 : ¬cond0_0 i) (hc1 : cond0_1 i)
    (xo13 : Vec Ideal S1x1024 .f32) (xs0 : Vec Ideal S1024x2560 .f32) (fw0 : HbBuf0 (F := Ideal) c hbM0_0) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = k0_pay16 (k0_pay3 (F := Ideal) x0 x1 x2 x3 x4 x5 x6 x7) x8 (k0_pay4 x8) x10 xo13 := by
  unfold out0_C_13 kernelRun0_C
  dsimp only
  sl_unfold_run_names
  simp only [readAt_whole2, read_whole2, View.readCov, harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
set_option maxHeartbeats 1600000 in
theorem sout0_C_0_eq (hc0 : ¬cond0_0 i) (hc1 : cond0_1 i)
    (xo13 : Vec Ideal S1x1024 .f32) (xs0 : Vec Ideal S1024x2560 .f32) (fw0 : HbBuf0 (F := Ideal) c hbM0_0) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0
      = accStep (k0_pay3 (F := Ideal) x0 x1 x2 x3 x4 x5 x6 x7) (k0_pay7 (F := Ideal) (k0_pay5 x8) (k0_pay6 x9)) xs0 := by
  unfold sout0_C_0 kernelRun0_C
  dsimp only
  sl_unfold_run_names
  simp only [readAt_whole2, read_whole2, View.readCov, readAt_chunk _ _ 0 _ (by omega), readAt_chunk' _ _ 512 _ (by omega), readAt_chunk' _ _ 1024 _ (by omega), readAt_chunk' _ _ 1536 _ (by omega), readAt_chunk' _ _ 2048 _ (by omega), harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
  exact fill_step _ _ _ _ _ _ _ _ _ _ _ _

set_option maxHeartbeats 1600000 in
theorem hbw0_C_0_eq (hc0 : ¬cond0_0 i) (hc1 : cond0_1 i)
    (xo13 : Vec Ideal S1x1024 .f32) (xs0 : Vec Ideal S1024x2560 .f32) (fw0 : HbBuf0 (F := Ideal) c hbM0_0) :
    (hbw0_C_0 (F := Ideal) c i arg1 harg1 arg2 harg2 arg3 harg3 arg4 harg4 arg5 harg5 arg6 harg6 arg7 harg7 arg8 harg8 arg9 harg9 arg10 harg10 arg11 harg11 arg12 harg12 arg13 harg13 arg15 harg15 arg16 harg16 hc0 hc1 x0 x1 x2 x3 x4 x5 x6 x7 x8 x9 x10 x11 xo13 xs0 fw0 : Vec Ideal S1024x2560 .f32)
      = accStep (k0_pay3 (F := Ideal) x0 x1 x2 x3 x4 x5 x6 x7) (k0_pay7 (F := Ideal) (k0_pay5 x8) (k0_pay6 x9)) xs0 := by
  unfold hbw0_C_0 kernelRun0_C
  dsimp only
  sl_unfold_run_names
  simp only [readAt_whole2, read_whole2, View.readCov, readAt_chunk _ _ 0 _ (by omega), readAt_chunk' _ _ 512 _ (by omega), readAt_chunk' _ _ 1024 _ (by omega), readAt_chunk' _ _ 1536 _ (by omega), readAt_chunk' _ _ 2048 _ (by omega), harg1.read_unread, harg2.read_unread, harg3.read_unread, harg4.read_unread, harg5.read_unread, harg6.read_unread, harg7.read_unread, harg8.read_unread, harg9.read_unread, harg10.read_unread, harg11.read_unread, harg12.read_unread, harg15.read_unread, harg16.read_unread]
  refine (View.write_whole_univ _ _ _).trans ?_
  exact fill_step _ _ _ _ _ _ _ _ _ _ _ _

end Cert.InprojIdeal.Gen

end
-- ==== Proof.InBlock.lean ====
/- The input projection's backward kernel: the blocks a grid step reads, at coordinates of the arguments. -/
module

public import proofs.«01_k».proof.Proof.Gen.InprojIdeal.Value
public import proofs.«01_k».proof.Proof.InBody
public import Idealize.ShloMosaic.Lib.StableHlo.RunRead
public import Idealize.ShloMosaic.Lib.IdealHost
public import Idealize.ShloMosaic.Lib.Pipeline.ValueKit

@[expose] public section

set_option maxRecDepth 16384

noncomputable section

namespace Cert.InprojIdeal.Gen

open Idealize.ShloMosaic Idealize.ShloMosaic.TcCoe Idealize.ShloMosaic.Tactic Idealize.SL.Sem
open Idealize.ShloMosaic.Pipeline (Dat)
open Cert.Inproj

variable (m : (ℓ : Loc nD τ sig) → Buf (Elt Ideal) ℓ)

/-- Where each window's block sits at step `t`: the rows of the step, or the whole array. -/
theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] ∧ win0_11.index t = ![t.val, 0]
    ∧ win0_12.index t = ![t.val, 0] ∧ win0_13.index t = ![0, 0]) ∧ t.val < 17 :=
  (by decide +kernel : ∀ t : Fin grid0.N, _)

/-- Row `r` of step `t`. -/
def rowOf (t : Fin cfg0.N) (r : Fin 256) : Fin 4352 := ⟨256 * t.val + r.val, by have : t.val < 17 := t.isLt; omega⟩

theorem blk0 (c : Dev nD) (t : Fin cfg0.N) (r : Fin 256) (x : Fin 512) :
    (iblk m c 0 t : Vec Ideal S256x512 .f32) (ix2 r x) = m ((c : Thread nD τ).loc main_arg0) (ix2 (rowOf t r) x) := by
  rw [← V_main_arg0 m c]
  blk_ext [iblk, idx t, rowOf]
theorem blk1 (c : Dev nD) (t : Fin cfg0.N) (r : Fin 256) (x : Fin 256) :
    (iblk m c 1 t : Vec Ideal S256x256 .f32) (ix2 r x) = m ((c : Thread nD τ).loc main_arg1) (ix2 (rowOf t r) x) := by
  rw [← V_main_arg1 m c]
  blk_ext [iblk, idx t, rowOf]
theorem blk2 (c : Dev nD) (t : Fin cfg0.N) (r : Fin 256) (x : Fin 256) :
    (iblk m c 2 t : Vec Ideal S256x256 .f32) (ix2 r x) = m ((c : Thread nD τ).loc main_arg2) (ix2 (rowOf t r) x) := by
  rw [← V_main_arg2 m c]
  blk_ext [iblk, idx t, rowOf]
theorem blk3 (c : Dev nD) (t : Fin cfg0.N) (r : Fin 256) (x : Fin 512) :
    (iblk m c 3 t : Vec Ideal S256x512 .f32) (ix2 r x) = m ((c : Thread nD τ).loc main_arg3) (ix2 (rowOf t r) x) := by
  rw [← V_main_arg3 m c]
  blk_ext [iblk, idx t, rowOf]
theorem blk4 (c : Dev nD) (t : Fin cfg0.N) (r : Fin 256) (x : Fin 256) :
    (iblk m c 4 t : Vec Ideal S256x256 .f32) (ix2 r x) = m ((c : Thread nD τ).loc main_arg4) (ix2 (rowOf t r) x) := by
  rw [← V_main_arg4 m c]
  blk_ext [iblk, idx t, rowOf]
theorem blk5 (c : Dev nD) (t : Fin cfg0.N) (r : Fin 256) (x : Fin 128) :
    (iblk m c 5 t : Vec Ideal S256x128 .f32) (ix2 r x) = m ((c : Thread nD τ).loc main_arg5) (ix2 (rowOf t r) x) := by
  rw [← V_main_arg5 m c]
  blk_ext [iblk, idx t, rowOf]
theorem blk6 (c : Dev nD) (t : Fin cfg0.N) (r : Fin 256) (x : Fin 128) :
    (iblk m c 6 t : Vec Ideal S256x128 .f32) (ix2 r x) = m ((c : Thread nD τ).loc main_arg6) (ix2 (rowOf t r) x) := by
  rw [← V_main_arg6 m c]
  blk_ext [iblk, idx t, rowOf]
theorem blk7 (c : Dev nD) (t : Fin cfg0.N) (r : Fin 256) (x : Fin 512) :
    (iblk m c 7 t : Vec Ideal S256x512 .f32) (ix2 r x) = m ((c : Thread nD τ).loc main_arg7) (ix2 (rowOf t r) x) := by
  rw [← V_main_arg7 m c]
  blk_ext [iblk, idx t, rowOf]
theorem blk8 (c : Dev nD) (t : Fin cfg0.N) (r : Fin 256) (x : Fin 1024) :
    (iblk m c 8 t : Vec Ideal S256x1024 .f32) (ix2 r x) = m ((c : Thread nD τ).loc main_arg8) (ix2 (rowOf t r) x) := by
  rw [← V_main_arg8 m c]
  blk_ext [iblk, idx t, rowOf]
theorem blk11 (c : Dev nD) (t : Fin cfg0.N) (r : Fin 256) (x : Fin 1024) :
    (iblk m c 11 t : Vec Ideal S256x1024 .f32) (ix2 r x) = m ((c : Thread nD τ).loc main_arg11) (ix2 (rowOf t r) x) := by
  rw [← V_main_arg11 m c]
  blk_ext [iblk, idx t, rowOf]
theorem blk9 (c : Dev nD) (t : Fin cfg0.N) (r : Fin 1) (x : Fin 1024) :
    (iblk m c 9 t : Vec Ideal S1x1024 .f32) (ix2 r x) = m ((c : Thread nD τ).loc main_arg9) (ix2 r x) := by
  rw [← V_main_arg9 m c]
  blk_ext [iblk, idx t]

theorem V_w (c : Dev nD) (k : Fin 1024) (j : Fin 2560) : (V m c main_v0 : Vec Ideal S1024x2560 .bf16) (ix2 k j) = m ((c : Thread nD τ).loc main_arg10) (ix2 k j) := by
  show StableHlo.after hostOps0 (fun b => m (c, b)) (Proc.devRef .tc main_v0) (ix2 k j) = _
  unfold hostOps0
  after_reads_simp
  rfl

theorem blk10 (c : Dev nD) (t : Fin cfg0.N) (k : Fin 1024) (j : Fin 2560) :
    (iblk m c 10 t : Vec Ideal S1024x2560 .bf16) (ix2 k j) = m ((c : Thread nD τ).loc main_arg10) (ix2 k j) := by
  rw [← V_w m c k j]
  blk_ext [iblk, idx t]

end Cert.InprojIdeal.Gen

end
-- ==== Proof.InSum.lean ====
/- The input projection's backward kernel: what the grid steps leave, as sums over the rows. -/
module

public import proofs.«01_k».proof.Proof.InBlock

@[expose] public section

set_option maxRecDepth 16384

noncomputable section

namespace Cert.InprojIdeal.Gen

open Idealize.ShloMosaic Idealize.ShloMosaic.TcCoe Idealize.ShloMosaic.Tactic Idealize.SL.Sem
open Idealize.ShloMosaic.Pipeline (Dat)
open Cert.Inproj

variable (m : (ℓ : Loc nD τ sig) → Buf (Elt Ideal) ℓ) (c : Dev nD)

/-! ### The arguments by rows -/

/-- Row `R` of the projection's gradient. -/
def dRow (R : Fin 4352) : Fin 2560 → EReal :=
  cat8 (fun y => m ((c : Thread nD τ).loc main_arg0) (ix2 R y)) (fun y => m ((c : Thread nD τ).loc main_arg1) (ix2 R y)) (fun y => m ((c : Thread nD τ).loc main_arg2) (ix2 R y)) (fun y => m ((c : Thread nD τ).loc main_arg3) (ix2 R y)) (fun y => m ((c : Thread nD τ).loc main_arg4) (ix2 R y)) (fun y => m ((c : Thread nD τ).loc main_arg5) (ix2 R y)) (fun y => m ((c : Thread nD τ).loc main_arg6) (ix2 R y)) (fun y => m ((c : Thread nD τ).loc main_arg7) (ix2 R y))
/-- Row `R` of the residual stream, and of its gradient from above. -/
def hRow (R : Fin 4352) (k : Fin 1024) : EReal := m ((c : Thread nD τ).loc main_arg8) (ix2 R k)
def oRow (R : Fin 4352) (k : Fin 1024) : EReal := m ((c : Thread nD τ).loc main_arg11) (ix2 R k)
/-- The gain and the weight. -/
def gVec (k : Fin 1024) : EReal := m ((c : Thread nD τ).loc main_arg9) (ix2 0 k)
def wMat (k : Fin 1024) (j : Fin 2560) : EReal := m ((c : Thread nD τ).loc main_arg10) (ix2 k j)
/-- Row `R` of the normed stream, before the gain. -/
def nRow (R : Fin 4352) (k : Fin 1024) : EReal := hRow m c R k * rst (hRow m c R)

/-- A step's block of the projection's gradient, and of the normed stream with the gain. -/
def dBlk (t : Fin cfg0.N) : Vec Ideal S256x2560 .bf16 := (k0_pay3 (F := Ideal) (iblk m c 0 t) (iblk m c 1 t) (iblk m c 2 t) (iblk m c 3 t) (iblk m c 4 t) (iblk m c 5 t) (iblk m c 6 t) (iblk m c 7 t))
def uBlk (t : Fin cfg0.N) : Vec Ideal S256x1024 .bf16 := k0_pay7 (F := Ideal) (k0_pay5 (iblk m c 8 t)) (k0_pay6 (iblk m c 9 t))

theorem dBlk_at (t : Fin cfg0.N) (r : Fin 256) (j : Fin 2560) : dBlk m c t (ix2 r j) = dRow m c (rowOf t r) j := by
  unfold dBlk dRow
  rw [pay3_at]
  simp only [blk0, blk1, blk2, blk3, blk4, blk5, blk6, blk7]

theorem uBlk_at (t : Fin cfg0.N) (r : Fin 256) (k : Fin 1024) : uBlk m c t (ix2 r k) = nRow m c (rowOf t r) k * gVec m c k := by
  unfold uBlk nRow gVec
  rw [pay7_at]
  simp only [blk8, blk9]
  rfl

/-! ### One step -/

theorem step_dh (t : Fin cfg0.N) :
    (outsAt0 m c t.val t.isLt).1 = k0_pay15 (dBlk m c t) (iblk m c 8 t) (iblk m c 9 t) (k0_pay4 (iblk m c 8 t)) (iblk m c 10 t) (iblk m c 11 t) := by
  have ht : t.val < 17 := t.isLt
  by_cases h0 : t.val % 17 = 0
  · rw [outsAt0_A m c t h0 (by omega)]
    dsimp only
    rw [out0_A_12_eq]
    rfl
  · by_cases h1 : t.val % 17 = 16
    · rw [outsAt0_C m c t h0 h1]
      dsimp only
      rw [out0_C_12_eq]
      rfl
    · rw [outsAt0_B m c t h0 h1]
      dsimp only
      rw [out0_B_12_eq]
      rfl

theorem first_dg (t : Fin cfg0.N) (h0 : t.val % 17 = 0) :
    (outsAt0 m c t.val t.isLt).2.1 = k0_pay16 (dBlk m c t) (iblk m c 8 t) (k0_pay4 (iblk m c 8 t)) (iblk m c 10 t) (k0_pay2 (F := Ideal)) := by
  have ht : t.val < 17 := t.isLt
  rw [outsAt0_A m c t h0 (by omega)]
  dsimp only
  rw [out0_A_13_eq]
  rfl

theorem next_dg (t : Fin cfg0.N) (h0 : ¬ t.val % 17 = 0) (hp : t.val - 1 < cfg0.N) :
    (outsAt0 m c t.val t.isLt).2.1 = k0_pay16 (dBlk m c t) (iblk m c 8 t) (k0_pay4 (iblk m c 8 t)) (iblk m c 10 t) (outsAt0 m c (t.val - 1) hp).2.1 := by
  by_cases h1 : t.val % 17 = 16
  · rw [outsAt0_C m c t h0 h1]
    dsimp only
    rw [out0_C_13_eq]
    rfl
  · rw [outsAt0_B m c t h0 h1]
    dsimp only
    rw [out0_B_13_eq]
    rfl

theorem first_acc (t : Fin cfg0.N) (h0 : t.val % 17 = 0) :
    (outsAt0 m c t.val t.isLt).2.2.1 = accStep (dBlk m c t) (uBlk m c t) (k0_pay1 (F := Ideal)) := by
  have ht : t.val < 17 := t.isLt
  rw [outsAt0_A m c t h0 (by omega)]
  dsimp only
  rw [sout0_A_0_eq]
  rfl

theorem next_acc (t : Fin cfg0.N) (h0 : ¬ t.val % 17 = 0) (hp : t.val - 1 < cfg0.N) :
    (outsAt0 m c t.val t.isLt).2.2.1 = accStep (dBlk m c t) (uBlk m c t) (outsAt0 m c (t.val - 1) hp).2.2.1 := by
  by_cases h1 : t.val % 17 = 16
  · rw [outsAt0_C m c t h0 h1]
    dsimp only
    rw [sout0_C_0_eq]
    rfl
  · rw [outsAt0_B m c t h0 h1]
    dsimp only
    rw [sout0_B_0_eq]
    rfl

/-- The copy out of the last step carries what the scratch holds after it. -/
theorem last_held (t : Fin cfg0.N) (h1 : t.val % 17 = 16) :
    ((outsAt0 m c t.val t.isLt).2.2.2 : Vec Ideal S1024x2560 .f32) = (outsAt0 m c t.val t.isLt).2.2.1 := by
  have h0 : ¬ t.val % 17 = 0 := by omega
  rw [outsAt0_C m c t h0 h1]
  dsimp only
  rw [sout0_C_0_eq]
  exact hbw0_C_0_eq ..

/-! ### All steps -/

theorem pay1_at (y : S1024x2560.Idx) : k0_pay1 (F := Ideal) y = 0 := by
  pointwise [k0_pay1]
theorem pay2_at (y : S1x1024.Idx) : k0_pay2 (F := Ideal) y = 0 := by
  pointwise [k0_pay2]

/-- A step's part of the weight's gradient, and of the gain's. -/
def wPart (t : Fin cfg0.N) (k : Fin 1024) (j : Fin 2560) : EReal :=
  ∑ r : Fin 256, nRow m c (rowOf t r) k * gVec m c k * dRow m c (rowOf t r) j
def gPart (t : Fin cfg0.N) (k : Fin 1024) : EReal :=
  ∑ r : Fin 256, dnr (dRow m c (rowOf t r)) (wMat m c) k * nRow m c (rowOf t r) k

theorem acc_step (t : Fin cfg0.N) (A : Vec Ideal S1024x2560 .f32) (k : Fin 1024) (j : Fin 2560) :
    accStep (dBlk m c t) (uBlk m c t) A (ix2 k j) = A (ix2 k j) + wPart m c t k j := by
  refine congrArg (A (ix2 k j) + ·) (Finset.sum_congr rfl fun r _ => ?_)
  show uBlk m c t (ix2 r k) * dBlk m c t (ix2 r j) = _
  rw [uBlk_at, dBlk_at]

theorem dg_step (t : Fin cfg0.N) (A : Vec Ideal S1x1024 .f32) (k : Fin 1024) :
    k0_pay16 (F := Ideal) (dBlk m c t) (iblk m c 8 t) (k0_pay4 (iblk m c 8 t)) (iblk m c 10 t) A (ix2 0 k) = A (ix2 0 k) + gPart m c t k := by
  rw [pay16_at]
  refine congrArg (A (ix2 0 k) + ·) (Finset.sum_congr rfl fun r _ => ?_)
  simp only [dBlk_at, blk10, blk8]
  rfl

theorem acc_sum (k : Fin 1024) (j : Fin 2560) : ∀ (n : ℕ) (hn : n < cfg0.N),
    (outsAt0 m c n hn).2.2.1 (ix2 k j) = ∑ s : Fin (n + 1), wPart m c ⟨s.val, lt_of_lt_of_le s.isLt hn⟩ k j := by
  intro n
  induction n with
  | zero =>
    intro hn
    rw [first_acc m c ⟨0, hn⟩ rfl, acc_step, pay1_at, zero_add]
    exact (Fin.sum_univ_one (fun s : Fin 1 => wPart m c ⟨s.val, lt_of_lt_of_le s.isLt hn⟩ k j)).symm
  | succ n ih =>
    intro hn
    have h17 : n + 1 < 17 := hn
    rw [next_acc m c ⟨n + 1, hn⟩ (by show ¬ (n + 1) % 17 = 0; omega) (by show n + 1 - 1 < cfg0.N; exact Nat.lt_of_succ_lt hn), acc_step, Fin.sum_univ_castSucc]
    exact congrArg (· + _) (ih (Nat.lt_of_succ_lt hn))

theorem dg_sum (k : Fin 1024) : ∀ (n : ℕ) (hn : n < cfg0.N),
    (outsAt0 m c n hn).2.1 (ix2 0 k) = ∑ s : Fin (n + 1), gPart m c ⟨s.val, lt_of_lt_of_le s.isLt hn⟩ k := by
  intro n
  induction n with
  | zero =>
    intro hn
    rw [first_dg m c ⟨0, hn⟩ rfl, dg_step, pay2_at, zero_add]
    exact (Fin.sum_univ_one (fun s : Fin 1 => gPart m c ⟨s.val, lt_of_lt_of_le s.isLt hn⟩ k)).symm
  | succ n ih =>
    intro hn
    have h17 : n + 1 < 17 := hn
    rw [next_dg m c ⟨n + 1, hn⟩ (by show ¬ (n + 1) % 17 = 0; omega) (by show n + 1 - 1 < cfg0.N; exact Nat.lt_of_succ_lt hn), dg_step, Fin.sum_univ_castSucc]
    exact congrArg (· + _) (ih (Nat.lt_of_succ_lt hn))

/-- Seventeen steps of 256 rows are the 4352 rows. -/
theorem sum_rows (f : Fin 4352 → EReal) (h : ∀ s : Fin 17, s.val < cfg0.N) :
    ∑ s : Fin 17, ∑ r : Fin 256, f (rowOf ⟨s.val, h s⟩ r) = ∑ R : Fin 4352, f R := by
  rw [← Fintype.sum_prod_type' (fun (s : Fin 17) (r : Fin 256) => f (rowOf ⟨s.val, h s⟩ r))]
  refine Fintype.sum_equiv (finProdFinEquiv (m := 17) (n := 256)) _ _ fun p => congrArg f (Fin.ext ?_)
  show 256 * p.1.val + p.2.val = p.2.val + 256 * p.1.val
  omega

/-! ### The three results -/

/-- The row of the stream's gradient. -/
def dhAll : Vec Ideal S4352x1024 .f32 := fun y => dhK (dRow m c (y 0)) (wMat m c) (hRow m c (y 0)) (gVec m c) (oRow m c (y 0)) (y 1)

theorem arr_dh : (dats m 0 c).arrAt 12 cfg0.N = dhAll m c := by
  refine (dats m 0 c).arrAt_eq_of_covers 12 _ (by decide +kernel) fun t _ y => ?_
  blk_simp
  rw [after0_12, step_dh]
  obtain ⟨r, k, rfl⟩ : ∃ (r : Fin 256) (k : Fin 1024), y = ix2 r k := ⟨y 0, y 1, (ix2_eta y).symm⟩
  rw [pay15_at]
  simp only [dBlk_at, blk8, blk9, blk10, blk11]
  have e0 : (((View.whole main_v1_0).slice (win0_12.rect t)).emb (ix2 r k) : S4352x1024.Idx) = ix2 (rowOf t r) k := by
    blk_ext [idx t, rowOf]
  rw [e0]
  rfl

theorem held_at (k : Fin 1024) (j : Fin 2560) (n : ℕ) (e : n = 16) (hn : n < cfg0.N) :
    ((outsAt0 m c n hn).2.2.2 : Vec Ideal S1024x2560 .f32) (ix2 k j) = ∑ R : Fin 4352, nRow m c R k * gVec m c k * dRow m c R j := by
  refine (congrFun (last_held m c ⟨n, hn⟩ (by show n % 17 = 16; omega)) (ix2 k j)).trans ?_
  refine (acc_sum m c k j n hn).trans ?_
  subst e
  exact sum_rows (fun R => nRow m c R k * gVec m c k * dRow m c R j) _

theorem held_dw (k : Fin 1024) (j : Fin 2560) (hn : (Fin.last cfg0.N).val - 1 < cfg0.N) :
    ((outsAt0 m c ((Fin.last cfg0.N).val - 1) hn).2.2.2 : Vec Ideal S1024x2560 .f32) (ix2 k j)
      = ∑ R : Fin 4352, nRow m c R k * gVec m c k * dRow m c R j :=
  held_at m c k j _ (by rw [Fin.val_last, show cfg0.N = 17 from N_0]) hn

/-- The weight's gradient. -/
def dwAll : Vec Ideal S1024x2560 .f32 := fun y => ∑ R : Fin 4352, nRow m c R (y 0) * gVec m c (y 0) * dRow m c R (y 1)

theorem held_all (hn : (Fin.last cfg0.N).val - 1 < cfg0.N) : ((outsAt0 m c ((Fin.last cfg0.N).val - 1) hn).2.2.2 : Vec Ideal S1024x2560 .f32) = dwAll m c := by
  funext y
  obtain ⟨k, j, rfl⟩ : ∃ (k : Fin 1024) (j : Fin 2560), y = ix2 k j := ⟨y 0, y 1, (ix2_eta y).symm⟩
  exact held_dw m c k j hn

/-- The gain's gradient. -/
def dgAll : Vec Ideal S1x1024 .f32 := fun y => ∑ R : Fin 4352, dnr (dRow m c R) (wMat m c) (y 1) * nRow m c R (y 1)

theorem flush13 : ∀ t : Fin cfg0.N, (cfg0.win 13).flush t = true → t.val = 16 :=
  (by decide +kernel : ∀ t : Fin grid0.N, _)

theorem dg_at (k : Fin 1024) (n : ℕ) (e : n = 16) (hn : n < cfg0.N) :
    (outsAt0 m c n hn).2.1 (ix2 0 k) = ∑ R : Fin 4352, dnr (dRow m c R) (wMat m c) k * nRow m c R k := by
  subst e
  refine (dg_sum m c k 16 hn).trans ?_
  exact sum_rows (fun R => dnr (dRow m c R) (wMat m c) k * nRow m c R k) _

theorem arr_dg : (dats m 0 c).arrAt 13 cfg0.N = dgAll m c := by
  refine (dats m 0 c).arrAt_eq_of_covers 13 _ (by decide +kernel) fun t ht y => ?_
  have e16 := flush13 t ht
  blk_simp
  rw [after0_13]
  obtain ⟨z, k, rfl⟩ : ∃ (z : Fin 1) (k : Fin 1024), y = ix2 z k := ⟨y 0, y 1, (ix2_eta y).symm⟩
  obtain rfl : z = 0 := Subsingleton.elim _ _
  have e0 : (((View.whole main_v1_2).slice (win0_13.rect t)).emb (ix2 0 k) : S1x1024.Idx) = ix2 0 k := by
    blk_ext [idx t]
  rw [e0, dg_at m c k t.val e16]
  rfl

end Cert.InprojIdeal.Gen

end
-- ==== Proof.InReal.lean ====
/- One row's gradient through the norm: the kernel's form and the reference's are the same number, for every row of
   extended reals. -/
module

public import proofs.«01_k».proof.Proof.InRow
public import proofs.«01_k».proof.Proof.Real

@[expose] public section

noncomputable section

namespace Cert.Inproj

open Idealize.ShloMosaic

/-- Minus one half, as the reference prints it. -/
abbrev mhalf : EReal := Ideal.ofBits .f32 0xBF000000#32

/-- What the derivative through the root gives each entry of a row, half of it. -/
def sR (d : Fin 2560 → EReal) (w : Fin 1024 → Fin 2560 → EReal) (h g : Fin 1024 → EReal) : EReal :=
  ∑ z : Fin 1, Ideal.div ((∑ x : Fin 1024, h x * (dnr d w x * g x)) * (mhalf * Ideal.div (rst h) (msq h))) width

/-- The row's gradient as the reference computes it. -/
def dhR (d : Fin 2560 → EReal) (w : Fin 1024 → Fin 2560 → EReal) (h g o : Fin 1024 → EReal) (k : Fin 1024) : EReal :=
  o k + dnr d w k * g k * rst h + h k * sR d w h g + sR d w h g * h k

theorem width_eq : width = ((1024 : ℝ) : EReal) := by
  simp [width, Ideal.ofBits, Ideal.ieee, ← EReal.coe_mul]; norm_num
theorem mhalf_eq : mhalf = ((-(1 / 2) : ℝ) : EReal) := by
  simp [mhalf, Ideal.ofBits, Ideal.ieee, ← EReal.coe_mul]; norm_num
theorem eps_eq : ∃ e : ℝ, 0 < e ∧ eps = ((e : ℝ) : EReal) := by
  refine ⟨_, ?_, by simp [eps, Ideal.ofBits, Ideal.ieee, ← EReal.coe_mul]; rfl⟩
  norm_num

theorem square_nonneg (x : EReal) : 0 ≤ x * x := by
  induction x with
  | bot => simp
  | top => simp
  | coe x => rw [← EReal.coe_mul]; exact EReal.coe_nonneg.2 (mul_self_nonneg x)

theorem div_width (S : EReal) : Ideal.div S width = S * ((1 / 1024 : ℝ) : EReal) := by
  rw [width_eq, Ideal.div_coe (by norm_num)]

/-- A row with an infinite entry has an infinite mean square; any other row has a positive real one. -/
theorem msq_cases (h : Fin 1024 → EReal) :
    msq h = ⊤ ∨ ((∃ X : ℝ, 0 < X ∧ msq h = (X : EReal)) ∧ ∀ k, ∃ x : ℝ, h k = (x : EReal)) := by
  obtain ⟨e, he, hee⟩ := eps_eq
  by_cases hr : ∀ k, ∃ x : ℝ, h k = (x : EReal)
  · refine Or.inr ⟨?_, hr⟩
    choose x hx using hr
    refine ⟨(∑ k, x k * x k) * (1 / 1024) + e, ?_, ?_⟩
    · have : 0 ≤ ∑ k, x k * x k := Finset.sum_nonneg fun k _ => mul_self_nonneg (x k)
      positivity
    · unfold msq
      rw [div_width, hee, EReal.coe_add, EReal.coe_mul, Cert.Mla.coe_sum]
      simp only [hx, EReal.coe_mul]
  · refine Or.inl ?_
    obtain ⟨k, hk⟩ := not_forall.1 hr
    have hkk : h k * h k = ⊤ := by
      generalize h k = y at hk
      induction y with
      | bot => exact EReal.bot_mul_bot
      | top => exact EReal.top_mul_top
      | coe y => exact absurd ⟨y, rfl⟩ hk
    have hs : (∑ k, h k * h k) = ⊤ :=
      top_le_iff.1 (hkk ▸ Finset.single_le_sum (f := fun k => h k * h k) (fun k _ => square_nonneg (h k)) (Finset.mem_univ k))
    unfold msq
    rw [hs, div_width, hee, EReal.top_mul_coe_of_pos (by norm_num), EReal.top_add_coe]

theorem add_self (y : EReal) : y + y = y * ((2 : ℝ) : EReal) := by
  induction y with
  | bot => rw [EReal.bot_add, EReal.bot_mul_coe_of_pos (by norm_num)]
  | top => rw [EReal.top_add_top, EReal.top_mul_coe_of_pos (by norm_num)]
  | coe y => rw [← EReal.coe_add, ← EReal.coe_mul]; congr 1; ring

/-- The two forms of the part of the gradient that goes through the root. -/
theorem root_part (d : Fin 2560 → EReal) (w : Fin 1024 → Fin 2560 → EReal) (h g : Fin 1024 → EReal) (k : Fin 1024) :
    -(h k * (rst h * rst h * rst h) * Ideal.div (∑ x : Fin 1024, dnr d w x * g x * h x) width) = h k * sR d w h g + sR d w h g * h k := by
  have hs : (∑ x : Fin 1024, h x * (dnr d w x * g x)) = ∑ x : Fin 1024, dnr d w x * g x * h x :=
    Finset.sum_congr rfl fun x _ => mul_comm _ _
  unfold sR
  rw [hs, Fin.sum_univ_one]
  generalize (∑ x : Fin 1024, dnr d w x * g x * h x) = S
  rcases msq_cases h with e | ⟨⟨X, hX, e⟩, hr⟩
  · have hz : rst h = 0 := by unfold rst; rw [e]; exact Ideal.rsqrt_top
    have hd : Ideal.div (0 : EReal) ⊤ = 0 := by simp [Ideal.div]
    rw [hz, e, hd]
    simp [div_width]
  · obtain ⟨x, hx⟩ := hr k
    have hz : rst h = (((Real.sqrt X)⁻¹ : ℝ) : EReal) := by
      unfold rst
      rw [e, Ideal.rsqrt_coe, if_neg (not_lt.2 hX.le), if_neg hX.ne']
    have hc : (Real.sqrt X)⁻¹ * (Real.sqrt X)⁻¹ * (Real.sqrt X)⁻¹ = (Real.sqrt X)⁻¹ / X := by
      have : Real.sqrt X * Real.sqrt X = X := Real.mul_self_sqrt hX.le
      have h0 : Real.sqrt X ≠ 0 := (Real.sqrt_pos.2 hX).ne'
      rw [div_eq_mul_inv, mul_assoc, ← mul_inv, this]
    rw [hz, e, hx, Cert.Mla.div_real _ hX.ne', div_width, div_width, mhalf_eq, ← EReal.coe_mul, ← EReal.coe_mul, ← EReal.coe_mul, hc, ← EReal.coe_mul]
    generalize (Real.sqrt X)⁻¹ / X = a
    rw [mul_comm _ (x : EReal), add_self, mul_assoc S, ← EReal.coe_mul, mul_comm (x : EReal), mul_assoc S, ← EReal.coe_mul, mul_assoc S, ← EReal.coe_mul,
      mul_comm _ (S * _), mul_assoc S, ← EReal.coe_mul, ← mul_neg, ← EReal.coe_neg]
    congr 2
    ring

theorem rows_eq (d : Fin 2560 → EReal) (w : Fin 1024 → Fin 2560 → EReal) (h g o : Fin 1024 → EReal) (k : Fin 1024) :
    dhK d w h g o k = dhR d w h g o k := by
  unfold dhK dhR
  rw [sub_eq_add_neg, root_part, mul_comm (rst h), add_assoc (o k + _), add_assoc (o k)]

end Cert.Inproj

end
-- ==== Proof.InRef.lean ====
/- The input projection's backward pass as plain mathematics: the reference's three results, read at an index. -/
module

public import proofs.«01_k».proof.Proof.Gen.InprojRefIdeal.Run
public import proofs.«01_k».proof.Proof.InReal
public import Idealize.ShloMosaic.Lib.Pointwise
public import Idealize.ShloMosaic.Lib.IdealHost
public import Idealize.ShloMosaic.Lib.StableHlo.RunRead

@[expose] public section

set_option maxRecDepth 16384

noncomputable section

namespace Cert.InprojRefIdeal.Gen

open Idealize.ShloMosaic Idealize.ShloMosaic.TcCoe Idealize.ShloMosaic.Tactic Idealize.SL.Sem
open Cert.Inproj Cert.InprojRefIdeal.Value

variable (m : (ℓ : Loc nD τ sig) → Buf (Elt Ideal) ℓ) (ρ : Dev nD → PrngReg) (c : Dev nD)

/-- Row `R` of the projection's gradient. -/
def dRow (R : Fin 4352) : Fin 2560 → EReal :=
  cat8 (fun y => m ((c : Thread nD τ).loc main_arg0) (ix2 R y)) (fun y => m ((c : Thread nD τ).loc main_arg1) (ix2 R y)) (fun y => m ((c : Thread nD τ).loc main_arg2) (ix2 R y)) (fun y => m ((c : Thread nD τ).loc main_arg3) (ix2 R y)) (fun y => m ((c : Thread nD τ).loc main_arg4) (ix2 R y)) (fun y => m ((c : Thread nD τ).loc main_arg5) (ix2 R y)) (fun y => m ((c : Thread nD τ).loc main_arg6) (ix2 R y)) (fun y => m ((c : Thread nD τ).loc main_arg7) (ix2 R y))
/-- Row `R` of the residual stream, and of its gradient from above. -/
def hRow (R : Fin 4352) (k : Fin 1024) : EReal := m ((c : Thread nD τ).loc main_arg8) (ix2 R k)
def oRow (R : Fin 4352) (k : Fin 1024) : EReal := m ((c : Thread nD τ).loc main_arg11) (ix2 R k)
/-- The gain and the weight. -/
def gVec (k : Fin 1024) : EReal := m ((c : Thread nD τ).loc main_arg9) (ix2 0 k)
def wMat (k : Fin 1024) (j : Fin 2560) : EReal := m ((c : Thread nD τ).loc main_arg10) (ix2 k j)

/-! ### The reference's lines, one value a name -/

/-- The projection's gradient, the gradient of the normed stream, the mean square with `eps`, and one over its root. -/
def catF : FVec Ideal S4352x2560 .f32 := fn_main_v0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def nF : FVec Ideal S4352x1024 .f32 := Host.dotGeneral dot_S4352x2560_S1024x2560_S4352x1024_1_1_0_0_n_n (φ₁ := .f32) (φ₂ := .f32) none (catF m c) (m ((c : Thread nD τ).loc main_arg10) : FVec Ideal S1024x2560 .f32)
def xF : FVec Ideal S4352x1 .f32 :=
  addf (Host.divf (broadcastInDim S4352x1 ![0] bcast_S4352_S4352x1_0
      (Host.reduceAdd (mulf (m ((c : Thread nD τ).loc main_arg8)) (m ((c : Thread nD τ).loc main_arg8))) (constant S_ .f32 0x00000000#32) reducesTo_S4352x1024_S4352_d1 h_S_))
    (broadcastInDim S4352x1 ![] bcast_S_S4352x1 (constant S_ .f32 0x44800000#32))) (broadcastInDim S4352x1 ![] bcast_S_S4352x1 (constant S_ .f32 0x358637BD#32))
def rF : FVec Ideal S4352x1 .f32 := Host.rsqrt (xF m c)
/-- The same with the gain, and what the root's derivative gives a row. -/
def zF : FVec Ideal S4352x1024 .f32 := mulf (nF m c) (broadcastInDim S4352x1024 ![0, 1] bcast_S1x1024_S4352x1024_0_1 (m ((c : Thread nD τ).loc main_arg9)))
def dotF : FVec Ideal S4352x1 .f32 :=
  shapeCast _ (Host.reduceAdd (mulf (m ((c : Thread nD τ).loc main_arg8)) (zF m c)) (constant S_ .f32 0x00000000#32) reducesTo_S4352x1024_S4352_d1 h_S_) shapeCasts_S4352_S4352x1
def facF : FVec Ideal S4352x1 .f32 := mulf (broadcastInDim S4352x1 ![] bcast_S_S4352x1 (constant S_ .f32 0xBF000000#32)) (Host.divf (rF m c) (xF m c))
def sF : FVec Ideal S4352x1024 .f32 :=
  broadcastInDim S4352x1024 ![0] bcast_S4352_S4352x1024_0
    (Host.reduceAdd (Host.divf (mulf (dotF m c) (facF m c)) (broadcastInDim S4352x1 ![] bcast_S_S4352x1 (constant S_ .f32 0x44800000#32)))
      (constant S_ .f32 0x00000000#32) reducesTo_S4352x1_S4352_d1 h_S_)

theorem catF_at (R : Fin 4352) (j : Fin 2560) : catF m c (ix2 R j) = dRow m c R j := by
  pointwise [catF, fn_main_v0, dRow, cat8]
theorem nF_at (R : Fin 4352) (k : Fin 1024) : nF m c (ix2 R k) = dnr (dRow m c R) (wMat m c) k := by
  unfold dnr
  simp only [← catF_at]
  pointwise [nF, wMat]
theorem xF_at (R : Fin 4352) (z : Fin 1) : xF m c (ix2 R z) = msq (hRow m c R) := by
  pointwise [xF, msq, hRow]
theorem rF_at (R : Fin 4352) (z : Fin 1) : rF m c (ix2 R z) = rst (hRow m c R) := by
  unfold rst
  rw [← xF_at m c R z]
  pointwise [rF]
theorem zF_at (R : Fin 4352) (k : Fin 1024) : zF m c (ix2 R k) = dnr (dRow m c R) (wMat m c) k * gVec m c k := by
  rw [← nF_at]
  pointwise [zF, gVec]
theorem dotF_at (R : Fin 4352) (z : Fin 1) : dotF m c (ix2 R z) = (∑ x : Fin 1024, hRow m c R x * (dnr (dRow m c R) (wMat m c) x * gVec m c x) : EReal) := by
  simp only [← zF_at]
  pointwise [dotF, hRow]
theorem facF_at (R : Fin 4352) (z : Fin 1) : facF m c (ix2 R z) = mhalf * Ideal.div (rst (hRow m c R)) (msq (hRow m c R)) := by
  rw [← rF_at m c R z, ← xF_at m c R z]
  pointwise [facF]
theorem sF_at (R : Fin 4352) (k : Fin 1024) : sF m c (ix2 R k) = sR (dRow m c R) (wMat m c) (hRow m c R) (gVec m c) := by
  pointwise [sF, sR]
  simp only [dotF_at, facF_at]

theorem res_eq : (res_main_v39 m c : FVec Ideal S4352x1024 .f32)
    = addf (addf (addf (m ((c : Thread nD τ).loc main_arg11)) (mulf (zF m c) (broadcastInDim S4352x1024 ![0, 1] bcast_S4352x1_S4352x1024_0_1 (rF m c)))) (mulf (m ((c : Thread nD τ).loc main_arg8)) (sF m c)))
        (mulf (sF m c) (m ((c : Thread nD τ).loc main_arg8))) := by
  unfold res_main_v39 sF facF dotF zF rF xF nF catF fn_main_v0
  rfl

theorem res_dh (R : Fin 4352) (k : Fin 1024) :
    (res_main_v39 m c : FVec Ideal S4352x1024 .f32) (ix2 R k) = dhR (dRow m c R) (wMat m c) (hRow m c R) (gVec m c) (oRow m c R) k := by
  rw [res_eq]
  unfold dhR
  rw [← zF_at, ← rF_at m c R 0, ← sF_at m c R k]
  pointwise [oRow, hRow]

/-- The gain's gradient, in the same names. -/
def dgF : FVec Ideal S1x1024 .f32 :=
  shapeCast _ (Host.reduceAdd (mulf (mulf (m ((c : Thread nD τ).loc main_arg8)) (broadcastInDim S4352x1024 ![0, 1] bcast_S4352x1_S4352x1024_0_1 (rF m c))) (nF m c))
    (constant S_ .f32 0x00000000#32) reducesTo_S4352x1024_S1024_d0 h_S_) shapeCasts_S1024_S1x1024
theorem dgF_at (k : Fin 1024) : dgF m c (ix2 0 k) = (∑ R : Fin 4352, hRow m c R k * rst (hRow m c R) * dnr (dRow m c R) (wMat m c) k : EReal) := by
  simp only [← nF_at, ← rF_at m c _ 0]
  pointwise [dgF, hRow]

theorem run_at : θ_run defs (onTc (τ := τ) (main (F := Ideal))) ⟨m, fun _ => 0, ρ⟩ fun r => ∀ c : Dev nD,
      (∀ (R : Fin 4352) (k : Fin 1024), (r.2.mem ((c : Thread nD τ).loc main_v39) : FVec Ideal S4352x1024 .f32) (ix2 R k)
        = dhR (dRow m c R) (wMat m c) (hRow m c R) (gVec m c) (oRow m c R) k)
      ∧ (∀ (k : Fin 1024) (j : Fin 2560), (r.2.mem ((c : Thread nD τ).loc main_v18) : FVec Ideal S1024x2560 .f32) (ix2 k j)
        = ∑ R : Fin 4352, dRow m c R j * (hRow m c R k * rst (hRow m c R) * gVec m c k))
      ∧ (∀ k : Fin 1024, (r.2.mem ((c : Thread nD τ).loc main_v22) : FVec Ideal S1x1024 .f32) (ix2 0 k)
        = ∑ R : Fin 4352, hRow m c R k * rst (hRow m c R) * dnr (dRow m c R) (wMat m c) k)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨fun R k => (congrFun (h c).1 (ix2 R k)).trans (res_dh m c R k),
    fun k j => (congrFun (h c).2.1 (ix2 k j)).trans (by pointwise [dRow, hRow, gVec, rst, msq, cat8]),
    fun k => (congrFun ((h c).2.2.1.trans (by unfold dgF rF xF nF catF fn_main_v0; rfl)) (ix2 0 k)).trans (dgF_at m c k),
    (h c).2.2.2⟩) (run m ρ)

end Cert.InprojRefIdeal.Gen

end
-- ==== Proof.InEqual.lean ====
/- The input projection's backward kernel and its reference leave the same three results. -/
module

public import proofs.«01_k».proof.Defs
public import proofs.«01_k».proof.Proof.InSum
public import proofs.«01_k».proof.Proof.InRef

@[expose] public section

set_option maxRecDepth 16384

noncomputable section

namespace Cert.Proof

open Idealize.ShloMosaic Idealize.ShloMosaic.TcCoe Idealize.SL.Sem
open Cert.InprojIdeal.Gen (dRow hRow oRow gVec wMat nRow dhAll dwAll dgAll)

theorem inproj_values : Cert.algebraic_InprojIdeal_InprojRefIdeal := by
  intro m g m' g' _ hagree
  refine ⟨dhAll m, dwAll m, dgAll m, ?_, ?_⟩
  · refine (θ_run _ _ _).mono (fun r h c => ?_) (Cert.InprojIdeal.Value.run_blocks m g)
    obtain ⟨h0, h2, a0, a1, a2, a3, a4, a5, a6, a7, a8, a9, a10, a11, h1⟩ := h c
    exact ⟨h0.trans (Cert.InprojIdeal.Gen.arr_dh m c), h1.trans (Cert.InprojIdeal.Gen.held_all m c _), h2.trans (Cert.InprojIdeal.Gen.arr_dg m c),
      a0, a1, a2, a3, a4, a5, a6, a7, a8, a9, a10, a11⟩
  · refine (θ_run _ _ _).mono (fun r h c => ?_) (Cert.InprojRefIdeal.Gen.run_at m' g')
    obtain ⟨h0, h1, h2, hargs⟩ := h c
    obtain ⟨e0, e1, e2, e3, e4, e5, e6, e7, e8, e9, e10, e11⟩ := hagree c
    have eD : Cert.InprojRefIdeal.Gen.dRow m' c = dRow m c := by
      unfold Cert.InprojRefIdeal.Gen.dRow dRow
      rw [e0, e1, e2, e3, e4, e5, e6, e7]
    have eH : Cert.InprojRefIdeal.Gen.hRow m' c = hRow m c := by
      unfold Cert.InprojRefIdeal.Gen.hRow hRow
      rw [e8]
    have eG : Cert.InprojRefIdeal.Gen.gVec m' c = gVec m c := by
      unfold Cert.InprojRefIdeal.Gen.gVec gVec
      rw [e9]
    have eW : Cert.InprojRefIdeal.Gen.wMat m' c = wMat m c := by
      unfold Cert.InprojRefIdeal.Gen.wMat wMat
      rw [e10]
    have eO : Cert.InprojRefIdeal.Gen.oRow m' c = oRow m c := by
      unfold Cert.InprojRefIdeal.Gen.oRow oRow
      rw [e11]
    rw [eD, eH, eG, eW, eO] at h0
    rw [eD, eH, eG] at h1
    rw [eD, eH, eW] at h2
    refine ⟨funext fun y => ?_, funext fun y => ?_, funext fun y => ?_, hargs⟩
    · obtain ⟨R, k, rfl⟩ : ∃ (R : Fin 4352) (k : Fin 1024), y = ix2 R k := ⟨y 0, y 1, (ix2_eta y).symm⟩
      exact (h0 R k).trans (Cert.Inproj.rows_eq _ _ _ _ _ k).symm
    · obtain ⟨k, j, rfl⟩ : ∃ (k : Fin 1024) (j : Fin 2560), y = ix2 k j := ⟨y 0, y 1, (ix2_eta y).symm⟩
      have e : (∑ R : Fin 4352, dRow m c R j * (hRow m c R k * Cert.Inproj.rst (hRow m c R) * gVec m c k) : EReal) = ∑ R : Fin 4352, nRow m c R k * gVec m c k * dRow m c R j :=
        Finset.sum_congr rfl fun R _ => mul_comm _ _
      exact (h1 k j).trans e
    · obtain ⟨z, k, rfl⟩ : ∃ (z : Fin 1) (k : Fin 1024), y = ix2 z k := ⟨y 0, y 1, (ix2_eta y).symm⟩
      obtain rfl : z = 0 := Subsingleton.elim _ _
      have e : (∑ R : Fin 4352, hRow m c R k * Cert.Inproj.rst (hRow m c R) * Cert.Inproj.dnr (dRow m c R) (wMat m c) k : EReal)
          = ∑ R : Fin 4352, Cert.Inproj.dnr (dRow m c R) (wMat m c) k * nRow m c R k :=
        Finset.sum_congr rfl fun R _ => mul_comm _ _
      exact (h2 k).trans e

end Cert.Proof

end
-- ==== Proof.PrEqual.lean ====
/- The input projection's forward kernel and its reference leave the same result. -/
module

public import proofs.«01_k».proof.Defs
public import proofs.«01_k».proof.Proof.Gen.Proj
public import proofs.«01_k».proof.Proof.Gen.ProjRef
public import proofs.«01_k».proof.Proof.Gen.ProjIdeal.Value
public import proofs.«01_k».proof.Proof.Gen.ProjRefIdeal.Run
public import proofs.«01_k».proof.Proof.InRow
public import Idealize.ShloMosaic.Lib.Pointwise
public import Idealize.ShloMosaic.Lib.IdealHost
public import Idealize.ShloMosaic.Lib.StableHlo.RunRead
public import Idealize.ShloMosaic.Lib.Pipeline.ValueKit

@[expose] public section

set_option maxRecDepth 16384

noncomputable section

namespace Cert.ProjIdeal.Gen

open Idealize.ShloMosaic Idealize.ShloMosaic.TcCoe Idealize.ShloMosaic.Tactic Idealize.SL.Sem
open Idealize.ShloMosaic.Pipeline (Dat)
open Cert.Inproj

/-- One entry of the projection of the normed row `h`, with the gain `g` and a column `w` of the weight. -/
def projAt (h g w : Fin 1024 → EReal) : EReal := ∑ k : Fin 1024, h k * rst h * g k * w k

theorem pay1_at (x : Vec Ideal S544x1024 .f32) (g : Vec Ideal S1x1024 .f32) (w : Vec Ideal S1024x2560 .bf16) (r : Fin 544) (j : Fin 2560) :
    k0_pay1 (F := Ideal) x g w (ix2 r j) = projAt (fun k => x (ix2 r k)) (fun k => g (ix2 0 k)) (fun k => w (ix2 k j)) := by
  pointwise [k0_pay1, projAt, rst, msq]

variable (m : (ℓ : Loc nD τ sig) → Buf (Elt Ideal) ℓ)

theorem idx : ∀ t : Fin cfg0.N, (win0_0.index t = ![t.val, 0] ∧ win0_1.index t = ![0, 0] ∧ win0_2.index t = ![0, 0] ∧ win0_3.index t = ![t.val, 0]) ∧ t.val < 8 :=
  (by decide +kernel : ∀ t : Fin grid0.N, _)

/-- Row `r` of step `t`. -/
def rowOf (t : Fin cfg0.N) (r : Fin 544) : Fin 4352 := ⟨544 * t.val + r.val, by have : t.val < 8 := t.isLt; omega⟩

theorem blk0 (c : Dev nD) (t : Fin cfg0.N) (r : Fin 544) (x : Fin 1024) :
    (iblk m c 0 t : Vec Ideal S544x1024 .f32) (ix2 r x) = m ((c : Thread nD τ).loc main_arg0) (ix2 (rowOf t r) x) := by
  rw [← V_main_arg0 m c]
  blk_ext [iblk, idx t, rowOf]
theorem blk1 (c : Dev nD) (t : Fin cfg0.N) (r : Fin 1) (x : Fin 1024) :
    (iblk m c 1 t : Vec Ideal S1x1024 .f32) (ix2 r x) = m ((c : Thread nD τ).loc main_arg1) (ix2 r x) := by
  rw [← V_main_arg1 m c]
  blk_ext [iblk, idx t]

theorem V_w (c : Dev nD) (k : Fin 1024) (j : Fin 2560) : (V m c main_v0 : Vec Ideal S1024x2560 .bf16) (ix2 k j) = m ((c : Thread nD τ).loc main_arg2) (ix2 k j) := by
  show StableHlo.after hostOps0 (fun b => m (c, b)) (Proc.devRef .tc main_v0) (ix2 k j) = _
  unfold hostOps0
  after_reads_simp
  rfl

theorem blk2 (c : Dev nD) (t : Fin cfg0.N) (k : Fin 1024) (j : Fin 2560) :
    (iblk m c 2 t : Vec Ideal S1024x2560 .bf16) (ix2 k j) = m ((c : Thread nD τ).loc main_arg2) (ix2 k j) := by
  rw [← V_w m c k j]
  blk_ext [iblk, idx t]

/-- What the kernel's result array holds. -/
def projAll (c : Dev nD) : Vec Ideal S4352x2560 .f32 := fun y =>
  projAt (fun k => m ((c : Thread nD τ).loc main_arg0) (ix2 (y 0) k)) (fun k => m ((c : Thread nD τ).loc main_arg1) (ix2 0 k)) (fun k => m ((c : Thread nD τ).loc main_arg2) (ix2 k (y 1)))

theorem out_eq (x : Vec Ideal S544x1024 .f32) (g : Vec Ideal S1x1024 .f32) (w : Vec Ideal S1024x2560 .bf16) : out0_3 x g w = k0_pay1 (F := Ideal) x g w := by
  unfold out0_3
  simp (disch := decide) only [View.canon_cons_unit_lit', View.ld_unit_lit']

theorem arr_proj (c : Dev nD) : (dats m 0 c).arrAt 3 cfg0.N = projAll m c := by
  refine (dats m 0 c).arrAt_eq_of_covers 3 _ (by decide +kernel) fun t _ y => ?_
  blk_simp
  rw [after0_3, out_eq]
  obtain ⟨r, k, rfl⟩ : ∃ (r : Fin 544) (k : Fin 2560), y = ix2 r k := ⟨y 0, y 1, (ix2_eta y).symm⟩
  rw [pay1_at]
  simp only [blk0, blk1, blk2]
  have e0 : (((View.whole main_v1).slice (win0_3.rect t)).emb (ix2 r k) : S4352x2560.Idx) = ix2 (rowOf t r) k := by
    blk_ext [idx t, rowOf]
  rw [e0]
  rfl

end Cert.ProjIdeal.Gen

namespace Cert.Proof

open Idealize.ShloMosaic Idealize.ShloMosaic.TcCoe Idealize.SL.Sem
open Cert.ProjIdeal.Gen (projAll projAt)

theorem proj_values : Cert.algebraic_ProjIdeal_ProjRefIdeal := by
  intro m g m' g' _ hagree
  refine ⟨projAll m, ?_, ?_⟩
  · refine (θ_run _ _ _).mono (fun r h c => ?_) (Cert.ProjIdeal.Value.run_blocks m g)
    exact ⟨(h c).1.trans (Cert.ProjIdeal.Gen.arr_proj m c), (h c).2⟩
  · refine (θ_run _ _ _).mono (fun r h c => ?_) (Cert.ProjRefIdeal.Value.run m' g')
    obtain ⟨e0, e1, e2⟩ := hagree c
    refine ⟨(h c).1.trans (funext fun y => ?_), (h c).2⟩
    obtain ⟨R, j, rfl⟩ : ∃ (R : Fin 4352) (j : Fin 2560), y = ix2 R j := ⟨y 0, y 1, (ix2_eta y).symm⟩
    show _ = projAt (fun k => m ((c : Thread Cert.ProjIdeal.nD Cert.ProjIdeal.τ).loc Cert.ProjIdeal.main_arg0) (ix2 R k)) (fun k => m ((c : Thread Cert.ProjIdeal.nD Cert.ProjIdeal.τ).loc Cert.ProjIdeal.main_arg1) (ix2 0 k))
      (fun k => m ((c : Thread Cert.ProjIdeal.nD Cert.ProjIdeal.τ).loc Cert.ProjIdeal.main_arg2) (ix2 k j))
    rw [← e0, ← e1, ← e2]
    pointwise [projAt, Cert.Inproj.rst, Cert.Inproj.msq]

end Cert.Proof

end
-- ==== Proof.OutRow.lean ====
/- The normed and gated row that the output projection multiplies, as plain formulas. -/
module

public import proofs.«01_k».proof.Proof.InRow
public import Idealize.ShloMosaic.Lib.Pointwise

@[expose] public section

set_option maxRecDepth 16384

noncomputable section

namespace Cert.Out

open Idealize.ShloMosaic Idealize.ShloMosaic.TcCoe
open Cert.Inproj (eps)

/-- The width of one head group, as the programs print it. -/
abbrev width : EReal := Ideal.ofBits .f32 0x44000000#32
/-- The number one, as the programs print it. -/
abbrev one : EReal := Ideal.ofBits .f32 0x3F800000#32

theorem one_eq : one = 1 := by
  have : one = ((1 : ℝ) : EReal) := by simp [one, Ideal.ofBits, Ideal.ieee, ← EReal.coe_mul]; norm_num
  rw [this, EReal.coe_one]

/-- The mean square of a row, with the small number added. -/
def msq (y : Fin 512 → EReal) : EReal := Ideal.div (∑ k : Fin 512, y k * y k) width + eps
/-- One over its root. -/
def rst (y : Fin 512 → EReal) : EReal := Ideal.rsqrt (msq y)
/-- The gate of one entry. -/
def gte (s : EReal) : EReal := s * Ideal.logistic s
/-- The normed row with its gain and gate. -/
def mix (y n s : Fin 512 → EReal) (k : Fin 512) : EReal := y k * rst y * n k * gte (s k)

/-- The reference's form of the logistic function. -/
theorem logistic_eq (s : EReal) : Ideal.div one (one + Ideal.exp (-s)) = Ideal.logistic s := by
  rw [one_eq]; rfl

/-- A sum over both head groups. -/
theorem sum_both (f : Fin 1024 → EReal) : (∑ x : Fin 1024, f x) = (∑ x : Fin 512, f ⟨x.val, by omega⟩) + ∑ x : Fin 512, f ⟨512 + x.val, by omega⟩ :=
  Fin.sum_univ_add (a := 512) (b := 512) f

/-- Two rows laid end to end. -/
def cat2 (a b : Fin 512 → EReal) (x : Fin 1024) : EReal := if h : x.val < 512 then a ⟨x.val, h⟩ else b ⟨x.val - 512, by omega⟩
theorem cat2_left (a b : Fin 512 → EReal) (x : Fin 512) : cat2 a b ⟨x.val, by omega⟩ = a x := by
  unfold cat2; rw [dif_pos (show x.val < 512 from x.isLt)]
theorem cat2_right (a b : Fin 512 → EReal) (x : Fin 512) : cat2 a b ⟨512 + x.val, by omega⟩ = b x := by
  unfold cat2
  rw [dif_neg (show ¬ 512 + x.val < 512 by omega)]
  congr 1
  exact Fin.ext (by simp)

end Cert.Out

end
-- ==== Proof.ObRow.lean ====
/- The gradients of one gated head group on one row: the kernel's forms, the reference's, and why they agree. -/
module

public import proofs.«01_k».proof.Proof.OutRow
public import proofs.«01_k».proof.Proof.InReal

@[expose] public section

set_option maxRecDepth 16384

noncomputable section

namespace Cert.Out

open Idealize.ShloMosaic
open Cert.Inproj (eps mhalf)

/-- The gradient of the gated row: the stream's gradient against the group's rows of the weight. -/
def dyp (d : Fin 1024 → EReal) (w : Fin 512 → Fin 1024 → EReal) (k : Fin 512) : EReal := ∑ j : Fin 1024, d j * w k j

/-- The gate's gradient as the kernel computes it, and as the reference does. -/
def dgK (p y n s : Fin 512 → EReal) (k : Fin 512) : EReal :=
  p k * (y k * rst y * n k) * (Ideal.logistic (s k) * (one + s k * (one - Ideal.logistic (s k))))
def dgR (p y n s : Fin 512 → EReal) (k : Fin 512) : EReal :=
  y k * rst y * n k * p k * Ideal.logistic (s k) + s k * (y k * rst y * n k * p k) * (Ideal.logistic (s k) * (one - Ideal.logistic (s k)))

/-- The gradient that enters the norm. -/
def zed (p n s : Fin 512 → EReal) (k : Fin 512) : EReal := p k * gte (s k) * n k

/-- The attention output's gradient as the kernel computes it. -/
def dyK (p y n s : Fin 512 → EReal) (k : Fin 512) : EReal :=
  rst y * zed p n s k - y k * (rst y * rst y * rst y) * Ideal.div (∑ x : Fin 512, zed p n s x * y x) width

/-- What the derivative through the root gives each entry of a row, half of it, and the gradient as the reference computes it. -/
def sR (y z : Fin 512 → EReal) : EReal :=
  ∑ _ : Fin 1, Ideal.div ((∑ x : Fin 512, y x * z x) * (mhalf * Ideal.div (rst y) (msq y))) width
def dyR (p y n s : Fin 512 → EReal) (k : Fin 512) : EReal :=
  zed p n s k * rst y + y k * sR y (zed p n s) + sR y (zed p n s) * y k

theorem width_eq : width = ((512 : ℝ) : EReal) := by
  simp [width, Ideal.ofBits, Ideal.ieee, ← EReal.coe_mul]; norm_num

theorem div_width (S : EReal) : Ideal.div S width = S * ((1 / 512 : ℝ) : EReal) := by
  rw [width_eq, Ideal.div_coe (by norm_num)]

/-- A row with an infinite entry has an infinite mean square; any other row has a positive real one. -/
theorem msq_cases (h : Fin 512 → EReal) :
    msq h = ⊤ ∨ ((∃ X : ℝ, 0 < X ∧ msq h = (X : EReal)) ∧ ∀ k, ∃ x : ℝ, h k = (x : EReal)) := by
  obtain ⟨e, he, hee⟩ := Cert.Inproj.eps_eq
  by_cases hr : ∀ k, ∃ x : ℝ, h k = (x : EReal)
  · refine Or.inr ⟨?_, hr⟩
    choose x hx using hr
    refine ⟨(∑ k, x k * x k) * (1 / 512) + e, ?_, ?_⟩
    · have : 0 ≤ ∑ k, x k * x k := Finset.sum_nonneg fun k _ => mul_self_nonneg (x k)
      positivity
    · unfold msq
      rw [div_width, hee, EReal.coe_add, EReal.coe_mul, Cert.Mla.coe_sum]
      simp only [hx, EReal.coe_mul]
  · refine Or.inl ?_
    obtain ⟨k, hk⟩ := not_forall.1 hr
    have hkk : h k * h k = ⊤ := by
      generalize h k = y at hk
      induction y with
      | bot => exact EReal.bot_mul_bot
      | top => exact EReal.top_mul_top
      | coe y => exact absurd ⟨y, rfl⟩ hk
    have hs : (∑ k, h k * h k) = ⊤ :=
      top_le_iff.1 (hkk ▸ Finset.single_le_sum (f := fun k => h k * h k) (fun k _ => Cert.Inproj.square_nonneg (h k)) (Finset.mem_univ k))
    unfold msq
    rw [hs, div_width, hee, EReal.top_mul_coe_of_pos (by norm_num), EReal.top_add_coe]

/-- The two forms of the part of the gradient that goes through the root. -/
theorem root_part (h z : Fin 512 → EReal) (k : Fin 512) :
    -(h k * (rst h * rst h * rst h) * Ideal.div (∑ x : Fin 512, z x * h x) width) = h k * sR h z + sR h z * h k := by
  have hs : (∑ x : Fin 512, h x * z x) = ∑ x : Fin 512, z x * h x := Finset.sum_congr rfl fun x _ => mul_comm _ _
  unfold sR
  rw [hs, Fin.sum_univ_one]
  generalize (∑ x : Fin 512, z x * h x) = S
  rcases msq_cases h with e | ⟨⟨X, hX, e⟩, hr⟩
  · have hz : rst h = 0 := by unfold rst; rw [e]; exact Ideal.rsqrt_top
    have hd : Ideal.div (0 : EReal) ⊤ = 0 := by simp [Ideal.div]
    rw [hz, e, hd]
    simp [div_width]
  · obtain ⟨x, hx⟩ := hr k
    have hz : rst h = (((Real.sqrt X)⁻¹ : ℝ) : EReal) := by
      unfold rst
      rw [e, Ideal.rsqrt_coe, if_neg (not_lt.2 hX.le), if_neg hX.ne']
    have hc : (Real.sqrt X)⁻¹ * (Real.sqrt X)⁻¹ * (Real.sqrt X)⁻¹ = (Real.sqrt X)⁻¹ / X := by
      have : Real.sqrt X * Real.sqrt X = X := Real.mul_self_sqrt hX.le
      have h0 : Real.sqrt X ≠ 0 := (Real.sqrt_pos.2 hX).ne'
      rw [div_eq_mul_inv, mul_assoc, ← mul_inv, this]
    rw [hz, e, hx, Cert.Mla.div_real _ hX.ne', div_width, div_width, Cert.Inproj.mhalf_eq, ← EReal.coe_mul, ← EReal.coe_mul, ← EReal.coe_mul, hc, ← EReal.coe_mul]
    generalize (Real.sqrt X)⁻¹ / X = a
    rw [mul_comm _ (x : EReal), Cert.Inproj.add_self, mul_assoc S, ← EReal.coe_mul, mul_comm (x : EReal), mul_assoc S, ← EReal.coe_mul, mul_assoc S, ← EReal.coe_mul,
      mul_comm _ (S * _), mul_assoc S, ← EReal.coe_mul, ← mul_neg, ← EReal.coe_neg]
    congr 2
    ring

theorem dy_eq (p y n s : Fin 512 → EReal) (k : Fin 512) : dyK p y n s k = dyR p y n s k := by
  unfold dyK dyR
  rw [sub_eq_add_neg, root_part, mul_comm (rst y), add_assoc]

/-- A normed entry is a real number, whatever the row. -/
theorem norm_real (y : Fin 512 → EReal) (k : Fin 512) : ∃ a : ℝ, y k * rst y = (a : EReal) := by
  rcases msq_cases y with e | ⟨⟨X, hX, e⟩, hr⟩
  · refine ⟨0, ?_⟩
    have hz : rst y = 0 := by unfold rst; rw [e]; exact Ideal.rsqrt_top
    rw [hz, mul_zero, EReal.coe_zero]
  · obtain ⟨x, hx⟩ := hr k
    have hz : rst y = (((Real.sqrt X)⁻¹ : ℝ) : EReal) := by
      unfold rst
      rw [e, Ideal.rsqrt_coe, if_neg (not_lt.2 hX.le), if_neg hX.ne']
    exact ⟨x * (Real.sqrt X)⁻¹, by rw [hz, hx, EReal.coe_mul]⟩

/-- With a real gain and a real gradient from above, the two forms of the gate's gradient agree for every gate. -/
theorem dg_eq (p y n s : Fin 512 → EReal) (k : Fin 512) (hp : ∃ a : ℝ, p k = (a : EReal)) (hn : ∃ a : ℝ, n k = (a : EReal)) :
    dgK p y n s k = dgR p y n s k := by
  obtain ⟨b, hb⟩ := norm_real y k
  obtain ⟨a, ha⟩ := hp
  obtain ⟨g, hg⟩ := hn
  unfold dgK dgR
  rw [hb, ha, hg, one_eq]
  generalize s k = t
  induction t with
  | bot => rw [Ideal.logistic_bot]; simp
  | top =>
    rw [Ideal.logistic_top]
    have h : (1 : EReal) - 1 = 0 := by rw [← EReal.coe_one, ← EReal.coe_sub, sub_self, EReal.coe_zero]
    rw [h]
    simp only [mul_zero, add_zero, mul_one]
    rw [mul_comm]
  | coe t =>
    rw [Ideal.logistic_coe]
    generalize ((1 + Real.exp (-t))⁻¹ : ℝ) = q
    rw [← EReal.coe_one]
    simp only [← EReal.coe_mul, ← EReal.coe_sub, ← EReal.coe_add]
    congr 1
    ring

/-- A sum of products of real numbers is a real number. -/
theorem dyp_real (d : Fin 1024 → EReal) (w : Fin 512 → Fin 1024 → EReal) (k : Fin 512) (hd : ∀ j, ∃ a : ℝ, d j = (a : EReal))
    (hw : ∀ j, ∃ a : ℝ, w k j = (a : EReal)) : ∃ a : ℝ, dyp d w k = (a : EReal) := by
  choose a ha using hd
  choose b hb using hw
  refine ⟨∑ j, a j * b j, ?_⟩
  unfold dyp
  rw [Cert.Mla.coe_sum]
  simp only [ha, hb, EReal.coe_mul]

end Cert.Out

end
-- ==== Proof.ObPay.lean ====
/- The output projection's backward kernel: what its stored values are, entry by entry. -/
module

public import proofs.«01_k».proof.Proof.Gen.OutbIdeal.Skeleton
public import proofs.«01_k».proof.Proof.ObRow
public import Idealize.ShloMosaic.Lib.Pointwise

@[expose] public section

set_option maxRecDepth 16384

noncomputable section

namespace Cert.OutbIdeal.Gen

open Idealize.ShloMosaic Idealize.ShloMosaic.TcCoe Idealize.ShloMosaic.Tactic Idealize.SL.Sem
open Cert.Out

variable (d : Vec Ideal S256x1024 .f32) (w : Vec Ideal S1024x1024 .bf16) (y s : Vec Ideal S256x512 .f32) (n : Vec Ideal S1x512 .f32) (r : Fin 256) (k : Fin 512)

theorem pay6_at (j : Fin 1024) : k0_pay6 (F := Ideal) d (ix2 r j) = d (ix2 r j) := by
  pointwise [k0_pay6]
theorem pay7_at (x : Fin 1024) : k0_pay7 (F := Ideal) d w (ix2 r x) = ∑ j : Fin 1024, d (ix2 r j) * w (ix2 x j) := by
  pointwise [k0_pay7, k0_pay6]
theorem pay12_at : k0_pay12 (F := Ideal) d w (ix2 r k) = dyp (fun j => d (ix2 r j)) (fun k j => w (ix2 ⟨k.val, by omega⟩ j)) k := by
  unfold dyp
  rw [← pay7_at d w r ⟨k.val, by omega⟩]
  pointwise [k0_pay12]
theorem pay24_at : k0_pay24 (F := Ideal) (k0_pay7 d w) (ix2 r k) = dyp (fun j => d (ix2 r j)) (fun k j => w (ix2 ⟨512 + k.val, by omega⟩ j)) k := by
  unfold dyp
  rw [← pay7_at d w r ⟨512 + k.val, by omega⟩]
  pointwise [k0_pay24]
theorem pay8_at (z : Fin 1) : k0_pay8 (F := Ideal) y (ix2 r z) = rst (fun k => y (ix2 r k)) := by
  pointwise [k0_pay8, rst, msq]
theorem pay20_at (z : Fin 1) : k0_pay20 (F := Ideal) (k0_pay19 y) (ix2 r z) = rst (fun k => y (ix2 r k)) := by
  pointwise [k0_pay20, k0_pay19, rst, msq]
theorem pay9_at : k0_pay9 (F := Ideal) s (ix2 r k) = Ideal.logistic (s (ix2 r k)) := by
  pointwise [k0_pay9]
theorem pay21_at : k0_pay21 (F := Ideal) s (ix2 r k) = Ideal.logistic (s (ix2 r k)) := by
  pointwise [k0_pay21]
theorem pay11_at : k0_pay11 (F := Ideal) s (ix2 r k) = gte (s (ix2 r k)) := by
  pointwise [k0_pay11, k0_pay9, gte]
theorem pay23_at : k0_pay23 (F := Ideal) s (ix2 r k) = gte (s (ix2 r k)) := by
  pointwise [k0_pay23, k0_pay21, gte]
theorem pay10_at : k0_pay10 (F := Ideal) y n (ix2 r k) = y (ix2 r k) * rst (fun k => y (ix2 r k)) * n (ix2 0 k) := by
  rw [← pay8_at y r 0]
  pointwise [k0_pay10]
theorem pay22_at : k0_pay22 (F := Ideal) y n (k0_pay19 y) (ix2 r k) = y (ix2 r k) * rst (fun k => y (ix2 r k)) * n (ix2 0 k) := by
  rw [← pay20_at y r 0]
  pointwise [k0_pay22]
theorem pay13_at : k0_pay13 (F := Ideal) d w y s n (ix2 r k)
    = dgK (dyp (fun j => d (ix2 r j)) (fun k j => w (ix2 ⟨k.val, by omega⟩ j))) (fun k => y (ix2 r k)) (fun k => n (ix2 0 k)) (fun k => s (ix2 r k)) k := by
  unfold dgK
  rw [← pay12_at, ← pay10_at, ← pay9_at]
  pointwise [k0_pay13]
theorem pay25_at : k0_pay25 (F := Ideal) (k0_pay7 d w) y s n (k0_pay19 y) (ix2 r k)
    = dgK (dyp (fun j => d (ix2 r j)) (fun k j => w (ix2 ⟨512 + k.val, by omega⟩ j))) (fun k => y (ix2 r k)) (fun k => n (ix2 0 k)) (fun k => s (ix2 r k)) k := by
  unfold dgK
  rw [← pay24_at, ← pay22_at, ← pay21_at]
  pointwise [k0_pay25]
theorem pay14_at : k0_pay14 (F := Ideal) d w s (ix2 r k) = dyp (fun j => d (ix2 r j)) (fun k j => w (ix2 ⟨k.val, by omega⟩ j)) k * gte (s (ix2 r k)) := by
  rw [← pay12_at, ← pay11_at]
  pointwise [k0_pay14]
theorem pay26_at : k0_pay26 (F := Ideal) (k0_pay7 d w) s (ix2 r k) = dyp (fun j => d (ix2 r j)) (fun k j => w (ix2 ⟨512 + k.val, by omega⟩ j)) k * gte (s (ix2 r k)) := by
  rw [← pay24_at, ← pay23_at]
  pointwise [k0_pay26]
theorem pay15_at : k0_pay15 (F := Ideal) n (ix2 r k) = n (ix2 0 k) := by
  pointwise [k0_pay15]
theorem pay16_at (v18 : Vec Ideal S256x1 .f32) (a b : Vec Ideal S256x512 .f32) : k0_pay16 (F := Ideal) y v18 a b (ix2 r k)
    = v18 (ix2 r 0) * (a (ix2 r k) * b (ix2 r k)) - y (ix2 r k) * (v18 (ix2 r 0) * v18 (ix2 r 0) * v18 (ix2 r 0)) * Ideal.div (∑ x : Fin 512, a (ix2 r x) * b (ix2 r x) * y (ix2 r x)) width := by
  pointwise [k0_pay16]
theorem dya_at : k0_pay16 (F := Ideal) y (k0_pay8 y) (k0_pay14 d w s) (k0_pay15 n) (ix2 r k)
    = dyK (dyp (fun j => d (ix2 r j)) (fun k j => w (ix2 ⟨k.val, by omega⟩ j))) (fun k => y (ix2 r k)) (fun k => n (ix2 0 k)) (fun k => s (ix2 r k)) k := by
  rw [pay16_at]
  simp only [pay8_at, pay14_at, pay15_at]
  rfl
theorem pay27_at (v7 : Vec Ideal S256x1024 .f32) : k0_pay27 (F := Ideal) v7 y s n (k0_pay19 y) (ix2 r k)
    = k0_pay20 (F := Ideal) (k0_pay19 y) (ix2 r 0) * (k0_pay26 (F := Ideal) v7 s (ix2 r k) * n (ix2 0 k))
      - y (ix2 r k) * (k0_pay20 (F := Ideal) (k0_pay19 y) (ix2 r 0) * k0_pay20 (F := Ideal) (k0_pay19 y) (ix2 r 0) * k0_pay20 (F := Ideal) (k0_pay19 y) (ix2 r 0))
        * Ideal.div (∑ x : Fin 512, k0_pay26 (F := Ideal) v7 s (ix2 r x) * n (ix2 0 x) * y (ix2 r x)) width := by
  pointwise [k0_pay27]
theorem dyb_at : k0_pay27 (F := Ideal) (k0_pay7 d w) y s n (k0_pay19 y) (ix2 r k)
    = dyK (dyp (fun j => d (ix2 r j)) (fun k j => w (ix2 ⟨512 + k.val, by omega⟩ j))) (fun k => y (ix2 r k)) (fun k => n (ix2 0 k)) (fun k => s (ix2 r k)) k := by
  rw [pay27_at]
  simp only [pay20_at, pay26_at]
  rfl
theorem pay17_at (v18 : Vec Ideal S256x1 .f32) (a : Vec Ideal S256x512 .f32) (A : Vec Ideal S1x512 .f32) : k0_pay17 (F := Ideal) y v18 a A (ix2 0 k)
    = A (ix2 0 k) + ∑ r : Fin 256, a (ix2 r k) * (y (ix2 r k) * v18 (ix2 r 0)) := by
  pointwise [k0_pay17]
theorem dna_at (A : Vec Ideal S1x512 .f32) : k0_pay17 (F := Ideal) y (k0_pay8 y) (k0_pay14 d w s) A (ix2 0 k)
    = A (ix2 0 k) + ∑ r : Fin 256, dyp (fun j => d (ix2 r j)) (fun k j => w (ix2 ⟨k.val, by omega⟩ j)) k * gte (s (ix2 r k)) * (y (ix2 r k) * rst (fun k => y (ix2 r k))) := by
  rw [pay17_at]
  simp only [pay8_at, pay14_at]
theorem pay28_at (v7 : Vec Ideal S256x1024 .f32) : k0_pay28 (F := Ideal) v7 y s (k0_pay19 y) (ix2 0 k)
    = ∑ r : Fin 256, k0_pay26 (F := Ideal) v7 s (ix2 r k) * (y (ix2 r k) * k0_pay20 (F := Ideal) (k0_pay19 y) (ix2 r 0)) := by
  pointwise [k0_pay28]
theorem pay1_at (a A : Vec Ideal S1x512 .f32) : k0_pay1 (F := Ideal) a A (ix2 0 k) = A (ix2 0 k) + a (ix2 0 k) := by
  pointwise [k0_pay1]
theorem dnb_at (A : Vec Ideal S1x512 .f32) : k0_pay1 (F := Ideal) (k0_pay28 (k0_pay7 d w) y s (k0_pay19 y)) A (ix2 0 k)
    = A (ix2 0 k) + ∑ r : Fin 256, dyp (fun j => d (ix2 r j)) (fun k j => w (ix2 ⟨512 + k.val, by omega⟩ j)) k * gte (s (ix2 r k)) * (y (ix2 r k) * rst (fun k => y (ix2 r k))) := by
  rw [pay1_at, pay28_at]
  simp only [pay20_at, pay26_at]
theorem pay18_at (h : Vec Ideal S256x1024 .bf16) (a b : Vec Ideal S256x512 .f32) (A : Vec Ideal S512x1024 .f32) (j : Fin 1024) : k0_pay18 (F := Ideal) h a b A (ix2 k j)
    = A (ix2 k j) + ∑ r : Fin 256, a (ix2 r k) * b (ix2 r k) * h (ix2 r j) := by
  pointwise [k0_pay18]
theorem pay2_at (h : Vec Ideal S256x1024 .bf16) (a b : Vec Ideal S256x512 .f32) (A : Vec Ideal S512x1024 .f32) (j : Fin 1024) : k0_pay2 (F := Ideal) h a b A (ix2 k j)
    = A (ix2 k j) + ∑ r : Fin 256, a (ix2 r k) * b (ix2 r k) * h (ix2 r j) := by
  pointwise [k0_pay2]
theorem pay3_at (y : S1024x1024.Idx) : k0_pay3 (F := Ideal) y = 0 := by
  pointwise [k0_pay3]
theorem pay4_at (y : S1x512.Idx) : k0_pay4 (F := Ideal) y = 0 := by
  pointwise [k0_pay4]
theorem pay5_at (y : S1x512.Idx) : k0_pay5 (F := Ideal) y = 0 := by
  pointwise [k0_pay5]

end Cert.OutbIdeal.Gen

end
-- ==== Proof.ObBody.lean ====
/- The output projection's backward kernel: what its body leaves at each grid point, from the point's blocks and what the point before left. -/
module

public import proofs.«01_k».proof.Proof.Gen.OutbIdeal.Frame
public import proofs.«01_k».proof.Proof.ObPay
public import Idealize.ShloMosaic.Lib.VecWindow
public import Idealize.ShloMosaic.Lib.WritesUnit

@[expose] public section

set_option maxRecDepth 16384

noncomputable section

namespace Cert.OutbIdeal.Gen

open Idealize.ShloMosaic Idealize.ShloMosaic.TcCoe Idealize.ShloMosaic.Tactic Idealize.SL.Sem
open Cert.Out

/-! ### The two halves of the weight's gradient -/

/-- The weight's gradient with one block's part added: `d` the gradient from above, `Na`, `Ga`, `Nb`, `Gb` the normed rows and the gates of the two groups. -/
def accStep (d : Vec Ideal S256x1024 .bf16) (Na Ga Nb Gb : Vec Ideal S256x512 .f32) (A : Vec Ideal S1024x1024 .f32) : Vec Ideal S1024x1024 .f32 :=
  fun y => A y + ∑ r : Fin 256, cat2 (fun k => Na (ix2 r k) * Ga (ix2 r k)) (fun k => Nb (ix2 r k) * Gb (ix2 r k)) (y 0) * d (ix2 r (y 1))

/-- A load of a whole rank-two array. -/
theorem readAt_whole2 {sp : Space} {e : EltTy} {a b : ℕ} (v : View sig .tc sp ⟨2, ![a, b]⟩ e) (f : v.ty.Contents (Elt Ideal))
    (inb : ∀ x, (![0, 0] : Fin 2 → ℕ) x + (![a, b] : Fin 2 → ℕ) x ≤ (⟨2, ![a, b]⟩ : Shape).size x) :
    v.readAt (Elt Ideal) (Rect.unit (s := ⟨2, ![a, b]⟩) ![0, 0] ![a, b] inb).toLoadRect f = v.read (Elt Ideal) f :=
  View.readAt_full v f inb

/-- A store of a whole rank-two array. -/
theorem read_whole2 {sp : Space} {e : EltTy} {a b : ℕ} (v : View sig .tc sp ⟨2, ![a, b]⟩ e) (f : v.ty.Contents (Elt Ideal))
    (inb : ∀ x, (![0, 0] : Fin 2 → ℕ) x + (![a, b] : Fin 2 → ℕ) x ≤ (⟨2, ![a, b]⟩ : Shape).size x) (w : Vec Ideal ⟨2, ![a, b]⟩ e)
    (L : List (View.Piece (Elt Ideal) ⟨2, ![a, b]⟩ e)) :
    v.read (Elt Ideal) (v.writes (Elt Ideal) f (⟨Rect.unit (s := ⟨2, ![a, b]⟩) ![0, 0] ![a, b] inb, w⟩ :: L)) = w :=
  View.read_writes_full v f inb w L

/-- 512 rows of the array, from row `c0`. -/
def half (A : Vec Ideal S1024x1024 .f32) (c0 : ℕ) (hc : c0 + 512 ≤ 1024) : Vec Ideal S512x1024 .f32 := fun y => A (ix2 ⟨c0 + (y 0).val, by have : (y 0).val < 512 := (y 0).isLt; omega⟩ (y 1))

theorem readAt_half {sp : Space} (v : View sig .tc sp S1024x1024 .f32) (f : v.ty.Contents (Elt Ideal)) (c0 : ℕ)
    (inb : ∀ a, (![c0, 0] : Fin 2 → ℕ) a + (![512, 1024] : Fin 2 → ℕ) a ≤ S1024x1024.size a) (hc : c0 + 512 ≤ 1024) :
    v.readAt (Elt Ideal) (Rect.unit (s := S1024x1024) ![c0, 0] ![512, 1024] inb).toLoadRect f = half (v.read (Elt Ideal) f) c0 hc := by
  funext y
  refine congrArg (v.read (Elt Ideal) f) (funext (Fin.forall_fin_two.2 ⟨Fin.ext ?_, Fin.ext ?_⟩))
  · show c0 + 1 * (y 0).val = c0 + (y 0).val
    omega
  · show 0 + 1 * (y 1).val = (y 1).val
    omega

theorem readAt_half' {sp : Space} (v : View sig .tc sp S1024x1024 .f32) (f : v.ty.Contents (Elt Ideal)) (c0 : ℕ)
    (inb : ∀ a, (![c0, 0] : Fin 2 → ℕ) a + S512x1024.size a ≤ S1024x1024.size a) (hc : c0 + 512 ≤ 1024) :
    v.readAt (Elt Ideal) (Rect.unit (s := S1024x1024) ![c0, 0] S512x1024.size inb).toLoadRect f = half (v.read (Elt Ideal) f) c0 hc :=
  readAt_half v f c0 inb hc

/-- The lower half reads what was there before the upper half was stored. -/
theorem half_skip {sp : Space} (v : View sig .tc sp S1024x1024 .f32) (f : v.ty.Contents (Elt Ideal))
    (inb : ∀ a, (![0, 0] : Fin 2 → ℕ) a + (![512, 1024] : Fin 2 → ℕ) a ≤ S1024x1024.size a) (w : Vec Ideal S512x1024 .f32)
    (L : List (View.Piece (Elt Ideal) S1024x1024 .f32)) (hc : 512 + 512 ≤ 1024) :
    half (v.read (Elt Ideal) (v.writes (Elt Ideal) f (⟨Rect.unit (s := S1024x1024) ![0, 0] ![512, 1024] inb, w⟩ :: L))) 512 hc
      = half (v.read (Elt Ideal) (v.writes (Elt Ideal) f L)) 512 hc := by
  funext y
  refine View.read_writes_cons_unit_of_not_mem v f inb w L _ rfl 0 (Or.inr ?_)
  show 0 + 512 ≤ 512 + (y 0).val
  omega

/-- Two halves that agree with `g` leave `g`. -/
theorem fill2 {sp : Space} (v : View sig .tc sp S1024x1024 .f32) (f : v.ty.Contents (Elt Ideal)) (g : Vec Ideal S1024x1024 .f32)
    (w0 w1 : Vec Ideal S512x1024 .f32) (L : List (View.Piece (Elt Ideal) S1024x1024 .f32))
    (i0 : ∀ a, (![0, 0] : Fin 2 → ℕ) a + S512x1024.size a ≤ S1024x1024.size a) (i1 : ∀ a, (![512, 0] : Fin 2 → ℕ) a + S512x1024.size a ≤ S1024x1024.size a)
    (h0 : ∀ (k : Fin 512) (y : Fin 1024), w0 (ix2 k y) = g (ix2 ⟨k.val, by omega⟩ y))
    (h1 : ∀ (k : Fin 512) (y : Fin 1024), w1 (ix2 k y) = g (ix2 ⟨512 + k.val, by omega⟩ y)) :
    v.read (Elt Ideal) (v.writes (Elt Ideal) f (⟨Rect.unit (s := S1024x1024) ![512, 0] S512x1024.size i1, w1⟩
      :: ⟨Rect.unit (s := S1024x1024) ![0, 0] S512x1024.size i0, w0⟩ :: L)) = g := by
  funext z
  obtain ⟨k, j, rfl⟩ : ∃ (k : Fin 1024) (j : Fin 1024), z = ix2 k j := ⟨z 0, z 1, (ix2_eta z).symm⟩
  by_cases c1 : 512 ≤ k.val
  · have hk : k.val - 512 < 512 := by omega
    refine (View.read_writes_cons_unit_of_mem v f i1 w1 _ _ (ix2 ⟨k.val - 512, hk⟩ j : S512x1024.Idx) rfl (Fin.forall_fin_two.2 ⟨(Nat.add_sub_of_le c1).symm, (Nat.zero_add _).symm⟩)).trans ?_
    rw [h1]
    congr 2
    exact Fin.ext (Nat.add_sub_of_le c1)
  · refine (View.read_writes_cons_unit_of_not_mem v f i1 w1 _ _ rfl 0 (Or.inl (by show k.val < 512; omega))).trans ?_
    refine (View.read_writes_cons_unit_of_mem v f i0 w0 _ _ (ix2 ⟨k.val, by omega⟩ j : S512x1024.Idx) rfl (Fin.forall_fin_two.2 ⟨(Nat.zero_add _).symm, (Nat.zero_add _).symm⟩)).trans ?_
    rw [h0]

/-- A block's two halves stored, each with the block's part added to what was there. -/
theorem fill_step {sp : Space} (v : View sig .tc sp S1024x1024 .f32) (f : v.ty.Contents (Elt Ideal))
    (d : Vec Ideal S256x1024 .bf16) (Na Ga Nb Gb : Vec Ideal S256x512 .f32) (A : Vec Ideal S1024x1024 .f32) (L : List (View.Piece (Elt Ideal) S1024x1024 .f32))
    (i0 : ∀ a, (![0, 0] : Fin 2 → ℕ) a + S512x1024.size a ≤ S1024x1024.size a) (i1 : ∀ a, (![512, 0] : Fin 2 → ℕ) a + S512x1024.size a ≤ S1024x1024.size a) :
    v.read (Elt Ideal) (v.writes (Elt Ideal) f (⟨Rect.unit (s := S1024x1024) ![512, 0] S512x1024.size i1, k0_pay2 d Nb Gb (half A 512 (by omega))⟩
      :: ⟨Rect.unit (s := S1024x1024) ![0, 0] S512x1024.size i0, k0_pay18 d Na Ga (half A 0 (by omega))⟩ :: L)) = accStep d Na Ga Nb Gb A := by
  refine fill2 v f _ _ _ L i0 i1 (fun k y => ?_) (fun k y => ?_)
  · rw [pay18_at]
    show A _ + _ = A _ + ∑ r : Fin 256, cat2 _ _ (⟨k.val, by omega⟩ : Fin 1024) * _
    simp only [cat2_left]
    exact congrArg (· + _) (congrArg A (congrArg (ix2 · y) (Fin.ext (Nat.zero_add _))))
  · rw [pay2_at]
    show A _ + _ = A _ + ∑ r : Fin 256, cat2 _ _ (⟨512 + k.val, by omega⟩ : Fin 1024) * _
    simp only [cat2_right]
    rfl

/-! ### The body -/

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S1024x1024 .f32) (harg13 : arg13.IsWhole) (arg14 : Memref sig .tc .vmem S1x512 .f32) (harg14 : arg14.IsWhole) (arg15 : Memref sig .tc .vmem S1x512 .f32) (harg15 : arg15.IsWhole)
  (x0 : Vec Ideal S256x1024 .f32) (x1 x2 x3 x4 : Vec Ideal S256x512 .f32) (x5 x6 : Vec Ideal S1x512 .f32) (x7 : Vec Ideal S1024x1024 .bf16)

set_option maxHeartbeats 1600000 in
theorem out0_A_8_eq (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay16 (F := Ideal) x1 (k0_pay8 x1) (k0_pay14 x0 x7 x3) (k0_pay15 x5) := by
  unfold out0_A_8 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_A_9_eq (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay27 (F := Ideal) (k0_pay7 x0 x7) x2 x4 x6 (k0_pay19 x2) := by
  unfold out0_A_9 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_A_10_eq (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay13 (F := Ideal) x0 x7 x1 x3 x5 := by
  unfold out0_A_10 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_A_11_eq (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay25 (F := Ideal) (k0_pay7 x0 x7) x2 x4 x6 (k0_pay19 x2) := by
  unfold out0_A_11 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_A_12_eq (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = accStep (k0_pay6 (F := Ideal) x0) (k0_pay10 (F := Ideal) x1 x5) (k0_pay11 (F := Ideal) x3) (k0_pay22 (F := Ideal) x2 x6 (k0_pay19 x2)) (k0_pay23 (F := Ideal) x4) (k0_pay3 (F := Ideal)) := by
  unfold out0_A_12 kernelRun0_A
  dsimp only
  sl_unfold_run_names
  simp only [readAt_whole2, read_whole2, View.readCov, readAt_half _ _ 0 _ (by omega), readAt_half _ _ 512 _ (by omega), harg1.read_unread, harg2.read_unread, harg3.read_unread, harg4.read_unread, harg5.read_unread, harg6.read_unread, harg7.read_unread, harg8.read_unread]
  simp only [half_skip, read_whole2]
  exact fill_step _ _ _ _ _ _ _ _ _ _ _

set_option maxHeartbeats 1600000 in
theorem out0_A_13_eq (hc0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay17 (F := Ideal) x1 (k0_pay8 x1) (k0_pay14 x0 x7 x3) (k0_pay4 (F := Ideal)) := by
  unfold out0_A_13 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_A_14_eq (hc0 : cond0_0 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = k0_pay1 (F := Ideal) (k0_pay28 (k0_pay7 x0 x7) x2 x4 (k0_pay19 x2)) (k0_pay5 (F := Ideal)) := by
  unfold out0_A_14 kernelRun0_A
  dsimp only
  sl_unfold_run_names
  simp only [readAt_whole2, read_whole2, View.readCov, harg1.read_unread, harg2.read_unread, harg3.read_unread, harg4.read_unread, harg5.read_unread, harg6.read_unread, harg7.read_unread, harg8.read_unread]

set_option maxHeartbeats 1600000 in
theorem out0_B_8_eq (hc0 : ¬cond0_0 i) (xo12 : Vec Ideal S1024x1024 .f32) (xo13 xo14 : Vec Ideal S1x512 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay16 (F := Ideal) x1 (k0_pay8 x1) (k0_pay14 x0 x7 x3) (k0_pay15 x5) := by
  unfold out0_B_8 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

set_option maxHeartbeats 1600000 in
theorem out0_B_9_eq (hc0 : ¬cond0_0 i) (xo12 : Vec Ideal S1024x1024 .f32) (xo13 xo14 : Vec Ideal S1x512 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay27 (F := Ideal) (k0_pay7 x0 x7) x2 x4 x6 (k0_pay19 x2) := by
  unfold out0_B_9 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

set_option maxHeartbeats 1600000 in
theorem out0_B_10_eq (hc0 : ¬cond0_0 i) (xo12 : Vec Ideal S1024x1024 .f32) (xo13 xo14 : Vec Ideal S1x512 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay13 (F := Ideal) x0 x7 x1 x3 x5 := by
  unfold out0_B_10 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

set_option maxHeartbeats 1600000 in
theorem out0_B_11_eq (hc0 : ¬cond0_0 i) (xo12 : Vec Ideal S1024x1024 .f32) (xo13 xo14 : Vec Ideal S1x512 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay25 (F := Ideal) (k0_pay7 x0 x7) x2 x4 x6 (k0_pay19 x2) := by
  unfold out0_B_11 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

set_option maxHeartbeats 1600000 in
theorem out0_B_12_eq (hc0 : ¬cond0_0 i) (xo12 : Vec Ideal S1024x1024 .f32) (xo13 xo14 : Vec Ideal S1x512 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = accStep (k0_pay6 (F := Ideal) x0) (k0_pay10 (F := Ideal) x1 x5) (k0_pay11 (F := Ideal) x3) (k0_pay22 (F := Ideal) x2 x6 (k0_pay19 x2)) (k0_pay23 (F := Ideal) x4) xo12 := by
  unfold out0_B_12 kernelRun0_B
  dsimp only
  sl_unfold_run_names
  simp only [readAt_whole2, read_whole2, View.readCov, readAt_half _ _ 0 _ (by omega), readAt_half _ _ 512 _ (by omega), harg1.read_unread, harg2.read_unread, harg3.read_unread, harg4.read_unread, harg5.read_unread, harg6.read_unread, harg7.read_unread, harg8.read_unread, harg13.read_unread, harg14.read_unread, harg15.read_unread]
  exact fill_step _ _ _ _ _ _ _ _ _ _ _

set_option maxHeartbeats 1600000 in
theorem out0_B_13_eq (hc0 : ¬cond0_0 i) (xo12 : Vec Ideal S1024x1024 .f32) (xo13 xo14 : Vec Ideal S1x512 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay17 (F := Ideal) x1 (k0_pay8 x1) (k0_pay14 x0 x7 x3) xo13 := by
  unfold out0_B_13 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

set_option maxHeartbeats 1600000 in
theorem out0_B_14_eq (hc0 : ¬cond0_0 i) (xo12 : Vec Ideal S1024x1024 .f32) (xo13 xo14 : Vec Ideal S1x512 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14
      = k0_pay1 (F := Ideal) (k0_pay28 (k0_pay7 x0 x7) x2 x4 (k0_pay19 x2)) xo14 := by
  unfold out0_B_14 kernelRun0_B
  dsimp only
  sl_unfold_run_names
  simp only [readAt_whole2, read_whole2, View.readCov, harg1.read_unread, harg2.read_unread, harg3.read_unread, harg4.read_unread, harg5.read_unread, harg6.read_unread, harg7.read_unread, harg8.read_unread, harg13.read_unread, harg14.read_unread, harg15.read_unread]

end Cert.OutbIdeal.Gen

end
-- ==== Proof.ObSum.lean ====
/- The output projection's backward kernel: the blocks a grid step reads, and what the steps leave, as sums over the rows. -/
module

public import proofs.«01_k».proof.Proof.Gen.OutbIdeal.Value
public import proofs.«01_k».proof.Proof.ObBody
public import Idealize.ShloMosaic.Lib.StableHlo.RunRead
public import Idealize.ShloMosaic.Lib.IdealHost
public import Idealize.ShloMosaic.Lib.Pipeline.ValueKit

@[expose] public section

set_option maxRecDepth 16384

noncomputable section

namespace Cert.OutbIdeal.Gen

open Idealize.ShloMosaic Idealize.ShloMosaic.TcCoe Idealize.ShloMosaic.Tactic Idealize.SL.Sem
open Idealize.ShloMosaic.Pipeline (Dat)
open Cert.Out

variable (m : (ℓ : Loc nD τ sig) → Buf (Elt Ideal) ℓ) (c : Dev nD)

/-! ### The blocks -/

/-- Where each window's block sits at step `t`: the rows of the step, or the whole array. -/
theorem idx : ∀ t : Fin cfg0.N, (win0_0.index t = ![t.val, 0] ∧ win0_1.index t = ![t.val, 0] ∧ win0_2.index t = ![t.val, 0] ∧ win0_3.index t = ![t.val, 2]
    ∧ win0_4.index t = ![t.val, 4] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![0, 0] ∧ win0_13.index t = ![0, 0] ∧ win0_14.index t = ![0, 0]) ∧ t.val < 17 :=
  (by decide +kernel : ∀ t : Fin grid0.N, _)

/-- Row `r` of step `t`. -/
def rowOf (t : Fin cfg0.N) (r : Fin 256) : Fin 4352 := ⟨256 * t.val + r.val, by have : t.val < 17 := t.isLt; omega⟩

/-- Row `R` of the gradient from above, of the two groups' attention outputs and of their gates. -/
def dRow (R : Fin 4352) (j : Fin 1024) : EReal := m ((c : Thread nD τ).loc main_arg0) (ix2 R j)
def yaRow (R : Fin 4352) (k : Fin 512) : EReal := m ((c : Thread nD τ).loc main_arg1) (ix2 R k)
def ybRow (R : Fin 4352) (k : Fin 512) : EReal := m ((c : Thread nD τ).loc main_arg2) (ix2 R k)
def saRow (R : Fin 4352) (k : Fin 512) : EReal := m ((c : Thread nD τ).loc main_arg3) (ix2 R ⟨1024 + k.val, by omega⟩)
def sbRow (R : Fin 4352) (k : Fin 512) : EReal := m ((c : Thread nD τ).loc main_arg3) (ix2 R ⟨2048 + k.val, by omega⟩)
/-- The two gains and the two groups' rows of the weight. -/
def naVec (k : Fin 512) : EReal := m ((c : Thread nD τ).loc main_arg4) (ix2 0 k)
def nbVec (k : Fin 512) : EReal := m ((c : Thread nD τ).loc main_arg5) (ix2 0 k)
def waMat (k : Fin 512) (j : Fin 1024) : EReal := m ((c : Thread nD τ).loc main_arg6) (ix2 ⟨k.val, by omega⟩ j)
def wbMat (k : Fin 512) (j : Fin 1024) : EReal := m ((c : Thread nD τ).loc main_arg6) (ix2 ⟨512 + k.val, by omega⟩ j)
/-- Row `R` of the gradients of the two groups' gated rows. -/
def paRow (R : Fin 4352) (k : Fin 512) : EReal := dyp (dRow m c R) (waMat m c) k
def pbRow (R : Fin 4352) (k : Fin 512) : EReal := dyp (dRow m c R) (wbMat m c) k

theorem blk0 (t : Fin cfg0.N) (r : Fin 256) (x : Fin 1024) : (iblk m c 0 t : Vec Ideal S256x1024 .f32) (ix2 r x) = dRow m c (rowOf t r) x := by
  unfold dRow
  rw [← V_main_arg0 m c]
  blk_ext [iblk, idx t, rowOf]
theorem blk1 (t : Fin cfg0.N) (r : Fin 256) (x : Fin 512) : (iblk m c 1 t : Vec Ideal S256x512 .f32) (ix2 r x) = yaRow m c (rowOf t r) x := by
  unfold yaRow
  rw [← V_main_arg1 m c]
  blk_ext [iblk, idx t, rowOf]
theorem blk2 (t : Fin cfg0.N) (r : Fin 256) (x : Fin 512) : (iblk m c 2 t : Vec Ideal S256x512 .f32) (ix2 r x) = ybRow m c (rowOf t r) x := by
  unfold ybRow
  rw [← V_main_arg2 m c]
  blk_ext [iblk, idx t, rowOf]
theorem blk3 (t : Fin cfg0.N) (r : Fin 256) (x : Fin 512) : (iblk m c 3 t : Vec Ideal S256x512 .f32) (ix2 r x) = saRow m c (rowOf t r) x := by
  unfold saRow
  rw [← V_main_arg3 m c]
  blk_ext [iblk, idx t, rowOf]
theorem blk4 (t : Fin cfg0.N) (r : Fin 256) (x : Fin 512) : (iblk m c 4 t : Vec Ideal S256x512 .f32) (ix2 r x) = sbRow m c (rowOf t r) x := by
  unfold sbRow
  rw [← V_main_arg3 m c]
  blk_ext [iblk, idx t, rowOf]
theorem blk5 (t : Fin cfg0.N) (r : Fin 1) (x : Fin 512) : (iblk m c 5 t : Vec Ideal S1x512 .f32) (ix2 r x) = naVec m c x := by
  unfold naVec
  obtain rfl : r = 0 := Subsingleton.elim _ _
  rw [← V_main_arg4 m c]
  blk_ext [iblk, idx t]
theorem blk6 (t : Fin cfg0.N) (r : Fin 1) (x : Fin 512) : (iblk m c 6 t : Vec Ideal S1x512 .f32) (ix2 r x) = nbVec m c x := by
  unfold nbVec
  obtain rfl : r = 0 := Subsingleton.elim _ _
  rw [← V_main_arg5 m c]
  blk_ext [iblk, idx t]

theorem V_w (k : Fin 1024) (j : Fin 1024) : (V m c main_v0 : Vec Ideal S1024x1024 .bf16) (ix2 k j) = m ((c : Thread nD τ).loc main_arg6) (ix2 k j) := by
  show StableHlo.after hostOps0 (fun b => m (c, b)) (Proc.devRef .tc main_v0) (ix2 k j) = _
  unfold hostOps0
  after_reads_simp
  rfl

theorem blk7 (t : Fin cfg0.N) (k : Fin 1024) (j : Fin 1024) : (iblk m c 7 t : Vec Ideal S1024x1024 .bf16) (ix2 k j) = m ((c : Thread nD τ).loc main_arg6) (ix2 k j) := by
  rw [← V_w m c k j]
  blk_ext [iblk, idx t]
theorem blk7a (t : Fin cfg0.N) (k : Fin 512) (j : Fin 1024) : (iblk m c 7 t : Vec Ideal S1024x1024 .bf16) (ix2 ⟨k.val, by omega⟩ j) = waMat m c k j := blk7 m c t _ j
theorem blk7b (t : Fin cfg0.N) (k : Fin 512) (j : Fin 1024) : (iblk m c 7 t : Vec Ideal S1024x1024 .bf16) (ix2 ⟨512 + k.val, by omega⟩ j) = wbMat m c k j := blk7 m c t _ j

/-! ### One step -/

theorem step8 (t : Fin cfg0.N) : (outsAt0 m c t.val t.isLt).1 = k0_pay16 (F := Ideal) (iblk m c 1 t) (k0_pay8 (iblk m c 1 t)) (k0_pay14 (iblk m c 0 t) (iblk m c 7 t) (iblk m c 3 t)) (k0_pay15 (iblk m c 5 t)) := by
  by_cases h0 : t.val % 17 = 0
  · rw [outsAt0_A m c t h0]
    dsimp only
    rw [out0_A_8_eq]
  · rw [outsAt0_B m c t h0]
    dsimp only
    rw [out0_B_8_eq]
theorem step9 (t : Fin cfg0.N) : (outsAt0 m c t.val t.isLt).2.1 = k0_pay27 (F := Ideal) (k0_pay7 (iblk m c 0 t) (iblk m c 7 t)) (iblk m c 2 t) (iblk m c 4 t) (iblk m c 6 t) (k0_pay19 (iblk m c 2 t)) := by
  by_cases h0 : t.val % 17 = 0
  · rw [outsAt0_A m c t h0]
    dsimp only
    rw [out0_A_9_eq]
  · rw [outsAt0_B m c t h0]
    dsimp only
    rw [out0_B_9_eq]
theorem step10 (t : Fin cfg0.N) : (outsAt0 m c t.val t.isLt).2.2.1 = k0_pay13 (F := Ideal) (iblk m c 0 t) (iblk m c 7 t) (iblk m c 1 t) (iblk m c 3 t) (iblk m c 5 t) := by
  by_cases h0 : t.val % 17 = 0
  · rw [outsAt0_A m c t h0]
    dsimp only
    rw [out0_A_10_eq]
  · rw [outsAt0_B m c t h0]
    dsimp only
    rw [out0_B_10_eq]
theorem step11 (t : Fin cfg0.N) : (outsAt0 m c t.val t.isLt).2.2.2.1 = k0_pay25 (F := Ideal) (k0_pay7 (iblk m c 0 t) (iblk m c 7 t)) (iblk m c 2 t) (iblk m c 4 t) (iblk m c 6 t) (k0_pay19 (iblk m c 2 t)) := by
  by_cases h0 : t.val % 17 = 0
  · rw [outsAt0_A m c t h0]
    dsimp only
    rw [out0_A_11_eq]
  · rw [outsAt0_B m c t h0]
    dsimp only
    rw [out0_B_11_eq]
theorem first12 (t : Fin cfg0.N) (h0 : t.val % 17 = 0) : (outsAt0 m c t.val t.isLt).2.2.2.2.1 = accStep (k0_pay6 (F := Ideal) (iblk m c 0 t)) (k0_pay10 (F := Ideal) (iblk m c 1 t) (iblk m c 5 t)) (k0_pay11 (F := Ideal) (iblk m c 3 t)) (k0_pay22 (F := Ideal) (iblk m c 2 t) (iblk m c 6 t) (k0_pay19 (iblk m c 2 t))) (k0_pay23 (F := Ideal) (iblk m c 4 t)) (k0_pay3 (F := Ideal)) := by
  rw [outsAt0_A m c t h0]
  dsimp only
  rw [out0_A_12_eq]
theorem next12 (t : Fin cfg0.N) (h0 : ¬ t.val % 17 = 0) (hp : t.val - 1 < cfg0.N) : (outsAt0 m c t.val t.isLt).2.2.2.2.1 = accStep (k0_pay6 (F := Ideal) (iblk m c 0 t)) (k0_pay10 (F := Ideal) (iblk m c 1 t) (iblk m c 5 t)) (k0_pay11 (F := Ideal) (iblk m c 3 t)) (k0_pay22 (F := Ideal) (iblk m c 2 t) (iblk m c 6 t) (k0_pay19 (iblk m c 2 t))) (k0_pay23 (F := Ideal) (iblk m c 4 t)) (outsAt0 m c (t.val - 1) hp).2.2.2.2.1 := by
  rw [outsAt0_B m c t h0]
  dsimp only
  rw [out0_B_12_eq]
theorem first13 (t : Fin cfg0.N) (h0 : t.val % 17 = 0) : (outsAt0 m c t.val t.isLt).2.2.2.2.2.1 = k0_pay17 (F := Ideal) (iblk m c 1 t) (k0_pay8 (iblk m c 1 t)) (k0_pay14 (iblk m c 0 t) (iblk m c 7 t) (iblk m c 3 t)) (k0_pay4 (F := Ideal)) := by
  rw [outsAt0_A m c t h0]
  dsimp only
  rw [out0_A_13_eq]
theorem next13 (t : Fin cfg0.N) (h0 : ¬ t.val % 17 = 0) (hp : t.val - 1 < cfg0.N) : (outsAt0 m c t.val t.isLt).2.2.2.2.2.1 = k0_pay17 (F := Ideal) (iblk m c 1 t) (k0_pay8 (iblk m c 1 t)) (k0_pay14 (iblk m c 0 t) (iblk m c 7 t) (iblk m c 3 t)) (outsAt0 m c (t.val - 1) hp).2.2.2.2.2.1 := by
  rw [outsAt0_B m c t h0]
  dsimp only
  rw [out0_B_13_eq]
theorem first14 (t : Fin cfg0.N) (h0 : t.val % 17 = 0) : (outsAt0 m c t.val t.isLt).2.2.2.2.2.2 = k0_pay1 (F := Ideal) (k0_pay28 (k0_pay7 (iblk m c 0 t) (iblk m c 7 t)) (iblk m c 2 t) (iblk m c 4 t) (k0_pay19 (iblk m c 2 t))) (k0_pay5 (F := Ideal)) := by
  rw [outsAt0_A m c t h0]
  dsimp only
  rw [out0_A_14_eq]
theorem next14 (t : Fin cfg0.N) (h0 : ¬ t.val % 17 = 0) (hp : t.val - 1 < cfg0.N) : (outsAt0 m c t.val t.isLt).2.2.2.2.2.2 = k0_pay1 (F := Ideal) (k0_pay28 (k0_pay7 (iblk m c 0 t) (iblk m c 7 t)) (iblk m c 2 t) (iblk m c 4 t) (k0_pay19 (iblk m c 2 t))) (outsAt0 m c (t.val - 1) hp).2.2.2.2.2.2 := by
  rw [outsAt0_B m c t h0]
  dsimp only
  rw [out0_B_14_eq]

/-! ### All steps -/

/-- Row `R`'s part of the weight's gradient, and of the two gains'. -/
def wPart (R : Fin 4352) (k j : Fin 1024) : EReal :=
  cat2 (mix (yaRow m c R) (naVec m c) (saRow m c R)) (mix (ybRow m c R) (nbVec m c) (sbRow m c R)) k * dRow m c R j
def aPart (R : Fin 4352) (k : Fin 512) : EReal := paRow m c R k * gte (saRow m c R k) * (yaRow m c R k * rst (yaRow m c R))
def bPart (R : Fin 4352) (k : Fin 512) : EReal := pbRow m c R k * gte (sbRow m c R k) * (ybRow m c R k * rst (ybRow m c R))

theorem acc12 (t : Fin cfg0.N) (A : Vec Ideal S1024x1024 .f32) (k j : Fin 1024) :
    accStep (k0_pay6 (F := Ideal) (iblk m c 0 t)) (k0_pay10 (F := Ideal) (iblk m c 1 t) (iblk m c 5 t)) (k0_pay11 (F := Ideal) (iblk m c 3 t)) (k0_pay22 (F := Ideal) (iblk m c 2 t) (iblk m c 6 t) (k0_pay19 (iblk m c 2 t))) (k0_pay23 (F := Ideal) (iblk m c 4 t)) A (ix2 k j) = A (ix2 k j) + ∑ r : Fin 256, wPart m c (rowOf t r) k j := by
  show A (ix2 k j) + ∑ r : Fin 256, cat2 _ _ k * k0_pay6 (F := Ideal) (iblk m c 0 t) (ix2 r j) = _
  simp only [pay6_at, pay10_at, pay11_at, pay22_at, pay23_at, blk0, blk1, blk2, blk3, blk4, blk5, blk6]
  rfl
theorem acc13 (t : Fin cfg0.N) (A : Vec Ideal S1x512 .f32) (k : Fin 512) :
    k0_pay17 (F := Ideal) (iblk m c 1 t) (k0_pay8 (iblk m c 1 t)) (k0_pay14 (iblk m c 0 t) (iblk m c 7 t) (iblk m c 3 t)) A (ix2 0 k) = A (ix2 0 k) + ∑ r : Fin 256, aPart m c (rowOf t r) k := by
  rw [dna_at]
  simp only [blk0, blk1, blk3, blk7a]
  rfl
theorem acc14 (t : Fin cfg0.N) (A : Vec Ideal S1x512 .f32) (k : Fin 512) :
    k0_pay1 (F := Ideal) (k0_pay28 (k0_pay7 (iblk m c 0 t) (iblk m c 7 t)) (iblk m c 2 t) (iblk m c 4 t) (k0_pay19 (iblk m c 2 t))) A (ix2 0 k) = A (ix2 0 k) + ∑ r : Fin 256, bPart m c (rowOf t r) k := by
  rw [dnb_at]
  simp only [blk0, blk2, blk4, blk7b]
  rfl
theorem sum12 (k j : Fin 1024) : ∀ (n : ℕ) (hn : n < cfg0.N),
    (outsAt0 m c n hn).2.2.2.2.1 (ix2 k j) = ∑ s : Fin (n + 1), ∑ r : Fin 256, wPart m c (rowOf ⟨s.val, lt_of_lt_of_le s.isLt hn⟩ r) k j := by
  intro n
  induction n with
  | zero =>
    intro hn
    rw [first12 m c ⟨0, hn⟩ rfl, acc12, pay3_at, zero_add]
    exact (Fin.sum_univ_one (fun s : Fin 1 => ∑ r : Fin 256, wPart m c (rowOf ⟨s.val, lt_of_lt_of_le s.isLt hn⟩ r) k j)).symm
  | succ n ih =>
    intro hn
    have h17 : n + 1 < 17 := hn
    rw [next12 m c ⟨n + 1, hn⟩ (by show ¬ (n + 1) % 17 = 0; omega) (by show n + 1 - 1 < cfg0.N; exact Nat.lt_of_succ_lt hn), acc12]
    refine Eq.trans ?_ (Fin.sum_univ_castSucc (n := n + 1) _).symm
    exact congrArg (· + _) (ih (Nat.lt_of_succ_lt hn))
theorem sum13 (k : Fin 512) : ∀ (n : ℕ) (hn : n < cfg0.N),
    (outsAt0 m c n hn).2.2.2.2.2.1 (ix2 0 k) = ∑ s : Fin (n + 1), ∑ r : Fin 256, aPart m c (rowOf ⟨s.val, lt_of_lt_of_le s.isLt hn⟩ r) k := by
  intro n
  induction n with
  | zero =>
    intro hn
    rw [first13 m c ⟨0, hn⟩ rfl, acc13, pay4_at, zero_add]
    exact (Fin.sum_univ_one (fun s : Fin 1 => ∑ r : Fin 256, aPart m c (rowOf ⟨s.val, lt_of_lt_of_le s.isLt hn⟩ r) k)).symm
  | succ n ih =>
    intro hn
    have h17 : n + 1 < 17 := hn
    rw [next13 m c ⟨n + 1, hn⟩ (by show ¬ (n + 1) % 17 = 0; omega) (by show n + 1 - 1 < cfg0.N; exact Nat.lt_of_succ_lt hn), acc13]
    refine Eq.trans ?_ (Fin.sum_univ_castSucc (n := n + 1) _).symm
    exact congrArg (· + _) (ih (Nat.lt_of_succ_lt hn))
theorem sum14 (k : Fin 512) : ∀ (n : ℕ) (hn : n < cfg0.N),
    (outsAt0 m c n hn).2.2.2.2.2.2 (ix2 0 k) = ∑ s : Fin (n + 1), ∑ r : Fin 256, bPart m c (rowOf ⟨s.val, lt_of_lt_of_le s.isLt hn⟩ r) k := by
  intro n
  induction n with
  | zero =>
    intro hn
    rw [first14 m c ⟨0, hn⟩ rfl, acc14, pay5_at, zero_add]
    exact (Fin.sum_univ_one (fun s : Fin 1 => ∑ r : Fin 256, bPart m c (rowOf ⟨s.val, lt_of_lt_of_le s.isLt hn⟩ r) k)).symm
  | succ n ih =>
    intro hn
    have h17 : n + 1 < 17 := hn
    rw [next14 m c ⟨n + 1, hn⟩ (by show ¬ (n + 1) % 17 = 0; omega) (by show n + 1 - 1 < cfg0.N; exact Nat.lt_of_succ_lt hn), acc14]
    refine Eq.trans ?_ (Fin.sum_univ_castSucc (n := n + 1) _).symm
    exact congrArg (· + _) (ih (Nat.lt_of_succ_lt hn))

/-- Seventeen steps of 256 rows are the 4352 rows. -/
theorem sum_rows (f : Fin 4352 → EReal) (h : ∀ s : Fin 17, s.val < cfg0.N) :
    ∑ s : Fin 17, ∑ r : Fin 256, f (rowOf ⟨s.val, h s⟩ r) = ∑ R : Fin 4352, f R := by
  rw [← Fintype.sum_prod_type' (fun (s : Fin 17) (r : Fin 256) => f (rowOf ⟨s.val, h s⟩ r))]
  refine Fintype.sum_equiv (finProdFinEquiv (m := 17) (n := 256)) _ _ fun p => congrArg f (Fin.ext ?_)
  show 256 * p.1.val + p.2.val = p.2.val + 256 * p.1.val
  omega

/-! ### The seven results -/

/-- The gradients of the two groups' attention outputs, of their gates, of the weight and of the two gains. -/
def dyaAll : Vec Ideal S4352x512 .f32 := fun y => dyK (paRow m c (y 0)) (yaRow m c (y 0)) (naVec m c) (saRow m c (y 0)) (y 1)
def dybAll : Vec Ideal S4352x512 .f32 := fun y => dyK (pbRow m c (y 0)) (ybRow m c (y 0)) (nbVec m c) (sbRow m c (y 0)) (y 1)
def dgaAll : Vec Ideal S4352x512 .f32 := fun y => dgK (paRow m c (y 0)) (yaRow m c (y 0)) (naVec m c) (saRow m c (y 0)) (y 1)
def dgbAll : Vec Ideal S4352x512 .f32 := fun y => dgK (pbRow m c (y 0)) (ybRow m c (y 0)) (nbVec m c) (sbRow m c (y 0)) (y 1)
def dwAll : Vec Ideal S1024x1024 .f32 := fun y => ∑ R : Fin 4352, wPart m c R (y 0) (y 1)
def dnaAll : Vec Ideal S1x512 .f32 := fun y => ∑ R : Fin 4352, aPart m c R (y 1)
def dnbAll : Vec Ideal S1x512 .f32 := fun y => ∑ R : Fin 4352, bPart m c R (y 1)

theorem arr_dya : (dats m 0 c).arrAt 8 cfg0.N = dyaAll m c := by
  refine (dats m 0 c).arrAt_eq_of_covers 8 _ (by decide +kernel) fun t _ y => ?_
  blk_simp
  rw [after0_8, step8]
  obtain ⟨r, k, rfl⟩ : ∃ (r : Fin 256) (k : Fin 512), y = ix2 r k := ⟨y 0, y 1, (ix2_eta y).symm⟩
  rw [dya_at]
  simp only [blk0, blk1, blk2, blk3, blk4, blk5, blk6, blk7a]
  have e0 : (((View.whole main_v1_0).slice (win0_8.rect t)).emb (ix2 r k) : S4352x512.Idx) = ix2 (rowOf t r) k := by
    blk_ext [idx t, rowOf]
  rw [e0]
  rfl
theorem arr_dyb : (dats m 0 c).arrAt 9 cfg0.N = dybAll m c := by
  refine (dats m 0 c).arrAt_eq_of_covers 9 _ (by decide +kernel) fun t _ y => ?_
  blk_simp
  rw [after0_9, step9]
  obtain ⟨r, k, rfl⟩ : ∃ (r : Fin 256) (k : Fin 512), y = ix2 r k := ⟨y 0, y 1, (ix2_eta y).symm⟩
  rw [dyb_at]
  simp only [blk0, blk1, blk2, blk3, blk4, blk5, blk6, blk7b]
  have e0 : (((View.whole main_v1_1).slice (win0_9.rect t)).emb (ix2 r k) : S4352x512.Idx) = ix2 (rowOf t r) k := by
    blk_ext [idx t, rowOf]
  rw [e0]
  rfl
theorem arr_dga : (dats m 0 c).arrAt 10 cfg0.N = dgaAll m c := by
  refine (dats m 0 c).arrAt_eq_of_covers 10 _ (by decide +kernel) fun t _ y => ?_
  blk_simp
  rw [after0_10, step10]
  obtain ⟨r, k, rfl⟩ : ∃ (r : Fin 256) (k : Fin 512), y = ix2 r k := ⟨y 0, y 1, (ix2_eta y).symm⟩
  rw [pay13_at]
  simp only [blk0, blk1, blk2, blk3, blk4, blk5, blk6, blk7a]
  have e0 : (((View.whole main_v1_2).slice (win0_10.rect t)).emb (ix2 r k) : S4352x512.Idx) = ix2 (rowOf t r) k := by
    blk_ext [idx t, rowOf]
  rw [e0]
  rfl
theorem arr_dgb : (dats m 0 c).arrAt 11 cfg0.N = dgbAll m c := by
  refine (dats m 0 c).arrAt_eq_of_covers 11 _ (by decide +kernel) fun t _ y => ?_
  blk_simp
  rw [after0_11, step11]
  obtain ⟨r, k, rfl⟩ : ∃ (r : Fin 256) (k : Fin 512), y = ix2 r k := ⟨y 0, y 1, (ix2_eta y).symm⟩
  rw [pay25_at]
  simp only [blk0, blk1, blk2, blk3, blk4, blk5, blk6, blk7b]
  have e0 : (((View.whole main_v1_3).slice (win0_11.rect t)).emb (ix2 r k) : S4352x512.Idx) = ix2 (rowOf t r) k := by
    blk_ext [idx t, rowOf]
  rw [e0]
  rfl
theorem flush12 : ∀ t : Fin cfg0.N, (cfg0.win 12).flush t = true → t.val = 16 :=
  (by decide +kernel : ∀ t : Fin grid0.N, _)
theorem dw_at_last (k j : Fin 1024) (n : ℕ) (e : n = 16) (hn : n < cfg0.N) : (outsAt0 m c n hn).2.2.2.2.1 (ix2 k j) = ∑ R : Fin 4352, wPart m c R k j := by
  subst e
  exact (sum12 m c k j 16 hn).trans (sum_rows (fun R => wPart m c R k j) _)
theorem arr_dw : (dats m 0 c).arrAt 12 cfg0.N = dwAll m c := by
  refine (dats m 0 c).arrAt_eq_of_covers 12 _ (by decide +kernel) fun t ht y => ?_
  have e16 := flush12 t ht
  blk_simp
  rw [after0_12]
  obtain ⟨k, j, rfl⟩ : ∃ (k j : Fin 1024), y = ix2 k j := ⟨y 0, y 1, (ix2_eta y).symm⟩
  have e0 : (((View.whole main_v1_4).slice (win0_12.rect t)).emb (ix2 k j) : S1024x1024.Idx) = ix2 k j := by
    blk_ext [idx t]
  rw [e0, dw_at_last m c k j t.val e16]
  rfl
theorem flush13 : ∀ t : Fin cfg0.N, (cfg0.win 13).flush t = true → t.val = 16 :=
  (by decide +kernel : ∀ t : Fin grid0.N, _)
theorem dna_at_last (k : Fin 512) (n : ℕ) (e : n = 16) (hn : n < cfg0.N) : (outsAt0 m c n hn).2.2.2.2.2.1 (ix2 0 k) = ∑ R : Fin 4352, aPart m c R k := by
  subst e
  exact (sum13 m c k 16 hn).trans (sum_rows (fun R => aPart m c R k) _)
theorem arr_dna : (dats m 0 c).arrAt 13 cfg0.N = dnaAll m c := by
  refine (dats m 0 c).arrAt_eq_of_covers 13 _ (by decide +kernel) fun t ht y => ?_
  have e16 := flush13 t ht
  blk_simp
  rw [after0_13]
  obtain ⟨z, k, rfl⟩ : ∃ (z : Fin 1) (k : Fin 512), y = ix2 z k := ⟨y 0, y 1, (ix2_eta y).symm⟩
  obtain rfl : z = 0 := Subsingleton.elim _ _
  have e0 : (((View.whole main_v1_5).slice (win0_13.rect t)).emb (ix2 0 k) : S1x512.Idx) = ix2 0 k := by
    blk_ext [idx t]
  rw [e0, dna_at_last m c k t.val e16]
  rfl
theorem flush14 : ∀ t : Fin cfg0.N, (cfg0.win 14).flush t = true → t.val = 16 :=
  (by decide +kernel : ∀ t : Fin grid0.N, _)
theorem dnb_at_last (k : Fin 512) (n : ℕ) (e : n = 16) (hn : n < cfg0.N) : (outsAt0 m c n hn).2.2.2.2.2.2 (ix2 0 k) = ∑ R : Fin 4352, bPart m c R k := by
  subst e
  exact (sum14 m c k 16 hn).trans (sum_rows (fun R => bPart m c R k) _)
theorem arr_dnb : (dats m 0 c).arrAt 14 cfg0.N = dnbAll m c := by
  refine (dats m 0 c).arrAt_eq_of_covers 14 _ (by decide +kernel) fun t ht y => ?_
  have e16 := flush14 t ht
  blk_simp
  rw [after0_14]
  obtain ⟨z, k, rfl⟩ : ∃ (z : Fin 1) (k : Fin 512), y = ix2 z k := ⟨y 0, y 1, (ix2_eta y).symm⟩
  obtain rfl : z = 0 := Subsingleton.elim _ _
  have e0 : (((View.whole main_v1_6).slice (win0_14.rect t)).emb (ix2 0 k) : S1x512.Idx) = ix2 0 k := by
    blk_ext [idx t]
  rw [e0, dnb_at_last m c k t.val e16]
  rfl

end Cert.OutbIdeal.Gen

end
-- ==== Proof.ObRef.lean ====
/- The output projection's backward pass as plain mathematics: the reference's lines, read at an index. -/
module

public import proofs.«01_k».proof.Proof.Gen.OutbRefIdeal.Run
public import proofs.«01_k».proof.Proof.ObRow
public import Idealize.ShloMosaic.Lib.Pointwise
public import Idealize.ShloMosaic.Lib.IdealHost
public import Idealize.ShloMosaic.Lib.StableHlo.RunRead

@[expose] public section

set_option maxRecDepth 16384

noncomputable section

namespace Cert.OutbRefIdeal.Gen

open Idealize.ShloMosaic Idealize.ShloMosaic.TcCoe Idealize.ShloMosaic.Tactic Idealize.SL.Sem
open Cert.Out Cert.OutbRefIdeal.Value
open Cert.Inproj (mhalf)

/-! ### One group of the reference's lines, one value a name -/

variable (p y s : FVec Ideal S4352x512 .f32) (n : FVec Ideal S1x512 .f32)

/-- The sigmoid of the gate, the gate itself, the mean square with `eps`, and one over its root. -/
def sigF : FVec Ideal S4352x512 .f32 :=
  Host.divf (broadcastInDim S4352x512 ![] bcast_S_S4352x512 (constant S_ .f32 0x3F800000#32)) (addf (broadcastInDim S4352x512 ![] bcast_S_S4352x512 (constant S_ .f32 0x3F800000#32)) (Host.exp (Host.negf s)))
def gateF : FVec Ideal S4352x512 .f32 := mulf s (sigF s)
def xF : FVec Ideal S4352x1 .f32 :=
  addf (Host.divf (broadcastInDim S4352x1 ![0] bcast_S4352_S4352x1_0 (Host.reduceAdd (mulf y y) (constant S_ .f32 0x00000000#32) reducesTo_S4352x512_S4352_d1 h_S_))
    (broadcastInDim S4352x1 ![] bcast_S_S4352x1 (constant S_ .f32 0x44000000#32))) (broadcastInDim S4352x1 ![] bcast_S_S4352x1 (constant S_ .f32 0x358637BD#32))
def rF : FVec Ideal S4352x1 .f32 := Host.rsqrt (xF y)
/-- The normed row, without and with the gain. -/
def uF : FVec Ideal S4352x512 .f32 := mulf y (broadcastInDim S4352x512 ![0, 1] bcast_S4352x1_S4352x512_0_1 (rF y))
def normF : FVec Ideal S4352x512 .f32 := mulf (uF y) (broadcastInDim S4352x512 ![0, 1] bcast_S1x512_S4352x512_0_1 n)
/-- The gradient past the gate, the same with the gain, and what the root's derivative gives a row. -/
def qF : FVec Ideal S4352x512 .f32 := mulf p (gateF s)
def zF : FVec Ideal S4352x512 .f32 := mulf (qF p s) (broadcastInDim S4352x512 ![0, 1] bcast_S1x512_S4352x512_0_1 n)
def dotF : FVec Ideal S4352x1 .f32 :=
  shapeCast _ (Host.reduceAdd (mulf y (zF p s n)) (constant S_ .f32 0x00000000#32) reducesTo_S4352x512_S4352_d1 h_S_) shapeCasts_S4352_S4352x1
def facF : FVec Ideal S4352x1 .f32 := mulf (broadcastInDim S4352x1 ![] bcast_S_S4352x1 (constant S_ .f32 0xBF000000#32)) (Host.divf (rF y) (xF y))
def sF : FVec Ideal S4352x512 .f32 :=
  broadcastInDim S4352x512 ![0] bcast_S4352_S4352x512_0
    (Host.reduceAdd (Host.divf (mulf (dotF p y s n) (facF y)) (broadcastInDim S4352x1 ![] bcast_S_S4352x1 (constant S_ .f32 0x44000000#32)))
      (constant S_ .f32 0x00000000#32) reducesTo_S4352x1_S4352_d1 h_S_)
/-- The gradients of the attention output, of the gate and of the gain. -/
def dyF : FVec Ideal S4352x512 .f32 :=
  addf (addf (mulf (zF p s n) (broadcastInDim S4352x512 ![0, 1] bcast_S4352x1_S4352x512_0_1 (rF y))) (mulf y (sF p y s n))) (mulf (sF p y s n) y)
def dgF : FVec Ideal S4352x512 .f32 :=
  addf (mulf (mulf (normF y n) p) (sigF s)) (mulf (mulf s (mulf (normF y n) p)) (mulf (sigF s) (subf (broadcastInDim S4352x512 ![] bcast_S_S4352x512 (constant S_ .f32 0x3F800000#32)) (sigF s))))
def dnF : FVec Ideal S1x512 .f32 :=
  shapeCast _ (Host.reduceAdd (mulf (uF y) (qF p s)) (constant S_ .f32 0x00000000#32) reducesTo_S4352x512_S512_d0 h_S_) shapeCasts_S512_S1x512

variable (R : Fin 4352) (k : Fin 512) (z : Fin 1)

theorem sigF_at : sigF s (ix2 R k) = Ideal.logistic (s (ix2 R k)) := by
  rw [← logistic_eq]
  pointwise [sigF]
theorem gateF_at : gateF s (ix2 R k) = gte (s (ix2 R k)) := by
  unfold gte
  rw [← sigF_at]
  rfl
theorem xF_at : xF y (ix2 R z) = msq (fun k => y (ix2 R k)) := by
  pointwise [xF, msq]
theorem rF_at : rF y (ix2 R z) = rst (fun k => y (ix2 R k)) := by
  unfold rst
  rw [← xF_at y R z]
  pointwise [rF]
theorem uF_at : uF y (ix2 R k) = y (ix2 R k) * rst (fun k => y (ix2 R k)) := by
  rw [← rF_at y R 0]
  pointwise [uF]
theorem normF_at : normF y n (ix2 R k) = y (ix2 R k) * rst (fun k => y (ix2 R k)) * n (ix2 0 k) := by
  rw [← uF_at]
  pointwise [normF]
theorem qF_at : qF p s (ix2 R k) = p (ix2 R k) * gte (s (ix2 R k)) := by
  rw [← gateF_at]
  rfl
theorem zF_at : zF p s n (ix2 R k) = zed (fun k => p (ix2 R k)) (fun k => n (ix2 0 k)) (fun k => s (ix2 R k)) k := by
  unfold zed
  rw [← qF_at]
  pointwise [zF]
theorem dotF_at : dotF p y s n (ix2 R z) = (∑ x : Fin 512, y (ix2 R x) * zed (fun k => p (ix2 R k)) (fun k => n (ix2 0 k)) (fun k => s (ix2 R k)) x : EReal) := by
  simp only [← zF_at]
  pointwise [dotF]
theorem facF_at : facF y (ix2 R z) = mhalf * Ideal.div (rst (fun k => y (ix2 R k))) (msq (fun k => y (ix2 R k))) := by
  rw [← rF_at y R z, ← xF_at y R z]
  pointwise [facF]
theorem sF_at : sF p y s n (ix2 R k) = sR (fun k => y (ix2 R k)) (zed (fun k => p (ix2 R k)) (fun k => n (ix2 0 k)) (fun k => s (ix2 R k))) := by
  pointwise [sF, sR]
  simp only [dotF_at, facF_at]
theorem dyF_at : dyF p y s n (ix2 R k) = dyR (fun k => p (ix2 R k)) (fun k => y (ix2 R k)) (fun k => n (ix2 0 k)) (fun k => s (ix2 R k)) k := by
  unfold dyR
  rw [← zF_at, ← rF_at y R 0, ← sF_at p y s n R k]
  pointwise [dyF]
theorem dgF_at : dgF p y s n (ix2 R k) = dgR (fun k => p (ix2 R k)) (fun k => y (ix2 R k)) (fun k => n (ix2 0 k)) (fun k => s (ix2 R k)) k := by
  unfold dgR
  rw [← normF_at, ← sigF_at]
  pointwise [dgF]
theorem dnF_at : dnF p y s (ix2 0 k) = (∑ R : Fin 4352, y (ix2 R k) * rst (fun k => y (ix2 R k)) * (p (ix2 R k) * gte (s (ix2 R k))) : EReal) := by
  simp only [← uF_at, ← qF_at]
  pointwise [dnF]

/-! ### What the two groups are cut from -/

variable (d : FVec Ideal S4352x1024 .f32) (w : FVec Ideal S1024x1024 .f32) (g : FVec Ideal S4352x2560 .f32)

def dotW : FVec Ideal S4352x1024 .f32 := Host.dotGeneral dot_S4352x1024_S1024x1024_S4352x1024_1_1_0_0_n_n (φ₁ := .f32) (φ₂ := .f32) none d w
def paF : FVec Ideal S4352x512 .f32 := extractStridedSlice S4352x512 ![0, 0] (dotW d w) slices_S4352x1024_S4352x512_0_0
def pbF : FVec Ideal S4352x512 .f32 := extractStridedSlice S4352x512 ![0, 512] (dotW d w) slices_S4352x1024_S4352x512_0_512
def saF : FVec Ideal S4352x512 .f32 := extractStridedSlice S4352x512 ![0, 1024] g slices_S4352x2560_S4352x512_0_1024
def sbF : FVec Ideal S4352x512 .f32 := extractStridedSlice S4352x512 ![0, 2048] g slices_S4352x2560_S4352x512_0_2048

theorem dotW_at (x : Fin 1024) : dotW d w (ix2 R x) = (∑ j : Fin 1024, d (ix2 R j) * w (ix2 x j) : EReal) := by
  pointwise [dotW]
theorem paF_at : paF d w (ix2 R k) = dyp (fun j => d (ix2 R j)) (fun k j => w (ix2 ⟨k.val, by omega⟩ j)) k := by
  unfold dyp
  rw [← dotW_at R d w ⟨k.val, by omega⟩]
  pointwise [paF]
theorem pbF_at : pbF d w (ix2 R k) = dyp (fun j => d (ix2 R j)) (fun k j => w (ix2 ⟨512 + k.val, by omega⟩ j)) k := by
  unfold dyp
  rw [← dotW_at R d w ⟨512 + k.val, by omega⟩]
  pointwise [pbF]
theorem saF_at : saF g (ix2 R k) = g (ix2 R ⟨1024 + k.val, by omega⟩) := by
  pointwise [saF]
theorem sbF_at : sbF g (ix2 R k) = g (ix2 R ⟨2048 + k.val, by omega⟩) := by
  pointwise [sbF]

/-- The weight's gradient: the two groups laid end to end against the gradient from above. -/
def catF (a b : FVec Ideal S4352x512 .f32) : FVec Ideal S4352x1024 .f32 := fn_main_v36 (F := Ideal) a b
def dwF (a b : FVec Ideal S4352x512 .f32) : FVec Ideal S1024x1024 .f32 :=
  transpose S1024x1024 [1, 0] (Host.dotGeneral dot_S4352x1024_S4352x1024_S1024x1024_0_0_1_1_n_n (φ₁ := .f32) (φ₂ := .f32) none d (catF a b)) transposes_S1024x1024_S1024x1024_1_0
theorem catF_at (a b : FVec Ideal S4352x512 .f32) (x : Fin 1024) : catF a b (ix2 R x) = cat2 (fun k => a (ix2 R k)) (fun k => b (ix2 R k)) x := by
  pointwise [catF, fn_main_v36, cat2]
theorem dwF_at (a b : FVec Ideal S4352x512 .f32) (x j : Fin 1024) :
    dwF d a b (ix2 x j) = (∑ R : Fin 4352, d (ix2 R j) * cat2 (fun k => a (ix2 R k)) (fun k => b (ix2 R k)) x : EReal) := by
  simp only [← catF_at]
  pointwise [dwF]

/-! ### The run -/

variable (m : (ℓ : Loc nD τ sig) → Buf (Elt Ideal) ℓ) (ρ : Dev nD → PrngReg) (c : Dev nD)

theorem run_at : θ_run defs (onTc (τ := τ) (main (F := Ideal))) ⟨m, fun _ => 0, ρ⟩ fun r => ∀ c : Dev nD,
      (r.2.mem ((c : Thread nD τ).loc main_v86) : FVec Ideal S4352x512 .f32) = dyF (paF (m ((c : Thread nD τ).loc main_arg0)) (m ((c : Thread nD τ).loc main_arg6))) (m ((c : Thread nD τ).loc main_arg1)) (saF (m ((c : Thread nD τ).loc main_arg3))) (m ((c : Thread nD τ).loc main_arg4))
      ∧ (r.2.mem ((c : Thread nD τ).loc main_v64) : FVec Ideal S4352x512 .f32) = dyF (pbF (m ((c : Thread nD τ).loc main_arg0)) (m ((c : Thread nD τ).loc main_arg6))) (m ((c : Thread nD τ).loc main_arg2)) (sbF (m ((c : Thread nD τ).loc main_arg3))) (m ((c : Thread nD τ).loc main_arg5))
      ∧ (r.2.mem ((c : Thread nD τ).loc main_v67) : FVec Ideal S4352x512 .f32) = dgF (paF (m ((c : Thread nD τ).loc main_arg0)) (m ((c : Thread nD τ).loc main_arg6))) (m ((c : Thread nD τ).loc main_arg1)) (saF (m ((c : Thread nD τ).loc main_arg3))) (m ((c : Thread nD τ).loc main_arg4))
      ∧ (r.2.mem ((c : Thread nD τ).loc main_v45) : FVec Ideal S4352x512 .f32) = dgF (pbF (m ((c : Thread nD τ).loc main_arg0)) (m ((c : Thread nD τ).loc main_arg6))) (m ((c : Thread nD τ).loc main_arg2)) (sbF (m ((c : Thread nD τ).loc main_arg3))) (m ((c : Thread nD τ).loc main_arg5))
      ∧ (r.2.mem ((c : Thread nD τ).loc main_v39) : FVec Ideal S1024x1024 .f32) = dwF (m ((c : Thread nD τ).loc main_arg0))
          (mulf (normF (m ((c : Thread nD τ).loc main_arg1)) (m ((c : Thread nD τ).loc main_arg4))) (gateF (saF (m ((c : Thread nD τ).loc main_arg3)))))
          (mulf (normF (m ((c : Thread nD τ).loc main_arg2)) (m ((c : Thread nD τ).loc main_arg5))) (gateF (sbF (m ((c : Thread nD τ).loc main_arg3)))))
      ∧ (r.2.mem ((c : Thread nD τ).loc main_v70) : FVec Ideal S1x512 .f32) = dnF (paF (m ((c : Thread nD τ).loc main_arg0)) (m ((c : Thread nD τ).loc main_arg6))) (m ((c : Thread nD τ).loc main_arg1)) (saF (m ((c : Thread nD τ).loc main_arg3)))
      ∧ (r.2.mem ((c : Thread nD τ).loc main_v48) : FVec Ideal S1x512 .f32) = dnF (pbF (m ((c : Thread nD τ).loc main_arg0)) (m ((c : Thread nD τ).loc main_arg6))) (m ((c : Thread nD τ).loc main_arg2)) (sbF (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (by unfold res_main_v86 dyF sF facF dotF zF qF gateF sigF rF xF paF dotW saF; rfl),
    (h c).2.1.trans (by unfold res_main_v64 dyF sF facF dotF zF qF gateF sigF rF xF pbF dotW sbF; rfl),
    (h c).2.2.1.trans (by unfold dgF normF uF sigF rF xF paF dotW saF; rfl),
    (h c).2.2.2.1.trans (by unfold dgF normF uF sigF rF xF pbF dotW sbF; rfl),
    (h c).2.2.2.2.1.trans (by unfold dwF catF fn_main_v36 normF gateF uF sigF rF xF saF sbF; rfl),
    (h c).2.2.2.2.2.1.trans (by unfold dnF qF gateF uF sigF rF xF paF dotW saF; rfl),
    (h c).2.2.2.2.2.2.1.trans (by unfold dnF qF gateF uF sigF rF xF pbF dotW sbF; rfl),
    (h c).2.2.2.2.2.2.2⟩) (run m ρ)

end Cert.OutbRefIdeal.Gen

end
-- ==== Proof.ObPre.lean ====
/- What the output projection's precondition says: the gradient from above, the gains and the weight are real numbers throughout. -/
module

public import proofs.«01_k».proof.Defs
public import proofs.«01_k».proof.Proof.Gen.Pre_finite_out
public import proofs.«01_k».proof.Proof.Pre

@[expose] public section

noncomputable section

namespace Cert.Pre_finite_out.Gen

open Idealize.ShloMosaic Idealize.ShloMosaic.Tactic
open Cert.Pre_finite.Gen (real_of_abs)

variable (a0 : FVec Ideal S4352x1024 .f32) (a1 a2 : FVec Ideal S4352x512 .f32) (a3 : FVec Ideal S4352x2560 .f32)
  (a4 a5 : FVec Ideal S1x512 .f32) (a6 : FVec Ideal S1024x1024 .f32)

instance : Subsingleton S_.Idx := ⟨fun a b => funext fun i => i.elim0⟩

theorem real_args (h : fn (F := Ideal) a0 a1 a2 a3 a4 a5 a6 = fun _ => 1#1) :
    (∀ i, ∃ x : ℝ, (a0 i : EReal) = (x : EReal)) ∧ (∀ i, ∃ x : ℝ, (a4 i : EReal) = (x : EReal))
    ∧ (∀ i, ∃ x : ℝ, (a5 i : EReal) = (x : EReal)) ∧ (∀ i, ∃ x : ℝ, (a6 i : EReal) = (x : EReal)) := by
  have h := congrFun h (fun i => i.elim0)
  dsimp only [fn, fn_part1] at h
  obtain ⟨h, h6⟩ := IntOp.andi_eq_one.1 h
  obtain ⟨h, h5⟩ := IntOp.andi_eq_one.1 h
  obtain ⟨h0, h4⟩ := IntOp.andi_eq_one.1 h
  exact ⟨fun i => ⟨_, (real_of_abs _ (Host.reduce_andi_all _ _ _ _ _ h0 i)).symm⟩, fun i => ⟨_, (real_of_abs _ (Host.reduce_andi_all _ _ _ _ _ h4 i)).symm⟩,
    fun i => ⟨_, (real_of_abs _ (Host.reduce_andi_all _ _ _ _ _ h5 i)).symm⟩, fun i => ⟨_, (real_of_abs _ (Host.reduce_andi_all _ _ _ _ _ h6 i)).symm⟩⟩

end Cert.Pre_finite_out.Gen

end
-- ==== Proof.ObEqual.lean ====
/- The output projection's backward kernel and its reference leave the same seven results. -/
module

public import proofs.«01_k».proof.Defs
public import proofs.«01_k».proof.Proof.Gen.Outb
public import proofs.«01_k».proof.Proof.Gen.OutbRef
public import proofs.«01_k».proof.Proof.ObSum
public import proofs.«01_k».proof.Proof.ObRef
public import proofs.«01_k».proof.Proof.ObPre

@[expose] public section

set_option maxRecDepth 16384

noncomputable section

namespace Cert.Proof

open Idealize.ShloMosaic Idealize.ShloMosaic.TcCoe Idealize.SL.Sem
open Cert.OutbIdeal.Gen (dyaAll dybAll dgaAll dgbAll dwAll dnaAll dnbAll)
open Cert.Out Cert.OutbRefIdeal.Gen

/-- The reference's results at the kernel's arguments are the kernel's. -/
theorem outb_dya (m : (ℓ : Loc Cert.OutbIdeal.nD Cert.OutbIdeal.τ Cert.OutbIdeal.sig) → Buf (Elt Ideal) ℓ) (c : Dev Cert.OutbIdeal.nD) :
    dyF (paF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg1))
      (saF (m ((c.tc : Thread Cert.OutbIdeal.nD Cert.OutbIdeal.τ).loc Cert.OutbIdeal.main_arg3))) (m ((c.tc : Thread Cert.OutbIdeal.nD Cert.OutbIdeal.τ).loc Cert.OutbIdeal.main_arg4)) = dyaAll m c := by
  funext y
  obtain ⟨R, k, rfl⟩ : ∃ (R : Fin 4352) (k : Fin 512), y = ix2 R k := ⟨y 0, y 1, (ix2_eta y).symm⟩
  rw [dyF_at]
  simp only [paF_at, saF_at]
  exact (dy_eq _ _ _ _ k).symm

theorem outb_dyb (m : (ℓ : Loc Cert.OutbIdeal.nD Cert.OutbIdeal.τ Cert.OutbIdeal.sig) → Buf (Elt Ideal) ℓ) (c : Dev Cert.OutbIdeal.nD) :
    dyF (pbF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg2))
      (sbF (m ((c.tc : Thread Cert.OutbIdeal.nD Cert.OutbIdeal.τ).loc Cert.OutbIdeal.main_arg3))) (m ((c.tc : Thread Cert.OutbIdeal.nD Cert.OutbIdeal.τ).loc Cert.OutbIdeal.main_arg5)) = dybAll m c := by
  funext y
  obtain ⟨R, k, rfl⟩ : ∃ (R : Fin 4352) (k : Fin 512), y = ix2 R k := ⟨y 0, y 1, (ix2_eta y).symm⟩
  rw [dyF_at]
  simp only [pbF_at, sbF_at]
  exact (dy_eq _ _ _ _ k).symm

/-- The gates' gradients, where the gradient from above, the gain and the weight are real. -/
theorem outb_dga (m : (ℓ : Loc Cert.OutbIdeal.nD Cert.OutbIdeal.τ Cert.OutbIdeal.sig) → Buf (Elt Ideal) ℓ) (c : Dev Cert.OutbIdeal.nD)
    (h0 : ∀ i, ∃ x : ℝ, (m ((c.tc : Thread Cert.OutbIdeal.nD Cert.OutbIdeal.τ).loc Cert.OutbIdeal.main_arg0) i : EReal) = (x : EReal))
    (h4 : ∀ i, ∃ x : ℝ, (m ((c.tc : Thread Cert.OutbIdeal.nD Cert.OutbIdeal.τ).loc Cert.OutbIdeal.main_arg4) i : EReal) = (x : EReal))
    (h6 : ∀ i, ∃ x : ℝ, (m ((c.tc : Thread Cert.OutbIdeal.nD Cert.OutbIdeal.τ).loc Cert.OutbIdeal.main_arg6) i : EReal) = (x : EReal)) :
    dgF (paF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg1))
      (saF (m ((c.tc : Thread Cert.OutbIdeal.nD Cert.OutbIdeal.τ).loc Cert.OutbIdeal.main_arg3))) (m ((c.tc : Thread Cert.OutbIdeal.nD Cert.OutbIdeal.τ).loc Cert.OutbIdeal.main_arg4)) = dgaAll m c := by
  funext y
  obtain ⟨R, k, rfl⟩ : ∃ (R : Fin 4352) (k : Fin 512), y = ix2 R k := ⟨y 0, y 1, (ix2_eta y).symm⟩
  rw [dgF_at]
  simp only [paF_at, saF_at]
  exact (dg_eq _ _ _ _ k (dyp_real _ _ k (fun j => h0 _) (fun j => h6 _)) (h4 _)).symm

theorem outb_dgb (m : (ℓ : Loc Cert.OutbIdeal.nD Cert.OutbIdeal.τ Cert.OutbIdeal.sig) → Buf (Elt Ideal) ℓ) (c : Dev Cert.OutbIdeal.nD)
    (h0 : ∀ i, ∃ x : ℝ, (m ((c.tc : Thread Cert.OutbIdeal.nD Cert.OutbIdeal.τ).loc Cert.OutbIdeal.main_arg0) i : EReal) = (x : EReal))
    (h5 : ∀ i, ∃ x : ℝ, (m ((c.tc : Thread Cert.OutbIdeal.nD Cert.OutbIdeal.τ).loc Cert.OutbIdeal.main_arg5) i : EReal) = (x : EReal))
    (h6 : ∀ i, ∃ x : ℝ, (m ((c.tc : Thread Cert.OutbIdeal.nD Cert.OutbIdeal.τ).loc Cert.OutbIdeal.main_arg6) i : EReal) = (x : EReal)) :
    dgF (pbF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg2))
      (sbF (m ((c.tc : Thread Cert.OutbIdeal.nD Cert.OutbIdeal.τ).loc Cert.OutbIdeal.main_arg3))) (m ((c.tc : Thread Cert.OutbIdeal.nD Cert.OutbIdeal.τ).loc Cert.OutbIdeal.main_arg5)) = dgbAll m c := by
  funext y
  obtain ⟨R, k, rfl⟩ : ∃ (R : Fin 4352) (k : Fin 512), y = ix2 R k := ⟨y 0, y 1, (ix2_eta y).symm⟩
  rw [dgF_at]
  simp only [pbF_at, sbF_at]
  exact (dg_eq _ _ _ _ k (dyp_real _ _ k (fun j => h0 _) (fun j => h6 _)) (h5 _)).symm

theorem outb_dw (m : (ℓ : Loc Cert.OutbIdeal.nD Cert.OutbIdeal.τ Cert.OutbIdeal.sig) → Buf (Elt Ideal) ℓ) (c : Dev Cert.OutbIdeal.nD) :
    dwF (m ((c.tc : Thread Cert.OutbIdeal.nD Cert.OutbIdeal.τ).loc Cert.OutbIdeal.main_arg0))
      (mulf (normF (m ((c.tc : Thread Cert.OutbIdeal.nD Cert.OutbIdeal.τ).loc Cert.OutbIdeal.main_arg1)) (m ((c.tc : Thread Cert.OutbIdeal.nD Cert.OutbIdeal.τ).loc Cert.OutbIdeal.main_arg4))) (gateF (saF (m ((c.tc : Thread Cert.OutbIdeal.nD Cert.OutbIdeal.τ).loc Cert.OutbIdeal.main_arg3)))))
      (mulf (normF (m ((c.tc : Thread Cert.OutbIdeal.nD Cert.OutbIdeal.τ).loc Cert.OutbIdeal.main_arg2)) (m ((c.tc : Thread Cert.OutbIdeal.nD Cert.OutbIdeal.τ).loc Cert.OutbIdeal.main_arg5))) (gateF (sbF (m ((c.tc : Thread Cert.OutbIdeal.nD Cert.OutbIdeal.τ).loc Cert.OutbIdeal.main_arg3))))) = dwAll m c := by
  funext y
  obtain ⟨k, j, rfl⟩ : ∃ (k j : Fin 1024), y = ix2 k j := ⟨y 0, y 1, (ix2_eta y).symm⟩
  rw [dwF_at]
  refine Finset.sum_congr rfl fun R _ => (mul_comm _ _).trans ?_
  have e : ∀ (a s : FVec Ideal Cert.OutbRefIdeal.S4352x512 .f32) (n : FVec Ideal Cert.OutbRefIdeal.S1x512 .f32),
      (fun k => mulf (normF a n) (gateF s) (ix2 R k)) = mix (fun k => a (ix2 R k)) (fun k => n (ix2 0 k)) (fun k => s (ix2 R k)) := fun a s n => by
    funext k
    unfold mix
    rw [← normF_at, ← gateF_at]
    rfl
  rw [e, e]
  simp only [saF_at, sbF_at]
  rfl

theorem outb_dna (m : (ℓ : Loc Cert.OutbIdeal.nD Cert.OutbIdeal.τ Cert.OutbIdeal.sig) → Buf (Elt Ideal) ℓ) (c : Dev Cert.OutbIdeal.nD) :
    dnF (paF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg1))
      (saF (m ((c.tc : Thread Cert.OutbIdeal.nD Cert.OutbIdeal.τ).loc Cert.OutbIdeal.main_arg3))) = dnaAll m c := by
  funext y
  obtain ⟨z, k, rfl⟩ : ∃ (z : Fin 1) (k : Fin 512), y = ix2 z k := ⟨y 0, y 1, (ix2_eta y).symm⟩
  obtain rfl : z = 0 := Subsingleton.elim _ _
  rw [dnF_at]
  simp only [paF_at, saF_at]
  exact Finset.sum_congr rfl fun R _ => mul_comm _ _

theorem outb_dnb (m : (ℓ : Loc Cert.OutbIdeal.nD Cert.OutbIdeal.τ Cert.OutbIdeal.sig) → Buf (Elt Ideal) ℓ) (c : Dev Cert.OutbIdeal.nD) :
    dnF (pbF (m ((c.tc : Thread Cert.OutbIdeal.nD Cert.OutbIdeal.τ).loc Cert.OutbIdeal.main_arg0)) (m ((c.tc : Thread Cert.OutbIdeal.nD Cert.OutbIdeal.τ).loc Cert.OutbIdeal.main_arg6))) (m ((c.tc : Thread Cert.OutbIdeal.nD Cert.OutbIdeal.τ).loc Cert.OutbIdeal.main_arg2))
      (sbF (m ((c.tc : Thread Cert.OutbIdeal.nD Cert.OutbIdeal.τ).loc Cert.OutbIdeal.main_arg3))) = dnbAll m c := by
  funext y
  obtain ⟨z, k, rfl⟩ : ∃ (z : Fin 1) (k : Fin 512), y = ix2 z k := ⟨y 0, y 1, (ix2_eta y).symm⟩
  obtain rfl : z = 0 := Subsingleton.elim _ _
  rw [dnF_at]
  simp only [pbF_at, sbF_at]
  exact Finset.sum_congr rfl fun R _ => mul_comm _ _

theorem outb_values : Cert.algebraic_OutbIdeal_OutbRefIdeal_pre_finite_out := by
  intro m g m' g' hpre hagree
  refine ⟨dyaAll m, dybAll m, dgaAll m, dgbAll m, dwAll m, dnaAll m, dnbAll m, ?_, ?_⟩
  · refine (θ_run _ _ _).mono (fun r h c => ?_) (Cert.OutbIdeal.Value.run_blocks m g)
    obtain ⟨r0, r1, r2, r3, r4, r5, r6, hargs⟩ := h c
    exact ⟨r0.trans (Cert.OutbIdeal.Gen.arr_dya m c), r1.trans (Cert.OutbIdeal.Gen.arr_dyb m c), r2.trans (Cert.OutbIdeal.Gen.arr_dga m c), r3.trans (Cert.OutbIdeal.Gen.arr_dgb m c),
      r4.trans (Cert.OutbIdeal.Gen.arr_dw m c), r5.trans (Cert.OutbIdeal.Gen.arr_dna m c), r6.trans (Cert.OutbIdeal.Gen.arr_dnb m c), hargs⟩
  · refine (θ_run _ _ _).mono (fun r h c => ?_) (Cert.OutbRefIdeal.Gen.run_at m' g')
    obtain ⟨r0, r1, r2, r3, r4, r5, r6, hargs⟩ := h c
    obtain ⟨e0, e1, e2, e3, e4, e5, e6⟩ := hagree c
    obtain ⟨h0, h4, h5, h6⟩ := Cert.Pre_finite_out.Gen.real_args _ _ _ _ _ _ _ (hpre c)
    refine ⟨r0.trans ?_, r1.trans ?_, r2.trans ?_, r3.trans ?_, r4.trans ?_, r5.trans ?_, r6.trans ?_, hargs⟩
    · rw [e0, e1, e3, e4, e6]; exact outb_dya m c
    · rw [e0, e2, e3, e5, e6]; exact outb_dyb m c
    · rw [e0, e1, e3, e4, e6]; exact outb_dga m c h0 h4 h6
    · rw [e0, e2, e3, e5, e6]; exact outb_dgb m c h0 h5 h6
    · rw [e0, e1, e2, e3, e4, e5]; exact outb_dw m c
    · rw [e0, e1, e3, e6]; exact outb_dna m c
    · rw [e0, e2, e3, e6]; exact outb_dnb m c

end Cert.Proof

end
-- ==== Proof.OfEqual.lean ====
/- The output projection's forward kernel and its reference leave the same result. -/
module

public import proofs.«01_k».proof.Defs
public import proofs.«01_k».proof.Proof.Gen.Outf
public import proofs.«01_k».proof.Proof.Gen.OutfRef
public import proofs.«01_k».proof.Proof.Gen.OutfIdeal.Value
public import proofs.«01_k».proof.Proof.Gen.OutfRefIdeal.Run
public import proofs.«01_k».proof.Proof.OutRow
public import Idealize.ShloMosaic.Lib.Pointwise
public import Idealize.ShloMosaic.Lib.IdealHost
public import Idealize.ShloMosaic.Lib.StableHlo.RunRead
public import Idealize.ShloMosaic.Lib.Pipeline.ValueKit

@[expose] public section

set_option maxRecDepth 16384

noncomputable section

namespace Cert.OutfIdeal.Gen

open Idealize.ShloMosaic Idealize.ShloMosaic.TcCoe Idealize.ShloMosaic.Tactic Idealize.SL.Sem
open Idealize.ShloMosaic.Pipeline (Dat)
open Cert.Out

theorem pay2_at (y : Vec Ideal S544x512 .f32) (n : Vec Ideal S1x512 .f32) (r : Fin 544) (k : Fin 512) :
    k0_pay2 (F := Ideal) y n (ix2 r k) = y (ix2 r k) * rst (fun k => y (ix2 r k)) * n (ix2 0 k) := by
  pointwise [k0_pay2, rst, msq]
theorem pay3_at (s : Vec Ideal S544x512 .f32) (r : Fin 544) (k : Fin 512) : k0_pay3 (F := Ideal) s (ix2 r k) = gte (s (ix2 r k)) := by
  pointwise [k0_pay3, gte]
theorem pay4_at (y s : Vec Ideal S544x512 .f32) (n : Vec Ideal S1x512 .f32) (r : Fin 544) (k : Fin 512) :
    k0_pay4 (F := Ideal) y s n (ix2 r k) = mix (fun k => y (ix2 r k)) (fun k => n (ix2 0 k)) (fun k => s (ix2 r k)) k := by
  pointwise [k0_pay4, mix, gte, rst, msq]
theorem pay1_at (a b : Vec Ideal S544x512 .f32) (d : Vec Ideal S544x512 .bf16) (w v : Vec Ideal S512x1024 .bf16) (h : Vec Ideal S544x1024 .f32) (r : Fin 544) (j : Fin 1024) :
    k0_pay1 (F := Ideal) a b d (k0_pay5 w) (constant S544x1024 .f32 0x00000000#32) v h (ix2 r j)
      = h (ix2 r j) + ((∑ k : Fin 512, d (ix2 r k) * w (ix2 k j)) + ∑ k : Fin 512, a (ix2 r k) * b (ix2 r k) * v (ix2 k j)) := by
  pointwise [k0_pay1, k0_pay5]

/-- One entry of the call's result: the residual stream and both groups' parts. -/
def outAt (ya yb sa sb na nb : Fin 512 → EReal) (w : Fin 1024 → EReal) (h : EReal) : EReal :=
  h + ((∑ k : Fin 512, mix ya na sa k * w ⟨k.val, by omega⟩) + ∑ k : Fin 512, mix yb nb sb k * w ⟨512 + k.val, by omega⟩)

theorem out_at (ya yb sa sb : Vec Ideal S544x512 .f32) (na nb : Vec Ideal S1x512 .f32) (w : Vec Ideal S1024x1024 .bf16) (h : Vec Ideal S544x1024 .f32) (r : Fin 544) (j : Fin 1024) :
    out0_8 ya yb sa sb na nb w h (ix2 r j)
      = outAt (fun k => ya (ix2 r k)) (fun k => yb (ix2 r k)) (fun k => sa (ix2 r k)) (fun k => sb (ix2 r k)) (fun k => na (ix2 0 k)) (fun k => nb (ix2 0 k)) (fun k => w (ix2 k j)) (h (ix2 r j)) := by
  unfold out0_8
  simp (disch := decide) only [View.canon_cons_unit_lit', View.ld_unit_lit']
  rw [pay1_at]
  simp only [pay2_at, pay3_at, pay4_at]
  unfold outAt
  congr 2
  · refine Finset.sum_congr rfl fun k _ => ?_
    congr 1
    show w _ = w _
    congr 1
    refine funext (Fin.forall_fin_two.2 ⟨Fin.ext ?_, Fin.ext ?_⟩)
    · show 0 + 1 * k.val = k.val
      omega
    · show 0 + 1 * j.val = j.val
      omega
  · refine Finset.sum_congr rfl fun k _ => ?_
    congr 1
    show w _ = w _
    congr 1
    refine funext (Fin.forall_fin_two.2 ⟨Fin.ext ?_, Fin.ext ?_⟩)
    · show 512 + 1 * k.val = 512 + k.val
      omega
    · show 0 + 1 * j.val = j.val
      omega

variable (m : (ℓ : Loc nD τ sig) → Buf (Elt Ideal) ℓ)

theorem idx : ∀ t : Fin cfg0.N, (win0_0.index t = ![t.val, 0] ∧ win0_1.index t = ![t.val, 0] ∧ win0_2.index t = ![t.val, 2] ∧ win0_3.index t = ![t.val, 4]
    ∧ win0_4.index t = ![0, 0] ∧ win0_5.index t = ![0, 0] ∧ win0_6.index t = ![0, 0] ∧ win0_7.index t = ![t.val, 0] ∧ win0_8.index t = ![t.val, 0]) ∧ t.val < 8 :=
  (by decide +kernel : ∀ t : Fin grid0.N, _)

/-- Row `r` of step `t`. -/
def rowOf (t : Fin cfg0.N) (r : Fin 544) : Fin 4352 := ⟨544 * t.val + r.val, by have : t.val < 8 := t.isLt; omega⟩

theorem blk0 (c : Dev nD) (t : Fin cfg0.N) (r : Fin 544) (x : Fin 512) :
    (iblk m c 0 t : Vec Ideal S544x512 .f32) (ix2 r x) = m ((c : Thread nD τ).loc main_arg0) (ix2 (rowOf t r) x) := by
  rw [← V_main_arg0 m c]
  blk_ext [iblk, idx t, rowOf]
theorem blk1 (c : Dev nD) (t : Fin cfg0.N) (r : Fin 544) (x : Fin 512) :
    (iblk m c 1 t : Vec Ideal S544x512 .f32) (ix2 r x) = m ((c : Thread nD τ).loc main_arg1) (ix2 (rowOf t r) x) := by
  rw [← V_main_arg1 m c]
  blk_ext [iblk, idx t, rowOf]
theorem blk2 (c : Dev nD) (t : Fin cfg0.N) (r : Fin 544) (x : Fin 512) :
    (iblk m c 2 t : Vec Ideal S544x512 .f32) (ix2 r x) = m ((c : Thread nD τ).loc main_arg2) (ix2 (rowOf t r) ⟨1024 + x.val, by omega⟩) := by
  rw [← V_main_arg2 m c]
  blk_ext [iblk, idx t, rowOf]
theorem blk3 (c : Dev nD) (t : Fin cfg0.N) (r : Fin 544) (x : Fin 512) :
    (iblk m c 3 t : Vec Ideal S544x512 .f32) (ix2 r x) = m ((c : Thread nD τ).loc main_arg2) (ix2 (rowOf t r) ⟨2048 + x.val, by omega⟩) := by
  rw [← V_main_arg2 m c]
  blk_ext [iblk, idx t, rowOf]
theorem blk4 (c : Dev nD) (t : Fin cfg0.N) (r : Fin 1) (x : Fin 512) :
    (iblk m c 4 t : Vec Ideal S1x512 .f32) (ix2 r x) = m ((c : Thread nD τ).loc main_arg3) (ix2 r x) := by
  rw [← V_main_arg3 m c]
  blk_ext [iblk, idx t]
theorem blk5 (c : Dev nD) (t : Fin cfg0.N) (r : Fin 1) (x : Fin 512) :
    (iblk m c 5 t : Vec Ideal S1x512 .f32) (ix2 r x) = m ((c : Thread nD τ).loc main_arg4) (ix2 r x) := by
  rw [← V_main_arg4 m c]
  blk_ext [iblk, idx t]
theorem blk7 (c : Dev nD) (t : Fin cfg0.N) (r : Fin 544) (x : Fin 1024) :
    (iblk m c 7 t : Vec Ideal S544x1024 .f32) (ix2 r x) = m ((c : Thread nD τ).loc main_arg6) (ix2 (rowOf t r) x) := by
  rw [← V_main_arg6 m c]
  blk_ext [iblk, idx t, rowOf]

theorem V_w (c : Dev nD) (k : Fin 1024) (j : Fin 1024) : (V m c main_v0 : Vec Ideal S1024x1024 .bf16) (ix2 k j) = m ((c : Thread nD τ).loc main_arg5) (ix2 k j) := by
  show StableHlo.after hostOps0 (fun b => m (c, b)) (Proc.devRef .tc main_v0) (ix2 k j) = _
  unfold hostOps0
  after_reads_simp
  rfl

theorem blk6 (c : Dev nD) (t : Fin cfg0.N) (k : Fin 1024) (j : Fin 1024) :
    (iblk m c 6 t : Vec Ideal S1024x1024 .bf16) (ix2 k j) = m ((c : Thread nD τ).loc main_arg5) (ix2 k j) := by
  rw [← V_w m c k j]
  blk_ext [iblk, idx t]

/-- What the kernel's result array holds. -/
def outAll (c : Dev nD) : Vec Ideal S4352x1024 .f32 := fun y =>
  outAt (fun k => m ((c : Thread nD τ).loc main_arg0) (ix2 (y 0) k)) (fun k => m ((c : Thread nD τ).loc main_arg1) (ix2 (y 0) k))
    (fun k => m ((c : Thread nD τ).loc main_arg2) (ix2 (y 0) ⟨1024 + k.val, by omega⟩)) (fun k => m ((c : Thread nD τ).loc main_arg2) (ix2 (y 0) ⟨2048 + k.val, by omega⟩))
    (fun k => m ((c : Thread nD τ).loc main_arg3) (ix2 0 k)) (fun k => m ((c : Thread nD τ).loc main_arg4) (ix2 0 k))
    (fun k => m ((c : Thread nD τ).loc main_arg5) (ix2 k (y 1))) (m ((c : Thread nD τ).loc main_arg6) (ix2 (y 0) (y 1)))

theorem arr_out (c : Dev nD) : (dats m 0 c).arrAt 8 cfg0.N = outAll m c := by
  refine (dats m 0 c).arrAt_eq_of_covers 8 _ (by decide +kernel) fun t _ y => ?_
  blk_simp
  rw [after0_8]
  obtain ⟨r, k, rfl⟩ : ∃ (r : Fin 544) (k : Fin 1024), y = ix2 r k := ⟨y 0, y 1, (ix2_eta y).symm⟩
  rw [out_at]
  simp only [blk0, blk1, blk2, blk3, blk4, blk5, blk6, blk7]
  have e0 : (((View.whole main_v1).slice (win0_8.rect t)).emb (ix2 r k) : S4352x1024.Idx) = ix2 (rowOf t r) k := by
    blk_ext [idx t, rowOf]
  rw [e0]
  rfl

end Cert.OutfIdeal.Gen

namespace Cert.OutfRefIdeal.Gen

open Idealize.ShloMosaic Idealize.ShloMosaic.TcCoe Idealize.ShloMosaic.Tactic Idealize.SL.Sem
open Cert.Out Cert.OutfRefIdeal.Value

variable (y s : FVec Ideal S4352x512 .f32) (n : FVec Ideal S1x512 .f32) (p : FVec Ideal S4352x2560 .f32)

/-- One group of the reference's lines: the norm with its gain, and the gate. -/
def normF : FVec Ideal S4352x512 .f32 :=
  mulf (mulf y (broadcastInDim S4352x512 ![0, 1] bcast_S4352x1_S4352x512_0_1 (Host.rsqrt (addf (Host.divf (broadcastInDim S4352x1 ![0] bcast_S4352_S4352x1_0 (Host.reduceAdd (mulf y y) (constant S_ .f32 0x00000000#32) reducesTo_S4352x512_S4352_d1 h_S_)) (broadcastInDim S4352x1 ![] bcast_S_S4352x1 (constant S_ .f32 0x44000000#32))) (broadcastInDim S4352x1 ![] bcast_S_S4352x1 (constant S_ .f32 0x358637BD#32)))))) (broadcastInDim S4352x512 ![0, 1] bcast_S1x512_S4352x512_0_1 n)
def gateF : FVec Ideal S4352x512 .f32 :=
  mulf s (Host.divf (broadcastInDim S4352x512 ![] bcast_S_S4352x512 (constant S_ .f32 0x3F800000#32)) (addf (broadcastInDim S4352x512 ![] bcast_S_S4352x512 (constant S_ .f32 0x3F800000#32)) (Host.exp (Host.negf s))))

theorem normF_at (R : Fin 4352) (k : Fin 512) : normF y n (ix2 R k) = y (ix2 R k) * rst (fun k => y (ix2 R k)) * n (ix2 0 k) := by
  pointwise [normF, rst, msq]
theorem gateF_at (R : Fin 4352) (k : Fin 512) : gateF s (ix2 R k) = gte (s (ix2 R k)) := by
  unfold gte
  rw [← logistic_eq]
  pointwise [gateF]
theorem mixF_at (R : Fin 4352) (k : Fin 512) :
    mulf (normF y n) (gateF s) (ix2 R k) = mix (fun k => y (ix2 R k)) (fun k => n (ix2 0 k)) (fun k => s (ix2 R k)) k := by
  unfold mix
  rw [← normF_at, ← gateF_at]
  rfl
theorem catF_at (a b : FVec Ideal S4352x512 .f32) (R : Fin 4352) (x : Fin 1024) : fn_main_v30 (F := Ideal) a b (ix2 R x) = cat2 (fun k => a (ix2 R k)) (fun k => b (ix2 R k)) x := by
  pointwise [fn_main_v30, cat2]
theorem leftF_at (R : Fin 4352) (k : Fin 512) : extractStridedSlice S4352x512 ![0, 1024] p slices_S4352x2560_S4352x512_0_1024 (ix2 R k) = p (ix2 R ⟨1024 + k.val, by omega⟩) := by
  pointwise []
theorem rightF_at (R : Fin 4352) (k : Fin 512) : extractStridedSlice S4352x512 ![0, 2048] p slices_S4352x2560_S4352x512_0_2048 (ix2 R k) = p (ix2 R ⟨2048 + k.val, by omega⟩) := by
  pointwise []
theorem dotF_at (a : FVec Ideal S4352x1024 .f32) (w : FVec Ideal S1024x1024 .f32) (R : Fin 4352) (j : Fin 1024) :
    Host.dotGeneral dot_S4352x1024_S1024x1024_S4352x1024_1_0_0_1_n_n (φ₁ := .f32) (φ₂ := .f32) none a w (ix2 R j) = (∑ x : Fin 1024, a (ix2 R x) * w (ix2 x j) : EReal) := by
  pointwise []

/-- The reference's result in its own order: the residual stream and the product of the two groups laid end to end. -/
def outF (ya yb : FVec Ideal S4352x512 .f32) (p : FVec Ideal S4352x2560 .f32) (na nb : FVec Ideal S1x512 .f32) (w : FVec Ideal S1024x1024 .f32) (h : FVec Ideal S4352x1024 .f32) : FVec Ideal S4352x1024 .f32 :=
  addf h (Host.dotGeneral dot_S4352x1024_S1024x1024_S4352x1024_1_0_0_1_n_n (φ₁ := .f32) (φ₂ := .f32) none (fn_main_v30 (F := Ideal) (mulf (normF ya na) (gateF (extractStridedSlice S4352x512 ![0, 1024] p slices_S4352x2560_S4352x512_0_1024))) (mulf (normF yb nb) (gateF (extractStridedSlice S4352x512 ![0, 2048] p slices_S4352x2560_S4352x512_0_2048)))) w)

theorem outF_at (ya yb : FVec Ideal S4352x512 .f32) (p : FVec Ideal S4352x2560 .f32) (na nb : FVec Ideal S1x512 .f32) (w : FVec Ideal S1024x1024 .f32) (h : FVec Ideal S4352x1024 .f32) (R : Fin 4352) (j : Fin 1024) :
    outF ya yb p na nb w h (ix2 R j) = Cert.OutfIdeal.Gen.outAt (fun k => ya (ix2 R k)) (fun k => yb (ix2 R k)) (fun k => p (ix2 R ⟨1024 + k.val, by omega⟩)) (fun k => p (ix2 R ⟨2048 + k.val, by omega⟩)) (fun k => na (ix2 0 k)) (fun k => nb (ix2 0 k)) (fun k => w (ix2 k j)) (h (ix2 R j)) := by
  unfold outF
  show h (ix2 R j) + _ = _
  rw [dotF_at, sum_both]
  simp only [catF_at, cat2_left, cat2_right, mixF_at, leftF_at, rightF_at]
  rfl

end Cert.OutfRefIdeal.Gen

namespace Cert.Proof

open Idealize.ShloMosaic Idealize.ShloMosaic.TcCoe Idealize.SL.Sem
open Cert.OutfIdeal.Gen (outAll outAt)
open Cert.OutfRefIdeal.Gen Cert.Out

theorem outf_values : Cert.algebraic_OutfIdeal_OutfRefIdeal := by
  intro m g m' g' _ hagree
  refine ⟨outAll m, ?_, ?_⟩
  · refine (θ_run _ _ _).mono (fun r h c => ?_) (Cert.OutfIdeal.Value.run_blocks m g)
    exact ⟨(h c).1.trans (Cert.OutfIdeal.Gen.arr_out m c), (h c).2⟩
  · refine (θ_run _ _ _).mono (fun r h c => ?_) (Cert.OutfRefIdeal.Value.run m' g')
    obtain ⟨e0, e1, e2, e3, e4, e5, e6⟩ := hagree c
    refine ⟨(h c).1.trans (funext fun y => ?_), (h c).2⟩
    obtain ⟨R, j, rfl⟩ : ∃ (R : Fin 4352) (j : Fin 1024), y = ix2 R j := ⟨y 0, y 1, (ix2_eta y).symm⟩
    unfold outAll
    rw [← e0, ← e1, ← e2, ← e3, ← e4, ← e5, ← e6]
    exact outF_at _ _ _ _ _ _ _ R j

end Cert.Proof

end
-- ==== Proof.AtFrame.lean ====
/- The frame of the attention's forward kernel as it is written, at any number type: it runs to the end, its five arguments end as they began, and
   every semaphore counter ends at zero. Nothing is said here of the two results, so the output windows are
   forgotten: a grid step may leave anything in them. -/
module

public import proofs.«01_k».proof.Proof.Gen.Attn.Frame.Runs
public import Idealize.ShloMosaic.Lib.Claim

@[expose] public section

set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### One grid step, whatever it leaves in the outputs -/

set_option maxHeartbeats 2000000 in
/-- The body gives every buffer back, the inputs as they were. -/
theorem body (c : Dev nD) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole)
    (x0 x1 x2 : Vec F S2176x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
          ⊢ wp frame (wpE (defs₀ (F := F)) Variants.none c none) E (cc0_mla_fwd i arg2 harg2 arg3 harg3 arg4 harg4 arg5 harg5 arg6 harg6) K := by
    simp only [cc0_mla_fwd_eq_skeleton]; unfold cc0_mla_fwd_skel
    simp only [k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexists _; isplitr; swap; · iexact H3
      ipureintro; rfl
    iexists _; iexists _; isplitr; swap; · iexact H4
    ipureintro; rfl

variable (m : (ℓ : Loc nD τ sig) → Buf (Elt F) ℓ) (ρ : Dev nD → PrngReg)

/-- The windows of which nothing is said: the two outputs. -/
def unsaid (w : Fin cfg0.W) : Bool := decide (3 ≤ w.val)

/-- The buffers that the host lines after the region write. -/
def tailBufs : Finset (Ref sig .tc) :=
  {main_v48, main_v49, main_v50, main_v51, main_v52, main_v53, main_v54, main_v55, main_v56}

/-- They write no others. -/
theorem tail_writes : ∀ ops ∈ ([hostOps1] : List (List (HloOp τ sig (Elt F)))), ∀ op ∈ ops,
    ∀ b : Ref sig .tc, Proc.devRef .tc b ∈ op.writes → b ∈ tailBufs := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro b hb; simp only [StableHlo.nullary_writes, StableHlo.unary_writes, StableHlo.binary_writes, StableHlo.reshape_writes, Finset.mem_singleton] at hb; cases Proc.devRef_injective _ hb; decide

/-- The proof data of the pipeline on core `c`: the arrays as the region finds them, each input's buffer at its block, the
    outputs' at contents nothing depends on, the scoped rest and the generator register kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => VO0_3.read (Elt F) VO0_3.junk
    | ⟨4, _⟩ => VO0_4.read (Elt F) VO0_4.junk
  Φ _ := Pipeline.ΦA spec0 c
  q _ := fullShare
  owed _ := 0

/-- The arrays of the data are what the region finds. -/
theorem A_eq (c : Dev nD) (w : Fin cfg0.W) : (dats m 0 c).A w = V m c (Pipeline.arrRef spec0 w) := by
  dsimp only [dats]

/-- What a step leaves in each input's window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- What a step finds in each input's window: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ### The body's obligation -/

/-- What a step is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- What a step returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

set_option maxHeartbeats 800000 in
/-- A step's triple: the body's, at the step's windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩, ⟨%d4, H4⟩⟩
  iapply (body c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The program table's entry for the body. -/
theorem defs₀_row (t : Fin cfg0.N) :
    defs₀ (F := F) .tc cfg0.body (cfg0.bodyArgs t (cfg0.slots t)) = bodyAt0 t := by
  unfold defs₀; rw [Defs.onTc_tc]

/-- The obligation at every step. -/
theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

/-! ### The run and the frame -/

set_option backward.isDefEq.respectTransparency.types false in
set_option maxHeartbeats 800000 in
/-- The program's run: every buffer that is neither one of the pipeline's arrays nor written afterwards ends as the region
    finds it, and every counter is zero. -/
theorem run_main_quiescent : θ_run defs (onTc (τ := τ) (main (F := F))) (s₀ m ρ) (fun r => (Pipeline.RDat.FramePostR cfg0 (fun c => (dats m 0 c).toRForget unsaid) tailBufs (V m)) r ∧ r.2.sem = fun _ => 0) :=
  Pipeline.θ_run_frame_around_T_forget (Q' := _) cfgs (dats m) (0 : Fin 1) launch0 defs₀ Variants.none unsaid tailBufs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl) (hQ' := fun _ h => h)

/-- A buffer outside the pipeline that the later lines do not write is among those the run speaks of. -/
theorem kept (b : Ref sig .tc) (h1 : b ∈ Pipeline.restRefs sig spec0) (h2 : b ∉ tailBufs) : b ∈ Pipeline.restRefs sig spec0 \ tailBufs :=
  Finset.mem_sdiff.mpr ⟨h1, h2⟩

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (kept _ (Pipeline.mem_restRefs_of main_arg0 (by decide) (by decide)) (by decide))).trans (V_main_arg0 m c),
      ((h.1 c).2 main_arg1 (kept _ (Pipeline.mem_restRefs_of main_arg1 (by decide) (by decide)) (by decide))).trans (V_main_arg1 m c),
      ((h.1 c).2 main_arg2 (kept _ (Pipeline.mem_restRefs_of main_arg2 (by decide) (by decide)) (by decide))).trans (V_main_arg2 m c),
      ((h.1 c).2 main_arg3 (kept _ (Pipeline.mem_restRefs_of main_arg3 (by decide) (by decide)) (by decide))).trans (V_main_arg3 m c),
      ((h.1 c).2 main_arg4 (kept _ (Pipeline.mem_restRefs_of main_arg4 (by decide) (by decide)) (by decide))).trans (V_main_arg4 m c)⟩, h.2⟩) (run_main_quiescent m ρ)

end Cert.Attn.Gen

end
-- ==== Proof.AtRow.lean ====
/- One query row of the attention against all key rows, as plain formulas, and the kernel's vector operations on one tile of
   query rows as these formulas. -/
module

public import proofs.«01_k».proof.Proof.Gen.AttnIdeal.Skeleton
public import proofs.«01_k».proof.Proof.Rows

@[expose] public section

set_option maxRecDepth 16384

noncomputable section

namespace Cert.AttnIdeal.Gen

open Idealize.ShloMosaic Idealize.ShloMosaic.TcCoe Idealize.SL.Sem
open Cert.Mla

/-! ### The formulas -/

section
variable (q : Fin 128 → EReal) (k v : Fin 2176 → Fin 128 → EReal)

/-- The score of key row `x`, and the largest score of all key rows. -/
def score (x : Fin 2176) : EReal := ∑ y : Fin 128, q y * k x y
def top : EReal := Finset.univ.fold max (Ideal.ofBits .f32 0xFF800000#32) fun x : Fin 2176 => score q k x
/-- The weight of key row `x`, and the weighted sum of the value rows at lane `l`. -/
def wgt (x : Fin 2176) : EReal := Ideal.exp2 (score q k x - top q k)
def mix (l : Fin 128) : EReal := ∑ x : Fin 2176, wgt q k x * v x l
/-- The sum of the weights, from the lane where every value row holds minus one. -/
def tot : EReal := (0 : EReal) - mix q k v 64
/-- The output at lane `l`, and the logarithm of the row's sum. -/
def att (l : Fin 128) : EReal := mix q k v l * Ideal.div 1 (tot q k v)
def lsum : EReal := top q k + Ideal.log (tot q k v) * (((Real.log 2)⁻¹ : ℝ) : EReal)
end

/-- The lane numbers. -/
def lanes256 : IVec S256x128 32 := iota .tc S256x128 32 [1] iota_S256x128_d1_w32
def lanes128 : IVec S128x128 32 := iota .tc S128x128 32 [1] iota_S128x128_d1_w32

/-- The named constant as the inverse of the natural logarithm of two. -/
theorem log2e_eq (n : BitVec 32) : (Named.named κ "log2e" n : Ideal .f32) = (((Real.log 2)⁻¹ : ℝ) : EReal) := by
  rfl

theorem pick64 (f : Fin 128 → EReal) :
    (∑ x : Fin 128, Scalar.select (IntOp.cmpi .eq (BitVec.ofNat 32 x.val) 64#32) (f x) 0) = f 64 := by
  refine (Finset.sum_congr rfl fun x _ => sel_eq x 64 (by decide) (f x) 0).trans (sum_pick f 64)

/-! ### The two tiles of a trip -/

section
variable (q0 q1 : Vec Ideal S256x128 .bf16) (k0 k1 v0 v1 : Vec Ideal S2176x128 .bf16) (r : Fin 256) (l : Fin 128)

theorem oA :
    k0_pay17 (F := Ideal) lanes256 (k0_pay10 lanes256 (k0_pay7 q0 k0) v0) (k0_pay13 (k0_pay2 q1 k1) v1) (k0_pay14 lanes256 (k0_pay2 q1 k1) v1) k0_pay15 (ix2 r l)
      = if l.val < 64 then att (fun y => q0 (ix2 r y)) (fun x y => k0 (ix2 x y)) (fun x y => v0 (ix2 x y)) l
        else att (fun y => q1 (ix2 r y)) (fun x y => k1 (ix2 x y)) (fun x y => v1 (ix2 x y)) ⟨(l.val + 128 - 64) % 128, Nat.mod_lt _ (by decide)⟩ := by
  pointwise [lanes256, k0_pay17, k0_pay10, k0_pay7, k0_pay13, k0_pay2, k0_pay14, k0_pay15, k0_pay8, k0_pay9, k0_pay6, k0_pay1, k0_pay12]
  simp only [pick64]
  refine (sel_slt l 64 (by decide) _ _).trans ?_
  rfl

theorem lA :
    k0_pay16 (F := Ideal) lanes256 (k0_pay11 lanes256 k0_pay5 (k0_pay6 q0 k0) (k0_pay7 q0 k0) v0) (k0_pay12 (k0_pay2 q1 k1)) (k0_pay14 lanes256 (k0_pay2 q1 k1) v1) (ix2 r l)
      = if l.val = 1 then lsum (fun y => q1 (ix2 r y)) (fun x y => k1 (ix2 x y)) (fun x y => v1 (ix2 x y))
        else if l.val = 0 then lsum (fun y => q0 (ix2 r y)) (fun x y => k0 (ix2 x y)) (fun x y => v0 (ix2 x y)) else 0 := by
  pointwise [lanes256, k0_pay16, k0_pay11, k0_pay5, k0_pay7, k0_pay2, k0_pay14, k0_pay15, k0_pay8, k0_pay9, k0_pay6, k0_pay1, k0_pay12, k0_pay13]
  simp only [pick64, log2e_eq]
  refine (sel_eq l 1 (by decide) _ _).trans ?_
  exact if_congr Iff.rfl rfl (sel_eq l 0 (by decide) _ _)

theorem oB :
    k0_pay27 (F := Ideal) lanes256 (k0_pay4 q1 k1) (k0_pay22 lanes256 (k0_pay3 q0 k0) v0) v1 (ix2 r l)
      = if l.val < 64 then att (fun y => q0 (ix2 r y)) (fun x y => k0 (ix2 x y)) (fun x y => v0 (ix2 x y)) l
        else att (fun y => q1 (ix2 r y)) (fun x y => k1 (ix2 x y)) (fun x y => v1 (ix2 x y)) ⟨(l.val + 128 - 64) % 128, Nat.mod_lt _ (by decide)⟩ := by
  pointwise [lanes256, k0_pay27, k0_pay4, k0_pay22, k0_pay3, k0_pay18, k0_pay19, k0_pay20, k0_pay21, k0_pay23, k0_pay24, k0_pay25]
  simp only [pick64]
  refine (sel_slt l 64 (by decide) _ _).trans ?_
  rfl

theorem lB :
    k0_pay26 (F := Ideal) lanes256 (k0_pay4 q1 k1) k0_pay18 (k0_pay19 (k0_pay3 q0 k0)) (k0_pay21 lanes256 (k0_pay3 q0 k0) v0) v1 (ix2 r l)
      = if l.val = 1 then lsum (fun y => q1 (ix2 r y)) (fun x y => k1 (ix2 x y)) (fun x y => v1 (ix2 x y))
        else if l.val = 0 then lsum (fun y => q0 (ix2 r y)) (fun x y => k0 (ix2 x y)) (fun x y => v0 (ix2 x y)) else 0 := by
  pointwise [lanes256, k0_pay26, k0_pay4, k0_pay22, k0_pay3, k0_pay18, k0_pay19, k0_pay20, k0_pay21, k0_pay23, k0_pay24, k0_pay25]
  simp only [pick64, log2e_eq]
  refine (sel_eq l 1 (by decide) _ _).trans ?_
  exact if_congr Iff.rfl rfl (sel_eq l 0 (by decide) _ _)

end

/-! ### The last tile -/

section
variable (q0 q1 : Vec Ideal S128x128 .bf16) (k0 k1 v0 v1 : Vec Ideal S2176x128 .bf16) (r : Fin 128) (l : Fin 128)

theorem oC :
    k0_pay39 (F := Ideal) lanes128 (k0_pay29 q1 k1) (k0_pay32 q0 k0 v0) (k0_pay34 q0 k0 v0) v1 (ix2 r l)
      = if l.val < 64 then att (fun y => q0 (ix2 r y)) (fun x y => k0 (ix2 x y)) (fun x y => v0 (ix2 x y)) l
        else att (fun y => q1 (ix2 r y)) (fun x y => k1 (ix2 x y)) (fun x y => v1 (ix2 x y)) ⟨(l.val + 128 - 64) % 128, Nat.mod_lt _ (by decide)⟩ := by
  pointwise [lanes128, k0_pay28, k0_pay29, k0_pay30, k0_pay31, k0_pay32, k0_pay33, k0_pay34, k0_pay35, k0_pay36, k0_pay37, k0_pay38, k0_pay39]
  simp only [pick64]
  refine (sel_slt l 64 (by decide) _ _).trans ?_
  rfl

theorem lC :
    k0_pay38 (F := Ideal) lanes128 (k0_pay29 q1 k1) k0_pay30 (k0_pay31 q0 k0) (k0_pay33 q0 k0 v0) v1 (ix2 r l)
      = if l.val = 1 then lsum (fun y => q1 (ix2 r y)) (fun x y => k1 (ix2 x y)) (fun x y => v1 (ix2 x y))
        else if l.val = 0 then lsum (fun y => q0 (ix2 r y)) (fun x y => k0 (ix2 x y)) (fun x y => v0 (ix2 x y)) else 0 := by
  pointwise [lanes128, k0_pay28, k0_pay29, k0_pay30, k0_pay31, k0_pay32, k0_pay33, k0_pay34, k0_pay35, k0_pay36, k0_pay37, k0_pay38, k0_pay39]
  simp only [pick64, log2e_eq]
  refine (sel_eq l 1 (by decide) _ _).trans ?_
  exact if_congr Iff.rfl rfl (sel_eq l 0 (by decide) _ _)

end

end Cert.AttnIdeal.Gen

end
-- ==== Proof.AtBody.lean ====
/- The attention's body on one grid step: given a pair of heads' blocks of queries, keys and values, it leaves the pair's output
   and the logarithms of its rows' sums. -/
module

public import proofs.«01_k».proof.Proof.Gen.AttnIdeal.Frame.Runs
public import proofs.«01_k».proof.Proof.Gen.AttnIdeal.Loops
public import proofs.«01_k».proof.Proof.AtRow
public import Idealize.ShloMosaic.Lib.VecWindow

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mla

local notation "𝕄" => MT nD τ sig Unit (Elt Ideal) ℕ (UR sig nD τ) ℕ

/-! ### The two outputs over the whole blocks: two heads side by side in the lanes -/

section
variable (x0 x1 x2 : Vec Ideal S2176x256 .bf16)

/-- Row `r` of head `0` or `128`, of a wide operand. -/
def rw0 (x : Vec Ideal S2176x256 .bf16) (r : Fin 2176) (y : Fin 128) : EReal := x (ix2 r ⟨0 + y.val, by omega⟩)
def rw1 (x : Vec Ideal S2176x256 .bf16) (r : Fin 2176) (y : Fin 128) : EReal := x (ix2 r ⟨128 + y.val, by omega⟩)

/-- The output, 64 lanes of each head. -/
def gO : Vec Ideal S2176x128 .f32 := fun y =>
  if (y 1).val < 64 then att (rw0 x0 (y 0)) (rw0 x1) (rw0 x2) (y 1)
  else att (rw1 x0 (y 0)) (rw1 x1) (rw1 x2) ⟨((y 1).val + 128 - 64) % 128, Nat.mod_lt _ (by decide)⟩
/-- The rows' logarithms, one lane of each head. -/
def gL : Vec Ideal S2176x128 .f32 := fun y =>
  if (y 1).val = 1 then lsum (rw1 x0 (y 0)) (rw1 x1) (rw1 x2)
  else if (y 1).val = 0 then lsum (rw0 x0 (y 0)) (rw0 x1) (rw0 x2) else 0
end

/-! ### Windows and stores by rows and lanes -/

theorem inb2 {R C a b n m : ℕ} (h : a + n ≤ R) (h' : b + m ≤ C) :
    ∀ i : Fin 2, (![a, b] : Fin 2 → ℕ) i + (![n, m] : Fin 2 → ℕ) i ≤ (![R, C] : Fin 2 → ℕ) i := by
  intro i
  fin_cases i
  · exact h
  · exact h'

theorem ix2_ext {R C : ℕ} (y : (⟨2, ![R, C]⟩ : Shape).Idx) {a : Fin R} {b : Fin C} (p : (y 0).val = a.val) (q : (y 1).val = b.val) :
    y = ix2 a b := by
  funext i
  fin_cases i
  · exact Fin.ext p
  · exact Fin.ext q

theorem put_ix2 {α : Type} {R C n m : ℕ} (x : (⟨2, ![R, C]⟩ : Shape).Idx → α) (a b : ℕ) (w : (⟨2, ![n, m]⟩ : Shape).Idx → α) (r : Fin R) (c : Fin C) :
    VecWindow.put (s := ⟨2, ![R, C]⟩) x ![a, b] ![n, m] w (ix2 r c)
      = if h : a ≤ r.val ∧ r.val < a + n ∧ b ≤ c.val ∧ c.val < b + m then w (ix2 ⟨r.val - a, by omega⟩ ⟨c.val - b, by omega⟩) else x (ix2 r c) := by
  unfold VecWindow.put
  by_cases h : a ≤ r.val ∧ r.val < a + n ∧ b ≤ c.val ∧ c.val < b + m
  · rw [dif_pos h, dif_pos (by intro i; fin_cases i; · exact ⟨h.1, h.2.1⟩
                               · exact h.2.2)]
    exact congrArg w (by funext i; fin_cases i <;> rfl)
  · rw [dif_neg h, dif_neg (fun k => h ⟨(k 0).1, (k 0).2, (k 1).1, (k 1).2⟩)]

/-- One head's lanes of a wide operand. -/
def wcol {e : EltTy} (x : Vec Ideal S2176x256 e) (c0 : ℕ) (hc : c0 + 128 ≤ 256) : Vec Ideal S2176x128 e :=
  VecWindow.window x ![0, c0] S2176x128.size (inb2 (by omega) hc)
theorem wcol_at {e : EltTy} (x : Vec Ideal S2176x256 e) (c0 : ℕ) (hc : c0 + 128 ≤ 256) (r : Fin 2176) (l : Fin 128) :
    wcol x c0 hc (ix2 r l) = x (ix2 r ⟨c0 + l.val, by omega⟩) :=
  congrArg x (ix2_ext _ (by show 0 + 1 * r.val = r.val; omega) (by show c0 + 1 * l.val = c0 + l.val; omega))
theorem readAt_col {sp : Space} {e : EltTy} (v : View sig .tc sp S2176x256 e) (f : v.ty.Contents (Elt Ideal)) (c0 : ℕ)
    (inb : ∀ a, (![0, c0] : Fin 2 → ℕ) a + S2176x128.size a ≤ S2176x256.size a) (hc : c0 + 128 ≤ 256) :
    v.readAt (Elt Ideal) (Rect.unit (s := S2176x256) ![0, c0] S2176x128.size inb).toLoadRect f = wcol (v.read (Elt Ideal) f) c0 hc := rfl

/-- 256 rows from row `r0` of one head's lanes of a wide operand, and 256 rows stored over `A`. -/
def wblk256 {e : EltTy} (x : Vec Ideal S2176x256 e) (r0 c0 : ℕ) (hr : r0 + 256 ≤ 2176) (hc : c0 + 128 ≤ 256) : Vec Ideal S256x128 e :=
  VecWindow.window x ![r0, c0] S256x128.size (inb2 hr hc)
theorem wblk256_at {e : EltTy} (x : Vec Ideal S2176x256 e) (r0 c0 : ℕ) (hr : r0 + 256 ≤ 2176) (hc : c0 + 128 ≤ 256) (r : Fin 256) (l : Fin 128) :
    wblk256 x r0 c0 hr hc (ix2 r l) = x (ix2 ⟨r0 + r.val, by omega⟩ ⟨c0 + l.val, by omega⟩) :=
  congrArg x (ix2_ext _ (by show r0 + 1 * r.val = r0 + r.val; omega) (by show c0 + 1 * l.val = c0 + l.val; omega))
def putr256 (A : Vec Ideal S2176x128 .f32) (r0 : ℕ) (w : Vec Ideal S256x128 .f32) : Vec Ideal S2176x128 .f32 :=
  VecWindow.put A ![r0, 0] S256x128.size w
theorem putr256_at (A : Vec Ideal S2176x128 .f32) (r0 : ℕ) (w : Vec Ideal S256x128 .f32) (r : Fin 2176) (l : Fin 128) :
    putr256 A r0 w (ix2 r l) = if h : r0 ≤ r.val ∧ r.val < r0 + 256 then w (ix2 ⟨r.val - r0, by omega⟩ l) else A (ix2 r l) := by
  refine (put_ix2 A r0 0 w r l).trans ?_
  by_cases h : r0 ≤ r.val ∧ r.val < r0 + 256
  · rw [dif_pos h, dif_pos ⟨h.1, h.2, by omega, by omega⟩]
    rfl
  · rw [dif_neg h, dif_neg (fun k => h ⟨k.1, k.2.1⟩)]

theorem readAt_blk256 {sp : Space} {e : EltTy} (v : View sig .tc sp S2176x256 e) (f : v.ty.Contents (Elt Ideal)) {off : Fin 2 → ℕ}
    (inb : ∀ a, off a + S256x128.size a ≤ S2176x256.size a) (r0 c0 : ℕ) (h : off = ![r0, c0]) (hr : r0 + 256 ≤ 2176) (hc : c0 + 128 ≤ 256) :
    v.readAt (Elt Ideal) (Rect.unit (s := S2176x256) off S256x128.size inb).toLoadRect f = wblk256 (v.read (Elt Ideal) f) r0 c0 hr hc := by
  subst h; rfl
theorem read_putr256 {sp : Space} (v : View sig .tc sp S2176x128 .f32) (f : v.ty.Contents (Elt Ideal)) {off : Fin 2 → ℕ}
    (inb : ∀ a, off a + S256x128.size a ≤ S2176x128.size a) (w : Vec Ideal S256x128 .f32)
    (L : List (View.Piece (Elt Ideal) S2176x128 .f32)) (r0 : ℕ) (h : off = ![r0, 0]) :
    v.read (Elt Ideal) (v.writes (Elt Ideal) f (⟨Rect.unit (s := S2176x128) off S256x128.size inb, w⟩ :: L))
      = putr256 (v.read (Elt Ideal) (v.writes (Elt Ideal) f L)) r0 w :=
  View.read_writes_cons_put v f inb w L h

/-- 128 rows from row `r0` of one head's lanes of a wide operand, and 128 rows stored over `A`. -/
def wblk128 {e : EltTy} (x : Vec Ideal S2176x256 e) (r0 c0 : ℕ) (hr : r0 + 128 ≤ 2176) (hc : c0 + 128 ≤ 256) : Vec Ideal S128x128 e :=
  VecWindow.window x ![r0, c0] S128x128.size (inb2 hr hc)
theorem wblk128_at {e : EltTy} (x : Vec Ideal S2176x256 e) (r0 c0 : ℕ) (hr : r0 + 128 ≤ 2176) (hc : c0 + 128 ≤ 256) (r : Fin 128) (l : Fin 128) :
    wblk128 x r0 c0 hr hc (ix2 r l) = x (ix2 ⟨r0 + r.val, by omega⟩ ⟨c0 + l.val, by omega⟩) :=
  congrArg x (ix2_ext _ (by show r0 + 1 * r.val = r0 + r.val; omega) (by show c0 + 1 * l.val = c0 + l.val; omega))
def putr128 (A : Vec Ideal S2176x128 .f32) (r0 : ℕ) (w : Vec Ideal S128x128 .f32) : Vec Ideal S2176x128 .f32 :=
  VecWindow.put A ![r0, 0] S128x128.size w
theorem putr128_at (A : Vec Ideal S2176x128 .f32) (r0 : ℕ) (w : Vec Ideal S128x128 .f32) (r : Fin 2176) (l : Fin 128) :
    putr128 A r0 w (ix2 r l) = if h : r0 ≤ r.val ∧ r.val < r0 + 128 then w (ix2 ⟨r.val - r0, by omega⟩ l) else A (ix2 r l) := by
  refine (put_ix2 A r0 0 w r l).trans ?_
  by_cases h : r0 ≤ r.val ∧ r.val < r0 + 128
  · rw [dif_pos h, dif_pos ⟨h.1, h.2, by omega, by omega⟩]
    rfl
  · rw [dif_neg h, dif_neg (fun k => h ⟨k.1, k.2.1⟩)]

theorem readAt_blk128 {sp : Space} {e : EltTy} (v : View sig .tc sp S2176x256 e) (f : v.ty.Contents (Elt Ideal)) {off : Fin 2 → ℕ}
    (inb : ∀ a, off a + S128x128.size a ≤ S2176x256.size a) (r0 c0 : ℕ) (h : off = ![r0, c0]) (hr : r0 + 128 ≤ 2176) (hc : c0 + 128 ≤ 256) :
    v.readAt (Elt Ideal) (Rect.unit (s := S2176x256) off S128x128.size inb).toLoadRect f = wblk128 (v.read (Elt Ideal) f) r0 c0 hr hc := by
  subst h; rfl
theorem read_putr128 {sp : Space} (v : View sig .tc sp S2176x128 .f32) (f : v.ty.Contents (Elt Ideal)) {off : Fin 2 → ℕ}
    (inb : ∀ a, off a + S128x128.size a ≤ S2176x128.size a) (w : Vec Ideal S128x128 .f32)
    (L : List (View.Piece (Elt Ideal) S2176x128 .f32)) (r0 : ℕ) (h : off = ![r0, 0]) :
    v.read (Elt Ideal) (v.writes (Elt Ideal) f (⟨Rect.unit (s := S2176x128) off S128x128.size inb, w⟩ :: L))
      = putr128 (v.read (Elt Ideal) (v.writes (Elt Ideal) f L)) r0 w :=
  View.read_writes_cons_put v f inb w L h

/-! ### What each tile stores -/

def tOA (x0 x1 x2 : Vec Ideal S2176x256 .bf16) (r0 : ℕ) (hr : r0 + 256 ≤ 2176) : Vec Ideal S256x128 .f32 :=
  k0_pay17 (F := Ideal) lanes256 (k0_pay10 lanes256 (k0_pay7 (wblk256 x0 r0 0 hr (by omega)) (wcol x1 0 (by omega))) (wcol x2 0 (by omega))) (k0_pay13 (k0_pay2 (wblk256 x0 r0 128 hr (by omega)) (wcol x1 128 (by omega))) (wcol x2 128 (by omega))) (k0_pay14 lanes256 (k0_pay2 (wblk256 x0 r0 128 hr (by omega)) (wcol x1 128 (by omega))) (wcol x2 128 (by omega))) k0_pay15
theorem tOA_at (x0 x1 x2 : Vec Ideal S2176x256 .bf16) (r0 : ℕ) (hr : r0 + 256 ≤ 2176) (r : Fin 2176) (l : Fin 128) (h : r0 ≤ r.val ∧ r.val < r0 + 256) :
    tOA x0 x1 x2 r0 hr (ix2 ⟨r.val - r0, by omega⟩ l) = gO x0 x1 x2 (ix2 r l) := by
  have e : ∀ p, (⟨r0 + (r.val - r0), p⟩ : Fin 2176) = r := fun p => Fin.ext (by show r0 + (r.val - r0) = r.val; omega)
  unfold tOA
  rw [oA]
  simp only [wblk256_at, wcol_at, e]
  rfl
def tLA (x0 x1 x2 : Vec Ideal S2176x256 .bf16) (r0 : ℕ) (hr : r0 + 256 ≤ 2176) : Vec Ideal S256x128 .f32 :=
  k0_pay16 (F := Ideal) lanes256 (k0_pay11 lanes256 k0_pay5 (k0_pay6 (wblk256 x0 r0 0 hr (by omega)) (wcol x1 0 (by omega))) (k0_pay7 (wblk256 x0 r0 0 hr (by omega)) (wcol x1 0 (by omega))) (wcol x2 0 (by omega))) (k0_pay12 (k0_pay2 (wblk256 x0 r0 128 hr (by omega)) (wcol x1 128 (by omega)))) (k0_pay14 lanes256 (k0_pay2 (wblk256 x0 r0 128 hr (by omega)) (wcol x1 128 (by omega))) (wcol x2 128 (by omega)))
theorem tLA_at (x0 x1 x2 : Vec Ideal S2176x256 .bf16) (r0 : ℕ) (hr : r0 + 256 ≤ 2176) (r : Fin 2176) (l : Fin 128) (h : r0 ≤ r.val ∧ r.val < r0 + 256) :
    tLA x0 x1 x2 r0 hr (ix2 ⟨r.val - r0, by omega⟩ l) = gL x0 x1 x2 (ix2 r l) := by
  have e : ∀ p, (⟨r0 + (r.val - r0), p⟩ : Fin 2176) = r := fun p => Fin.ext (by show r0 + (r.val - r0) = r.val; omega)
  unfold tLA
  rw [lA]
  simp only [wblk256_at, wcol_at, e]
  rfl
def tOB (x0 x1 x2 : Vec Ideal S2176x256 .bf16) (r0 : ℕ) (hr : r0 + 256 ≤ 2176) : Vec Ideal S256x128 .f32 :=
  k0_pay27 (F := Ideal) lanes256 (k0_pay4 (wblk256 x0 r0 128 hr (by omega)) (wcol x1 128 (by omega))) (k0_pay22 lanes256 (k0_pay3 (wblk256 x0 r0 0 hr (by omega)) (wcol x1 0 (by omega))) (wcol x2 0 (by omega))) (wcol x2 128 (by omega))
theorem tOB_at (x0 x1 x2 : Vec Ideal S2176x256 .bf16) (r0 : ℕ) (hr : r0 + 256 ≤ 2176) (r : Fin 2176) (l : Fin 128) (h : r0 ≤ r.val ∧ r.val < r0 + 256) :
    tOB x0 x1 x2 r0 hr (ix2 ⟨r.val - r0, by omega⟩ l) = gO x0 x1 x2 (ix2 r l) := by
  have e : ∀ p, (⟨r0 + (r.val - r0), p⟩ : Fin 2176) = r := fun p => Fin.ext (by show r0 + (r.val - r0) = r.val; omega)
  unfold tOB
  rw [oB]
  simp only [wblk256_at, wcol_at, e]
  rfl
def tLB (x0 x1 x2 : Vec Ideal S2176x256 .bf16) (r0 : ℕ) (hr : r0 + 256 ≤ 2176) : Vec Ideal S256x128 .f32 :=
  k0_pay26 (F := Ideal) lanes256 (k0_pay4 (wblk256 x0 r0 128 hr (by omega)) (wcol x1 128 (by omega))) k0_pay18 (k0_pay19 (k0_pay3 (wblk256 x0 r0 0 hr (by omega)) (wcol x1 0 (by omega)))) (k0_pay21 lanes256 (k0_pay3 (wblk256 x0 r0 0 hr (by omega)) (wcol x1 0 (by omega))) (wcol x2 0 (by omega))) (wcol x2 128 (by omega))
theorem tLB_at (x0 x1 x2 : Vec Ideal S2176x256 .bf16) (r0 : ℕ) (hr : r0 + 256 ≤ 2176) (r : Fin 2176) (l : Fin 128) (h : r0 ≤ r.val ∧ r.val < r0 + 256) :
    tLB x0 x1 x2 r0 hr (ix2 ⟨r.val - r0, by omega⟩ l) = gL x0 x1 x2 (ix2 r l) := by
  have e : ∀ p, (⟨r0 + (r.val - r0), p⟩ : Fin 2176) = r := fun p => Fin.ext (by show r0 + (r.val - r0) = r.val; omega)
  unfold tLB
  rw [lB]
  simp only [wblk256_at, wcol_at, e]
  rfl

def tOC (x0 x1 x2 : Vec Ideal S2176x256 .bf16) (r0 : ℕ) (hr : r0 + 128 ≤ 2176) : Vec Ideal S128x128 .f32 :=
  k0_pay39 (F := Ideal) lanes128 (k0_pay29 (wblk128 x0 r0 128 hr (by omega)) (wcol x1 128 (by omega))) (k0_pay32 (wblk128 x0 r0 0 hr (by omega)) (wcol x1 0 (by omega)) (wcol x2 0 (by omega))) (k0_pay34 (wblk128 x0 r0 0 hr (by omega)) (wcol x1 0 (by omega)) (wcol x2 0 (by omega))) (wcol x2 128 (by omega))
theorem tOC_at (x0 x1 x2 : Vec Ideal S2176x256 .bf16) (r0 : ℕ) (hr : r0 + 128 ≤ 2176) (r : Fin 2176) (l : Fin 128) (h : r0 ≤ r.val ∧ r.val < r0 + 128) :
    tOC x0 x1 x2 r0 hr (ix2 ⟨r.val - r0, by omega⟩ l) = gO x0 x1 x2 (ix2 r l) := by
  have e : ∀ p, (⟨r0 + (r.val - r0), p⟩ : Fin 2176) = r := fun p => Fin.ext (by show r0 + (r.val - r0) = r.val; omega)
  unfold tOC
  rw [oC]
  simp only [wblk128_at, wcol_at, e]
  rfl
def tLC (x0 x1 x2 : Vec Ideal S2176x256 .bf16) (r0 : ℕ) (hr : r0 + 128 ≤ 2176) : Vec Ideal S128x128 .f32 :=
  k0_pay38 (F := Ideal) lanes128 (k0_pay29 (wblk128 x0 r0 128 hr (by omega)) (wcol x1 128 (by omega))) k0_pay30 (k0_pay31 (wblk128 x0 r0 0 hr (by omega)) (wcol x1 0 (by omega))) (k0_pay33 (wblk128 x0 r0 0 hr (by omega)) (wcol x1 0 (by omega)) (wcol x2 0 (by omega))) (wcol x2 128 (by omega))
theorem tLC_at (x0 x1 x2 : Vec Ideal S2176x256 .bf16) (r0 : ℕ) (hr : r0 + 128 ≤ 2176) (r : Fin 2176) (l : Fin 128) (h : r0 ≤ r.val ∧ r.val < r0 + 128) :
    tLC x0 x1 x2 r0 hr (ix2 ⟨r.val - r0, by omega⟩ l) = gL x0 x1 x2 (ix2 r l) := by
  have e : ∀ p, (⟨r0 + (r.val - r0), p⟩ : Fin 2176) = r := fun p => Fin.ext (by show r0 + (r.val - r0) = r.val; omega)
  unfold tLC
  rw [lC]
  simp only [wblk128_at, wcol_at, e]
  rfl

/-! ### One trip and all trips -/

theorem trips_four (k : Fin k0_t1_loop.trips) : k.val < 4 := Nat.lt_of_lt_of_le k.isLt k0_t1_abs.2.1
theorem rows_a (k : Fin k0_t1_loop.trips) : 512 * k.val + 256 ≤ 2176 := by have := trips_four k; omega
theorem rows_b (k : Fin k0_t1_loop.trips) : 512 * k.val + 256 + 256 ≤ 2176 := by have := trips_four k; omega

section
variable (𝒱 : Variants) (c : Dev nD) (bd : Option 𝒱.V) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole)
  (x0 x1 x2 : Vec Ideal S2176x256 .bf16)

set_option maxHeartbeats 1600000 in
theorem tripO (k : Fin k0_t1_loop.trips) (f : BufTy.Contents (Elt Ideal) arg5.view.ty) :
    arg5.view.read (Elt Ideal) (arg5.view.writes (Elt Ideal) f (trip_k0_t1 (F := Ideal) 𝒱 c bd i arg2 harg2 arg3 harg3 arg4 harg4 arg5 harg5 arg6 harg6 (harg2.unread x0) (harg3.unread x1) (harg4.unread x2) k).1)
      = putr256 (putr256 (arg5.view.read (Elt Ideal) f) (512 * k.val) (tOA x0 x1 x2 (512 * k.val) (rows_a k))) (512 * k.val + 256) (tOB x0 x1 x2 (512 * k.val + 256) (rows_b k)) := by
  unfold trip_k0_t1
  dsimp only
  sl_unfold_run_names
  simp only [readAt_blk256 _ _ _ _ _ (k0_off1_eq k) (rows_a k) (by omega), readAt_blk256 _ _ _ _ _ (k0_off2_eq k) (rows_a k) (by omega),
    readAt_blk256 _ _ _ _ _ (k0_off3_eq k) (rows_b k) (by omega), readAt_blk256 _ _ _ _ _ (k0_off4_eq k) (rows_b k) (by omega),
    readAt_col _ _ 0 _ (by omega), readAt_col _ _ 128 _ (by omega), read_putr256 _ _ _ _ _ _ (k0_off5_eq k), read_putr256 _ _ _ _ _ _ (k0_off6_eq k),
    View.writes_nil, harg2.read_unread, harg3.read_unread, harg4.read_unread]
  rfl

set_option maxHeartbeats 1600000 in
theorem tripL (k : Fin k0_t1_loop.trips) (f : BufTy.Contents (Elt Ideal) arg6.view.ty) :
    arg6.view.read (Elt Ideal) (arg6.view.writes (Elt Ideal) f (trip_k0_t1 (F := Ideal) 𝒱 c bd i arg2 harg2 arg3 harg3 arg4 harg4 arg5 harg5 arg6 harg6 (harg2.unread x0) (harg3.unread x1) (harg4.unread x2) k).2.1)
      = putr256 (putr256 (arg6.view.read (Elt Ideal) f) (512 * k.val) (tLA x0 x1 x2 (512 * k.val) (rows_a k))) (512 * k.val + 256) (tLB x0 x1 x2 (512 * k.val + 256) (rows_b k)) := by
  unfold trip_k0_t1
  dsimp only
  sl_unfold_run_names
  simp only [readAt_blk256 _ _ _ _ _ (k0_off1_eq k) (rows_a k) (by omega), readAt_blk256 _ _ _ _ _ (k0_off2_eq k) (rows_a k) (by omega),
    readAt_blk256 _ _ _ _ _ (k0_off3_eq k) (rows_b k) (by omega), readAt_blk256 _ _ _ _ _ (k0_off4_eq k) (rows_b k) (by omega),
    readAt_col _ _ 0 _ (by omega), readAt_col _ _ 128 _ (by omega), read_putr256 _ _ _ _ _ _ (k0_off5_eq k), read_putr256 _ _ _ _ _ _ (k0_off6_eq k),
    View.writes_nil, harg2.read_unread, harg3.read_unread, harg4.read_unread]
  rfl

/-- What all trips before trip `n` leave, whatever the two buffers held when the loop began. -/
theorem loop_reads (g5 : BufTy.Contents (Elt Ideal) arg5.view.ty) (g6 : BufTy.Contents (Elt Ideal) arg6.view.ty) (n : ℕ) (hn : n ≤ k0_t1_loop.trips) :
    (∀ r l, arg5.view.read (Elt Ideal) (arg5.view.writes (Elt Ideal) g5 (pb_k0_t1 (F := Ideal) 𝒱 c bd i arg2 harg2 arg3 harg3 arg4 harg4 arg5 harg5 arg6 harg6 (harg2.unread x0) (harg3.unread x1) (harg4.unread x2) n).1) (ix2 r l)
        = if r.val < 512 * n then gO x0 x1 x2 (ix2 r l) else arg5.view.read (Elt Ideal) g5 (ix2 r l))
    ∧ (∀ r l, arg6.view.read (Elt Ideal) (arg6.view.writes (Elt Ideal) g6 (pb_k0_t1 (F := Ideal) 𝒱 c bd i arg2 harg2 arg3 harg3 arg4 harg4 arg5 harg5 arg6 harg6 (harg2.unread x0) (harg3.unread x1) (harg4.unread x2) n).2) (ix2 r l)
        = if r.val < 512 * n then gL x0 x1 x2 (ix2 r l) else arg6.view.read (Elt Ideal) g6 (ix2 r l)) := by
  induction n with
  | zero =>
    refine ⟨fun r l => ?_, fun r l => ?_⟩
    · rw [if_neg (by omega)]; rfl
    · rw [if_neg (by omega)]; rfl
  | succ n ih =>
    obtain ⟨io, il⟩ := ih (by omega)
    rw [pb_k0_t1_succ 𝒱 c bd i arg2 harg2 arg3 harg3 arg4 harg4 arg5 harg5 arg6 harg6 (harg2.unread x0) (harg3.unread x1) (harg4.unread x2) ⟨n, hn⟩]
    dsimp only [tripL_k0_t1]
    refine ⟨fun r l => ?_, fun r l => ?_⟩
    · rw [View.writes_append, tripO, putr256_at, putr256_at, io]
      dsimp only
      by_cases h : r.val < 512 * n
      · rw [dif_neg (by omega), dif_neg (by omega), if_pos h, if_pos (by omega)]
      · by_cases h2 : r.val < 512 * n + 256
        · rw [dif_neg (by omega), dif_pos ⟨by omega, by omega⟩, if_pos (by omega), tOA_at _ _ _ _ _ r l ⟨by omega, by omega⟩]
        · by_cases h3 : r.val < 512 * (n + 1)
          · rw [dif_pos ⟨by omega, by omega⟩, if_pos h3, tOB_at _ _ _ _ _ r l ⟨by omega, by omega⟩]
          · rw [dif_neg (by omega), dif_neg (by omega), if_neg h, if_neg h3]
    · rw [View.writes_append, tripL, putr256_at, putr256_at, il]
      dsimp only
      by_cases h : r.val < 512 * n
      · rw [dif_neg (by omega), dif_neg (by omega), if_pos h, if_pos (by omega)]
      · by_cases h2 : r.val < 512 * n + 256
        · rw [dif_neg (by omega), dif_pos ⟨by omega, by omega⟩, if_pos (by omega), tLA_at _ _ _ _ _ r l ⟨by omega, by omega⟩]
        · by_cases h3 : r.val < 512 * (n + 1)
          · rw [dif_pos ⟨by omega, by omega⟩, if_pos h3, tLB_at _ _ _ _ _ r l ⟨by omega, by omega⟩]
          · rw [dif_neg (by omega), dif_neg (by omega), if_neg h, if_neg h3]
end

theorem trips_eq : k0_t1_loop.trips = 4 := by decide

theorem ext_rows {f g : Vec Ideal S2176x128 .f32} (h : ∀ (r : Fin 2176) (l : Fin 128), f (ix2 r l) = g (ix2 r l)) : f = g := by
  funext y
  rw [ix2_ext y (a := y 0) (b := y 1) rfl rfl]
  exact h (y 0) (y 1)

set_option maxHeartbeats 2000000 in
theorem body (c : Dev nD) (i : grid0.Coords) (arg2 : Memref sig .tc .vmem S2176x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S2176x128 .f32) (harg5 : arg5.IsWhole) (arg6 : Memref sig .tc .vmem S2176x128 .f32) (harg6 : arg6.IsWhole)
    (x0 x1 x2 : Vec Ideal S2176x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (gO x0 x1 x2) ∗ owns (c : Thread nD τ) arg6 fullShare (gL x0 x1 x2)) -∗ K ⟨⟩))
          ⊢ wp frame (wpE (defs₀ (F := Ideal)) Variants.none c none) E (cc0_mla_fwd i arg2 harg2 arg3 harg3 arg4 harg4 arg5 harg5 arg6 harg6) K := by
    simp only [cc0_mla_fwd_eq_skeleton]; unfold cc0_mla_fwd_skel
    simp only [k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_run_names
      simp only [readAt_blk128 _ _ _ 2048 0 rfl (by omega) (by omega), readAt_blk128 _ _ _ 2048 128 rfl (by omega) (by omega), readAt_col _ _ 0 _ (by omega), readAt_col _ _ 128 _ (by omega),
        read_putr128 _ _ _ _ _ 2048 rfl, View.writes_append, harg2.read_unread, harg3.read_unread, harg4.read_unread]
      refine ext_rows fun r l => ?_
      refine (putr128_at _ 2048 (tOC x0 x1 x2 2048 (by omega)) r l).trans ?_
      by_cases h : 2048 ≤ r.val ∧ r.val < 2048 + 128
      · rw [dif_pos h, tOC_at _ _ _ _ _ r l h]
      · rw [dif_neg h]
        refine ((loop_reads Variants.none c none i arg2 harg2 arg3 harg3 arg4 harg4 arg5 harg5 arg6 harg6 x0 x1 x2 f3 f4 k0_t1_loop.trips le_rfl).1 r l).trans (if_pos ?_)
        have := r.isLt
        rw [trips_eq]
        omega
    · iexists _; isplitr; swap; · iexact H4
      ipureintro
      sl_unfold_run_names
      simp only [readAt_blk128 _ _ _ 2048 0 rfl (by omega) (by omega), readAt_blk128 _ _ _ 2048 128 rfl (by omega) (by omega), readAt_col _ _ 0 _ (by omega), readAt_col _ _ 128 _ (by omega),
        read_putr128 _ _ _ _ _ 2048 rfl, View.writes_append, harg2.read_unread, harg3.read_unread, harg4.read_unread]
      refine ext_rows fun r l => ?_
      refine (putr128_at _ 2048 (tLC x0 x1 x2 2048 (by omega)) r l).trans ?_
      by_cases h : 2048 ≤ r.val ∧ r.val < 2048 + 128
      · rw [dif_pos h, tLC_at _ _ _ _ _ r l h]
      · rw [dif_neg h]
        refine ((loop_reads Variants.none c none i arg2 harg2 arg3 harg3 arg4 harg4 arg5 harg5 arg6 harg6 x0 x1 x2 f3 f4 k0_t1_loop.trips le_rfl).2 r l).trans (if_pos ?_)
        have := r.isLt
        rw [trips_eq]
        omega

end Cert.AttnIdeal.Gen

end
-- ==== Proof.AtRegion.lean ====
/- The run of the ideal attention kernel, and its two results read at batch row, natural row and head: the packed rows
   attended, one pair of heads a grid step. -/
module

public import proofs.«01_k».proof.Proof.AtBody
public import proofs.«01_k».proof.Proof.Tail
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (rowAt laneAt laneAt' hl rows pos pos_low pos_high qP kP vP scl ninf ln2 row_div row_mod hl_div hl_mod hl_mod_val row_mod_val lane_div lane_mod_val)

local notation "𝕄" => MT nD τ sig Unit (Elt Ideal) ℕ (UR sig nD τ) ℕ

variable (m : (ℓ : Loc nD τ sig) → Buf (Elt Ideal) ℓ) (ρ : Dev nD → PrngReg)

/-- The output and the logarithms of grid step `t`'s pair of heads, from that step's input blocks. -/
def outO (c : Dev nD) (t : Fin cfg0.N) : Vec Ideal S2176x128 .f32 := gO (iblk m c 0 t) (iblk m c 1 t) (iblk m c 2 t)
def outL (c : Dev nD) (t : Fin cfg0.N) : Vec Ideal S2176x128 .f32 := gL (iblk m c 0 t) (iblk m c 1 t) (iblk m c 2 t)

/-- The proof data of the pipeline on core `c`: the arrays as the region finds them, each input's buffer at its block and each
    output's at its result, the scoped rest and the generator register kept, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO m c t
    | ⟨4, _⟩ => outL m c t
  Φ _ := Pipeline.ΦA spec0 c
  q _ := fullShare
  owed _ := 0

/-- The arrays of the data are what the region finds. -/
theorem A_eq (c : Dev nD) (w : Fin cfg0.W) : (dats m 0 c).A w = V m c (Pipeline.arrRef spec0 w) := by
  dsimp only [dats]

/-- What a step leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outO m c t := by dsimp only [dats]
theorem after0_4 (c : Dev nD) (t : Fin cfg0.N) : (dats m 0 c).after 4 t = outL m c t := by dsimp only [dats]

/-- What a step finds in each input's window: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ### The body's obligation -/

/-- What a step is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What a step returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- A step's triple: the body's, at the step's windows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The program table's entry for the body. -/
theorem defs₀_row (t : Fin cfg0.N) :
    defs₀ (F := Ideal) .tc cfg0.body (cfg0.bodyArgs t (cfg0.slots t)) = bodyAt0 t := by
  unfold defs₀; rw [Defs.onTc_tc]

/-- The obligation at every step. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ### The run and the frame -/

set_option backward.isDefEq.respectTransparency.types false in
set_option maxHeartbeats 800000 in
/-- The program's run: the arrays end as the data says, the later host lines done, every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ### The two arrays after the run -/

/-- The grid step of batch row `b` and pair of heads `j`. -/
def pt (b : Fin 2) (j : Fin 4) : Fin cfg0.N := ⟨4 * b.val + j.val, by show _ < 8; omega⟩

/-- Every window's block at step `t` sits at batch row `t / 4`, pair `t % 4`. -/
theorem idx : ∀ t : Fin cfg0.N, (win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]) ∧ t.val < 8 :=
  (by decide +kernel : ∀ t : Fin grid0.N, _)

/-- An array made of one block a grid step. -/
def spread (f : Fin cfg0.N → Vec Ideal S2176x128 .f32) : Vec Ideal S4352x512 .f32 := fun i =>
  f ⟨4 * ((i 0).val / 2176) + (i 1).val / 128, by
      have h0 : (i 0).val < 4352 := (i 0).isLt
      have h1 : (i 1).val < 512 := (i 1).isLt
      show _ < 8
      omega⟩
    (ix2 ⟨(i 0).val % 2176, Nat.mod_lt _ (by decide)⟩ ⟨(i 1).val % 128, Nat.mod_lt _ (by decide)⟩)

theorem spread_at (f : Fin cfg0.N → Vec Ideal S2176x128 .f32) (b : Fin 2) (j : Fin 4) (r : Fin 2176) (x : Fin 128) :
    spread f (ix2 (rowAt b r) (laneAt' j x)) = f (pt b j) (ix2 r x) := by
  unfold spread
  have e : ∀ {t t' : Fin cfg0.N} {r r' : Fin 2176} {x x' : Fin 128}, t = t' → r = r' → x = x' → f t (ix2 r x) = f t' (ix2 r' x') := by
    rintro _ _ _ _ _ _ rfl rfl rfl; rfl
  refine e (Fin.ext ?_) (Fin.ext ?_) (Fin.ext ?_)
  · show 4 * ((2176 * b.val + r.val) / 2176) + (128 * j.val + x.val) / 128 = 4 * b.val + j.val; omega
  · show (2176 * b.val + r.val) % 2176 = r.val; omega
  · show (128 * j.val + x.val) % 128 = x.val; omega

/-- A spread array, read where block `t` puts its row `r` and lane `x`. -/
theorem spread_of (f : Fin cfg0.N → Vec Ideal S2176x128 .f32) (t : Fin cfg0.N) (y : S2176x128.Idx) (i : S4352x512.Idx)
    (h0 : (i 0).val = t.val / 4 * 2176 + (y 0).val) (h1 : (i 1).val = t.val % 4 * 128 + (y 1).val) : f t y = spread f i := by
  unfold spread
  have hy0 : (y 0).val < 2176 := (y 0).isLt
  have hy1 : (y 1).val < 128 := (y 1).isLt
  have ht : t.val < 8 := t.isLt
  have e : ∀ {t t' : Fin cfg0.N} {y y' : S2176x128.Idx}, t = t' → y = y' → f t y = f t' y' := by
    rintro _ _ _ _ rfl rfl; rfl
  refine e (Fin.ext ?_) (ix2_ext y ?_ ?_)
  · show t.val = 4 * ((i 0).val / 2176) + (i 1).val / 128; omega
  · show (y 0).val = (i 0).val % 2176; omega
  · show (y 1).val = (i 1).val % 128; omega

theorem arrO (c : Dev nD) : (dats m 0 c).arrAt 3 (cfgs 0).N = spread (outO m c) := by
  refine (dats m 0 c).arrAt_eq_of_covers 3 _ (by decide +kernel) fun t _ y => ?_
  blk_simp
  rw [after0_3]
  refine spread_of _ t y _ ?_ ?_
  · blk_simp [idx t]
  · blk_simp [idx t]

theorem arrL (c : Dev nD) : (dats m 0 c).arrAt 4 (cfgs 0).N = spread (outL m c) := by
  refine (dats m 0 c).arrAt_eq_of_covers 4 _ (by decide +kernel) fun t _ y => ?_
  blk_simp
  rw [after0_4]
  refine spread_of _ t y _ ?_ ?_
  · blk_simp [idx t]
  · blk_simp [idx t]

/-! ### The blocks a step reads -/

theorem blk0 (c : Dev nD) (b : Fin 2) (j : Fin 4) (r : Fin 2176) (x : Fin 256) :
    iblk m c 0 (pt b j) (ix2 r x) = V m c main_v18 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]
theorem blk1 (c : Dev nD) (b : Fin 2) (j : Fin 4) (r : Fin 2176) (x : Fin 256) :
    iblk m c 1 (pt b j) (ix2 r x) = V m c main_v37 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]
theorem blk2 (c : Dev nD) (b : Fin 2) (j : Fin 4) (r : Fin 2176) (x : Fin 256) :
    iblk m c 2 (pt b j) (ix2 r x) = V m c main_v46 (ix2 (rowAt b r) (laneAt j x)) := by
  obtain ⟨t, e, ht⟩ : ∃ t, pt b j = t ∧ t.val = 4 * b.val + j.val := ⟨_, rfl, rfl⟩
  rw [e]
  blk_ext [iblk, idx t, rowAt, laneAt]

/-- A buffer at the region's entry is what the host's first line leaves there. -/
theorem V_line (c : Dev nD) (b : Ref sig .tc) : V m c b = StableHlo.after hostOps0 (fun b => m (c, b)) (Proc.devRef .tc b) := by
  show StableHlo.after (List.flatten [hostOps0]) _ _ = _
  rw [List.flatten_singleton]

theorem v18_at (c : Dev nD) (b : Fin 2) (r : Fin 2176) (h : Fin 8) (l : Fin 128) :
    (V m c main_v18 : Vec Ideal S4352x1024 .bf16) (ix2 (rowAt b r) (hl h l))
      = qP (m (c, Proc.devRef .tc main_arg0)) (m (c, Proc.devRef .tc main_arg1)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [qP, rows, scl, ninf, ln2]
  rfl

theorem v37_at (c : Dev nD) (b : Fin 2) (r : Fin 2176) (h : Fin 8) (l : Fin 128) :
    (V m c main_v37 : Vec Ideal S4352x1024 .bf16) (ix2 (rowAt b r) (hl h l))
      = kP (m (c, Proc.devRef .tc main_arg2)) (m (c, Proc.devRef .tc main_arg3)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [kP, rows, ninf]
  rfl

theorem v46_at (c : Dev nD) (b : Fin 2) (r : Fin 2176) (h : Fin 8) (l : Fin 128) :
    (V m c main_v46 : Vec Ideal S4352x1024 .bf16) (ix2 (rowAt b r) (hl h l))
      = vP (m (c, Proc.devRef .tc main_arg4)) b r h l := by
  rw [V_line]
  after_reads_simp
  simp only [Matrix.cons_val_zero, Matrix.cons_val_one, Matrix.cons_val]
  pointwise [row_div, row_mod, hl_div, hl_mod_val]
  after_reads_simp
  simp only [Matrix.cons_val_zero, Matrix.cons_val_one, Matrix.cons_val]
  pointwise
  after_reads_simp
  pointwise [vP, rows]
  rfl

/-- One head's rows of a step's blocks. -/
theorem blk_q0 (c : Dev nD) (b : Fin 2) (j : Fin 4) (r : Fin 2176) : rw0 (iblk m c 0 (pt b j)) r
    = qP (m (c, Proc.devRef .tc main_arg0)) (m (c, Proc.devRef .tc main_arg1)) b r ⟨2 * j.val, by omega⟩ := by
  funext y
  rw [← v18_at m]
  refine (blk0 m c b j r _).trans (congrArg _ (congrArg (ix2 _) (Fin.ext ?_)))
  show 256 * j.val + (0 + y.val) = 128 * (2 * j.val) + y.val
  omega
theorem blk_q1 (c : Dev nD) (b : Fin 2) (j : Fin 4) (r : Fin 2176) : rw1 (iblk m c 0 (pt b j)) r
    = qP (m (c, Proc.devRef .tc main_arg0)) (m (c, Proc.devRef .tc main_arg1)) b r ⟨2 * j.val + 1, by omega⟩ := by
  funext y
  rw [← v18_at m]
  refine (blk0 m c b j r _).trans (congrArg _ (congrArg (ix2 _) (Fin.ext ?_)))
  show 256 * j.val + (128 + y.val) = 128 * (2 * j.val + 1) + y.val
  omega
theorem blk_k0 (c : Dev nD) (b : Fin 2) (j : Fin 4) (r : Fin 2176) : rw0 (iblk m c 1 (pt b j)) r
    = kP (m (c, Proc.devRef .tc main_arg2)) (m (c, Proc.devRef .tc main_arg3)) b r ⟨2 * j.val, by omega⟩ := by
  funext y
  rw [← v37_at m]
  refine (blk1 m c b j r _).trans (congrArg _ (congrArg (ix2 _) (Fin.ext ?_)))
  show 256 * j.val + (0 + y.val) = 128 * (2 * j.val) + y.val
  omega
theorem blk_k1 (c : Dev nD) (b : Fin 2) (j : Fin 4) (r : Fin 2176) : rw1 (iblk m c 1 (pt b j)) r
    = kP (m (c, Proc.devRef .tc main_arg2)) (m (c, Proc.devRef .tc main_arg3)) b r ⟨2 * j.val + 1, by omega⟩ := by
  funext y
  rw [← v37_at m]
  refine (blk1 m c b j r _).trans (congrArg _ (congrArg (ix2 _) (Fin.ext ?_)))
  show 256 * j.val + (128 + y.val) = 128 * (2 * j.val + 1) + y.val
  omega
theorem blk_v0 (c : Dev nD) (b : Fin 2) (j : Fin 4) (r : Fin 2176) : rw0 (iblk m c 2 (pt b j)) r
    = vP (m (c, Proc.devRef .tc main_arg4)) b r ⟨2 * j.val, by omega⟩ := by
  funext y
  rw [← v46_at m]
  refine (blk2 m c b j r _).trans (congrArg _ (congrArg (ix2 _) (Fin.ext ?_)))
  show 256 * j.val + (0 + y.val) = 128 * (2 * j.val) + y.val
  omega
theorem blk_v1 (c : Dev nD) (b : Fin 2) (j : Fin 4) (r : Fin 2176) : rw1 (iblk m c 2 (pt b j)) r
    = vP (m (c, Proc.devRef .tc main_arg4)) b r ⟨2 * j.val + 1, by omega⟩ := by
  funext y
  rw [← v46_at m]
  refine (blk2 m c b j r _).trans (congrArg _ (congrArg (ix2 _) (Fin.ext ?_)))
  show 256 * j.val + (128 + y.val) = 128 * (2 * j.val + 1) + y.val
  omega

/-- The attended row `r` of head `h`, and its logarithm. -/
def oAt (c : Dev nD) (b : Fin 2) (r : Fin 2176) (h : Fin 8) (d : Fin 64) : EReal := att (qP (m (c, Proc.devRef .tc main_arg0)) (m (c, Proc.devRef .tc main_arg1)) b r h) (fun x => kP (m (c, Proc.devRef .tc main_arg2)) (m (c, Proc.devRef .tc main_arg3)) b x h) (fun x => vP (m (c, Proc.devRef .tc main_arg4)) b x h) ⟨d.val, by omega⟩
def lAt (c : Dev nD) (b : Fin 2) (r : Fin 2176) (h : Fin 8) : EReal := lsum (qP (m (c, Proc.devRef .tc main_arg0)) (m (c, Proc.devRef .tc main_arg1)) b r h) (fun x => kP (m (c, Proc.devRef .tc main_arg2)) (m (c, Proc.devRef .tc main_arg3)) b x h) (fun x => vP (m (c, Proc.devRef .tc main_arg4)) b x h)

theorem out_at (c : Dev nD) (b : Fin 2) (r : Fin 2176) (h : Fin 8) (d : Fin 64) :
    outO m c (pt b ⟨h.val / 2, by omega⟩) (ix2 r ⟨64 * (h.val % 2) + d.val, by omega⟩) = oAt m c b r h d := by
  have key : ∀ (h' : Fin 8) (d' : Fin 128), h' = h → d' = ⟨d.val, by omega⟩ →
      att (qP (m (c, Proc.devRef .tc main_arg0)) (m (c, Proc.devRef .tc main_arg1)) b r h') (fun x => kP (m (c, Proc.devRef .tc main_arg2)) (m (c, Proc.devRef .tc main_arg3)) b x h') (fun x => vP (m (c, Proc.devRef .tc main_arg4)) b x h') d' = oAt m c b r h d := by
    intro h' d' e f; rw [e, f]; rfl
  unfold outO gO
  rcases Nat.mod_two_eq_zero_or_one h.val with p | p
  · rw [if_pos (by show 64 * (h.val % 2) + d.val < 64; omega)]
    show att (rw0 (iblk m c 0 (pt b ⟨h.val / 2, _⟩)) r) (fun x => rw0 (iblk m c 1 (pt b ⟨h.val / 2, _⟩)) x) (fun x => rw0 (iblk m c 2 (pt b ⟨h.val / 2, _⟩)) x) ⟨64 * (h.val % 2) + d.val, _⟩ = _
    simp only [blk_q0, blk_k0, blk_v0]
    exact key _ _ (Fin.ext (by show 2 * (h.val / 2) = h.val; omega)) (Fin.ext (by show 64 * (h.val % 2) + d.val = d.val; omega))
  · rw [if_neg (by show ¬ 64 * (h.val % 2) + d.val < 64; omega)]
    show att (rw1 (iblk m c 0 (pt b ⟨h.val / 2, _⟩)) r) (fun x => rw1 (iblk m c 1 (pt b ⟨h.val / 2, _⟩)) x) (fun x => rw1 (iblk m c 2 (pt b ⟨h.val / 2, _⟩)) x) ⟨(64 * (h.val % 2) + d.val + 128 - 64) % 128, _⟩ = _
    simp only [blk_q1, blk_k1, blk_v1]
    exact key _ _ (Fin.ext (by show 2 * (h.val / 2) + 1 = h.val; omega)) (Fin.ext (by show (64 * (h.val % 2) + d.val + 128 - 64) % 128 = d.val; omega))

theorem log_at (c : Dev nD) (b : Fin 2) (r : Fin 2176) (j : Fin 4) (z : Fin 2) :
    outL m c (pt b j) (ix2 r ⟨z.val, by omega⟩) = lAt m c b r ⟨2 * j.val + z.val, by omega⟩ := by
  unfold outL gL lAt
  show (if z.val = 1 then lsum (rw1 (iblk m c 0 (pt b j)) r) (rw1 (iblk m c 1 (pt b j))) (rw1 (iblk m c 2 (pt b j)))
    else if z.val = 0 then lsum (rw0 (iblk m c 0 (pt b j)) r) (rw0 (iblk m c 1 (pt b j))) (rw0 (iblk m c 2 (pt b j))) else 0) = _
  rcases (by omega : z.val = 0 ∨ z.val = 1) with p | p
  · rw [if_neg (by omega), if_pos p]
    show lsum (rw0 (iblk m c 0 (pt b j)) r) (fun x => rw0 (iblk m c 1 (pt b j)) x) (fun x => rw0 (iblk m c 2 (pt b j)) x) = _
    simp only [blk_q0, blk_k0, blk_v0, p]
    rfl
  · rw [if_pos p]
    show lsum (rw1 (iblk m c 0 (pt b j)) r) (fun x => rw1 (iblk m c 1 (pt b j)) x) (fun x => rw1 (iblk m c 2 (pt b j)) x) = _
    simp only [blk_q1, blk_k1, blk_v1, p]

/-! ### What the host's last line reads out of the two arrays -/

/-- What the host's last line starts from: the region's arrays over what the first line left. -/
def mid (c : Dev nD) : Valuation τ sig (Elt Ideal) :=
  Pipeline.withArrays (cfgs 0).spec c (V0 m c) fun w => (dats m 0 c).arrAt w (cfgs 0).N

theorem tail_line (c : Dev nD) (b : Ref sig .tc) : Pipeline.afterTail₀ cfgs (dats m) 0 (V0 m) [hostOps1] c b
    = StableHlo.after hostOps1 (mid m c) (Proc.devRef .tc b) := by
  show StableHlo.after (List.flatten [hostOps1]) _ _ = _
  rw [List.flatten_singleton]
  rfl

theorem mid_O (c : Dev nD) : (mid m c (Proc.devRef .tc main_v47_0) : Vec Ideal S4352x512 .f32) = spread (outO m c) :=
  (Pipeline.withArrays_arr spec0 launch0.win.arr_inj c (V0 m c) (fun w => (dats m 0 c).arrAt w (cfgs 0).N) 3).trans (arrO m c)
theorem mid_L (c : Dev nD) : (mid m c (Proc.devRef .tc main_v47_1) : Vec Ideal S4352x512 .f32) = spread (outL m c) :=
  (Pipeline.withArrays_arr spec0 launch0.win.arr_inj c (V0 m c) (fun w => (dats m 0 c).arrAt w (cfgs 0).N) 4).trans (arrL m c)

/-- Where the host's unpacking of rows reads, for a natural row below 16 and one from 16 on. -/
theorem unpack_lo (b : Fin 2) (q : Fin 2064) (j : Fin 4) (x : Fin 128) (p : q.val < 16) (R : Fin 4352) (C : Fin 512)
    (e : R.val = b.val * 2176 + (2048 + q.val)) (f : C.val = 128 * j.val + x.val) :
    (ix2 R C : S4352x512.Idx) = ix2 (rowAt b (pos q)) (laneAt' j x) :=
  congrArg₂ ix2 (Fin.ext (by show R.val = 2176 * b.val + (pos q).val; rw [pos_low q p]; omega)) (Fin.ext f)
theorem unpack_hi (b : Fin 2) (q : Fin 2064) (j : Fin 4) (x : Fin 128) (p : ¬ q.val < 16) (R : Fin 4352) (C : Fin 512)
    (e : R.val = b.val * 2176 + (q.val - 16)) (f : C.val = 128 * j.val + x.val) :
    (ix2 R C : S4352x512.Idx) = ix2 (rowAt b (pos q)) (laneAt' j x) :=
  congrArg₂ ix2 (Fin.ext (by show R.val = 2176 * b.val + (pos q).val; rw [pos_high q p]; omega)) (Fin.ext f)

/-- The output array by rows and heads, and the logarithms' by rows, pairs and heads, in natural order. -/
theorem unO (X : Vec Ideal S4352x512 .f32) (b : Fin 2) (q : Fin 2064) (h : Fin 8) (d : Fin 64) :
    concatenate S2x2064x8x64 1
      [⟨S2x16x8x64, extractStridedSlice S2x16x8x64 ![0, 2048, 0, 0] (shapeCast S2x2176x8x64 X shapeCasts_S4352x512_S2x2176x8x64) slices_S2x2176x8x64_S2x16x8x64_0_2048_0_0⟩,
       ⟨S2x2048x8x64, extractStridedSlice S2x2048x8x64 ![0, 0, 0, 0] (shapeCast S2x2176x8x64 X shapeCasts_S4352x512_S2x2176x8x64) slices_S2x2176x8x64_S2x2048x8x64_0_0_0_0⟩]
      concatenates_S2x16x8x64_S2x2048x8x64_S2x2064x8x64_d1 (ix4 b q h d)
      = X (ix2 (rowAt b (pos q)) (laneAt' ⟨h.val / 2, by omega⟩ ⟨64 * (h.val % 2) + d.val, by omega⟩)) := by
  pointwise
  by_cases p : q.val < 16
  · exact (dif_pos p).trans (congrArg X (unpack_lo b q _ _ p _ _ rfl (by show h.val * 64 + d.val = 128 * (h.val / 2) + (64 * (h.val % 2) + d.val); omega)))
  · exact (dif_neg p).trans (congrArg X (unpack_hi b q _ _ p _ _ rfl (by show h.val * 64 + d.val = 128 * (h.val / 2) + (64 * (h.val % 2) + d.val); omega)))
theorem unL (X : Vec Ideal S4352x512 .f32) (b : Fin 2) (q : Fin 2064) (j : Fin 4) (z : Fin 2) :
    concatenate S2x2064x4x2 1
      [⟨S2x16x4x2, extractStridedSlice S2x16x4x2 ![0, 2048, 0, 0] (extractStridedSlice S2x2176x4x2 ![0, 0, 0, 0] (shapeCast S2x2176x4x128 X shapeCasts_S4352x512_S2x2176x4x128) slices_S2x2176x4x128_S2x2176x4x2_0_0_0_0) slices_S2x2176x4x2_S2x16x4x2_0_2048_0_0⟩,
       ⟨S2x2048x4x2, extractStridedSlice S2x2048x4x2 ![0, 0, 0, 0] (extractStridedSlice S2x2176x4x2 ![0, 0, 0, 0] (shapeCast S2x2176x4x128 X shapeCasts_S4352x512_S2x2176x4x128) slices_S2x2176x4x128_S2x2176x4x2_0_0_0_0) slices_S2x2176x4x2_S2x2048x4x2_0_0_0_0⟩]
      concatenates_S2x16x4x2_S2x2048x4x2_S2x2064x4x2_d1 (ix4 b q j z)
      = X (ix2 (rowAt b (pos q)) (laneAt' j ⟨z.val, by omega⟩)) := by
  pointwise
  by_cases p : q.val < 16
  · exact (dif_pos p).trans (congrArg X (unpack_lo b q j _ p _ _ rfl (by show j.val * 128 + z.val = 128 * j.val + z.val; omega)))
  · exact (dif_neg p).trans (congrArg X (unpack_hi b q j _ p _ _ rfl (by show j.val * 128 + z.val = 128 * j.val + z.val; omega)))

theorem v53_at (c : Dev nD) (b : Fin 2) (q : Fin 2064) (h : Fin 8) (d : Fin 64) :
    (Pipeline.afterTail₀ cfgs (dats m) 0 (V0 m) [hostOps1] c main_v53 : Vec Ideal S2x2064x8x64 .f32) (ix4 b q h d) = oAt m c b (pos q) h d := by
  rw [tail_line, ← out_at, ← spread_at (outO m c), ← mid_O]
  after_reads_simp
  exact unO _ b q h d

theorem v56_at (c : Dev nD) (b : Fin 2) (q : Fin 2064) (j : Fin 4) (z : Fin 2) :
    (Pipeline.afterTail₀ cfgs (dats m) 0 (V0 m) [hostOps1] c main_v56 : Vec Ideal S2x2064x4x2 .f32) (ix4 b q j z) = lAt m c b (pos q) ⟨2 * j.val + z.val, by omega⟩ := by
  rw [tail_line, ← log_at, ← spread_at (outL m c), ← mid_L]
  after_reads_simp
  exact unL _ b q j z

end Cert.AttnIdeal.Gen

end
-- ==== Proof.AtMath.lean ====
/- The attention over the packed rows, when the queries and keys are real numbers: the padding keys weigh nothing, the powers of
   two are the exponentials, and the weights' sum divides each value row's coefficient. -/
module

public import proofs.«01_k».proof.Proof.AtRow
public import proofs.«01_k».proof.Proof.Lift

@[expose] public section

set_option maxRecDepth 16384

noncomputable section

namespace Cert.AttnIdeal.Gen

open Idealize.ShloMosaic Idealize.ShloMosaic.TcCoe Idealize.ShloMosaic.Tactic Idealize.SL.Sem
open Cert.Mla
open Cert.KernelIdeal.Gen (rows rows_pos rows_pad pos pos_low pos_high qP kP vP scl ninf ln2 ninf_eq ln2_eq LG MX EX ZZ lgR LG_real EX_real ZZ_real
  qP_nope qP_rope qP_one qP_zero kP_nope kP_rope kP_mask kP_zero kP_pad vP_neg sum_packed sum_lanes)

/-- A sum of extended reals times a nonnegative real number. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

/-- A packed row is a natural row's or a padding row. -/
theorem pos_or_pad (r : Fin 2176) : (∃ k, r = pos k) ∨ 2064 ≤ r.val := by
  by_cases h : 2064 ≤ r.val
  · exact Or.inr h
  · refine Or.inl ?_
    by_cases p : r.val < 2048
    · refine ⟨⟨r.val + 16, by omega⟩, Fin.ext ?_⟩
      rw [pos_high _ (by show ¬ r.val + 16 < 16; omega)]
      show r.val = r.val + 16 - 16; omega
    · refine ⟨⟨r.val - 2048, by omega⟩, Fin.ext ?_⟩
      rw [pos_low _ (by show r.val - 2048 < 16; omega)]
      show r.val = 2048 + (r.val - 2048); omega

theorem log2_pos : 0 < Real.log 2 := Real.log_pos (by norm_num)

section Reals
variable {r0 : Fin 2 → Fin 2064 → Fin 8 → Fin 64 → ℝ} {r1 : Fin 2 → Fin 2064 → Fin 8 → Fin 32 → ℝ} {r2 : Fin 2 → Fin 2064 → Fin 8 → Fin 64 → ℝ}
  {r3 : Fin 2 → Fin 2064 → Fin 32 → ℝ} {c : ℝ} {M : Fin 2 → Fin 8 → Fin 2064 → ℝ}
variable {a0 : FVec Ideal S2x2064x8x64 .f32} {a1 : FVec Ideal S2x2064x8x32 .f32} {a2 : FVec Ideal S2x2064x8x64 .f32}
  {a3 : FVec Ideal S2x2064x32 .f32} {a4 : FVec Ideal S2x2064x8x64 .f32}
  (h0 : ∀ b q h d, (a0 (ix4 b q h d) : EReal) = (r0 b q h d : EReal)) (h1 : ∀ b q h d, (a1 (ix4 b q h d) : EReal) = (r1 b q h d : EReal))
  (h2 : ∀ b q h d, (a2 (ix4 b q h d) : EReal) = (r2 b q h d : EReal)) (h3 : ∀ b q e, (a3 (ix3 b q e) : EReal) = (r3 b q e : EReal))
  (hc : scl = (c : EReal)) (hM : ∀ b h q, MX a0 a1 a2 a3 b h q = (M b h q : EReal))
  (b : Fin 2) (h : Fin 8) (q k : Fin 2064)

include h0 h1 h2 h3 hc in
theorem score_real : score (qP a0 a1 b (pos q) h) (fun x => kP a2 a3 b x h) (pos k) = ((lgR r0 r1 r2 r3 c b h q k / Real.log 2 : ℝ) : EReal) := by
  unfold score
  rw [sum_lanes]
  simp only [qP_nope h0 hc, qP_rope h1 hc, qP_one, qP_zero, kP_nope h2, kP_rope h3, kP_mask, kP_zero, mul_zero, Finset.sum_const_zero, add_zero]
  simp only [← EReal.coe_mul, ← coe_sum, ← EReal.coe_add]
  refine congrArg _ ?_
  have hl := log2_pos.ne'
  unfold lgR
  rw [add_mul, add_div, Finset.sum_mul, Finset.sum_mul, Finset.sum_div, Finset.sum_div]
  refine congrArg₂ (· + ·) (Finset.sum_congr rfl fun d _ => ?_) (Finset.sum_congr rfl fun e _ => ?_)
  · field_simp
  · field_simp

theorem score_pad (r x : Fin 2176) (hx : 2064 ≤ x.val) : score (qP a0 a1 b r h) (fun x => kP a2 a3 b x h) x = ⊥ := by
  unfold score
  rw [sum_lanes]
  have e1 : ∀ d : Fin 64, kP a2 a3 b x h ⟨d.val, by omega⟩ = 0 := fun d => (kP_pad b x hx h _).trans (if_neg (by show ¬ d.val = 96; omega))
  have e2 : ∀ d : Fin 32, kP a2 a3 b x h ⟨64 + d.val, by omega⟩ = 0 := fun d => (kP_pad b x hx h _).trans (if_neg (by show ¬ 64 + d.val = 96; omega))
  have e3 : kP a2 a3 b x h ⟨96, by omega⟩ = ⊥ := (kP_pad b x hx h _).trans (if_pos rfl)
  simp only [e1, e2, e3, qP_one, kP_zero, mul_zero, Finset.sum_const_zero, add_zero, one_mul, zero_add]

include h0 h1 h2 h3 hc hM in
theorem top_real : top (qP a0 a1 b (pos q) h) (fun x => kP a2 a3 b x h) = ((M b h q / Real.log 2 : ℝ) : EReal) := by
  have hm := hM b h q
  unfold MX at hm
  refine le_antisymm ?_ ?_
  · refine Finset.fold_max_le _ |>.2 ⟨?_, fun x _ => ?_⟩
    · show ninf ≤ _
      rw [ninf_eq]; exact bot_le
    · rcases pos_or_pad x with ⟨k, rfl⟩ | p
      · rw [score_real h0 h1 h2 h3 hc]
        refine EReal.coe_le_coe_iff.2 ((div_le_div_iff_of_pos_right log2_pos).2 (EReal.coe_le_coe_iff.1 ?_))
        rw [← hm, ← LG_real h0 h1 h2 h3 hc]
        exact Finset.le_fold_max _ |>.2 (Or.inr ⟨k, Finset.mem_univ _, le_rfl⟩)
      · rw [score_pad b h (pos q) x p]; exact bot_le
  · rcases Finset.le_fold_max _ |>.1 hm.ge with e | ⟨k, -, e⟩
    · rw [ninf_eq] at e
      exact absurd (le_bot_iff.1 e) (EReal.coe_ne_bot _)
    · rw [LG_real h0 h1 h2 h3 hc] at e
      refine Finset.le_fold_max _ |>.2 (Or.inr ⟨pos k, Finset.mem_univ _, ?_⟩)
      rw [score_real h0 h1 h2 h3 hc]
      exact EReal.coe_le_coe_iff.2 ((div_le_div_iff_of_pos_right log2_pos).2 (EReal.coe_le_coe_iff.1 e))

include h0 h1 h2 h3 hc hM in
theorem wgt_real : wgt (qP a0 a1 b (pos q) h) (fun x => kP a2 a3 b x h) (pos k) = ((Real.exp (lgR r0 r1 r2 r3 c b h q k - M b h q) : ℝ) : EReal) := by
  unfold wgt
  rw [score_real h0 h1 h2 h3 hc, top_real h0 h1 h2 h3 hc hM, ← EReal.coe_sub, Ideal.exp2_coe]
  refine congrArg _ ?_
  show (2 : ℝ) ^ (lgR r0 r1 r2 r3 c b h q k / Real.log 2 - M b h q / Real.log 2) = _
  rw [Real.rpow_def_of_pos (by norm_num : (0 : ℝ) < 2)]
  refine congrArg _ ?_
  have hl := log2_pos.ne'
  field_simp

include h0 h1 h2 h3 hc hM in
theorem wgt_pad (x : Fin 2176) (hx : 2064 ≤ x.val) : wgt (qP a0 a1 b (pos q) h) (fun x => kP a2 a3 b x h) x = 0 := by
  unfold wgt
  rw [score_pad b h (pos q) x hx, top_real h0 h1 h2 h3 hc hM, sub_eq_add_neg, EReal.bot_add, Ideal.exp2_bot]

include h0 h1 h2 h3 hc hM in
theorem mix_real (v : Fin 2176 → Fin 128 → EReal) (l : Fin 128) : mix (qP a0 a1 b (pos q) h) (fun x => kP a2 a3 b x h) v l
    = ∑ k : Fin 2064, ((Real.exp (lgR r0 r1 r2 r3 c b h q k - M b h q) : ℝ) : EReal) * v (pos k) l := by
  unfold mix
  rw [sum_packed _ (fun r hr => by rw [wgt_pad h0 h1 h2 h3 hc hM b h q r hr, zero_mul])]
  exact Finset.sum_congr rfl fun k _ => by rw [wgt_real h0 h1 h2 h3 hc hM]

include h0 h1 h2 h3 hc hM in
theorem tot_real : tot (qP a0 a1 b (pos q) h) (fun x => kP a2 a3 b x h) (fun x => vP a4 b x h) = (zsum (lgR r0 r1 r2 r3 c b h q) (M b h q) : EReal) := by
  unfold tot
  rw [mix_real h0 h1 h2 h3 hc hM]
  have e : ∀ k, vP a4 b (pos k) h 64 = ((-1 : ℝ) : EReal) := fun k => vP_neg b (pos k) h 64 (by decide) (by decide)
  simp only [e, ← EReal.coe_mul, ← coe_sum]
  rw [← EReal.coe_zero, ← EReal.coe_sub]
  refine congrArg _ ?_
  unfold zsum
  rw [← Finset.sum_mul]
  ring

include h0 h1 h2 h3 hc hM in
theorem att_eq (d : Fin 64) : att (qP a0 a1 b (pos q) h) (fun x => kP a2 a3 b x h) (fun x => vP a4 b x h) ⟨d.val, by omega⟩
    = ∑ k : Fin 2064, a4 (ix4 b k h d) * Ideal.div (EX a0 a1 a2 a3 b h q k) (ZZ a0 a1 a2 a3 b h q) := by
  have hz := zsum_pos (lgR r0 r1 r2 r3 c b h q) (M b h q) q
  unfold att
  rw [tot_real h0 h1 h2 h3 hc hM, mix_real h0 h1 h2 h3 hc hM, ZZ_real h0 h1 h2 h3 hc hM, ← EReal.coe_one, div_real _ hz.ne', sum_mul_real _ _ (by positivity)]
  refine Finset.sum_congr rfl fun k _ => ?_
  have e : vP a4 b (pos k) h ⟨d.val, by omega⟩ = a4 (ix4 b k h d) := by
    unfold vP
    rw [dif_pos (show d.val < 64 from d.isLt), rows_pos]
  rw [e, EX_real h0 h1 h2 h3 hc hM, div_real _ hz.ne', mul_comm (_ : EReal) (a4 (ix4 b k h d) : EReal), mul_assoc, ← EReal.coe_mul, mul_one_div]

include h0 h1 h2 h3 hc hM in
theorem lsum_eq : lsum (qP a0 a1 b (pos q) h) (fun x => kP a2 a3 b x h) (fun x => vP a4 b x h)
    = Ideal.div (MX a0 a1 a2 a3 b h q + Ideal.log (ZZ a0 a1 a2 a3 b h q)) ln2 := by
  have hz := zsum_pos (lgR r0 r1 r2 r3 c b h q) (M b h q) q
  unfold lsum
  rw [tot_real h0 h1 h2 h3 hc hM, top_real h0 h1 h2 h3 hc hM, hM, ZZ_real h0 h1 h2 h3 hc hM, ln2_eq, Ideal.log_coe, if_neg (not_le.2 hz),
    ← EReal.coe_add, div_real _ log2_pos.ne', ← EReal.coe_mul, ← EReal.coe_add]
  refine congrArg _ ?_
  rw [add_div]
  rfl

end Reals

end Cert.AttnIdeal.Gen

end
-- ==== Proof.AtRef.lean ====
/- The attention reference's two results read at an index: the output of every query row and head, and the logarithm of the
   row's sum, to base two. -/
module

public import proofs.«01_k».proof.Proof.Gen.AttnRefIdeal.Run
public import proofs.«01_k».proof.Proof.Packed

@[expose] public section

set_option maxRecDepth 16384

noncomputable section

namespace Cert.AttnRefIdeal.Gen

open Idealize.ShloMosaic Idealize.ShloMosaic.TcCoe Idealize.ShloMosaic.Tactic Idealize.SL.Sem
open Cert.KernelIdeal.Gen (LG MX EX ZZ ninf scl ln2 add_read)

section
variable (a0 : FVec Ideal S2x2064x8x64 .f32) (a1 : FVec Ideal S2x2064x8x32 .f32) (a2 : FVec Ideal S2x2064x8x64 .f32)
  (a3 : FVec Ideal S2x2064x32 .f32) (a4 : FVec Ideal S2x2064x8x64 .f32)

/-- The maximum the softmax subtracts: the row's, against minus infinity once more. -/
theorem max_again (b : Fin 2) (h : Fin 8) (q : Fin 2064) : max ninf (MX a0 a1 a2 a3 b h q) = MX a0 a1 a2 a3 b h q :=
  max_eq_right (Finset.le_fold_max (b := ninf) (f := fun k : Fin 2064 => LG a0 a1 a2 a3 b h q k) (s := Finset.univ) ninf |>.2 (Or.inl le_rfl))

/-- One output and one logarithm. -/
def OO (b : Fin 2) (q : Fin 2064) (h : Fin 8) (d : Fin 64) : EReal :=
  ∑ k : Fin 2064, a4 (ix4 b k h d) * Ideal.div (EX a0 a1 a2 a3 b h q k) (ZZ a0 a1 a2 a3 b h q)
def LL (b : Fin 2) (q : Fin 2064) (h : Fin 8) : EReal := Ideal.div (MX a0 a1 a2 a3 b h q + Ideal.log (ZZ a0 a1 a2 a3 b h q)) ln2
end

variable (σ : Valuation τ sig (Elt Ideal))

/-- A maximum of two vectors, read at an index. -/
theorem max_read (x y : FVec Ideal S2x8x2064 .f32) (j : S2x8x2064.Idx) : maximumf x y j = max (x j) (y j) := by
  pointwise

theorem v39_at (b : Fin 2) (q : Fin 2064) (h : Fin 8) (d : Fin 64) :
    (StableHlo.after (Cert.AttnRefIdeal.Value.ops (F := Ideal)) σ (Proc.devRef .tc main_v39) : FVec Ideal S2x2064x8x64 .f32) (ix4 b q h d)
      = OO (σ (Proc.devRef .tc main_arg0)) (σ (Proc.devRef .tc main_arg1)) (σ (Proc.devRef .tc main_arg2)) (σ (Proc.devRef .tc main_arg3)) (σ (Proc.devRef .tc main_arg4)) b q h d := by
  after_reads_simp
  generalize hx : (maximumf _ (Host.reduce _ _ _ _ _) : FVec Ideal S2x8x2064 .f32) = X
  have hX : ∀ (b : Fin 2) (h : Fin 8) (q : Fin 2064), X (ix3 b h q) = MX (σ (Proc.devRef .tc main_arg0)) (σ (Proc.devRef .tc main_arg1)) (σ (Proc.devRef .tc main_arg2)) (σ (Proc.devRef .tc main_arg3)) b h q := by
    intro b h q
    rw [← hx]
    refine (max_read _ _ _).trans ((congrArg₂ max ?_ ?_).trans (max_again _ _ _ _ b h q))
    · pointwise [ninf]
    · pointwise [MX, LG, ninf, scl]
  clear hx
  unfold OO ZZ EX
  pointwise [LG, scl, hX]

theorem v18_at (b : Fin 2) (q : Fin 2064) (j : Fin 4) (z : Fin 2) :
    (StableHlo.after (Cert.AttnRefIdeal.Value.ops (F := Ideal)) σ (Proc.devRef .tc main_v18) : FVec Ideal S2x2064x4x2 .f32) (ix4 b q j z)
      = LL (σ (Proc.devRef .tc main_arg0)) (σ (Proc.devRef .tc main_arg1)) (σ (Proc.devRef .tc main_arg2)) (σ (Proc.devRef .tc main_arg3)) b q ⟨2 * j.val + z.val, by omega⟩ := by
  rw [show (⟨2 * j.val + z.val, by omega⟩ : Fin 8) = ⟨j.val * 2 + z.val, by omega⟩ from Fin.ext (by show 2 * j.val + z.val = j.val * 2 + z.val; omega)]
  after_reads_simp
  generalize hx : (addf (Host.reduce _ _ _ _ _) (Host.log _) : FVec Ideal S2x8x2064 .f32) = X
  have hX : ∀ (b : Fin 2) (h : Fin 8) (q : Fin 2064), X (ix3 b h q) = MX (σ (Proc.devRef .tc main_arg0)) (σ (Proc.devRef .tc main_arg1)) (σ (Proc.devRef .tc main_arg2)) (σ (Proc.devRef .tc main_arg3)) b h q + Ideal.log (ZZ (σ (Proc.devRef .tc main_arg0)) (σ (Proc.devRef .tc main_arg1)) (σ (Proc.devRef .tc main_arg2)) (σ (Proc.devRef .tc main_arg3)) b h q) := by
    intro b h q
    rw [← hx]
    refine (add_read _ _ _).trans (congrArg₂ (· + ·) ?_ ?_)
    · pointwise [MX, LG, ninf, scl]
    · pointwise [ZZ, EX, MX, LG, ninf, scl]
  clear hx
  pointwise [LL, ln2, hX]

end Cert.AttnRefIdeal.Gen

end
-- ==== Proof.AtEqual.lean ====
/- The attention forward kernel and its reference leave the same output and the same logarithms of the rows' sums, for finite
   queries and keys. -/
module

public import proofs.«01_k».proof.Proof.AtRegion
public import proofs.«01_k».proof.Proof.AtMath
public import proofs.«01_k».proof.Proof.AtRef
public import proofs.«01_k».proof.Proof.Pre
public import proofs.«01_k».proof.Proof.Gen.AttnRef
public import proofs.«01_k».proof.Proof.Gen.Pre_finite_attn

@[expose] public section

set_option maxRecDepth 16384

noncomputable section

namespace Cert.Pre_finite_attn.Gen

open Idealize.ShloMosaic Idealize.ShloMosaic.Tactic
open Cert.Pre_finite.Gen (real_of_abs)

variable (a0 : FVec Ideal S2x2064x8x64 .f32) (a1 : FVec Ideal S2x2064x8x32 .f32) (a2 : FVec Ideal S2x2064x8x64 .f32)
  (a3 : FVec Ideal S2x2064x32 .f32) (a4 : FVec Ideal S2x2064x8x64 .f32)

instance : Subsingleton S_.Idx := ⟨fun a b => funext fun i => i.elim0⟩

/-- What the precondition says: every element of the queries and the keys is a real number. -/
theorem real_args (h : fn (F := Ideal) a0 a1 a2 a3 a4 = fun _ => 1#1) :
    (∀ i, (((a0 i : EReal).toReal : ℝ) : EReal) = a0 i) ∧ (∀ i, (((a1 i : EReal).toReal : ℝ) : EReal) = a1 i)
    ∧ (∀ i, (((a2 i : EReal).toReal : ℝ) : EReal) = a2 i) ∧ (∀ i, (((a3 i : EReal).toReal : ℝ) : EReal) = a3 i) := by
  have h := congrFun h (fun i => i.elim0)
  dsimp only [fn, fn_part1] at h
  obtain ⟨h, h3⟩ := IntOp.andi_eq_one.1 h
  obtain ⟨h, h2⟩ := IntOp.andi_eq_one.1 h
  obtain ⟨h0, h1⟩ := IntOp.andi_eq_one.1 h
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

end Cert.Pre_finite_attn.Gen

namespace Cert.AttnIdeal.Gen

open Idealize.ShloMosaic Idealize.ShloMosaic.TcCoe Idealize.ShloMosaic.Tactic Idealize.SL.Sem
open Cert.KernelIdeal.Gen (scl scl_real MX_real pos qP kP vP)
open Cert.AttnRefIdeal.Gen (OO LL)

variable (m : (ℓ : Loc nD τ sig) → Buf (Elt Ideal) ℓ) (c : Dev nD) (σ : Valuation Cert.AttnRefIdeal.τ Cert.AttnRefIdeal.sig (Elt Ideal))

/-- The reference's argument arrays are the kernel's. -/
structure Agree : Prop where
  e0 : (σ (Proc.devRef .tc Cert.AttnRefIdeal.main_arg0) : FVec Ideal S2x2064x8x64 .f32) = m (c, Proc.devRef .tc main_arg0)
  e1 : (σ (Proc.devRef .tc Cert.AttnRefIdeal.main_arg1) : FVec Ideal S2x2064x8x32 .f32) = m (c, Proc.devRef .tc main_arg1)
  e2 : (σ (Proc.devRef .tc Cert.AttnRefIdeal.main_arg2) : FVec Ideal S2x2064x8x64 .f32) = m (c, Proc.devRef .tc main_arg2)
  e3 : (σ (Proc.devRef .tc Cert.AttnRefIdeal.main_arg3) : FVec Ideal S2x2064x32 .f32) = m (c, Proc.devRef .tc main_arg3)
  e4 : (σ (Proc.devRef .tc Cert.AttnRefIdeal.main_arg4) : FVec Ideal S2x2064x8x64 .f32) = m (c, Proc.devRef .tc main_arg4)

variable {m c σ} (G : Agree m c σ)
  (R : (∀ i, ((((m (c, Proc.devRef .tc main_arg0) : FVec Ideal S2x2064x8x64 .f32) i : EReal).toReal : ℝ) : EReal) = (m (c, Proc.devRef .tc main_arg0) : FVec Ideal S2x2064x8x64 .f32) i)
      ∧ (∀ i, ((((m (c, Proc.devRef .tc main_arg1) : FVec Ideal S2x2064x8x32 .f32) i : EReal).toReal : ℝ) : EReal) = (m (c, Proc.devRef .tc main_arg1) : FVec Ideal S2x2064x8x32 .f32) i)
      ∧ (∀ i, ((((m (c, Proc.devRef .tc main_arg2) : FVec Ideal S2x2064x8x64 .f32) i : EReal).toReal : ℝ) : EReal) = (m (c, Proc.devRef .tc main_arg2) : FVec Ideal S2x2064x8x64 .f32) i)
      ∧ (∀ i, ((((m (c, Proc.devRef .tc main_arg3) : FVec Ideal S2x2064x32 .f32) i : EReal).toReal : ℝ) : EReal) = (m (c, Proc.devRef .tc main_arg3) : FVec Ideal S2x2064x32 .f32) i))

include R in
theorem o_at (b : Fin 2) (q : Fin 2064) (h : Fin 8) (d : Fin 64) : oAt m c b (pos q) h d
    = OO (m (c, Proc.devRef .tc main_arg0)) (m (c, Proc.devRef .tc main_arg1)) (m (c, Proc.devRef .tc main_arg2)) (m (c, Proc.devRef .tc main_arg3)) (m (c, Proc.devRef .tc main_arg4)) b q h d := by
  obtain ⟨h0, h1, h2, h3⟩ := R
  obtain ⟨s, hs⟩ := scl_real
  obtain ⟨M, hM⟩ := MX_real (fun b q h d => (h0 (ix4 b q h d)).symm) (fun b q h d => (h1 (ix4 b q h d)).symm) (fun b q h d => (h2 (ix4 b q h d)).symm) (fun b q e => (h3 (ix3 b q e)).symm) hs
  exact att_eq (fun b q h d => (h0 (ix4 b q h d)).symm) (fun b q h d => (h1 (ix4 b q h d)).symm) (fun b q h d => (h2 (ix4 b q h d)).symm) (fun b q e => (h3 (ix3 b q e)).symm) hs hM b h q d

include R in
theorem l_at (b : Fin 2) (q : Fin 2064) (h : Fin 8) : lAt m c b (pos q) h
    = LL (m (c, Proc.devRef .tc main_arg0)) (m (c, Proc.devRef .tc main_arg1)) (m (c, Proc.devRef .tc main_arg2)) (m (c, Proc.devRef .tc main_arg3)) b q h := by
  obtain ⟨h0, h1, h2, h3⟩ := R
  obtain ⟨s, hs⟩ := scl_real
  obtain ⟨M, hM⟩ := MX_real (fun b q h d => (h0 (ix4 b q h d)).symm) (fun b q h d => (h1 (ix4 b q h d)).symm) (fun b q h d => (h2 (ix4 b q h d)).symm) (fun b q e => (h3 (ix3 b q e)).symm) hs
  exact lsum_eq (fun b q h d => (h0 (ix4 b q h d)).symm) (fun b q h d => (h1 (ix4 b q h d)).symm) (fun b q h d => (h2 (ix4 b q h d)).symm) (fun b q e => (h3 (ix3 b q e)).symm) hs hM b h q

include G R in
theorem eq_o : (StableHlo.after (Cert.AttnRefIdeal.Value.ops (F := Ideal)) σ (Proc.devRef .tc Cert.AttnRefIdeal.main_v39) : FVec Ideal S2x2064x8x64 .f32)
    = Pipeline.afterTail₀ cfgs (dats m) 0 (V0 m) [hostOps1] c main_v53 := by
  funext y
  idx_vars y
  rw [v53_at, o_at R]
  refine (Cert.AttnRefIdeal.Gen.v39_at σ _ _ _ _).trans ?_
  rw [G.e0, G.e1, G.e2, G.e3, G.e4]

include G R in
theorem eq_l : (StableHlo.after (Cert.AttnRefIdeal.Value.ops (F := Ideal)) σ (Proc.devRef .tc Cert.AttnRefIdeal.main_v18) : FVec Ideal S2x2064x4x2 .f32)
    = Pipeline.afterTail₀ cfgs (dats m) 0 (V0 m) [hostOps1] c main_v56 := by
  funext y
  idx_vars y
  rw [v56_at, l_at R]
  refine (Cert.AttnRefIdeal.Gen.v18_at σ _ _ _ _).trans ?_
  rw [G.e0, G.e1, G.e2, G.e3]

end Cert.AttnIdeal.Gen

namespace Cert.Proof

open Idealize.ShloMosaic Idealize.SL.Sem Idealize.ShloMosaic.Tactic

/-- The reference's run: every array ends as its operations leave it. -/
theorem attn_reference_run (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩
      (fun r => ∀ (c : Dev Cert.AttnRefIdeal.nD) (b : Ref Cert.AttnRefIdeal.sig .tc), r.2.mem ((c.tc : Thread Cert.AttnRefIdeal.nD Cert.AttnRefIdeal.τ).loc b)
        = StableHlo.after Cert.AttnRefIdeal.Value.ops (StableHlo.launchContents m c) (Proc.devRef .tc b)) :=
  StableHlo.run_seq Cert.AttnRefIdeal.Value.scopedRefs_eq Cert.AttnRefIdeal.Value.scopedSems_eq Cert.AttnRefIdeal.defs Cert.AttnRefIdeal.main
    (fun _ => Cert.AttnRefIdeal.Value.ops) Cert.AttnRefIdeal.Value.main_eq (fun _ => Cert.AttnRefIdeal.Value.ops_sub) m g

open Cert.AttnIdeal.Gen in
theorem attn_values : Cert.algebraic_AttnIdeal_AttnRefIdeal_pre_finite_attn := by
  pair_intro
  · run_from run_main m g & unchanged m g
  · refine θ_run_mono (θ_run_and (attn_reference_run m' g') (Cert.AttnRefIdeal.Value.run m' g')) fun r h c => ?_
    have R := Cert.Pre_finite_attn.Gen.real_args _ _ _ _ _ (hpre c)
    have G : Agree m c (StableHlo.launchContents m' c) := ⟨(hagree c).1, (hagree c).2.1, (hagree c).2.2.1, (hagree c).2.2.2.1, (hagree c).2.2.2.2⟩
    exact ⟨(h.1 c _).trans (eq_o G R), (h.1 c _).trans (eq_l G R), (h.2 c).2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Region
public import proofs.«01_k».proof.Proof.Equal
public import proofs.«01_k».proof.Proof.Pre
public import proofs.«01_k».proof.Proof.Gen.ReferenceIdeal
public import proofs.«01_k».proof.Proof.Gen.Reference
public import proofs.«01_k».proof.Proof.Gen.Pre_finite
public import proofs.«01_k».proof.Proof.Gen.Inproj
public import proofs.«01_k».proof.Proof.Gen.InprojRef
public import proofs.«01_k».proof.Proof.InEqual
public import proofs.«01_k».proof.Proof.PrEqual
public import proofs.«01_k».proof.Proof.ObEqual
public import proofs.«01_k».proof.Proof.OfEqual
public import proofs.«01_k».proof.Proof.AtFrame
public import proofs.«01_k».proof.Proof.AtEqual
public import Idealize.ShloMosaic.Adequacy
public import Idealize.ShloMosaic.Init

@[expose] public section

noncomputable section

namespace Cert.Proof

open Idealize.ShloMosaic Idealize.SL.Sem Idealize.ShloMosaic.Tactic

/-! ### The frames -/

set_option maxHeartbeats 1600000 in
theorem frame_ideal_reference : Cert.quiescent_ReferenceIdeal := by
  intro m g _
  refine (θ_run Cert.ReferenceIdeal.defs _ _).mono (fun r h => ⟨h, sem_eq_zero_of_no_sems (by decide) r.2⟩) ?_
  hlo_run

set_option maxHeartbeats 1600000 in
theorem frame_reference : Cert.quiescent_Reference := by
  intro m g _
  refine (θ_run Cert.Reference.defs _ _).mono (fun r h => ⟨h, sem_eq_zero_of_no_sems (by decide) r.2⟩) ?_
  hlo_run

/-- The second call's kernel is one text in both number systems: its run at any floats gives both frames. -/
theorem inproj_table : @Cert.Inproj.defs₀ Bits _ _ = @Cert.InprojIdeal.defs₀ Bits _ _ := by
  unfold Cert.Inproj.defs₀ Cert.InprojIdeal.defs₀
  refine congrArg Defs.onTc (funext fun l => funext fun a => ?_)
  match l, a with
  | 0, (t, s) => rfl

theorem inproj_defs : @Cert.Inproj.defs Bits _ _ = @Cert.InprojIdeal.defs Bits _ _ := congrArg (Pipeline.defs _) inproj_table

theorem frame_inproj : Cert.quiescent_Inproj := by
  intro m g _
  rw [inproj_defs]
  exact Cert.InprojIdeal.Gen.frame (F := Bits) m g

set_option maxHeartbeats 1600000 in
theorem frame_ideal_inproj_reference : Cert.quiescent_InprojRefIdeal := by
  intro m g _
  refine (θ_run Cert.InprojRefIdeal.defs _ _).mono (fun r h => ⟨h, sem_eq_zero_of_no_sems (by decide) r.2⟩) ?_
  hlo_run

set_option maxHeartbeats 1600000 in
theorem frame_inproj_reference : Cert.quiescent_InprojRef := by
  intro m g _
  refine (θ_run Cert.InprojRef.defs _ _).mono (fun r h => ⟨h, sem_eq_zero_of_no_sems (by decide) r.2⟩) ?_
  hlo_run

/-- The third call's kernel likewise. -/
theorem proj_table : @Cert.Proj.defs₀ Bits _ _ = @Cert.ProjIdeal.defs₀ Bits _ _ := by
  unfold Cert.Proj.defs₀ Cert.ProjIdeal.defs₀
  refine congrArg Defs.onTc (funext fun l => funext fun a => ?_)
  match l, a with
  | 0, (t, s) => rfl

theorem proj_defs : @Cert.Proj.defs Bits _ _ = @Cert.ProjIdeal.defs Bits _ _ := congrArg (Pipeline.defs _) proj_table

theorem frame_proj : Cert.quiescent_Proj := by
  intro m g _
  rw [proj_defs]
  exact Cert.ProjIdeal.Gen.frame (F := Bits) m g

theorem frame_ideal_proj_reference : Cert.quiescent_ProjRefIdeal := by
  intro m g _
  refine (θ_run Cert.ProjRefIdeal.defs _ _).mono (fun r h => ⟨h, sem_eq_zero_of_no_sems (by decide) r.2⟩) ?_
  hlo_run

theorem frame_proj_reference : Cert.quiescent_ProjRef := by
  intro m g _
  refine (θ_run Cert.ProjRef.defs _ _).mono (fun r h => ⟨h, sem_eq_zero_of_no_sems (by decide) r.2⟩) ?_
  hlo_run

/-- The fourth call's kernel likewise. -/
theorem outb_table : @Cert.Outb.defs₀ Bits _ _ = @Cert.OutbIdeal.defs₀ Bits _ _ := by
  unfold Cert.Outb.defs₀ Cert.OutbIdeal.defs₀
  refine congrArg Defs.onTc (funext fun l => funext fun a => ?_)
  match l, a with
  | 0, (t, s) => rfl

theorem outb_defs : @Cert.Outb.defs Bits _ _ = @Cert.OutbIdeal.defs Bits _ _ := congrArg (Pipeline.defs _) outb_table

theorem frame_outb : Cert.quiescent_Outb := by
  intro m g _
  rw [outb_defs]
  exact Cert.OutbIdeal.Gen.frame (F := Bits) m g

set_option maxHeartbeats 1600000 in
theorem frame_ideal_outb_reference : Cert.quiescent_OutbRefIdeal := by
  intro m g _
  refine (θ_run Cert.OutbRefIdeal.defs _ _).mono (fun r h => ⟨h, sem_eq_zero_of_no_sems (by decide) r.2⟩) ?_
  hlo_run

set_option maxHeartbeats 1600000 in
theorem frame_outb_reference : Cert.quiescent_OutbRef := by
  intro m g _
  refine (θ_run Cert.OutbRef.defs _ _).mono (fun r h => ⟨h, sem_eq_zero_of_no_sems (by decide) r.2⟩) ?_
  hlo_run

/-- The fifth call's kernel likewise. -/
theorem outf_table : @Cert.Outf.defs₀ Bits _ _ = @Cert.OutfIdeal.defs₀ Bits _ _ := by
  unfold Cert.Outf.defs₀ Cert.OutfIdeal.defs₀
  refine congrArg Defs.onTc (funext fun l => funext fun a => ?_)
  match l, a with
  | 0, (t, s) => rfl

theorem outf_defs : @Cert.Outf.defs Bits _ _ = @Cert.OutfIdeal.defs Bits _ _ := congrArg (Pipeline.defs _) outf_table

theorem frame_outf : Cert.quiescent_Outf := by
  intro m g _
  rw [outf_defs]
  exact Cert.OutfIdeal.Gen.frame (F := Bits) m g

set_option maxHeartbeats 1600000 in
theorem frame_ideal_outf_reference : Cert.quiescent_OutfRefIdeal := by
  intro m g _
  refine (θ_run Cert.OutfRefIdeal.defs _ _).mono (fun r h => ⟨h, sem_eq_zero_of_no_sems (by decide) r.2⟩) ?_
  hlo_run

set_option maxHeartbeats 1600000 in
theorem frame_outf_reference : Cert.quiescent_OutfRef := by
  intro m g _
  refine (θ_run Cert.OutfRef.defs _ _).mono (fun r h => ⟨h, sem_eq_zero_of_no_sems (by decide) r.2⟩) ?_
  hlo_run

set_option maxHeartbeats 1600000 in
theorem frame_ideal_attn_reference : Cert.quiescent_AttnRefIdeal := by
  intro m g _
  refine (θ_run Cert.AttnRefIdeal.defs _ _).mono (fun r h => ⟨h, sem_eq_zero_of_no_sems (by decide) r.2⟩) ?_
  hlo_run

set_option maxHeartbeats 1600000 in
theorem frame_attn_reference : Cert.quiescent_AttnRef := by
  intro m g _
  refine (θ_run Cert.AttnRef.defs _ _).mono (fun r h => ⟨h, sem_eq_zero_of_no_sems (by decide) r.2⟩) ?_
  hlo_run

/-! ### The values -/

open Cert.ReferenceIdeal.Gen (logS softS gradS outS) in
/-- The reference's run: every array ends as the four stretches leave it. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ (c : Dev Cert.ReferenceIdeal.nD) (b : Ref Cert.ReferenceIdeal.sig .tc), r.2.mem ((c.tc : Thread Cert.ReferenceIdeal.nD Cert.ReferenceIdeal.τ).loc b)
        = outS (gradS (softS (logS (StableHlo.launchContents m c)))) (Proc.devRef .tc b)) :=
  θ_run_mono (StableHlo.run_hlo _ _ Cert.ReferenceIdeal.Gen.main_seq (by decide) (by decide) (by simp)
    (by intro _ h; (repeat (cases h with | head => rfl | tail _ h => ?_)); exact nomatch h) _ _) fun r h c b => (h c b).trans (by rw [Cert.ReferenceIdeal.Gen.after_all])

open Cert.KernelIdeal.Gen in
theorem values : Cert.algebraic_KernelIdeal_ReferenceIdeal_pre_finite := by
  pair_intro
  · run_from run_main m g & unchanged m g
  · refine θ_run_mono (reference_run m' g') fun r h c => ?_
    obtain ⟨r0, r1, r2, r3, r4, r5, s, M, A⟩ := are_real m c (Cert.Pre_finite.Gen.real_args _ _ _ _ _ _ (hpre c))
    have G : Agree m c (StableHlo.launchContents m' c) := ⟨(hagree c).1, (hagree c).2.1, (hagree c).2.2.1, (hagree c).2.2.2.1, (hagree c).2.2.2.2.1, (hagree c).2.2.2.2.2⟩
    refine ⟨(h c _).trans (eq_q_nope A G), (h c _).trans (eq_q_rope A G), (h c _).trans (eq_k_nope A G), (h c _).trans (eq_k_rope A G), (h c _).trans (eq_v A G), ?_, ?_, ?_, ?_, ?_, ?_⟩
    · rw [h c, Cert.ReferenceIdeal.Gen.pass_out0, Cert.ReferenceIdeal.Gen.pass_grad0, Cert.ReferenceIdeal.Gen.pass_soft0, Cert.ReferenceIdeal.Gen.pass_log0]
    · rw [h c, Cert.ReferenceIdeal.Gen.pass_out1, Cert.ReferenceIdeal.Gen.pass_grad1, Cert.ReferenceIdeal.Gen.pass_soft1, Cert.ReferenceIdeal.Gen.pass_log1]
    · rw [h c, Cert.ReferenceIdeal.Gen.pass_out2, Cert.ReferenceIdeal.Gen.pass_grad2, Cert.ReferenceIdeal.Gen.pass_soft2, Cert.ReferenceIdeal.Gen.pass_log2]
    · rw [h c, Cert.ReferenceIdeal.Gen.pass_out3, Cert.ReferenceIdeal.Gen.pass_grad3, Cert.ReferenceIdeal.Gen.pass_soft3, Cert.ReferenceIdeal.Gen.pass_log3]
    · rw [h c, Cert.ReferenceIdeal.Gen.pass_out4, Cert.ReferenceIdeal.Gen.pass_grad4, Cert.ReferenceIdeal.Gen.pass_soft4, Cert.ReferenceIdeal.Gen.pass_log4]
    · rw [h c, Cert.ReferenceIdeal.Gen.pass_out5, Cert.ReferenceIdeal.Gen.pass_grad5, Cert.ReferenceIdeal.Gen.pass_soft5, Cert.ReferenceIdeal.Gen.pass_log5]

theorem claim : Cert.Claim := ⟨Cert.Kernel.Gen.facts, Cert.KernelIdeal.Gen.facts, Cert.ReferenceIdeal.Gen.facts, Cert.Reference.Gen.facts,
  Cert.Inproj.Gen.facts, Cert.InprojIdeal.Gen.facts, Cert.InprojRefIdeal.Gen.facts, Cert.InprojRef.Gen.facts,
  Cert.Proj.Gen.facts, Cert.ProjIdeal.Gen.facts, Cert.ProjRefIdeal.Gen.facts, Cert.ProjRef.Gen.facts,
  Cert.Outb.Gen.facts, Cert.OutbIdeal.Gen.facts, Cert.OutbRefIdeal.Gen.facts, Cert.OutbRef.Gen.facts,
  Cert.Outf.Gen.facts, Cert.OutfIdeal.Gen.facts, Cert.OutfRefIdeal.Gen.facts, Cert.OutfRef.Gen.facts,
  Cert.Attn.Gen.facts, Cert.AttnIdeal.Gen.facts, Cert.AttnRefIdeal.Gen.facts, Cert.AttnRef.Gen.facts,
  Cert.Pre_finite.Gen.facts, Cert.Pre_finite_out.Gen.facts, Cert.Pre_finite_attn.Gen.facts,
  fun m g _ => Cert.Kernel.Gen.frame m g, fun m g _ => Cert.KernelIdeal.Gen.frame m g, fun m g _ => Cert.KernelIdeal.Gen.frame m g,
  frame_ideal_reference, fun m g _ => frame_ideal_reference m g trivial, frame_reference,
  frame_inproj, fun m g _ => Cert.InprojIdeal.Gen.frame m g, frame_ideal_inproj_reference, frame_inproj_reference,
  frame_proj, fun m g _ => Cert.ProjIdeal.Gen.frame m g, frame_ideal_proj_reference, frame_proj_reference,
  frame_outb, fun m g _ => Cert.OutbIdeal.Gen.frame m g, fun m g _ => Cert.OutbIdeal.Gen.frame m g,
  frame_ideal_outb_reference, fun m g _ => frame_ideal_outb_reference m g trivial, frame_outb_reference,
  frame_outf, fun m g _ => Cert.OutfIdeal.Gen.frame m g, frame_ideal_outf_reference, frame_outf_reference,
  fun m g _ => Cert.Attn.Gen.frame m g, fun m g _ => Cert.AttnIdeal.Gen.frame m g, fun m g _ => Cert.AttnIdeal.Gen.frame m g,
  frame_ideal_attn_reference, fun m g _ => frame_ideal_attn_reference m g trivial, frame_attn_reference,
  IdealRules.named_const.statement Cert.KernelIdeal.κ "ln2" .f32 0x3F317218#32 ((Real.log 2 : ℝ) : EReal) rfl, trivial, values, trivial, trivial, inproj_values, trivial, trivial, proj_values,
  trivial, trivial, outb_values, trivial, trivial, outf_values,
  IdealRules.named_const.statement Cert.AttnIdeal.κ "log2e" .f32 0x3FB8AA3B#32 (((Real.log 2)⁻¹ : ℝ) : EReal) rfl, trivial, attn_values⟩

end Cert.Proof

end
